-- ==== Defs.lean ====
def Pre_ScGrad (m : (ℓ : Loc Cert.ScGrad.nD Cert.ScGrad.τ Cert.ScGrad.sig) → Buf (Elt Bits) ℓ) : Prop :=
  True

def Pre_ScGradIdeal (m : (ℓ : Loc Cert.ScGradIdeal.nD Cert.ScGradIdeal.τ Cert.ScGradIdeal.sig) → Buf (Elt Ideal) ℓ) : Prop :=
  True

def Pre_ScRefIdeal (m : (ℓ : Loc Cert.ScRefIdeal.nD Cert.ScRefIdeal.τ Cert.ScRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DxDown (m : (ℓ : Loc Cert.DxDown.nD Cert.DxDown.τ Cert.DxDown.sig) → Buf (Elt Bits) ℓ) : Prop :=
  True

def Pre_DxDownIdeal (m : (ℓ : Loc Cert.DxDownIdeal.nD Cert.DxDownIdeal.τ Cert.DxDownIdeal.sig) → Buf (Elt Ideal) ℓ) : Prop :=
  True

def Pre_DxDownRefIdeal (m : (ℓ : Loc Cert.DxDownRefIdeal.nD Cert.DxDownRefIdeal.τ Cert.DxDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DxUp (m : (ℓ : Loc Cert.DxUp.nD Cert.DxUp.τ Cert.DxUp.sig) → Buf (Elt Bits) ℓ) : Prop :=
  True

def Pre_DxUpIdeal (m : (ℓ : Loc Cert.DxUpIdeal.nD Cert.DxUpIdeal.τ Cert.DxUpIdeal.sig) → Buf (Elt Ideal) ℓ) : Prop :=
  True

def Pre_DxUpRefIdeal (m : (ℓ : Loc Cert.DxUpRefIdeal.nD Cert.DxUpRefIdeal.τ Cert.DxUpRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DxOut (m : (ℓ : Loc Cert.DxOut.nD Cert.DxOut.τ Cert.DxOut.sig) → Buf (Elt Bits) ℓ) : Prop :=
  True

def Pre_DxOutIdeal (m : (ℓ : Loc Cert.DxOutIdeal.nD Cert.DxOutIdeal.τ Cert.DxOutIdeal.sig) → Buf (Elt Ideal) ℓ) : Prop :=
  True

def Pre_DxOutRefIdeal (m : (ℓ : Loc Cert.DxOutRefIdeal.nD Cert.DxOutRefIdeal.τ Cert.DxOutRefIdeal.sig) → Buf (Elt Ideal) ℓ) : Prop :=
  True

def Pre_DwInA (m : (ℓ : Loc Cert.DwInA.nD Cert.DwInA.τ Cert.DwInA.sig) → Buf (Elt Bits) ℓ) : Prop :=
  True

def Pre_DwInAIdeal (m : (ℓ : Loc Cert.DwInAIdeal.nD Cert.DwInAIdeal.τ Cert.DwInAIdeal.sig) → Buf (Elt Ideal) ℓ) : Prop :=
  True

def Pre_DwInARefIdeal (m : (ℓ : Loc Cert.DwInARefIdeal.nD Cert.DwInARefIdeal.τ Cert.DwInARefIdeal.sig) → Buf (Elt Ideal) ℓ) : Prop :=
  True

def Pre_DxInA (m : (ℓ : Loc Cert.DxInA.nD Cert.DxInA.τ Cert.DxInA.sig) → Buf (Elt Bits) ℓ) : Prop :=
  True

def Pre_DxInAIdeal (m : (ℓ : Loc Cert.DxInAIdeal.nD Cert.DxInAIdeal.τ Cert.DxInAIdeal.sig) → Buf (Elt Ideal) ℓ) : Prop :=
  True

def Pre_DxInARefIdeal (m : (ℓ : Loc Cert.DxInARefIdeal.nD Cert.DxInARefIdeal.τ Cert.DxInARefIdeal.sig) → Buf (Elt Ideal) ℓ) : Prop :=
  True

def Pre_DwInB (m : (ℓ : Loc Cert.DwInB.nD Cert.DwInB.τ Cert.DwInB.sig) → Buf (Elt Bits) ℓ) : Prop :=
  True

def Pre_DwInBIdeal (m : (ℓ : Loc Cert.DwInBIdeal.nD Cert.DwInBIdeal.τ Cert.DwInBIdeal.sig) → Buf (Elt Ideal) ℓ) : Prop :=
  True

def Pre_DwInBRefIdeal (m : (ℓ : Loc Cert.DwInBRefIdeal.nD Cert.DwInBRefIdeal.τ Cert.DwInBRefIdeal.sig) → Buf (Elt Ideal) ℓ) : Prop :=
  True

def Pre_DxInB (m : (ℓ : Loc Cert.DxInB.nD Cert.DxInB.τ Cert.DxInB.sig) → Buf (Elt Bits) ℓ) : Prop :=
  True

def Pre_DxInBIdeal (m : (ℓ : Loc Cert.DxInBIdeal.nD Cert.DxInBIdeal.τ Cert.DxInBIdeal.sig) → Buf (Elt Ideal) ℓ) : Prop :=
  True

def Pre_DxInBRefIdeal (m : (ℓ : Loc Cert.DxInBRefIdeal.nD Cert.DxInBRefIdeal.τ Cert.DxInBRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_DxGate (m : (ℓ : Loc Cert.DxGate.nD Cert.DxGate.τ Cert.DxGate.sig) → Buf (Elt Bits) ℓ) : Prop :=
  True

def Pre_DxGateIdeal (m : (ℓ : Loc Cert.DxGateIdeal.nD Cert.DxGateIdeal.τ Cert.DxGateIdeal.sig) → Buf (Elt Ideal) ℓ) : Prop :=
  True

def Pre_DxGateRefIdeal (m : (ℓ : Loc Cert.DxGateRefIdeal.nD Cert.DxGateRefIdeal.τ Cert.DxGateRefIdeal.sig) → Buf (Elt Ideal) ℓ) : Prop :=
  True

def Pre_FwUp (m : (ℓ : Loc Cert.FwUp.nD Cert.FwUp.τ Cert.FwUp.sig) → Buf (Elt Bits) ℓ) : Prop :=
  True

def Pre_FwUpIdeal (m : (ℓ : Loc Cert.FwUpIdeal.nD Cert.FwUpIdeal.τ Cert.FwUpIdeal.sig) → Buf (Elt Ideal) ℓ) : Prop :=
  True

def Pre_FwUpRefIdeal (m : (ℓ : Loc Cert.FwUpRefIdeal.nD Cert.FwUpRefIdeal.τ Cert.FwUpRefIdeal.sig) → Buf (Elt Ideal) ℓ) : Prop :=
  True

def Pre_FwDown (m : (ℓ : Loc Cert.FwDown.nD Cert.FwDown.τ Cert.FwDown.sig) → Buf (Elt Bits) ℓ) : Prop :=
  True

def Pre_FwDownIdeal (m : (ℓ : Loc Cert.FwDownIdeal.nD Cert.FwDownIdeal.τ Cert.FwDownIdeal.sig) → Buf (Elt Ideal) ℓ) : Prop :=
  True

def Pre_FwDownRefIdeal (m : (ℓ : Loc Cert.FwDownRefIdeal.nD Cert.FwDownRefIdeal.τ Cert.FwDownRefIdeal.sig) → Buf (Elt Ideal) ℓ) : Prop :=
  True

def Pre_FwInA (m : (ℓ : Loc Cert.FwInA.nD Cert.FwInA.τ Cert.FwInA.sig) → Buf (Elt Bits) ℓ) : Prop :=
  True

def Pre_FwInAIdeal (m : (ℓ : Loc Cert.FwInAIdeal.nD Cert.FwInAIdeal.τ Cert.FwInAIdeal.sig) → Buf (Elt Ideal) ℓ) : Prop :=
  True

def Pre_FwInARefIdeal (m : (ℓ : Loc Cert.FwInARefIdeal.nD Cert.FwInARefIdeal.τ Cert.FwInARefIdeal.sig) → Buf (Elt Ideal) ℓ) : Prop :=
  True

def Pre_FwInB (m : (ℓ : Loc Cert.FwInB.nD Cert.FwInB.τ Cert.FwInB.sig) → Buf (Elt Bits) ℓ) : Prop :=
  True

def Pre_FwInBIdeal (m : (ℓ : Loc Cert.FwInBIdeal.nD Cert.FwInBIdeal.τ Cert.FwInBIdeal.sig) → Buf (Elt Ideal) ℓ) : Prop :=
  True

def Pre_FwInBRefIdeal (m : (ℓ : Loc Cert.FwInBRefIdeal.nD Cert.FwInBRefIdeal.τ Cert.FwInBRefIdeal.sig) → Buf (Elt Ideal) ℓ) : Prop :=
  True

def Pre_FwGate (m : (ℓ : Loc Cert.FwGate.nD Cert.FwGate.τ Cert.FwGate.sig) → Buf (Elt Bits) ℓ) : Prop :=
  True

def Pre_FwGateIdeal (m : (ℓ : Loc Cert.FwGateIdeal.nD Cert.FwGateIdeal.τ Cert.FwGateIdeal.sig) → Buf (Elt Ideal) ℓ) : Prop :=
  True

def Pre_FwGateRefIdeal (m : (ℓ : Loc Cert.FwGateRefIdeal.nD Cert.FwGateRefIdeal.τ Cert.FwGateRefIdeal.sig) → Buf (Elt Ideal) ℓ) : Prop :=
  True

def Pre_FwOut (m : (ℓ : Loc Cert.FwOut.nD Cert.FwOut.τ Cert.FwOut.sig) → Buf (Elt Bits) ℓ) : Prop :=
  True

def Pre_FwOutIdeal (m : (ℓ : Loc Cert.FwOutIdeal.nD Cert.FwOutIdeal.τ Cert.FwOutIdeal.sig) → Buf (Elt Ideal) ℓ) : Prop :=
  True

def Pre_FwOutRefIdeal (m : (ℓ : Loc Cert.FwOutRefIdeal.nD Cert.FwOutRefIdeal.τ Cert.FwOutRefIdeal.sig) → Buf (Elt Ideal) ℓ) : Prop :=
  True

def Pre_FoxGrad (m : (ℓ : Loc Cert.FoxGrad.nD Cert.FoxGrad.τ Cert.FoxGrad.sig) → Buf (Elt Bits) ℓ) : Prop :=
  True

def Pre_FoxGradIdeal (m : (ℓ : Loc Cert.FoxGradIdeal.nD Cert.FoxGradIdeal.τ Cert.FoxGradIdeal.sig) → Buf (Elt Ideal) ℓ) : Prop :=
  True

def Pre_FoxGradIdeal_fox_finite [hPre_fox_finite : Cert.Pre_fox_finite.Facts] (m : (ℓ : Loc Cert.FoxGradIdeal.nD Cert.FoxGradIdeal.τ Cert.FoxGradIdeal.sig) → Buf (Elt Ideal) ℓ) : Prop :=
  ∀ c : Dev Cert.FoxGradIdeal.nD,
    (Cert.Pre_fox_finite.fn (F := Ideal) (m ((c.tc : Thread Cert.FoxGradIdeal.nD Cert.FoxGradIdeal.τ).loc Cert.FoxGradIdeal.main_arg0)) (m ((c.tc : Thread Cert.FoxGradIdeal.nD Cert.FoxGradIdeal.τ).loc Cert.FoxGradIdeal.main_arg1)) (m ((c.tc : Thread Cert.FoxGradIdeal.nD Cert.FoxGradIdeal.τ).loc Cert.FoxGradIdeal.main_arg2))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_fox_finite [hPre_fox_finite : Cert.Pre_fox_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2))) = (fun _ => 1#1)

def Pre_ActGrad (m : (ℓ : Loc Cert.ActGrad.nD Cert.ActGrad.τ Cert.ActGrad.sig) → Buf (Elt Bits) ℓ) : Prop :=
  True

def Pre_ActGradIdeal (m : (ℓ : Loc Cert.ActGradIdeal.nD Cert.ActGradIdeal.τ Cert.ActGradIdeal.sig) → Buf (Elt Ideal) ℓ) : Prop :=
  True

def Pre_ActGradIdeal_act_finite [hPre_act_finite : Cert.Pre_act_finite.Facts] (m : (ℓ : Loc Cert.ActGradIdeal.nD Cert.ActGradIdeal.τ Cert.ActGradIdeal.sig) → Buf (Elt Ideal) ℓ) : Prop :=
  ∀ c : Dev Cert.ActGradIdeal.nD,
    (Cert.Pre_act_finite.fn (F := Ideal) (m ((c.tc : Thread Cert.ActGradIdeal.nD Cert.ActGradIdeal.τ).loc Cert.ActGradIdeal.main_arg0)) (m ((c.tc : Thread Cert.ActGradIdeal.nD Cert.ActGradIdeal.τ).loc Cert.ActGradIdeal.main_arg1)) (m ((c.tc : Thread Cert.ActGradIdeal.nD Cert.ActGradIdeal.τ).loc Cert.ActGradIdeal.main_arg2))) = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_act_finite [hPre_act_finite : Cert.Pre_act_finite.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2))) = (fun _ => 1#1)

def Pre_FwAct (m : (ℓ : Loc Cert.FwAct.nD Cert.FwAct.τ Cert.FwAct.sig) → Buf (Elt Bits) ℓ) : Prop :=
  True

def Pre_FwActIdeal (m : (ℓ : Loc Cert.FwActIdeal.nD Cert.FwActIdeal.τ Cert.FwActIdeal.sig) → Buf (Elt Ideal) ℓ) : Prop :=
  True

def Pre_FwActRefIdeal (m : (ℓ : Loc Cert.FwActRefIdeal.nD Cert.FwActRefIdeal.τ Cert.FwActRefIdeal.sig) → Buf (Elt Ideal) ℓ) : Prop :=
  True

def quiescent_ScGrad [hScGrad : Cert.ScGrad.Facts] : Prop :=
  ∀ (m : (ℓ : Loc Cert.ScGrad.nD Cert.ScGrad.τ Cert.ScGrad.sig) → Buf (Elt Bits) ℓ) (g : Dev Cert.ScGrad.nD → PrngReg), Pre_ScGrad m →
    θ_run (Cert.ScGrad.defs (F := Bits)) (onTc (τ := Cert.ScGrad.τ) (Cert.ScGrad.main (F := Bits))) ⟨m, fun _ => 0, g⟩ (fun r => (∀ c : Dev Cert.ScGrad.nD,
      r.2.mem ((c.tc : Thread Cert.ScGrad.nD Cert.ScGrad.τ).loc Cert.ScGrad.main_arg0) = m ((c.tc : Thread Cert.ScGrad.nD Cert.ScGrad.τ).loc Cert.ScGrad.main_arg0)
      ∧ r.2.mem ((c.tc : Thread Cert.ScGrad.nD Cert.ScGrad.τ).loc Cert.ScGrad.main_arg1) = m ((c.tc : Thread Cert.ScGrad.nD Cert.ScGrad.τ).loc Cert.ScGrad.main_arg1)
      ∧ r.2.mem ((c.tc : Thread Cert.ScGrad.nD Cert.ScGrad.τ).loc Cert.ScGrad.main_arg2) = m ((c.tc : Thread Cert.ScGrad.nD Cert.ScGrad.τ).loc Cert.ScGrad.main_arg2))
      ∧ r.2.sem = fun _ => 0)

def quiescent_ScGradIdeal [hScGradIdeal : Cert.ScGradIdeal.Facts] : Prop :=
  ∀ (m : (ℓ : Loc Cert.ScGradIdeal.nD Cert.ScGradIdeal.τ Cert.ScGradIdeal.sig) → Buf (Elt Ideal) ℓ) (g : Dev Cert.ScGradIdeal.nD → PrngReg), Pre_ScGradIdeal m →
    θ_run (Cert.ScGradIdeal.defs (F := Ideal)) (onTc (τ := Cert.ScGradIdeal.τ) (Cert.ScGradIdeal.main (F := Ideal))) ⟨m, fun _ => 0, g⟩ (fun r => (∀ c : Dev Cert.ScGradIdeal.nD,
      r.2.mem ((c.tc : Thread Cert.ScGradIdeal.nD Cert.ScGradIdeal.τ).loc Cert.ScGradIdeal.main_arg0) = m ((c.tc : Thread Cert.ScGradIdeal.nD Cert.ScGradIdeal.τ).loc Cert.ScGradIdeal.main_arg0)
      ∧ r.2.mem ((c.tc : Thread Cert.ScGradIdeal.nD Cert.ScGradIdeal.τ).loc Cert.ScGradIdeal.main_arg1) = m ((c.tc : Thread Cert.ScGradIdeal.nD Cert.ScGradIdeal.τ).loc Cert.ScGradIdeal.main_arg1)
      ∧ r.2.mem ((c.tc : Thread Cert.ScGradIdeal.nD Cert.ScGradIdeal.τ).loc Cert.ScGradIdeal.main_arg2) = m ((c.tc : Thread Cert.ScGradIdeal.nD Cert.ScGradIdeal.τ).loc Cert.ScGradIdeal.main_arg2))
      ∧ r.2.sem = fun _ => 0)

def quiescent_ScRefIdeal [hScRefIdeal : Cert.ScRefIdeal.Facts] : Prop :=
  ∀ (m : (ℓ : Loc Cert.ScRefIdeal.nD Cert.ScRefIdeal.τ Cert.ScRefIdeal.sig) → Buf (Elt Ideal) ℓ) (g : Dev Cert.ScRefIdeal.nD → PrngReg), Pre_ScRefIdeal m →
    θ_run (Cert.ScRefIdeal.defs (F := Ideal)) (onTc (τ := Cert.ScRefIdeal.τ) (Cert.ScRefIdeal.main (F := Ideal))) ⟨m, fun _ => 0, g⟩ (fun r => (∀ c : Dev Cert.ScRefIdeal.nD,
      r.2.mem ((c.tc : Thread Cert.ScRefIdeal.nD Cert.ScRefIdeal.τ).loc Cert.ScRefIdeal.main_arg0) = m ((c.tc : Thread Cert.ScRefIdeal.nD Cert.ScRefIdeal.τ).loc Cert.ScRefIdeal.main_arg0)
      ∧ r.2.mem ((c.tc : Thread Cert.ScRefIdeal.nD Cert.ScRefIdeal.τ).loc Cert.ScRefIdeal.main_arg1) = m ((c.tc : Thread Cert.ScRefIdeal.nD Cert.ScRefIdeal.τ).loc Cert.ScRefIdeal.main_arg1)
      ∧ r.2.mem ((c.tc : Thread Cert.ScRefIdeal.nD Cert.ScRefIdeal.τ).loc Cert.ScRefIdeal.main_arg2) = m ((c.tc : Thread Cert.ScRefIdeal.nD Cert.ScRefIdeal.τ).loc Cert.ScRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DxDown [hDxDown : Cert.DxDown.Facts] : Prop :=
  ∀ (m : (ℓ : Loc Cert.DxDown.nD Cert.DxDown.τ Cert.DxDown.sig) → Buf (Elt Bits) ℓ) (g : Dev Cert.DxDown.nD → PrngReg), Pre_DxDown m →
    θ_run (Cert.DxDown.defs (F := Bits)) (onTc (τ := Cert.DxDown.τ) (Cert.DxDown.main (F := Bits))) ⟨m, fun _ => 0, g⟩ (fun r => (∀ c : Dev Cert.DxDown.nD,
      r.2.mem ((c.tc : Thread Cert.DxDown.nD Cert.DxDown.τ).loc Cert.DxDown.main_arg0) = m ((c.tc : Thread Cert.DxDown.nD Cert.DxDown.τ).loc Cert.DxDown.main_arg0)
      ∧ r.2.mem ((c.tc : Thread Cert.DxDown.nD Cert.DxDown.τ).loc Cert.DxDown.main_arg1) = m ((c.tc : Thread Cert.DxDown.nD Cert.DxDown.τ).loc Cert.DxDown.main_arg1))
      ∧ r.2.sem = fun _ => 0)

def quiescent_DxDownIdeal [hDxDownIdeal : Cert.DxDownIdeal.Facts] : Prop :=
  ∀ (m : (ℓ : Loc Cert.DxDownIdeal.nD Cert.DxDownIdeal.τ Cert.DxDownIdeal.sig) → Buf (Elt Ideal) ℓ) (g : Dev Cert.DxDownIdeal.nD → PrngReg), Pre_DxDownIdeal m →
    θ_run (Cert.DxDownIdeal.defs (F := Ideal)) (onTc (τ := Cert.DxDownIdeal.τ) (Cert.DxDownIdeal.main (F := Ideal))) ⟨m, fun _ => 0, g⟩ (fun r => (∀ c : Dev Cert.DxDownIdeal.nD,
      r.2.mem ((c.tc : Thread Cert.DxDownIdeal.nD Cert.DxDownIdeal.τ).loc Cert.DxDownIdeal.main_arg0) = m ((c.tc : Thread Cert.DxDownIdeal.nD Cert.DxDownIdeal.τ).loc Cert.DxDownIdeal.main_arg0)
      ∧ r.2.mem ((c.tc : Thread Cert.DxDownIdeal.nD Cert.DxDownIdeal.τ).loc Cert.DxDownIdeal.main_arg1) = m ((c.tc : Thread Cert.DxDownIdeal.nD Cert.DxDownIdeal.τ).loc Cert.DxDownIdeal.main_arg1))
      ∧ r.2.sem = fun _ => 0)

def quiescent_DxDownRefIdeal [hDxDownRefIdeal : Cert.DxDownRefIdeal.Facts] : Prop :=
  ∀ (m : (ℓ : Loc Cert.DxDownRefIdeal.nD Cert.DxDownRefIdeal.τ Cert.DxDownRefIdeal.sig) → Buf (Elt Ideal) ℓ) (g : Dev Cert.DxDownRefIdeal.nD → PrngReg), Pre_DxDownRefIdeal m →
    θ_run (Cert.DxDownRefIdeal.defs (F := Ideal)) (onTc (τ := Cert.DxDownRefIdeal.τ) (Cert.DxDownRefIdeal.main (F := Ideal))) ⟨m, fun _ => 0, g⟩ (fun r => (∀ c : Dev Cert.DxDownRefIdeal.nD,
      r.2.mem ((c.tc : Thread Cert.DxDownRefIdeal.nD Cert.DxDownRefIdeal.τ).loc Cert.DxDownRefIdeal.main_arg0) = m ((c.tc : Thread Cert.DxDownRefIdeal.nD Cert.DxDownRefIdeal.τ).loc Cert.DxDownRefIdeal.main_arg0)
      ∧ r.2.mem ((c.tc : Thread Cert.DxDownRefIdeal.nD Cert.DxDownRefIdeal.τ).loc Cert.DxDownRefIdeal.main_arg1) = m ((c.tc : Thread Cert.DxDownRefIdeal.nD Cert.DxDownRefIdeal.τ).loc Cert.DxDownRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DxUp [hDxUp : Cert.DxUp.Facts] : Prop :=
  ∀ (m : (ℓ : Loc Cert.DxUp.nD Cert.DxUp.τ Cert.DxUp.sig) → Buf (Elt Bits) ℓ) (g : Dev Cert.DxUp.nD → PrngReg), Pre_DxUp m →
    θ_run (Cert.DxUp.defs (F := Bits)) (onTc (τ := Cert.DxUp.τ) (Cert.DxUp.main (F := Bits))) ⟨m, fun _ => 0, g⟩ (fun r => (∀ c : Dev Cert.DxUp.nD,
      r.2.mem ((c.tc : Thread Cert.DxUp.nD Cert.DxUp.τ).loc Cert.DxUp.main_arg0) = m ((c.tc : Thread Cert.DxUp.nD Cert.DxUp.τ).loc Cert.DxUp.main_arg0)
      ∧ r.2.mem ((c.tc : Thread Cert.DxUp.nD Cert.DxUp.τ).loc Cert.DxUp.main_arg1) = m ((c.tc : Thread Cert.DxUp.nD Cert.DxUp.τ).loc Cert.DxUp.main_arg1))
      ∧ r.2.sem = fun _ => 0)

def quiescent_DxUpIdeal [hDxUpIdeal : Cert.DxUpIdeal.Facts] : Prop :=
  ∀ (m : (ℓ : Loc Cert.DxUpIdeal.nD Cert.DxUpIdeal.τ Cert.DxUpIdeal.sig) → Buf (Elt Ideal) ℓ) (g : Dev Cert.DxUpIdeal.nD → PrngReg), Pre_DxUpIdeal m →
    θ_run (Cert.DxUpIdeal.defs (F := Ideal)) (onTc (τ := Cert.DxUpIdeal.τ) (Cert.DxUpIdeal.main (F := Ideal))) ⟨m, fun _ => 0, g⟩ (fun r => (∀ c : Dev Cert.DxUpIdeal.nD,
      r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
      ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1))
      ∧ r.2.sem = fun _ => 0)

def quiescent_DxUpRefIdeal [hDxUpRefIdeal : Cert.DxUpRefIdeal.Facts] : Prop :=
  ∀ (m : (ℓ : Loc Cert.DxUpRefIdeal.nD Cert.DxUpRefIdeal.τ Cert.DxUpRefIdeal.sig) → Buf (Elt Ideal) ℓ) (g : Dev Cert.DxUpRefIdeal.nD → PrngReg), Pre_DxUpRefIdeal m →
    θ_run (Cert.DxUpRefIdeal.defs (F := Ideal)) (onTc (τ := Cert.DxUpRefIdeal.τ) (Cert.DxUpRefIdeal.main (F := Ideal))) ⟨m, fun _ => 0, g⟩ (fun r => (∀ c : Dev Cert.DxUpRefIdeal.nD,
      r.2.mem ((c.tc : Thread Cert.DxUpRefIdeal.nD Cert.DxUpRefIdeal.τ).loc Cert.DxUpRefIdeal.main_arg0) = m ((c.tc : Thread Cert.DxUpRefIdeal.nD Cert.DxUpRefIdeal.τ).loc Cert.DxUpRefIdeal.main_arg0)
      ∧ r.2.mem ((c.tc : Thread Cert.DxUpRefIdeal.nD Cert.DxUpRefIdeal.τ).loc Cert.DxUpRefIdeal.main_arg1) = m ((c.tc : Thread Cert.DxUpRefIdeal.nD Cert.DxUpRefIdeal.τ).loc Cert.DxUpRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DxOut [hDxOut : Cert.DxOut.Facts] : Prop :=
  ∀ (m : (ℓ : Loc Cert.DxOut.nD Cert.DxOut.τ Cert.DxOut.sig) → Buf (Elt Bits) ℓ) (g : Dev Cert.DxOut.nD → PrngReg), Pre_DxOut m →
    θ_run (Cert.DxOut.defs (F := Bits)) (onTc (τ := Cert.DxOut.τ) (Cert.DxOut.main (F := Bits))) ⟨m, fun _ => 0, g⟩ (fun r => (∀ c : Dev Cert.DxOut.nD,
      r.2.mem ((c.tc : Thread Cert.DxOut.nD Cert.DxOut.τ).loc Cert.DxOut.main_arg0) = m ((c.tc : Thread Cert.DxOut.nD Cert.DxOut.τ).loc Cert.DxOut.main_arg0)
      ∧ r.2.mem ((c.tc : Thread Cert.DxOut.nD Cert.DxOut.τ).loc Cert.DxOut.main_arg1) = m ((c.tc : Thread Cert.DxOut.nD Cert.DxOut.τ).loc Cert.DxOut.main_arg1))
      ∧ r.2.sem = fun _ => 0)

def quiescent_DxOutIdeal [hDxOutIdeal : Cert.DxOutIdeal.Facts] : Prop :=
  ∀ (m : (ℓ : Loc Cert.DxOutIdeal.nD Cert.DxOutIdeal.τ Cert.DxOutIdeal.sig) → Buf (Elt Ideal) ℓ) (g : Dev Cert.DxOutIdeal.nD → PrngReg), Pre_DxOutIdeal m →
    θ_run (Cert.DxOutIdeal.defs (F := Ideal)) (onTc (τ := Cert.DxOutIdeal.τ) (Cert.DxOutIdeal.main (F := Ideal))) ⟨m, fun _ => 0, g⟩ (fun r => (∀ c : Dev Cert.DxOutIdeal.nD,
      r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
      ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1))
      ∧ r.2.sem = fun _ => 0)

def quiescent_DxOutRefIdeal [hDxOutRefIdeal : Cert.DxOutRefIdeal.Facts] : Prop :=
  ∀ (m : (ℓ : Loc Cert.DxOutRefIdeal.nD Cert.DxOutRefIdeal.τ Cert.DxOutRefIdeal.sig) → Buf (Elt Ideal) ℓ) (g : Dev Cert.DxOutRefIdeal.nD → PrngReg), Pre_DxOutRefIdeal m →
    θ_run (Cert.DxOutRefIdeal.defs (F := Ideal)) (onTc (τ := Cert.DxOutRefIdeal.τ) (Cert.DxOutRefIdeal.main (F := Ideal))) ⟨m, fun _ => 0, g⟩ (fun r => (∀ c : Dev Cert.DxOutRefIdeal.nD,
      r.2.mem ((c.tc : Thread Cert.DxOutRefIdeal.nD Cert.DxOutRefIdeal.τ).loc Cert.DxOutRefIdeal.main_arg0) = m ((c.tc : Thread Cert.DxOutRefIdeal.nD Cert.DxOutRefIdeal.τ).loc Cert.DxOutRefIdeal.main_arg0)
      ∧ r.2.mem ((c.tc : Thread Cert.DxOutRefIdeal.nD Cert.DxOutRefIdeal.τ).loc Cert.DxOutRefIdeal.main_arg1) = m ((c.tc : Thread Cert.DxOutRefIdeal.nD Cert.DxOutRefIdeal.τ).loc Cert.DxOutRefIdeal.main_arg1))
      ∧ r.2.sem = fun _ => 0)

def quiescent_DwInA [hDwInA : Cert.DwInA.Facts] : Prop :=
  ∀ (m : (ℓ : Loc Cert.DwInA.nD Cert.DwInA.τ Cert.DwInA.sig) → Buf (Elt Bits) ℓ) (g : Dev Cert.DwInA.nD → PrngReg), Pre_DwInA m →
    θ_run (Cert.DwInA.defs (F := Bits)) (onTc (τ := Cert.DwInA.τ) (Cert.DwInA.main (F := Bits))) ⟨m, fun _ => 0, g⟩ (fun r => (∀ c : Dev Cert.DwInA.nD,
      r.2.mem ((c.tc : Thread Cert.DwInA.nD Cert.DwInA.τ).loc Cert.DwInA.main_arg0) = m ((c.tc : Thread Cert.DwInA.nD Cert.DwInA.τ).loc Cert.DwInA.main_arg0)
      ∧ r.2.mem ((c.tc : Thread Cert.DwInA.nD Cert.DwInA.τ).loc Cert.DwInA.main_arg1) = m ((c.tc : Thread Cert.DwInA.nD Cert.DwInA.τ).loc Cert.DwInA.main_arg1))
      ∧ r.2.sem = fun _ => 0)

def quiescent_DwInAIdeal [hDwInAIdeal : Cert.DwInAIdeal.Facts] : Prop :=
  ∀ (m : (ℓ : Loc Cert.DwInAIdeal.nD Cert.DwInAIdeal.τ Cert.DwInAIdeal.sig) → Buf (Elt Ideal) ℓ) (g : Dev Cert.DwInAIdeal.nD → PrngReg), Pre_DwInAIdeal m →
    θ_run (Cert.DwInAIdeal.defs (F := Ideal)) (onTc (τ := Cert.DwInAIdeal.τ) (Cert.DwInAIdeal.main (F := Ideal))) ⟨m, fun _ => 0, g⟩ (fun r => (∀ c : Dev Cert.DwInAIdeal.nD,
      r.2.mem ((c.tc : Thread Cert.DwInAIdeal.nD Cert.DwInAIdeal.τ).loc Cert.DwInAIdeal.main_arg0) = m ((c.tc : Thread Cert.DwInAIdeal.nD Cert.DwInAIdeal.τ).loc Cert.DwInAIdeal.main_arg0)
      ∧ r.2.mem ((c.tc : Thread Cert.DwInAIdeal.nD Cert.DwInAIdeal.τ).loc Cert.DwInAIdeal.main_arg1) = m ((c.tc : Thread Cert.DwInAIdeal.nD Cert.DwInAIdeal.τ).loc Cert.DwInAIdeal.main_arg1))
      ∧ r.2.sem = fun _ => 0)

def quiescent_DwInARefIdeal [hDwInARefIdeal : Cert.DwInARefIdeal.Facts] : Prop :=
  ∀ (m : (ℓ : Loc Cert.DwInARefIdeal.nD Cert.DwInARefIdeal.τ Cert.DwInARefIdeal.sig) → Buf (Elt Ideal) ℓ) (g : Dev Cert.DwInARefIdeal.nD → PrngReg), Pre_DwInARefIdeal m →
    θ_run (Cert.DwInARefIdeal.defs (F := Ideal)) (onTc (τ := Cert.DwInARefIdeal.τ) (Cert.DwInARefIdeal.main (F := Ideal))) ⟨m, fun _ => 0, g⟩ (fun r => (∀ c : Dev Cert.DwInARefIdeal.nD,
      r.2.mem ((c.tc : Thread Cert.DwInARefIdeal.nD Cert.DwInARefIdeal.τ).loc Cert.DwInARefIdeal.main_arg0) = m ((c.tc : Thread Cert.DwInARefIdeal.nD Cert.DwInARefIdeal.τ).loc Cert.DwInARefIdeal.main_arg0)
      ∧ r.2.mem ((c.tc : Thread Cert.DwInARefIdeal.nD Cert.DwInARefIdeal.τ).loc Cert.DwInARefIdeal.main_arg1) = m ((c.tc : Thread Cert.DwInARefIdeal.nD Cert.DwInARefIdeal.τ).loc Cert.DwInARefIdeal.main_arg1))
      ∧ r.2.sem = fun _ => 0)

def quiescent_DxInA [hDxInA : Cert.DxInA.Facts] : Prop :=
  ∀ (m : (ℓ : Loc Cert.DxInA.nD Cert.DxInA.τ Cert.DxInA.sig) → Buf (Elt Bits) ℓ) (g : Dev Cert.DxInA.nD → PrngReg), Pre_DxInA m →
    θ_run (Cert.DxInA.defs (F := Bits)) (onTc (τ := Cert.DxInA.τ) (Cert.DxInA.main (F := Bits))) ⟨m, fun _ => 0, g⟩ (fun r => (∀ c : Dev Cert.DxInA.nD,
      r.2.mem ((c.tc : Thread Cert.DxInA.nD Cert.DxInA.τ).loc Cert.DxInA.main_arg0) = m ((c.tc : Thread Cert.DxInA.nD Cert.DxInA.τ).loc Cert.DxInA.main_arg0)
      ∧ r.2.mem ((c.tc : Thread Cert.DxInA.nD Cert.DxInA.τ).loc Cert.DxInA.main_arg1) = m ((c.tc : Thread Cert.DxInA.nD Cert.DxInA.τ).loc Cert.DxInA.main_arg1))
      ∧ r.2.sem = fun _ => 0)

def quiescent_DxInAIdeal [hDxInAIdeal : Cert.DxInAIdeal.Facts] : Prop :=
  ∀ (m : (ℓ : Loc Cert.DxInAIdeal.nD Cert.DxInAIdeal.τ Cert.DxInAIdeal.sig) → Buf (Elt Ideal) ℓ) (g : Dev Cert.DxInAIdeal.nD → PrngReg), Pre_DxInAIdeal m →
    θ_run (Cert.DxInAIdeal.defs (F := Ideal)) (onTc (τ := Cert.DxInAIdeal.τ) (Cert.DxInAIdeal.main (F := Ideal))) ⟨m, fun _ => 0, g⟩ (fun r => (∀ c : Dev Cert.DxInAIdeal.nD,
      r.2.mem ((c.tc : Thread Cert.DxInAIdeal.nD Cert.DxInAIdeal.τ).loc Cert.DxInAIdeal.main_arg0) = m ((c.tc : Thread Cert.DxInAIdeal.nD Cert.DxInAIdeal.τ).loc Cert.DxInAIdeal.main_arg0)
      ∧ r.2.mem ((c.tc : Thread Cert.DxInAIdeal.nD Cert.DxInAIdeal.τ).loc Cert.DxInAIdeal.main_arg1) = m ((c.tc : Thread Cert.DxInAIdeal.nD Cert.DxInAIdeal.τ).loc Cert.DxInAIdeal.main_arg1))
      ∧ r.2.sem = fun _ => 0)

def quiescent_DxInARefIdeal [hDxInARefIdeal : Cert.DxInARefIdeal.Facts] : Prop :=
  ∀ (m : (ℓ : Loc Cert.DxInARefIdeal.nD Cert.DxInARefIdeal.τ Cert.DxInARefIdeal.sig) → Buf (Elt Ideal) ℓ) (g : Dev Cert.DxInARefIdeal.nD → PrngReg), Pre_DxInARefIdeal m →
    θ_run (Cert.DxInARefIdeal.defs (F := Ideal)) (onTc (τ := Cert.DxInARefIdeal.τ) (Cert.DxInARefIdeal.main (F := Ideal))) ⟨m, fun _ => 0, g⟩ (fun r => (∀ c : Dev Cert.DxInARefIdeal.nD,
      r.2.mem ((c.tc : Thread Cert.DxInARefIdeal.nD Cert.DxInARefIdeal.τ).loc Cert.DxInARefIdeal.main_arg0) = m ((c.tc : Thread Cert.DxInARefIdeal.nD Cert.DxInARefIdeal.τ).loc Cert.DxInARefIdeal.main_arg0)
      ∧ r.2.mem ((c.tc : Thread Cert.DxInARefIdeal.nD Cert.DxInARefIdeal.τ).loc Cert.DxInARefIdeal.main_arg1) = m ((c.tc : Thread Cert.DxInARefIdeal.nD Cert.DxInARefIdeal.τ).loc Cert.DxInARefIdeal.main_arg1))
      ∧ r.2.sem = fun _ => 0)

def quiescent_DwInB [hDwInB : Cert.DwInB.Facts] : Prop :=
  ∀ (m : (ℓ : Loc Cert.DwInB.nD Cert.DwInB.τ Cert.DwInB.sig) → Buf (Elt Bits) ℓ) (g : Dev Cert.DwInB.nD → PrngReg), Pre_DwInB m →
    θ_run (Cert.DwInB.defs (F := Bits)) (onTc (τ := Cert.DwInB.τ) (Cert.DwInB.main (F := Bits))) ⟨m, fun _ => 0, g⟩ (fun r => (∀ c : Dev Cert.DwInB.nD,
      r.2.mem ((c.tc : Thread Cert.DwInB.nD Cert.DwInB.τ).loc Cert.DwInB.main_arg0) = m ((c.tc : Thread Cert.DwInB.nD Cert.DwInB.τ).loc Cert.DwInB.main_arg0)
      ∧ r.2.mem ((c.tc : Thread Cert.DwInB.nD Cert.DwInB.τ).loc Cert.DwInB.main_arg1) = m ((c.tc : Thread Cert.DwInB.nD Cert.DwInB.τ).loc Cert.DwInB.main_arg1))
      ∧ r.2.sem = fun _ => 0)

def quiescent_DwInBIdeal [hDwInBIdeal : Cert.DwInBIdeal.Facts] : Prop :=
  ∀ (m : (ℓ : Loc Cert.DwInBIdeal.nD Cert.DwInBIdeal.τ Cert.DwInBIdeal.sig) → Buf (Elt Ideal) ℓ) (g : Dev Cert.DwInBIdeal.nD → PrngReg), Pre_DwInBIdeal m →
    θ_run (Cert.DwInBIdeal.defs (F := Ideal)) (onTc (τ := Cert.DwInBIdeal.τ) (Cert.DwInBIdeal.main (F := Ideal))) ⟨m, fun _ => 0, g⟩ (fun r => (∀ c : Dev Cert.DwInBIdeal.nD,
      r.2.mem ((c.tc : Thread Cert.DwInBIdeal.nD Cert.DwInBIdeal.τ).loc Cert.DwInBIdeal.main_arg0) = m ((c.tc : Thread Cert.DwInBIdeal.nD Cert.DwInBIdeal.τ).loc Cert.DwInBIdeal.main_arg0)
      ∧ r.2.mem ((c.tc : Thread Cert.DwInBIdeal.nD Cert.DwInBIdeal.τ).loc Cert.DwInBIdeal.main_arg1) = m ((c.tc : Thread Cert.DwInBIdeal.nD Cert.DwInBIdeal.τ).loc Cert.DwInBIdeal.main_arg1))
      ∧ r.2.sem = fun _ => 0)

def quiescent_DwInBRefIdeal [hDwInBRefIdeal : Cert.DwInBRefIdeal.Facts] : Prop :=
  ∀ (m : (ℓ : Loc Cert.DwInBRefIdeal.nD Cert.DwInBRefIdeal.τ Cert.DwInBRefIdeal.sig) → Buf (Elt Ideal) ℓ) (g : Dev Cert.DwInBRefIdeal.nD → PrngReg), Pre_DwInBRefIdeal m →
    θ_run (Cert.DwInBRefIdeal.defs (F := Ideal)) (onTc (τ := Cert.DwInBRefIdeal.τ) (Cert.DwInBRefIdeal.main (F := Ideal))) ⟨m, fun _ => 0, g⟩ (fun r => (∀ c : Dev Cert.DwInBRefIdeal.nD,
      r.2.mem ((c.tc : Thread Cert.DwInBRefIdeal.nD Cert.DwInBRefIdeal.τ).loc Cert.DwInBRefIdeal.main_arg0) = m ((c.tc : Thread Cert.DwInBRefIdeal.nD Cert.DwInBRefIdeal.τ).loc Cert.DwInBRefIdeal.main_arg0)
      ∧ r.2.mem ((c.tc : Thread Cert.DwInBRefIdeal.nD Cert.DwInBRefIdeal.τ).loc Cert.DwInBRefIdeal.main_arg1) = m ((c.tc : Thread Cert.DwInBRefIdeal.nD Cert.DwInBRefIdeal.τ).loc Cert.DwInBRefIdeal.main_arg1))
      ∧ r.2.sem = fun _ => 0)

def quiescent_DxInB [hDxInB : Cert.DxInB.Facts] : Prop :=
  ∀ (m : (ℓ : Loc Cert.DxInB.nD Cert.DxInB.τ Cert.DxInB.sig) → Buf (Elt Bits) ℓ) (g : Dev Cert.DxInB.nD → PrngReg), Pre_DxInB m →
    θ_run (Cert.DxInB.defs (F := Bits)) (onTc (τ := Cert.DxInB.τ) (Cert.DxInB.main (F := Bits))) ⟨m, fun _ => 0, g⟩ (fun r => (∀ c : Dev Cert.DxInB.nD,
      r.2.mem ((c.tc : Thread Cert.DxInB.nD Cert.DxInB.τ).loc Cert.DxInB.main_arg0) = m ((c.tc : Thread Cert.DxInB.nD Cert.DxInB.τ).loc Cert.DxInB.main_arg0)
      ∧ r.2.mem ((c.tc : Thread Cert.DxInB.nD Cert.DxInB.τ).loc Cert.DxInB.main_arg1) = m ((c.tc : Thread Cert.DxInB.nD Cert.DxInB.τ).loc Cert.DxInB.main_arg1))
      ∧ r.2.sem = fun _ => 0)

def quiescent_DxInBIdeal [hDxInBIdeal : Cert.DxInBIdeal.Facts] : Prop :=
  ∀ (m : (ℓ : Loc Cert.DxInBIdeal.nD Cert.DxInBIdeal.τ Cert.DxInBIdeal.sig) → Buf (Elt Ideal) ℓ) (g : Dev Cert.DxInBIdeal.nD → PrngReg), Pre_DxInBIdeal m →
    θ_run (Cert.DxInBIdeal.defs (F := Ideal)) (onTc (τ := Cert.DxInBIdeal.τ) (Cert.DxInBIdeal.main (F := Ideal))) ⟨m, fun _ => 0, g⟩ (fun r => (∀ c : Dev Cert.DxInBIdeal.nD,
      r.2.mem ((c.tc : Thread Cert.DxInBIdeal.nD Cert.DxInBIdeal.τ).loc Cert.DxInBIdeal.main_arg0) = m ((c.tc : Thread Cert.DxInBIdeal.nD Cert.DxInBIdeal.τ).loc Cert.DxInBIdeal.main_arg0)
      ∧ r.2.mem ((c.tc : Thread Cert.DxInBIdeal.nD Cert.DxInBIdeal.τ).loc Cert.DxInBIdeal.main_arg1) = m ((c.tc : Thread Cert.DxInBIdeal.nD Cert.DxInBIdeal.τ).loc Cert.DxInBIdeal.main_arg1))
      ∧ r.2.sem = fun _ => 0)

def quiescent_DxInBRefIdeal [hDxInBRefIdeal : Cert.DxInBRefIdeal.Facts] : Prop :=
  ∀ (m : (ℓ : Loc Cert.DxInBRefIdeal.nD Cert.DxInBRefIdeal.τ Cert.DxInBRefIdeal.sig) → Buf (Elt Ideal) ℓ) (g : Dev Cert.DxInBRefIdeal.nD → PrngReg), Pre_DxInBRefIdeal m →
    θ_run (Cert.DxInBRefIdeal.defs (F := Ideal)) (onTc (τ := Cert.DxInBRefIdeal.τ) (Cert.DxInBRefIdeal.main (F := Ideal))) ⟨m, fun _ => 0, g⟩ (fun r => (∀ c : Dev Cert.DxInBRefIdeal.nD,
      r.2.mem ((c.tc : Thread Cert.DxInBRefIdeal.nD Cert.DxInBRefIdeal.τ).loc Cert.DxInBRefIdeal.main_arg0) = m ((c.tc : Thread Cert.DxInBRefIdeal.nD Cert.DxInBRefIdeal.τ).loc Cert.DxInBRefIdeal.main_arg0)
      ∧ r.2.mem ((c.tc : Thread Cert.DxInBRefIdeal.nD Cert.DxInBRefIdeal.τ).loc Cert.DxInBRefIdeal.main_arg1) = m ((c.tc : Thread Cert.DxInBRefIdeal.nD Cert.DxInBRefIdeal.τ).loc Cert.DxInBRefIdeal.main_arg1))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1))
      ∧ r.2.sem = fun _ => 0)

def quiescent_DxGate [hDxGate : Cert.DxGate.Facts] : Prop :=
  ∀ (m : (ℓ : Loc Cert.DxGate.nD Cert.DxGate.τ Cert.DxGate.sig) → Buf (Elt Bits) ℓ) (g : Dev Cert.DxGate.nD → PrngReg), Pre_DxGate m →
    θ_run (Cert.DxGate.defs (F := Bits)) (onTc (τ := Cert.DxGate.τ) (Cert.DxGate.main (F := Bits))) ⟨m, fun _ => 0, g⟩ (fun r => (∀ c : Dev Cert.DxGate.nD,
      r.2.mem ((c.tc : Thread Cert.DxGate.nD Cert.DxGate.τ).loc Cert.DxGate.main_arg0) = m ((c.tc : Thread Cert.DxGate.nD Cert.DxGate.τ).loc Cert.DxGate.main_arg0)
      ∧ r.2.mem ((c.tc : Thread Cert.DxGate.nD Cert.DxGate.τ).loc Cert.DxGate.main_arg1) = m ((c.tc : Thread Cert.DxGate.nD Cert.DxGate.τ).loc Cert.DxGate.main_arg1)
      ∧ r.2.mem ((c.tc : Thread Cert.DxGate.nD Cert.DxGate.τ).loc Cert.DxGate.main_arg2) = m ((c.tc : Thread Cert.DxGate.nD Cert.DxGate.τ).loc Cert.DxGate.main_arg2))
      ∧ r.2.sem = fun _ => 0)

def quiescent_DxGateIdeal [hDxGateIdeal : Cert.DxGateIdeal.Facts] : Prop :=
  ∀ (m : (ℓ : Loc Cert.DxGateIdeal.nD Cert.DxGateIdeal.τ Cert.DxGateIdeal.sig) → Buf (Elt Ideal) ℓ) (g : Dev Cert.DxGateIdeal.nD → PrngReg), Pre_DxGateIdeal m →
    θ_run (Cert.DxGateIdeal.defs (F := Ideal)) (onTc (τ := Cert.DxGateIdeal.τ) (Cert.DxGateIdeal.main (F := Ideal))) ⟨m, fun _ => 0, g⟩ (fun r => (∀ c : Dev Cert.DxGateIdeal.nD,
      r.2.mem ((c.tc : Thread Cert.DxGateIdeal.nD Cert.DxGateIdeal.τ).loc Cert.DxGateIdeal.main_arg0) = m ((c.tc : Thread Cert.DxGateIdeal.nD Cert.DxGateIdeal.τ).loc Cert.DxGateIdeal.main_arg0)
      ∧ r.2.mem ((c.tc : Thread Cert.DxGateIdeal.nD Cert.DxGateIdeal.τ).loc Cert.DxGateIdeal.main_arg1) = m ((c.tc : Thread Cert.DxGateIdeal.nD Cert.DxGateIdeal.τ).loc Cert.DxGateIdeal.main_arg1)
      ∧ r.2.mem ((c.tc : Thread Cert.DxGateIdeal.nD Cert.DxGateIdeal.τ).loc Cert.DxGateIdeal.main_arg2) = m ((c.tc : Thread Cert.DxGateIdeal.nD Cert.DxGateIdeal.τ).loc Cert.DxGateIdeal.main_arg2))
      ∧ r.2.sem = fun _ => 0)

def quiescent_DxGateRefIdeal [hDxGateRefIdeal : Cert.DxGateRefIdeal.Facts] : Prop :=
  ∀ (m : (ℓ : Loc Cert.DxGateRefIdeal.nD Cert.DxGateRefIdeal.τ Cert.DxGateRefIdeal.sig) → Buf (Elt Ideal) ℓ) (g : Dev Cert.DxGateRefIdeal.nD → PrngReg), Pre_DxGateRefIdeal m →
    θ_run (Cert.DxGateRefIdeal.defs (F := Ideal)) (onTc (τ := Cert.DxGateRefIdeal.τ) (Cert.DxGateRefIdeal.main (F := Ideal))) ⟨m, fun _ => 0, g⟩ (fun r => (∀ c : Dev Cert.DxGateRefIdeal.nD,
      r.2.mem ((c.tc : Thread Cert.DxGateRefIdeal.nD Cert.DxGateRefIdeal.τ).loc Cert.DxGateRefIdeal.main_arg0) = m ((c.tc : Thread Cert.DxGateRefIdeal.nD Cert.DxGateRefIdeal.τ).loc Cert.DxGateRefIdeal.main_arg0)
      ∧ r.2.mem ((c.tc : Thread Cert.DxGateRefIdeal.nD Cert.DxGateRefIdeal.τ).loc Cert.DxGateRefIdeal.main_arg1) = m ((c.tc : Thread Cert.DxGateRefIdeal.nD Cert.DxGateRefIdeal.τ).loc Cert.DxGateRefIdeal.main_arg1)
      ∧ r.2.mem ((c.tc : Thread Cert.DxGateRefIdeal.nD Cert.DxGateRefIdeal.τ).loc Cert.DxGateRefIdeal.main_arg2) = m ((c.tc : Thread Cert.DxGateRefIdeal.nD Cert.DxGateRefIdeal.τ).loc Cert.DxGateRefIdeal.main_arg2))
      ∧ r.2.sem = fun _ => 0)

def quiescent_FwUp [hFwUp : Cert.FwUp.Facts] : Prop :=
  ∀ (m : (ℓ : Loc Cert.FwUp.nD Cert.FwUp.τ Cert.FwUp.sig) → Buf (Elt Bits) ℓ) (g : Dev Cert.FwUp.nD → PrngReg), Pre_FwUp m →
    θ_run (Cert.FwUp.defs (F := Bits)) (onTc (τ := Cert.FwUp.τ) (Cert.FwUp.main (F := Bits))) ⟨m, fun _ => 0, g⟩ (fun r => (∀ c : Dev Cert.FwUp.nD,
      r.2.mem ((c.tc : Thread Cert.FwUp.nD Cert.FwUp.τ).loc Cert.FwUp.main_arg0) = m ((c.tc : Thread Cert.FwUp.nD Cert.FwUp.τ).loc Cert.FwUp.main_arg0)
      ∧ r.2.mem ((c.tc : Thread Cert.FwUp.nD Cert.FwUp.τ).loc Cert.FwUp.main_arg1) = m ((c.tc : Thread Cert.FwUp.nD Cert.FwUp.τ).loc Cert.FwUp.main_arg1))
      ∧ r.2.sem = fun _ => 0)

def quiescent_FwUpIdeal [hFwUpIdeal : Cert.FwUpIdeal.Facts] : Prop :=
  ∀ (m : (ℓ : Loc Cert.FwUpIdeal.nD Cert.FwUpIdeal.τ Cert.FwUpIdeal.sig) → Buf (Elt Ideal) ℓ) (g : Dev Cert.FwUpIdeal.nD → PrngReg), Pre_FwUpIdeal m →
    θ_run (Cert.FwUpIdeal.defs (F := Ideal)) (onTc (τ := Cert.FwUpIdeal.τ) (Cert.FwUpIdeal.main (F := Ideal))) ⟨m, fun _ => 0, g⟩ (fun r => (∀ c : Dev Cert.FwUpIdeal.nD,
      r.2.mem ((c.tc : Thread Cert.FwUpIdeal.nD Cert.FwUpIdeal.τ).loc Cert.FwUpIdeal.main_arg0) = m ((c.tc : Thread Cert.FwUpIdeal.nD Cert.FwUpIdeal.τ).loc Cert.FwUpIdeal.main_arg0)
      ∧ r.2.mem ((c.tc : Thread Cert.FwUpIdeal.nD Cert.FwUpIdeal.τ).loc Cert.FwUpIdeal.main_arg1) = m ((c.tc : Thread Cert.FwUpIdeal.nD Cert.FwUpIdeal.τ).loc Cert.FwUpIdeal.main_arg1))
      ∧ r.2.sem = fun _ => 0)

def quiescent_FwUpRefIdeal [hFwUpRefIdeal : Cert.FwUpRefIdeal.Facts] : Prop :=
  ∀ (m : (ℓ : Loc Cert.FwUpRefIdeal.nD Cert.FwUpRefIdeal.τ Cert.FwUpRefIdeal.sig) → Buf (Elt Ideal) ℓ) (g : Dev Cert.FwUpRefIdeal.nD → PrngReg), Pre_FwUpRefIdeal m →
    θ_run (Cert.FwUpRefIdeal.defs (F := Ideal)) (onTc (τ := Cert.FwUpRefIdeal.τ) (Cert.FwUpRefIdeal.main (F := Ideal))) ⟨m, fun _ => 0, g⟩ (fun r => (∀ c : Dev Cert.FwUpRefIdeal.nD,
      r.2.mem ((c.tc : Thread Cert.FwUpRefIdeal.nD Cert.FwUpRefIdeal.τ).loc Cert.FwUpRefIdeal.main_arg0) = m ((c.tc : Thread Cert.FwUpRefIdeal.nD Cert.FwUpRefIdeal.τ).loc Cert.FwUpRefIdeal.main_arg0)
      ∧ r.2.mem ((c.tc : Thread Cert.FwUpRefIdeal.nD Cert.FwUpRefIdeal.τ).loc Cert.FwUpRefIdeal.main_arg1) = m ((c.tc : Thread Cert.FwUpRefIdeal.nD Cert.FwUpRefIdeal.τ).loc Cert.FwUpRefIdeal.main_arg1))
      ∧ r.2.sem = fun _ => 0)

def quiescent_FwDown [hFwDown : Cert.FwDown.Facts] : Prop :=
  ∀ (m : (ℓ : Loc Cert.FwDown.nD Cert.FwDown.τ Cert.FwDown.sig) → Buf (Elt Bits) ℓ) (g : Dev Cert.FwDown.nD → PrngReg), Pre_FwDown m →
    θ_run (Cert.FwDown.defs (F := Bits)) (onTc (τ := Cert.FwDown.τ) (Cert.FwDown.main (F := Bits))) ⟨m, fun _ => 0, g⟩ (fun r => (∀ c : Dev Cert.FwDown.nD,
      r.2.mem ((c.tc : Thread Cert.FwDown.nD Cert.FwDown.τ).loc Cert.FwDown.main_arg0) = m ((c.tc : Thread Cert.FwDown.nD Cert.FwDown.τ).loc Cert.FwDown.main_arg0)
      ∧ r.2.mem ((c.tc : Thread Cert.FwDown.nD Cert.FwDown.τ).loc Cert.FwDown.main_arg1) = m ((c.tc : Thread Cert.FwDown.nD Cert.FwDown.τ).loc Cert.FwDown.main_arg1)
      ∧ r.2.mem ((c.tc : Thread Cert.FwDown.nD Cert.FwDown.τ).loc Cert.FwDown.main_arg2) = m ((c.tc : Thread Cert.FwDown.nD Cert.FwDown.τ).loc Cert.FwDown.main_arg2))
      ∧ r.2.sem = fun _ => 0)

def quiescent_FwDownIdeal [hFwDownIdeal : Cert.FwDownIdeal.Facts] : Prop :=
  ∀ (m : (ℓ : Loc Cert.FwDownIdeal.nD Cert.FwDownIdeal.τ Cert.FwDownIdeal.sig) → Buf (Elt Ideal) ℓ) (g : Dev Cert.FwDownIdeal.nD → PrngReg), Pre_FwDownIdeal m →
    θ_run (Cert.FwDownIdeal.defs (F := Ideal)) (onTc (τ := Cert.FwDownIdeal.τ) (Cert.FwDownIdeal.main (F := Ideal))) ⟨m, fun _ => 0, g⟩ (fun r => (∀ c : Dev Cert.FwDownIdeal.nD,
      r.2.mem ((c.tc : Thread Cert.FwDownIdeal.nD Cert.FwDownIdeal.τ).loc Cert.FwDownIdeal.main_arg0) = m ((c.tc : Thread Cert.FwDownIdeal.nD Cert.FwDownIdeal.τ).loc Cert.FwDownIdeal.main_arg0)
      ∧ r.2.mem ((c.tc : Thread Cert.FwDownIdeal.nD Cert.FwDownIdeal.τ).loc Cert.FwDownIdeal.main_arg1) = m ((c.tc : Thread Cert.FwDownIdeal.nD Cert.FwDownIdeal.τ).loc Cert.FwDownIdeal.main_arg1)
      ∧ r.2.mem ((c.tc : Thread Cert.FwDownIdeal.nD Cert.FwDownIdeal.τ).loc Cert.FwDownIdeal.main_arg2) = m ((c.tc : Thread Cert.FwDownIdeal.nD Cert.FwDownIdeal.τ).loc Cert.FwDownIdeal.main_arg2))
      ∧ r.2.sem = fun _ => 0)

def quiescent_FwDownRefIdeal [hFwDownRefIdeal : Cert.FwDownRefIdeal.Facts] : Prop :=
  ∀ (m : (ℓ : Loc Cert.FwDownRefIdeal.nD Cert.FwDownRefIdeal.τ Cert.FwDownRefIdeal.sig) → Buf (Elt Ideal) ℓ) (g : Dev Cert.FwDownRefIdeal.nD → PrngReg), Pre_FwDownRefIdeal m →
    θ_run (Cert.FwDownRefIdeal.defs (F := Ideal)) (onTc (τ := Cert.FwDownRefIdeal.τ) (Cert.FwDownRefIdeal.main (F := Ideal))) ⟨m, fun _ => 0, g⟩ (fun r => (∀ c : Dev Cert.FwDownRefIdeal.nD,
      r.2.mem ((c.tc : Thread Cert.FwDownRefIdeal.nD Cert.FwDownRefIdeal.τ).loc Cert.FwDownRefIdeal.main_arg0) = m ((c.tc : Thread Cert.FwDownRefIdeal.nD Cert.FwDownRefIdeal.τ).loc Cert.FwDownRefIdeal.main_arg0)
      ∧ r.2.mem ((c.tc : Thread Cert.FwDownRefIdeal.nD Cert.FwDownRefIdeal.τ).loc Cert.FwDownRefIdeal.main_arg1) = m ((c.tc : Thread Cert.FwDownRefIdeal.nD Cert.FwDownRefIdeal.τ).loc Cert.FwDownRefIdeal.main_arg1)
      ∧ r.2.mem ((c.tc : Thread Cert.FwDownRefIdeal.nD Cert.FwDownRefIdeal.τ).loc Cert.FwDownRefIdeal.main_arg2) = m ((c.tc : Thread Cert.FwDownRefIdeal.nD Cert.FwDownRefIdeal.τ).loc Cert.FwDownRefIdeal.main_arg2))
      ∧ r.2.sem = fun _ => 0)

def quiescent_FwInA [hFwInA : Cert.FwInA.Facts] : Prop :=
  ∀ (m : (ℓ : Loc Cert.FwInA.nD Cert.FwInA.τ Cert.FwInA.sig) → Buf (Elt Bits) ℓ) (g : Dev Cert.FwInA.nD → PrngReg), Pre_FwInA m →
    θ_run (Cert.FwInA.defs (F := Bits)) (onTc (τ := Cert.FwInA.τ) (Cert.FwInA.main (F := Bits))) ⟨m, fun _ => 0, g⟩ (fun r => (∀ c : Dev Cert.FwInA.nD,
      r.2.mem ((c.tc : Thread Cert.FwInA.nD Cert.FwInA.τ).loc Cert.FwInA.main_arg0) = m ((c.tc : Thread Cert.FwInA.nD Cert.FwInA.τ).loc Cert.FwInA.main_arg0)
      ∧ r.2.mem ((c.tc : Thread Cert.FwInA.nD Cert.FwInA.τ).loc Cert.FwInA.main_arg1) = m ((c.tc : Thread Cert.FwInA.nD Cert.FwInA.τ).loc Cert.FwInA.main_arg1))
      ∧ r.2.sem = fun _ => 0)

def quiescent_FwInAIdeal [hFwInAIdeal : Cert.FwInAIdeal.Facts] : Prop :=
  ∀ (m : (ℓ : Loc Cert.FwInAIdeal.nD Cert.FwInAIdeal.τ Cert.FwInAIdeal.sig) → Buf (Elt Ideal) ℓ) (g : Dev Cert.FwInAIdeal.nD → PrngReg), Pre_FwInAIdeal m →
    θ_run (Cert.FwInAIdeal.defs (F := Ideal)) (onTc (τ := Cert.FwInAIdeal.τ) (Cert.FwInAIdeal.main (F := Ideal))) ⟨m, fun _ => 0, g⟩ (fun r => (∀ c : Dev Cert.FwInAIdeal.nD,
      r.2.mem ((c.tc : Thread Cert.FwInAIdeal.nD Cert.FwInAIdeal.τ).loc Cert.FwInAIdeal.main_arg0) = m ((c.tc : Thread Cert.FwInAIdeal.nD Cert.FwInAIdeal.τ).loc Cert.FwInAIdeal.main_arg0)
      ∧ r.2.mem ((c.tc : Thread Cert.FwInAIdeal.nD Cert.FwInAIdeal.τ).loc Cert.FwInAIdeal.main_arg1) = m ((c.tc : Thread Cert.FwInAIdeal.nD Cert.FwInAIdeal.τ).loc Cert.FwInAIdeal.main_arg1))
      ∧ r.2.sem = fun _ => 0)

def quiescent_FwInARefIdeal [hFwInARefIdeal : Cert.FwInARefIdeal.Facts] : Prop :=
  ∀ (m : (ℓ : Loc Cert.FwInARefIdeal.nD Cert.FwInARefIdeal.τ Cert.FwInARefIdeal.sig) → Buf (Elt Ideal) ℓ) (g : Dev Cert.FwInARefIdeal.nD → PrngReg), Pre_FwInARefIdeal m →
    θ_run (Cert.FwInARefIdeal.defs (F := Ideal)) (onTc (τ := Cert.FwInARefIdeal.τ) (Cert.FwInARefIdeal.main (F := Ideal))) ⟨m, fun _ => 0, g⟩ (fun r => (∀ c : Dev Cert.FwInARefIdeal.nD,
      r.2.mem ((c.tc : Thread Cert.FwInARefIdeal.nD Cert.FwInARefIdeal.τ).loc Cert.FwInARefIdeal.main_arg0) = m ((c.tc : Thread Cert.FwInARefIdeal.nD Cert.FwInARefIdeal.τ).loc Cert.FwInARefIdeal.main_arg0)
      ∧ r.2.mem ((c.tc : Thread Cert.FwInARefIdeal.nD Cert.FwInARefIdeal.τ).loc Cert.FwInARefIdeal.main_arg1) = m ((c.tc : Thread Cert.FwInARefIdeal.nD Cert.FwInARefIdeal.τ).loc Cert.FwInARefIdeal.main_arg1))
      ∧ r.2.sem = fun _ => 0)

def quiescent_FwInB [hFwInB : Cert.FwInB.Facts] : Prop :=
  ∀ (m : (ℓ : Loc Cert.FwInB.nD Cert.FwInB.τ Cert.FwInB.sig) → Buf (Elt Bits) ℓ) (g : Dev Cert.FwInB.nD → PrngReg), Pre_FwInB m →
    θ_run (Cert.FwInB.defs (F := Bits)) (onTc (τ := Cert.FwInB.τ) (Cert.FwInB.main (F := Bits))) ⟨m, fun _ => 0, g⟩ (fun r => (∀ c : Dev Cert.FwInB.nD,
      r.2.mem ((c.tc : Thread Cert.FwInB.nD Cert.FwInB.τ).loc Cert.FwInB.main_arg0) = m ((c.tc : Thread Cert.FwInB.nD Cert.FwInB.τ).loc Cert.FwInB.main_arg0)
      ∧ r.2.mem ((c.tc : Thread Cert.FwInB.nD Cert.FwInB.τ).loc Cert.FwInB.main_arg1) = m ((c.tc : Thread Cert.FwInB.nD Cert.FwInB.τ).loc Cert.FwInB.main_arg1))
      ∧ r.2.sem = fun _ => 0)

def quiescent_FwInBIdeal [hFwInBIdeal : Cert.FwInBIdeal.Facts] : Prop :=
  ∀ (m : (ℓ : Loc Cert.FwInBIdeal.nD Cert.FwInBIdeal.τ Cert.FwInBIdeal.sig) → Buf (Elt Ideal) ℓ) (g : Dev Cert.FwInBIdeal.nD → PrngReg), Pre_FwInBIdeal m →
    θ_run (Cert.FwInBIdeal.defs (F := Ideal)) (onTc (τ := Cert.FwInBIdeal.τ) (Cert.FwInBIdeal.main (F := Ideal))) ⟨m, fun _ => 0, g⟩ (fun r => (∀ c : Dev Cert.FwInBIdeal.nD,
      r.2.mem ((c.tc : Thread Cert.FwInBIdeal.nD Cert.FwInBIdeal.τ).loc Cert.FwInBIdeal.main_arg0) = m ((c.tc : Thread Cert.FwInBIdeal.nD Cert.FwInBIdeal.τ).loc Cert.FwInBIdeal.main_arg0)
      ∧ r.2.mem ((c.tc : Thread Cert.FwInBIdeal.nD Cert.FwInBIdeal.τ).loc Cert.FwInBIdeal.main_arg1) = m ((c.tc : Thread Cert.FwInBIdeal.nD Cert.FwInBIdeal.τ).loc Cert.FwInBIdeal.main_arg1))
      ∧ r.2.sem = fun _ => 0)

def quiescent_FwInBRefIdeal [hFwInBRefIdeal : Cert.FwInBRefIdeal.Facts] : Prop :=
  ∀ (m : (ℓ : Loc Cert.FwInBRefIdeal.nD Cert.FwInBRefIdeal.τ Cert.FwInBRefIdeal.sig) → Buf (Elt Ideal) ℓ) (g : Dev Cert.FwInBRefIdeal.nD → PrngReg), Pre_FwInBRefIdeal m →
    θ_run (Cert.FwInBRefIdeal.defs (F := Ideal)) (onTc (τ := Cert.FwInBRefIdeal.τ) (Cert.FwInBRefIdeal.main (F := Ideal))) ⟨m, fun _ => 0, g⟩ (fun r => (∀ c : Dev Cert.FwInBRefIdeal.nD,
      r.2.mem ((c.tc : Thread Cert.FwInBRefIdeal.nD Cert.FwInBRefIdeal.τ).loc Cert.FwInBRefIdeal.main_arg0) = m ((c.tc : Thread Cert.FwInBRefIdeal.nD Cert.FwInBRefIdeal.τ).loc Cert.FwInBRefIdeal.main_arg0)
      ∧ r.2.mem ((c.tc : Thread Cert.FwInBRefIdeal.nD Cert.FwInBRefIdeal.τ).loc Cert.FwInBRefIdeal.main_arg1) = m ((c.tc : Thread Cert.FwInBRefIdeal.nD Cert.FwInBRefIdeal.τ).loc Cert.FwInBRefIdeal.main_arg1))
      ∧ r.2.sem = fun _ => 0)

def quiescent_FwGate [hFwGate : Cert.FwGate.Facts] : Prop :=
  ∀ (m : (ℓ : Loc Cert.FwGate.nD Cert.FwGate.τ Cert.FwGate.sig) → Buf (Elt Bits) ℓ) (g : Dev Cert.FwGate.nD → PrngReg), Pre_FwGate m →
    θ_run (Cert.FwGate.defs (F := Bits)) (onTc (τ := Cert.FwGate.τ) (Cert.FwGate.main (F := Bits))) ⟨m, fun _ => 0, g⟩ (fun r => (∀ c : Dev Cert.FwGate.nD,
      r.2.mem ((c.tc : Thread Cert.FwGate.nD Cert.FwGate.τ).loc Cert.FwGate.main_arg0) = m ((c.tc : Thread Cert.FwGate.nD Cert.FwGate.τ).loc Cert.FwGate.main_arg0)
      ∧ r.2.mem ((c.tc : Thread Cert.FwGate.nD Cert.FwGate.τ).loc Cert.FwGate.main_arg1) = m ((c.tc : Thread Cert.FwGate.nD Cert.FwGate.τ).loc Cert.FwGate.main_arg1))
      ∧ r.2.sem = fun _ => 0)

def quiescent_FwGateIdeal [hFwGateIdeal : Cert.FwGateIdeal.Facts] : Prop :=
  ∀ (m : (ℓ : Loc Cert.FwGateIdeal.nD Cert.FwGateIdeal.τ Cert.FwGateIdeal.sig) → Buf (Elt Ideal) ℓ) (g : Dev Cert.FwGateIdeal.nD → PrngReg), Pre_FwGateIdeal m →
    θ_run (Cert.FwGateIdeal.defs (F := Ideal)) (onTc (τ := Cert.FwGateIdeal.τ) (Cert.FwGateIdeal.main (F := Ideal))) ⟨m, fun _ => 0, g⟩ (fun r => (∀ c : Dev Cert.FwGateIdeal.nD,
      r.2.mem ((c.tc : Thread Cert.FwGateIdeal.nD Cert.FwGateIdeal.τ).loc Cert.FwGateIdeal.main_arg0) = m ((c.tc : Thread Cert.FwGateIdeal.nD Cert.FwGateIdeal.τ).loc Cert.FwGateIdeal.main_arg0)
      ∧ r.2.mem ((c.tc : Thread Cert.FwGateIdeal.nD Cert.FwGateIdeal.τ).loc Cert.FwGateIdeal.main_arg1) = m ((c.tc : Thread Cert.FwGateIdeal.nD Cert.FwGateIdeal.τ).loc Cert.FwGateIdeal.main_arg1))
      ∧ r.2.sem = fun _ => 0)

def quiescent_FwGateRefIdeal [hFwGateRefIdeal : Cert.FwGateRefIdeal.Facts] : Prop :=
  ∀ (m : (ℓ : Loc Cert.FwGateRefIdeal.nD Cert.FwGateRefIdeal.τ Cert.FwGateRefIdeal.sig) → Buf (Elt Ideal) ℓ) (g : Dev Cert.FwGateRefIdeal.nD → PrngReg), Pre_FwGateRefIdeal m →
    θ_run (Cert.FwGateRefIdeal.defs (F := Ideal)) (onTc (τ := Cert.FwGateRefIdeal.τ) (Cert.FwGateRefIdeal.main (F := Ideal))) ⟨m, fun _ => 0, g⟩ (fun r => (∀ c : Dev Cert.FwGateRefIdeal.nD,
      r.2.mem ((c.tc : Thread Cert.FwGateRefIdeal.nD Cert.FwGateRefIdeal.τ).loc Cert.FwGateRefIdeal.main_arg0) = m ((c.tc : Thread Cert.FwGateRefIdeal.nD Cert.FwGateRefIdeal.τ).loc Cert.FwGateRefIdeal.main_arg0)
      ∧ r.2.mem ((c.tc : Thread Cert.FwGateRefIdeal.nD Cert.FwGateRefIdeal.τ).loc Cert.FwGateRefIdeal.main_arg1) = m ((c.tc : Thread Cert.FwGateRefIdeal.nD Cert.FwGateRefIdeal.τ).loc Cert.FwGateRefIdeal.main_arg1))
      ∧ r.2.sem = fun _ => 0)

def quiescent_FwOut [hFwOut : Cert.FwOut.Facts] : Prop :=
  ∀ (m : (ℓ : Loc Cert.FwOut.nD Cert.FwOut.τ Cert.FwOut.sig) → Buf (Elt Bits) ℓ) (g : Dev Cert.FwOut.nD → PrngReg), Pre_FwOut m →
    θ_run (Cert.FwOut.defs (F := Bits)) (onTc (τ := Cert.FwOut.τ) (Cert.FwOut.main (F := Bits))) ⟨m, fun _ => 0, g⟩ (fun r => (∀ c : Dev Cert.FwOut.nD,
      r.2.mem ((c.tc : Thread Cert.FwOut.nD Cert.FwOut.τ).loc Cert.FwOut.main_arg0) = m ((c.tc : Thread Cert.FwOut.nD Cert.FwOut.τ).loc Cert.FwOut.main_arg0)
      ∧ r.2.mem ((c.tc : Thread Cert.FwOut.nD Cert.FwOut.τ).loc Cert.FwOut.main_arg1) = m ((c.tc : Thread Cert.FwOut.nD Cert.FwOut.τ).loc Cert.FwOut.main_arg1)
      ∧ r.2.mem ((c.tc : Thread Cert.FwOut.nD Cert.FwOut.τ).loc Cert.FwOut.main_arg2) = m ((c.tc : Thread Cert.FwOut.nD Cert.FwOut.τ).loc Cert.FwOut.main_arg2))
      ∧ r.2.sem = fun _ => 0)

def quiescent_FwOutIdeal [hFwOutIdeal : Cert.FwOutIdeal.Facts] : Prop :=
  ∀ (m : (ℓ : Loc Cert.FwOutIdeal.nD Cert.FwOutIdeal.τ Cert.FwOutIdeal.sig) → Buf (Elt Ideal) ℓ) (g : Dev Cert.FwOutIdeal.nD → PrngReg), Pre_FwOutIdeal m →
    θ_run (Cert.FwOutIdeal.defs (F := Ideal)) (onTc (τ := Cert.FwOutIdeal.τ) (Cert.FwOutIdeal.main (F := Ideal))) ⟨m, fun _ => 0, g⟩ (fun r => (∀ c : Dev Cert.FwOutIdeal.nD,
      r.2.mem ((c.tc : Thread Cert.FwOutIdeal.nD Cert.FwOutIdeal.τ).loc Cert.FwOutIdeal.main_arg0) = m ((c.tc : Thread Cert.FwOutIdeal.nD Cert.FwOutIdeal.τ).loc Cert.FwOutIdeal.main_arg0)
      ∧ r.2.mem ((c.tc : Thread Cert.FwOutIdeal.nD Cert.FwOutIdeal.τ).loc Cert.FwOutIdeal.main_arg1) = m ((c.tc : Thread Cert.FwOutIdeal.nD Cert.FwOutIdeal.τ).loc Cert.FwOutIdeal.main_arg1)
      ∧ r.2.mem ((c.tc : Thread Cert.FwOutIdeal.nD Cert.FwOutIdeal.τ).loc Cert.FwOutIdeal.main_arg2) = m ((c.tc : Thread Cert.FwOutIdeal.nD Cert.FwOutIdeal.τ).loc Cert.FwOutIdeal.main_arg2))
      ∧ r.2.sem = fun _ => 0)

def quiescent_FwOutRefIdeal [hFwOutRefIdeal : Cert.FwOutRefIdeal.Facts] : Prop :=
  ∀ (m : (ℓ : Loc Cert.FwOutRefIdeal.nD Cert.FwOutRefIdeal.τ Cert.FwOutRefIdeal.sig) → Buf (Elt Ideal) ℓ) (g : Dev Cert.FwOutRefIdeal.nD → PrngReg), Pre_FwOutRefIdeal m →
    θ_run (Cert.FwOutRefIdeal.defs (F := Ideal)) (onTc (τ := Cert.FwOutRefIdeal.τ) (Cert.FwOutRefIdeal.main (F := Ideal))) ⟨m, fun _ => 0, g⟩ (fun r => (∀ c : Dev Cert.FwOutRefIdeal.nD,
      r.2.mem ((c.tc : Thread Cert.FwOutRefIdeal.nD Cert.FwOutRefIdeal.τ).loc Cert.FwOutRefIdeal.main_arg0) = m ((c.tc : Thread Cert.FwOutRefIdeal.nD Cert.FwOutRefIdeal.τ).loc Cert.FwOutRefIdeal.main_arg0)
      ∧ r.2.mem ((c.tc : Thread Cert.FwOutRefIdeal.nD Cert.FwOutRefIdeal.τ).loc Cert.FwOutRefIdeal.main_arg1) = m ((c.tc : Thread Cert.FwOutRefIdeal.nD Cert.FwOutRefIdeal.τ).loc Cert.FwOutRefIdeal.main_arg1)
      ∧ r.2.mem ((c.tc : Thread Cert.FwOutRefIdeal.nD Cert.FwOutRefIdeal.τ).loc Cert.FwOutRefIdeal.main_arg2) = m ((c.tc : Thread Cert.FwOutRefIdeal.nD Cert.FwOutRefIdeal.τ).loc Cert.FwOutRefIdeal.main_arg2))
      ∧ r.2.sem = fun _ => 0)

def quiescent_FoxGrad [hFoxGrad : Cert.FoxGrad.Facts] : Prop :=
  ∀ (m : (ℓ : Loc Cert.FoxGrad.nD Cert.FoxGrad.τ Cert.FoxGrad.sig) → Buf (Elt Bits) ℓ) (g : Dev Cert.FoxGrad.nD → PrngReg), Pre_FoxGrad m →
    θ_run (Cert.FoxGrad.defs (F := Bits)) (onTc (τ := Cert.FoxGrad.τ) (Cert.FoxGrad.main (F := Bits))) ⟨m, fun _ => 0, g⟩ (fun r => (∀ c : Dev Cert.FoxGrad.nD,
      r.2.mem ((c.tc : Thread Cert.FoxGrad.nD Cert.FoxGrad.τ).loc Cert.FoxGrad.main_arg0) = m ((c.tc : Thread Cert.FoxGrad.nD Cert.FoxGrad.τ).loc Cert.FoxGrad.main_arg0)
      ∧ r.2.mem ((c.tc : Thread Cert.FoxGrad.nD Cert.FoxGrad.τ).loc Cert.FoxGrad.main_arg1) = m ((c.tc : Thread Cert.FoxGrad.nD Cert.FoxGrad.τ).loc Cert.FoxGrad.main_arg1)
      ∧ r.2.mem ((c.tc : Thread Cert.FoxGrad.nD Cert.FoxGrad.τ).loc Cert.FoxGrad.main_arg2) = m ((c.tc : Thread Cert.FoxGrad.nD Cert.FoxGrad.τ).loc Cert.FoxGrad.main_arg2))
      ∧ r.2.sem = fun _ => 0)

def quiescent_FoxGradIdeal [hFoxGradIdeal : Cert.FoxGradIdeal.Facts] : Prop :=
  ∀ (m : (ℓ : Loc Cert.FoxGradIdeal.nD Cert.FoxGradIdeal.τ Cert.FoxGradIdeal.sig) → Buf (Elt Ideal) ℓ) (g : Dev Cert.FoxGradIdeal.nD → PrngReg), Pre_FoxGradIdeal m →
    θ_run (Cert.FoxGradIdeal.defs (F := Ideal)) (onTc (τ := Cert.FoxGradIdeal.τ) (Cert.FoxGradIdeal.main (F := Ideal))) ⟨m, fun _ => 0, g⟩ (fun r => (∀ c : Dev Cert.FoxGradIdeal.nD,
      r.2.mem ((c.tc : Thread Cert.FoxGradIdeal.nD Cert.FoxGradIdeal.τ).loc Cert.FoxGradIdeal.main_arg0) = m ((c.tc : Thread Cert.FoxGradIdeal.nD Cert.FoxGradIdeal.τ).loc Cert.FoxGradIdeal.main_arg0)
      ∧ r.2.mem ((c.tc : Thread Cert.FoxGradIdeal.nD Cert.FoxGradIdeal.τ).loc Cert.FoxGradIdeal.main_arg1) = m ((c.tc : Thread Cert.FoxGradIdeal.nD Cert.FoxGradIdeal.τ).loc Cert.FoxGradIdeal.main_arg1)
      ∧ r.2.mem ((c.tc : Thread Cert.FoxGradIdeal.nD Cert.FoxGradIdeal.τ).loc Cert.FoxGradIdeal.main_arg2) = m ((c.tc : Thread Cert.FoxGradIdeal.nD Cert.FoxGradIdeal.τ).loc Cert.FoxGradIdeal.main_arg2))
      ∧ r.2.sem = fun _ => 0)

def quiescent_FoxGradIdeal_pre_fox_finite [hFoxGradIdeal : Cert.FoxGradIdeal.Facts] [hPre_fox_finite : Cert.Pre_fox_finite.Facts] : Prop :=
  ∀ (m : (ℓ : Loc Cert.FoxGradIdeal.nD Cert.FoxGradIdeal.τ Cert.FoxGradIdeal.sig) → Buf (Elt Ideal) ℓ) (g : Dev Cert.FoxGradIdeal.nD → PrngReg), Pre_FoxGradIdeal_fox_finite m →
    θ_run (Cert.FoxGradIdeal.defs (F := Ideal)) (onTc (τ := Cert.FoxGradIdeal.τ) (Cert.FoxGradIdeal.main (F := Ideal))) ⟨m, fun _ => 0, g⟩ (fun r => (∀ c : Dev Cert.FoxGradIdeal.nD,
      r.2.mem ((c.tc : Thread Cert.FoxGradIdeal.nD Cert.FoxGradIdeal.τ).loc Cert.FoxGradIdeal.main_arg0) = m ((c.tc : Thread Cert.FoxGradIdeal.nD Cert.FoxGradIdeal.τ).loc Cert.FoxGradIdeal.main_arg0)
      ∧ r.2.mem ((c.tc : Thread Cert.FoxGradIdeal.nD Cert.FoxGradIdeal.τ).loc Cert.FoxGradIdeal.main_arg1) = m ((c.tc : Thread Cert.FoxGradIdeal.nD Cert.FoxGradIdeal.τ).loc Cert.FoxGradIdeal.main_arg1)
      ∧ r.2.mem ((c.tc : Thread Cert.FoxGradIdeal.nD Cert.FoxGradIdeal.τ).loc Cert.FoxGradIdeal.main_arg2) = m ((c.tc : Thread Cert.FoxGradIdeal.nD Cert.FoxGradIdeal.τ).loc Cert.FoxGradIdeal.main_arg2))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_FoxRefIdeal_pre_fox_finite [hFoxRefIdeal : Cert.FoxRefIdeal.Facts] [hPre_fox_finite : Cert.Pre_fox_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_ActGrad [hActGrad : Cert.ActGrad.Facts] : Prop :=
  ∀ (m : (ℓ : Loc Cert.ActGrad.nD Cert.ActGrad.τ Cert.ActGrad.sig) → Buf (Elt Bits) ℓ) (g : Dev Cert.ActGrad.nD → PrngReg), Pre_ActGrad m →
    θ_run (Cert.ActGrad.defs (F := Bits)) (onTc (τ := Cert.ActGrad.τ) (Cert.ActGrad.main (F := Bits))) ⟨m, fun _ => 0, g⟩ (fun r => (∀ c : Dev Cert.ActGrad.nD,
      r.2.mem ((c.tc : Thread Cert.ActGrad.nD Cert.ActGrad.τ).loc Cert.ActGrad.main_arg0) = m ((c.tc : Thread Cert.ActGrad.nD Cert.ActGrad.τ).loc Cert.ActGrad.main_arg0)
      ∧ r.2.mem ((c.tc : Thread Cert.ActGrad.nD Cert.ActGrad.τ).loc Cert.ActGrad.main_arg1) = m ((c.tc : Thread Cert.ActGrad.nD Cert.ActGrad.τ).loc Cert.ActGrad.main_arg1)
      ∧ r.2.mem ((c.tc : Thread Cert.ActGrad.nD Cert.ActGrad.τ).loc Cert.ActGrad.main_arg2) = m ((c.tc : Thread Cert.ActGrad.nD Cert.ActGrad.τ).loc Cert.ActGrad.main_arg2))
      ∧ r.2.sem = fun _ => 0)

def quiescent_ActGradIdeal [hActGradIdeal : Cert.ActGradIdeal.Facts] : Prop :=
  ∀ (m : (ℓ : Loc Cert.ActGradIdeal.nD Cert.ActGradIdeal.τ Cert.ActGradIdeal.sig) → Buf (Elt Ideal) ℓ) (g : Dev Cert.ActGradIdeal.nD → PrngReg), Pre_ActGradIdeal m →
    θ_run (Cert.ActGradIdeal.defs (F := Ideal)) (onTc (τ := Cert.ActGradIdeal.τ) (Cert.ActGradIdeal.main (F := Ideal))) ⟨m, fun _ => 0, g⟩ (fun r => (∀ c : Dev Cert.ActGradIdeal.nD,
      r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
      ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1)
      ∧ r.2.mem ((c.tc : Thread Cert.ActGradIdeal.nD Cert.ActGradIdeal.τ).loc Cert.ActGradIdeal.main_arg2) = m ((c.tc : Thread Cert.ActGradIdeal.nD Cert.ActGradIdeal.τ).loc Cert.ActGradIdeal.main_arg2))
      ∧ r.2.sem = fun _ => 0)

def quiescent_ActGradIdeal_pre_act_finite [hActGradIdeal : Cert.ActGradIdeal.Facts] [hPre_act_finite : Cert.Pre_act_finite.Facts] : Prop :=
  ∀ (m : (ℓ : Loc Cert.ActGradIdeal.nD Cert.ActGradIdeal.τ Cert.ActGradIdeal.sig) → Buf (Elt Ideal) ℓ) (g : Dev Cert.ActGradIdeal.nD → PrngReg), Pre_ActGradIdeal_act_finite m →
    θ_run (Cert.ActGradIdeal.defs (F := Ideal)) (onTc (τ := Cert.ActGradIdeal.τ) (Cert.ActGradIdeal.main (F := Ideal))) ⟨m, fun _ => 0, g⟩ (fun r => (∀ c : Dev Cert.ActGradIdeal.nD,
      r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
      ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1)
      ∧ r.2.mem ((c.tc : Thread Cert.ActGradIdeal.nD Cert.ActGradIdeal.τ).loc Cert.ActGradIdeal.main_arg2) = m ((c.tc : Thread Cert.ActGradIdeal.nD Cert.ActGradIdeal.τ).loc Cert.ActGradIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_ActRefIdeal_pre_act_finite [hActRefIdeal : Cert.ActRefIdeal.Facts] [hPre_act_finite : Cert.Pre_act_finite.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_act_finite m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_FwAct [hFwAct : Cert.FwAct.Facts] : Prop :=
  ∀ (m : (ℓ : Loc Cert.FwAct.nD Cert.FwAct.τ Cert.FwAct.sig) → Buf (Elt Bits) ℓ) (g : Dev Cert.FwAct.nD → PrngReg), Pre_FwAct m →
    θ_run (Cert.FwAct.defs (F := Bits)) (onTc (τ := Cert.FwAct.τ) (Cert.FwAct.main (F := Bits))) ⟨m, fun _ => 0, g⟩ (fun r => (∀ c : Dev Cert.FwAct.nD,
      r.2.mem ((c.tc : Thread Cert.FwAct.nD Cert.FwAct.τ).loc Cert.FwAct.main_arg0) = m ((c.tc : Thread Cert.FwAct.nD Cert.FwAct.τ).loc Cert.FwAct.main_arg0)
      ∧ r.2.mem ((c.tc : Thread Cert.FwAct.nD Cert.FwAct.τ).loc Cert.FwAct.main_arg1) = m ((c.tc : Thread Cert.FwAct.nD Cert.FwAct.τ).loc Cert.FwAct.main_arg1))
      ∧ r.2.sem = fun _ => 0)

def quiescent_FwActIdeal [hFwActIdeal : Cert.FwActIdeal.Facts] : Prop :=
  ∀ (m : (ℓ : Loc Cert.FwActIdeal.nD Cert.FwActIdeal.τ Cert.FwActIdeal.sig) → Buf (Elt Ideal) ℓ) (g : Dev Cert.FwActIdeal.nD → PrngReg), Pre_FwActIdeal m →
    θ_run (Cert.FwActIdeal.defs (F := Ideal)) (onTc (τ := Cert.FwActIdeal.τ) (Cert.FwActIdeal.main (F := Ideal))) ⟨m, fun _ => 0, g⟩ (fun r => (∀ c : Dev Cert.FwActIdeal.nD,
      r.2.mem ((c.tc : Thread Cert.FwActIdeal.nD Cert.FwActIdeal.τ).loc Cert.FwActIdeal.main_arg0) = m ((c.tc : Thread Cert.FwActIdeal.nD Cert.FwActIdeal.τ).loc Cert.FwActIdeal.main_arg0)
      ∧ r.2.mem ((c.tc : Thread Cert.FwActIdeal.nD Cert.FwActIdeal.τ).loc Cert.FwActIdeal.main_arg1) = m ((c.tc : Thread Cert.FwActIdeal.nD Cert.FwActIdeal.τ).loc Cert.FwActIdeal.main_arg1))
      ∧ r.2.sem = fun _ => 0)

def quiescent_FwActRefIdeal [hFwActRefIdeal : Cert.FwActRefIdeal.Facts] : Prop :=
  ∀ (m : (ℓ : Loc Cert.FwActRefIdeal.nD Cert.FwActRefIdeal.τ Cert.FwActRefIdeal.sig) → Buf (Elt Ideal) ℓ) (g : Dev Cert.FwActRefIdeal.nD → PrngReg), Pre_FwActRefIdeal m →
    θ_run (Cert.FwActRefIdeal.defs (F := Ideal)) (onTc (τ := Cert.FwActRefIdeal.τ) (Cert.FwActRefIdeal.main (F := Ideal))) ⟨m, fun _ => 0, g⟩ (fun r => (∀ c : Dev Cert.FwActRefIdeal.nD,
      r.2.mem ((c.tc : Thread Cert.FwActRefIdeal.nD Cert.FwActRefIdeal.τ).loc Cert.FwActRefIdeal.main_arg0) = m ((c.tc : Thread Cert.FwActRefIdeal.nD Cert.FwActRefIdeal.τ).loc Cert.FwActRefIdeal.main_arg0)
      ∧ r.2.mem ((c.tc : Thread Cert.FwActRefIdeal.nD Cert.FwActRefIdeal.τ).loc Cert.FwActRefIdeal.main_arg1) = m ((c.tc : Thread Cert.FwActRefIdeal.nD Cert.FwActRefIdeal.τ).loc Cert.FwActRefIdeal.main_arg1))
      ∧ r.2.sem = fun _ => 0)

def preserves_ScGrad_ScGradIdeal : Prop :=
  True

def algebraic_ScGradIdeal_ScRefIdeal [hScGradIdeal : Cert.ScGradIdeal.Facts] [hScRefIdeal : Cert.ScRefIdeal.Facts] : Prop :=
  ∀ (m : (ℓ : Loc Cert.ScGradIdeal.nD Cert.ScGradIdeal.τ Cert.ScGradIdeal.sig) → Buf (Elt Ideal) ℓ) (g : Dev Cert.ScGradIdeal.nD → PrngReg)
    (m' : (ℓ : Loc Cert.ScRefIdeal.nD Cert.ScRefIdeal.τ Cert.ScRefIdeal.sig) → Buf (Elt Ideal) ℓ) (g' : Dev Cert.ScRefIdeal.nD → PrngReg), Pre_ScGradIdeal m →
    (∀ c : Dev Cert.ScGradIdeal.nD,
      m' ((c.tc : Thread Cert.ScRefIdeal.nD Cert.ScRefIdeal.τ).loc Cert.ScRefIdeal.main_arg0) = m ((c.tc : Thread Cert.ScGradIdeal.nD Cert.ScGradIdeal.τ).loc Cert.ScGradIdeal.main_arg0)
      ∧ m' ((c.tc : Thread Cert.ScRefIdeal.nD Cert.ScRefIdeal.τ).loc Cert.ScRefIdeal.main_arg1) = m ((c.tc : Thread Cert.ScGradIdeal.nD Cert.ScGradIdeal.τ).loc Cert.ScGradIdeal.main_arg1)
      ∧ m' ((c.tc : Thread Cert.ScRefIdeal.nD Cert.ScRefIdeal.τ).loc Cert.ScRefIdeal.main_arg2) = m ((c.tc : Thread Cert.ScGradIdeal.nD Cert.ScGradIdeal.τ).loc Cert.ScGradIdeal.main_arg2)) →
    ∃ (v0 : (c : Dev Cert.ScGradIdeal.nD) → Buf (Elt Ideal) ((c.tc : Thread Cert.ScGradIdeal.nD Cert.ScGradIdeal.τ).loc Cert.ScGradIdeal.main_v0_0)) (v1 : (c : Dev Cert.ScGradIdeal.nD) → Buf (Elt Ideal) ((c.tc : Thread Cert.ScGradIdeal.nD Cert.ScGradIdeal.τ).loc Cert.ScGradIdeal.main_v0_1)) (v2 : (c : Dev Cert.ScGradIdeal.nD) → Buf (Elt Ideal) ((c.tc : Thread Cert.ScGradIdeal.nD Cert.ScGradIdeal.τ).loc Cert.ScGradIdeal.main_v0_2)) (v3 : (c : Dev Cert.ScGradIdeal.nD) → Buf (Elt Ideal) ((c.tc : Thread Cert.ScGradIdeal.nD Cert.ScGradIdeal.τ).loc Cert.ScGradIdeal.main_v0_3)),
      θ_run (Cert.ScGradIdeal.defs (F := Ideal)) (onTc (τ := Cert.ScGradIdeal.τ) (Cert.ScGradIdeal.main (F := Ideal))) ⟨m, fun _ => 0, g⟩ (fun r => ∀ c : Dev Cert.ScGradIdeal.nD,
          r.2.mem ((c.tc : Thread Cert.ScGradIdeal.nD Cert.ScGradIdeal.τ).loc Cert.ScGradIdeal.main_v0_0) = v0 c
          ∧ r.2.mem ((c.tc : Thread Cert.ScGradIdeal.nD Cert.ScGradIdeal.τ).loc Cert.ScGradIdeal.main_v0_1) = v1 c
          ∧ r.2.mem ((c.tc : Thread Cert.ScGradIdeal.nD Cert.ScGradIdeal.τ).loc Cert.ScGradIdeal.main_v0_2) = v2 c
          ∧ r.2.mem ((c.tc : Thread Cert.ScGradIdeal.nD Cert.ScGradIdeal.τ).loc Cert.ScGradIdeal.main_v0_3) = v3 c
          ∧ r.2.mem ((c.tc : Thread Cert.ScGradIdeal.nD Cert.ScGradIdeal.τ).loc Cert.ScGradIdeal.main_arg0) = m ((c.tc : Thread Cert.ScGradIdeal.nD Cert.ScGradIdeal.τ).loc Cert.ScGradIdeal.main_arg0)
          ∧ r.2.mem ((c.tc : Thread Cert.ScGradIdeal.nD Cert.ScGradIdeal.τ).loc Cert.ScGradIdeal.main_arg1) = m ((c.tc : Thread Cert.ScGradIdeal.nD Cert.ScGradIdeal.τ).loc Cert.ScGradIdeal.main_arg1)
          ∧ r.2.mem ((c.tc : Thread Cert.ScGradIdeal.nD Cert.ScGradIdeal.τ).loc Cert.ScGradIdeal.main_arg2) = m ((c.tc : Thread Cert.ScGradIdeal.nD Cert.ScGradIdeal.τ).loc Cert.ScGradIdeal.main_arg2))
      ∧ θ_run (Cert.ScRefIdeal.defs (F := Ideal)) (onTc (τ := Cert.ScRefIdeal.τ) (Cert.ScRefIdeal.main (F := Ideal))) ⟨m', fun _ => 0, g'⟩ (fun r => ∀ c : Dev Cert.ScRefIdeal.nD,
          r.2.mem ((c.tc : Thread Cert.ScRefIdeal.nD Cert.ScRefIdeal.τ).loc Cert.ScRefIdeal.main_v30) = v0 c
          ∧ r.2.mem ((c.tc : Thread Cert.ScRefIdeal.nD Cert.ScRefIdeal.τ).loc Cert.ScRefIdeal.main_v65) = v1 c
          ∧ r.2.mem ((c.tc : Thread Cert.ScRefIdeal.nD Cert.ScRefIdeal.τ).loc Cert.ScRefIdeal.main_v64) = v2 c
          ∧ r.2.mem ((c.tc : Thread Cert.ScRefIdeal.nD Cert.ScRefIdeal.τ).loc Cert.ScRefIdeal.main_v59) = v3 c
          ∧ r.2.mem ((c.tc : Thread Cert.ScRefIdeal.nD Cert.ScRefIdeal.τ).loc Cert.ScRefIdeal.main_arg0) = m' ((c.tc : Thread Cert.ScRefIdeal.nD Cert.ScRefIdeal.τ).loc Cert.ScRefIdeal.main_arg0)
          ∧ r.2.mem ((c.tc : Thread Cert.ScRefIdeal.nD Cert.ScRefIdeal.τ).loc Cert.ScRefIdeal.main_arg1) = m' ((c.tc : Thread Cert.ScRefIdeal.nD Cert.ScRefIdeal.τ).loc Cert.ScRefIdeal.main_arg1)
          ∧ r.2.mem ((c.tc : Thread Cert.ScRefIdeal.nD Cert.ScRefIdeal.τ).loc Cert.ScRefIdeal.main_arg2) = m' ((c.tc : Thread Cert.ScRefIdeal.nD Cert.ScRefIdeal.τ).loc Cert.ScRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v5) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DxDown_DxDownIdeal : Prop :=
  True

def algebraic_DxDownIdeal_DxDownRefIdeal [hDxDownIdeal : Cert.DxDownIdeal.Facts] [hDxDownRefIdeal : Cert.DxDownRefIdeal.Facts] : Prop :=
  ∀ (m : (ℓ : Loc Cert.DxDownIdeal.nD Cert.DxDownIdeal.τ Cert.DxDownIdeal.sig) → Buf (Elt Ideal) ℓ) (g : Dev Cert.DxDownIdeal.nD → PrngReg)
    (m' : (ℓ : Loc Cert.DxDownRefIdeal.nD Cert.DxDownRefIdeal.τ Cert.DxDownRefIdeal.sig) → Buf (Elt Ideal) ℓ) (g' : Dev Cert.DxDownRefIdeal.nD → PrngReg), Pre_DxDownIdeal m →
    (∀ c : Dev Cert.DxDownIdeal.nD,
      m' ((c.tc : Thread Cert.DxDownRefIdeal.nD Cert.DxDownRefIdeal.τ).loc Cert.DxDownRefIdeal.main_arg0) = m ((c.tc : Thread Cert.DxDownIdeal.nD Cert.DxDownIdeal.τ).loc Cert.DxDownIdeal.main_arg0)
      ∧ m' ((c.tc : Thread Cert.DxDownRefIdeal.nD Cert.DxDownRefIdeal.τ).loc Cert.DxDownRefIdeal.main_arg1) = m ((c.tc : Thread Cert.DxDownIdeal.nD Cert.DxDownIdeal.τ).loc Cert.DxDownIdeal.main_arg1)) →
    ∃ (v0 : (c : Dev Cert.DxDownIdeal.nD) → Buf (Elt Ideal) ((c.tc : Thread Cert.DxDownIdeal.nD Cert.DxDownIdeal.τ).loc Cert.DxDownIdeal.main_v0)),
      θ_run (Cert.DxDownIdeal.defs (F := Ideal)) (onTc (τ := Cert.DxDownIdeal.τ) (Cert.DxDownIdeal.main (F := Ideal))) ⟨m, fun _ => 0, g⟩ (fun r => ∀ c : Dev Cert.DxDownIdeal.nD,
          r.2.mem ((c.tc : Thread Cert.DxDownIdeal.nD Cert.DxDownIdeal.τ).loc Cert.DxDownIdeal.main_v0) = v0 c
          ∧ r.2.mem ((c.tc : Thread Cert.DxDownIdeal.nD Cert.DxDownIdeal.τ).loc Cert.DxDownIdeal.main_arg0) = m ((c.tc : Thread Cert.DxDownIdeal.nD Cert.DxDownIdeal.τ).loc Cert.DxDownIdeal.main_arg0)
          ∧ r.2.mem ((c.tc : Thread Cert.DxDownIdeal.nD Cert.DxDownIdeal.τ).loc Cert.DxDownIdeal.main_arg1) = m ((c.tc : Thread Cert.DxDownIdeal.nD Cert.DxDownIdeal.τ).loc Cert.DxDownIdeal.main_arg1))
      ∧ θ_run (Cert.DxDownRefIdeal.defs (F := Ideal)) (onTc (τ := Cert.DxDownRefIdeal.τ) (Cert.DxDownRefIdeal.main (F := Ideal))) ⟨m', fun _ => 0, g'⟩ (fun r => ∀ c : Dev Cert.DxDownRefIdeal.nD,
          r.2.mem ((c.tc : Thread Cert.DxDownRefIdeal.nD Cert.DxDownRefIdeal.τ).loc Cert.DxDownRefIdeal.main_v3) = v0 c
          ∧ r.2.mem ((c.tc : Thread Cert.DxDownRefIdeal.nD Cert.DxDownRefIdeal.τ).loc Cert.DxDownRefIdeal.main_arg0) = m' ((c.tc : Thread Cert.DxDownRefIdeal.nD Cert.DxDownRefIdeal.τ).loc Cert.DxDownRefIdeal.main_arg0)
          ∧ r.2.mem ((c.tc : Thread Cert.DxDownRefIdeal.nD Cert.DxDownRefIdeal.τ).loc Cert.DxDownRefIdeal.main_arg1) = m' ((c.tc : Thread Cert.DxDownRefIdeal.nD Cert.DxDownRefIdeal.τ).loc Cert.DxDownRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v11) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DxUp_DxUpIdeal : Prop :=
  True

def algebraic_DxUpIdeal_DxUpRefIdeal [hDxUpIdeal : Cert.DxUpIdeal.Facts] [hDxUpRefIdeal : Cert.DxUpRefIdeal.Facts] : Prop :=
  ∀ (m : (ℓ : Loc Cert.DxUpIdeal.nD Cert.DxUpIdeal.τ Cert.DxUpIdeal.sig) → Buf (Elt Ideal) ℓ) (g : Dev Cert.DxUpIdeal.nD → PrngReg)
    (m' : (ℓ : Loc Cert.DxUpRefIdeal.nD Cert.DxUpRefIdeal.τ Cert.DxUpRefIdeal.sig) → Buf (Elt Ideal) ℓ) (g' : Dev Cert.DxUpRefIdeal.nD → PrngReg), Pre_DxUpIdeal m →
    (∀ c : Dev Cert.DxUpIdeal.nD,
      m' ((c.tc : Thread Cert.DxUpRefIdeal.nD Cert.DxUpRefIdeal.τ).loc Cert.DxUpRefIdeal.main_arg0) = m ((c.tc : Thread Cert.DxUpIdeal.nD Cert.DxUpIdeal.τ).loc Cert.DxUpIdeal.main_arg0)
      ∧ m' ((c.tc : Thread Cert.DxUpRefIdeal.nD Cert.DxUpRefIdeal.τ).loc Cert.DxUpRefIdeal.main_arg1) = m ((c.tc : Thread Cert.DxUpIdeal.nD Cert.DxUpIdeal.τ).loc Cert.DxUpIdeal.main_arg1)) →
    ∃ (v0 : (c : Dev Cert.DxUpIdeal.nD) → Buf (Elt Ideal) ((c.tc : Thread Cert.DxUpIdeal.nD Cert.DxUpIdeal.τ).loc Cert.DxUpIdeal.main_v0)),
      θ_run (Cert.DxUpIdeal.defs (F := Ideal)) (onTc (τ := Cert.DxUpIdeal.τ) (Cert.DxUpIdeal.main (F := Ideal))) ⟨m, fun _ => 0, g⟩ (fun r => ∀ c : Dev Cert.DxUpIdeal.nD,
          r.2.mem ((c.tc : Thread Cert.DxUpIdeal.nD Cert.DxUpIdeal.τ).loc Cert.DxUpIdeal.main_v0) = v0 c
          ∧ r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
          ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1))
      ∧ θ_run (Cert.DxUpRefIdeal.defs (F := Ideal)) (onTc (τ := Cert.DxUpRefIdeal.τ) (Cert.DxUpRefIdeal.main (F := Ideal))) ⟨m', fun _ => 0, g'⟩ (fun r => ∀ c : Dev Cert.DxUpRefIdeal.nD,
          r.2.mem ((c.tc : Thread Cert.DxUpRefIdeal.nD Cert.DxUpRefIdeal.τ).loc Cert.DxUpRefIdeal.main_v9) = v0 c
          ∧ r.2.mem ((c.tc : Thread Cert.DxUpRefIdeal.nD Cert.DxUpRefIdeal.τ).loc Cert.DxUpRefIdeal.main_arg0) = m' ((c.tc : Thread Cert.DxUpRefIdeal.nD Cert.DxUpRefIdeal.τ).loc Cert.DxUpRefIdeal.main_arg0)
          ∧ r.2.mem ((c.tc : Thread Cert.DxUpRefIdeal.nD Cert.DxUpRefIdeal.τ).loc Cert.DxUpRefIdeal.main_arg1) = m' ((c.tc : Thread Cert.DxUpRefIdeal.nD Cert.DxUpRefIdeal.τ).loc Cert.DxUpRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v5) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DxOut_DxOutIdeal : Prop :=
  True

def algebraic_DxOutIdeal_DxOutRefIdeal [hDxOutIdeal : Cert.DxOutIdeal.Facts] [hDxOutRefIdeal : Cert.DxOutRefIdeal.Facts] : Prop :=
  ∀ (m : (ℓ : Loc Cert.DxOutIdeal.nD Cert.DxOutIdeal.τ Cert.DxOutIdeal.sig) → Buf (Elt Ideal) ℓ) (g : Dev Cert.DxOutIdeal.nD → PrngReg)
    (m' : (ℓ : Loc Cert.DxOutRefIdeal.nD Cert.DxOutRefIdeal.τ Cert.DxOutRefIdeal.sig) → Buf (Elt Ideal) ℓ) (g' : Dev Cert.DxOutRefIdeal.nD → PrngReg), Pre_DxOutIdeal m →
    (∀ c : Dev Cert.DxOutIdeal.nD,
      m' ((c.tc : Thread Cert.DxOutRefIdeal.nD Cert.DxOutRefIdeal.τ).loc Cert.DxOutRefIdeal.main_arg0) = m ((c.tc : Thread Cert.DxOutIdeal.nD Cert.DxOutIdeal.τ).loc Cert.DxOutIdeal.main_arg0)
      ∧ m' ((c.tc : Thread Cert.DxOutRefIdeal.nD Cert.DxOutRefIdeal.τ).loc Cert.DxOutRefIdeal.main_arg1) = m ((c.tc : Thread Cert.DxOutIdeal.nD Cert.DxOutIdeal.τ).loc Cert.DxOutIdeal.main_arg1)) →
    ∃ (v0 : (c : Dev Cert.DxOutIdeal.nD) → Buf (Elt Ideal) ((c.tc : Thread Cert.DxOutIdeal.nD Cert.DxOutIdeal.τ).loc Cert.DxOutIdeal.main_v0)),
      θ_run (Cert.DxOutIdeal.defs (F := Ideal)) (onTc (τ := Cert.DxOutIdeal.τ) (Cert.DxOutIdeal.main (F := Ideal))) ⟨m, fun _ => 0, g⟩ (fun r => ∀ c : Dev Cert.DxOutIdeal.nD,
          r.2.mem ((c.tc : Thread Cert.DxOutIdeal.nD Cert.DxOutIdeal.τ).loc Cert.DxOutIdeal.main_v0) = v0 c
          ∧ r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
          ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1))
      ∧ θ_run (Cert.DxOutRefIdeal.defs (F := Ideal)) (onTc (τ := Cert.DxOutRefIdeal.τ) (Cert.DxOutRefIdeal.main (F := Ideal))) ⟨m', fun _ => 0, g'⟩ (fun r => ∀ c : Dev Cert.DxOutRefIdeal.nD,
          r.2.mem ((c.tc : Thread Cert.DxOutRefIdeal.nD Cert.DxOutRefIdeal.τ).loc Cert.DxOutRefIdeal.main_v3) = v0 c
          ∧ r.2.mem ((c.tc : Thread Cert.DxOutRefIdeal.nD Cert.DxOutRefIdeal.τ).loc Cert.DxOutRefIdeal.main_arg0) = m' ((c.tc : Thread Cert.DxOutRefIdeal.nD Cert.DxOutRefIdeal.τ).loc Cert.DxOutRefIdeal.main_arg0)
          ∧ r.2.mem ((c.tc : Thread Cert.DxOutRefIdeal.nD Cert.DxOutRefIdeal.τ).loc Cert.DxOutRefIdeal.main_arg1) = m' ((c.tc : Thread Cert.DxOutRefIdeal.nD Cert.DxOutRefIdeal.τ).loc Cert.DxOutRefIdeal.main_arg1))

def preserves_DwInA_DwInAIdeal : Prop :=
  True

def algebraic_DwInAIdeal_DwInARefIdeal [hDwInAIdeal : Cert.DwInAIdeal.Facts] [hDwInARefIdeal : Cert.DwInARefIdeal.Facts] : Prop :=
  ∀ (m : (ℓ : Loc Cert.DwInAIdeal.nD Cert.DwInAIdeal.τ Cert.DwInAIdeal.sig) → Buf (Elt Ideal) ℓ) (g : Dev Cert.DwInAIdeal.nD → PrngReg)
    (m' : (ℓ : Loc Cert.DwInARefIdeal.nD Cert.DwInARefIdeal.τ Cert.DwInARefIdeal.sig) → Buf (Elt Ideal) ℓ) (g' : Dev Cert.DwInARefIdeal.nD → PrngReg), Pre_DwInAIdeal m →
    (∀ c : Dev Cert.DwInAIdeal.nD,
      m' ((c.tc : Thread Cert.DwInARefIdeal.nD Cert.DwInARefIdeal.τ).loc Cert.DwInARefIdeal.main_arg0) = m ((c.tc : Thread Cert.DwInAIdeal.nD Cert.DwInAIdeal.τ).loc Cert.DwInAIdeal.main_arg0)
      ∧ m' ((c.tc : Thread Cert.DwInARefIdeal.nD Cert.DwInARefIdeal.τ).loc Cert.DwInARefIdeal.main_arg1) = m ((c.tc : Thread Cert.DwInAIdeal.nD Cert.DwInAIdeal.τ).loc Cert.DwInAIdeal.main_arg1)) →
    ∃ (v0 : (c : Dev Cert.DwInAIdeal.nD) → Buf (Elt Ideal) ((c.tc : Thread Cert.DwInAIdeal.nD Cert.DwInAIdeal.τ).loc Cert.DwInAIdeal.main_v0)),
      θ_run (Cert.DwInAIdeal.defs (F := Ideal)) (onTc (τ := Cert.DwInAIdeal.τ) (Cert.DwInAIdeal.main (F := Ideal))) ⟨m, fun _ => 0, g⟩ (fun r => ∀ c : Dev Cert.DwInAIdeal.nD,
          r.2.mem ((c.tc : Thread Cert.DwInAIdeal.nD Cert.DwInAIdeal.τ).loc Cert.DwInAIdeal.main_v0) = v0 c
          ∧ r.2.mem ((c.tc : Thread Cert.DwInAIdeal.nD Cert.DwInAIdeal.τ).loc Cert.DwInAIdeal.main_arg0) = m ((c.tc : Thread Cert.DwInAIdeal.nD Cert.DwInAIdeal.τ).loc Cert.DwInAIdeal.main_arg0)
          ∧ r.2.mem ((c.tc : Thread Cert.DwInAIdeal.nD Cert.DwInAIdeal.τ).loc Cert.DwInAIdeal.main_arg1) = m ((c.tc : Thread Cert.DwInAIdeal.nD Cert.DwInAIdeal.τ).loc Cert.DwInAIdeal.main_arg1))
      ∧ θ_run (Cert.DwInARefIdeal.defs (F := Ideal)) (onTc (τ := Cert.DwInARefIdeal.τ) (Cert.DwInARefIdeal.main (F := Ideal))) ⟨m', fun _ => 0, g'⟩ (fun r => ∀ c : Dev Cert.DwInARefIdeal.nD,
          r.2.mem ((c.tc : Thread Cert.DwInARefIdeal.nD Cert.DwInARefIdeal.τ).loc Cert.DwInARefIdeal.main_v6) = v0 c
          ∧ r.2.mem ((c.tc : Thread Cert.DwInARefIdeal.nD Cert.DwInARefIdeal.τ).loc Cert.DwInARefIdeal.main_arg0) = m' ((c.tc : Thread Cert.DwInARefIdeal.nD Cert.DwInARefIdeal.τ).loc Cert.DwInARefIdeal.main_arg0)
          ∧ r.2.mem ((c.tc : Thread Cert.DwInARefIdeal.nD Cert.DwInARefIdeal.τ).loc Cert.DwInARefIdeal.main_arg1) = m' ((c.tc : Thread Cert.DwInARefIdeal.nD Cert.DwInARefIdeal.τ).loc Cert.DwInARefIdeal.main_arg1))

def preserves_DxInA_DxInAIdeal : Prop :=
  True

def algebraic_DxInAIdeal_DxInARefIdeal [hDxInAIdeal : Cert.DxInAIdeal.Facts] [hDxInARefIdeal : Cert.DxInARefIdeal.Facts] : Prop :=
  ∀ (m : (ℓ : Loc Cert.DxInAIdeal.nD Cert.DxInAIdeal.τ Cert.DxInAIdeal.sig) → Buf (Elt Ideal) ℓ) (g : Dev Cert.DxInAIdeal.nD → PrngReg)
    (m' : (ℓ : Loc Cert.DxInARefIdeal.nD Cert.DxInARefIdeal.τ Cert.DxInARefIdeal.sig) → Buf (Elt Ideal) ℓ) (g' : Dev Cert.DxInARefIdeal.nD → PrngReg), Pre_DxInAIdeal m →
    (∀ c : Dev Cert.DxInAIdeal.nD,
      m' ((c.tc : Thread Cert.DxInARefIdeal.nD Cert.DxInARefIdeal.τ).loc Cert.DxInARefIdeal.main_arg0) = m ((c.tc : Thread Cert.DxInAIdeal.nD Cert.DxInAIdeal.τ).loc Cert.DxInAIdeal.main_arg0)
      ∧ m' ((c.tc : Thread Cert.DxInARefIdeal.nD Cert.DxInARefIdeal.τ).loc Cert.DxInARefIdeal.main_arg1) = m ((c.tc : Thread Cert.DxInAIdeal.nD Cert.DxInAIdeal.τ).loc Cert.DxInAIdeal.main_arg1)) →
    ∃ (v0 : (c : Dev Cert.DxInAIdeal.nD) → Buf (Elt Ideal) ((c.tc : Thread Cert.DxInAIdeal.nD Cert.DxInAIdeal.τ).loc Cert.DxInAIdeal.main_v0)),
      θ_run (Cert.DxInAIdeal.defs (F := Ideal)) (onTc (τ := Cert.DxInAIdeal.τ) (Cert.DxInAIdeal.main (F := Ideal))) ⟨m, fun _ => 0, g⟩ (fun r => ∀ c : Dev Cert.DxInAIdeal.nD,
          r.2.mem ((c.tc : Thread Cert.DxInAIdeal.nD Cert.DxInAIdeal.τ).loc Cert.DxInAIdeal.main_v0) = v0 c
          ∧ r.2.mem ((c.tc : Thread Cert.DxInAIdeal.nD Cert.DxInAIdeal.τ).loc Cert.DxInAIdeal.main_arg0) = m ((c.tc : Thread Cert.DxInAIdeal.nD Cert.DxInAIdeal.τ).loc Cert.DxInAIdeal.main_arg0)
          ∧ r.2.mem ((c.tc : Thread Cert.DxInAIdeal.nD Cert.DxInAIdeal.τ).loc Cert.DxInAIdeal.main_arg1) = m ((c.tc : Thread Cert.DxInAIdeal.nD Cert.DxInAIdeal.τ).loc Cert.DxInAIdeal.main_arg1))
      ∧ θ_run (Cert.DxInARefIdeal.defs (F := Ideal)) (onTc (τ := Cert.DxInARefIdeal.τ) (Cert.DxInARefIdeal.main (F := Ideal))) ⟨m', fun _ => 0, g'⟩ (fun r => ∀ c : Dev Cert.DxInARefIdeal.nD,
          r.2.mem ((c.tc : Thread Cert.DxInARefIdeal.nD Cert.DxInARefIdeal.τ).loc Cert.DxInARefIdeal.main_v4) = v0 c
          ∧ r.2.mem ((c.tc : Thread Cert.DxInARefIdeal.nD Cert.DxInARefIdeal.τ).loc Cert.DxInARefIdeal.main_arg0) = m' ((c.tc : Thread Cert.DxInARefIdeal.nD Cert.DxInARefIdeal.τ).loc Cert.DxInARefIdeal.main_arg0)
          ∧ r.2.mem ((c.tc : Thread Cert.DxInARefIdeal.nD Cert.DxInARefIdeal.τ).loc Cert.DxInARefIdeal.main_arg1) = m' ((c.tc : Thread Cert.DxInARefIdeal.nD Cert.DxInARefIdeal.τ).loc Cert.DxInARefIdeal.main_arg1))

def preserves_DwInB_DwInBIdeal : Prop :=
  True

def algebraic_DwInBIdeal_DwInBRefIdeal [hDwInBIdeal : Cert.DwInBIdeal.Facts] [hDwInBRefIdeal : Cert.DwInBRefIdeal.Facts] : Prop :=
  ∀ (m : (ℓ : Loc Cert.DwInBIdeal.nD Cert.DwInBIdeal.τ Cert.DwInBIdeal.sig) → Buf (Elt Ideal) ℓ) (g : Dev Cert.DwInBIdeal.nD → PrngReg)
    (m' : (ℓ : Loc Cert.DwInBRefIdeal.nD Cert.DwInBRefIdeal.τ Cert.DwInBRefIdeal.sig) → Buf (Elt Ideal) ℓ) (g' : Dev Cert.DwInBRefIdeal.nD → PrngReg), Pre_DwInBIdeal m →
    (∀ c : Dev Cert.DwInBIdeal.nD,
      m' ((c.tc : Thread Cert.DwInBRefIdeal.nD Cert.DwInBRefIdeal.τ).loc Cert.DwInBRefIdeal.main_arg0) = m ((c.tc : Thread Cert.DwInBIdeal.nD Cert.DwInBIdeal.τ).loc Cert.DwInBIdeal.main_arg0)
      ∧ m' ((c.tc : Thread Cert.DwInBRefIdeal.nD Cert.DwInBRefIdeal.τ).loc Cert.DwInBRefIdeal.main_arg1) = m ((c.tc : Thread Cert.DwInBIdeal.nD Cert.DwInBIdeal.τ).loc Cert.DwInBIdeal.main_arg1)) →
    ∃ (v0 : (c : Dev Cert.DwInBIdeal.nD) → Buf (Elt Ideal) ((c.tc : Thread Cert.DwInBIdeal.nD Cert.DwInBIdeal.τ).loc Cert.DwInBIdeal.main_v0)),
      θ_run (Cert.DwInBIdeal.defs (F := Ideal)) (onTc (τ := Cert.DwInBIdeal.τ) (Cert.DwInBIdeal.main (F := Ideal))) ⟨m, fun _ => 0, g⟩ (fun r => ∀ c : Dev Cert.DwInBIdeal.nD,
          r.2.mem ((c.tc : Thread Cert.DwInBIdeal.nD Cert.DwInBIdeal.τ).loc Cert.DwInBIdeal.main_v0) = v0 c
          ∧ r.2.mem ((c.tc : Thread Cert.DwInBIdeal.nD Cert.DwInBIdeal.τ).loc Cert.DwInBIdeal.main_arg0) = m ((c.tc : Thread Cert.DwInBIdeal.nD Cert.DwInBIdeal.τ).loc Cert.DwInBIdeal.main_arg0)
          ∧ r.2.mem ((c.tc : Thread Cert.DwInBIdeal.nD Cert.DwInBIdeal.τ).loc Cert.DwInBIdeal.main_arg1) = m ((c.tc : Thread Cert.DwInBIdeal.nD Cert.DwInBIdeal.τ).loc Cert.DwInBIdeal.main_arg1))
      ∧ θ_run (Cert.DwInBRefIdeal.defs (F := Ideal)) (onTc (τ := Cert.DwInBRefIdeal.τ) (Cert.DwInBRefIdeal.main (F := Ideal))) ⟨m', fun _ => 0, g'⟩ (fun r => ∀ c : Dev Cert.DwInBRefIdeal.nD,
          r.2.mem ((c.tc : Thread Cert.DwInBRefIdeal.nD Cert.DwInBRefIdeal.τ).loc Cert.DwInBRefIdeal.main_v6) = v0 c
          ∧ r.2.mem ((c.tc : Thread Cert.DwInBRefIdeal.nD Cert.DwInBRefIdeal.τ).loc Cert.DwInBRefIdeal.main_arg0) = m' ((c.tc : Thread Cert.DwInBRefIdeal.nD Cert.DwInBRefIdeal.τ).loc Cert.DwInBRefIdeal.main_arg0)
          ∧ r.2.mem ((c.tc : Thread Cert.DwInBRefIdeal.nD Cert.DwInBRefIdeal.τ).loc Cert.DwInBRefIdeal.main_arg1) = m' ((c.tc : Thread Cert.DwInBRefIdeal.nD Cert.DwInBRefIdeal.τ).loc Cert.DwInBRefIdeal.main_arg1))

def preserves_DxInB_DxInBIdeal : Prop :=
  True

def algebraic_DxInBIdeal_DxInBRefIdeal [hDxInBIdeal : Cert.DxInBIdeal.Facts] [hDxInBRefIdeal : Cert.DxInBRefIdeal.Facts] : Prop :=
  ∀ (m : (ℓ : Loc Cert.DxInBIdeal.nD Cert.DxInBIdeal.τ Cert.DxInBIdeal.sig) → Buf (Elt Ideal) ℓ) (g : Dev Cert.DxInBIdeal.nD → PrngReg)
    (m' : (ℓ : Loc Cert.DxInBRefIdeal.nD Cert.DxInBRefIdeal.τ Cert.DxInBRefIdeal.sig) → Buf (Elt Ideal) ℓ) (g' : Dev Cert.DxInBRefIdeal.nD → PrngReg), Pre_DxInBIdeal m →
    (∀ c : Dev Cert.DxInBIdeal.nD,
      m' ((c.tc : Thread Cert.DxInBRefIdeal.nD Cert.DxInBRefIdeal.τ).loc Cert.DxInBRefIdeal.main_arg0) = m ((c.tc : Thread Cert.DxInBIdeal.nD Cert.DxInBIdeal.τ).loc Cert.DxInBIdeal.main_arg0)
      ∧ m' ((c.tc : Thread Cert.DxInBRefIdeal.nD Cert.DxInBRefIdeal.τ).loc Cert.DxInBRefIdeal.main_arg1) = m ((c.tc : Thread Cert.DxInBIdeal.nD Cert.DxInBIdeal.τ).loc Cert.DxInBIdeal.main_arg1)) →
    ∃ (v0 : (c : Dev Cert.DxInBIdeal.nD) → Buf (Elt Ideal) ((c.tc : Thread Cert.DxInBIdeal.nD Cert.DxInBIdeal.τ).loc Cert.DxInBIdeal.main_v0)),
      θ_run (Cert.DxInBIdeal.defs (F := Ideal)) (onTc (τ := Cert.DxInBIdeal.τ) (Cert.DxInBIdeal.main (F := Ideal))) ⟨m, fun _ => 0, g⟩ (fun r => ∀ c : Dev Cert.DxInBIdeal.nD,
          r.2.mem ((c.tc : Thread Cert.DxInBIdeal.nD Cert.DxInBIdeal.τ).loc Cert.DxInBIdeal.main_v0) = v0 c
          ∧ r.2.mem ((c.tc : Thread Cert.DxInBIdeal.nD Cert.DxInBIdeal.τ).loc Cert.DxInBIdeal.main_arg0) = m ((c.tc : Thread Cert.DxInBIdeal.nD Cert.DxInBIdeal.τ).loc Cert.DxInBIdeal.main_arg0)
          ∧ r.2.mem ((c.tc : Thread Cert.DxInBIdeal.nD Cert.DxInBIdeal.τ).loc Cert.DxInBIdeal.main_arg1) = m ((c.tc : Thread Cert.DxInBIdeal.nD Cert.DxInBIdeal.τ).loc Cert.DxInBIdeal.main_arg1))
      ∧ θ_run (Cert.DxInBRefIdeal.defs (F := Ideal)) (onTc (τ := Cert.DxInBRefIdeal.τ) (Cert.DxInBRefIdeal.main (F := Ideal))) ⟨m', fun _ => 0, g'⟩ (fun r => ∀ c : Dev Cert.DxInBRefIdeal.nD,
          r.2.mem ((c.tc : Thread Cert.DxInBRefIdeal.nD Cert.DxInBRefIdeal.τ).loc Cert.DxInBRefIdeal.main_v4) = v0 c
          ∧ r.2.mem ((c.tc : Thread Cert.DxInBRefIdeal.nD Cert.DxInBRefIdeal.τ).loc Cert.DxInBRefIdeal.main_arg0) = m' ((c.tc : Thread Cert.DxInBRefIdeal.nD Cert.DxInBRefIdeal.τ).loc Cert.DxInBRefIdeal.main_arg0)
          ∧ r.2.mem ((c.tc : Thread Cert.DxInBRefIdeal.nD Cert.DxInBRefIdeal.τ).loc Cert.DxInBRefIdeal.main_arg1) = m' ((c.tc : Thread Cert.DxInBRefIdeal.nD Cert.DxInBRefIdeal.τ).loc Cert.DxInBRefIdeal.main_arg1))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v0)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v0) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v5) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1))

def preserves_DxGate_DxGateIdeal : Prop :=
  True

def algebraic_DxGateIdeal_DxGateRefIdeal [hDxGateIdeal : Cert.DxGateIdeal.Facts] [hDxGateRefIdeal : Cert.DxGateRefIdeal.Facts] : Prop :=
  ∀ (m : (ℓ : Loc Cert.DxGateIdeal.nD Cert.DxGateIdeal.τ Cert.DxGateIdeal.sig) → Buf (Elt Ideal) ℓ) (g : Dev Cert.DxGateIdeal.nD → PrngReg)
    (m' : (ℓ : Loc Cert.DxGateRefIdeal.nD Cert.DxGateRefIdeal.τ Cert.DxGateRefIdeal.sig) → Buf (Elt Ideal) ℓ) (g' : Dev Cert.DxGateRefIdeal.nD → PrngReg), Pre_DxGateIdeal m →
    (∀ c : Dev Cert.DxGateIdeal.nD,
      m' ((c.tc : Thread Cert.DxGateRefIdeal.nD Cert.DxGateRefIdeal.τ).loc Cert.DxGateRefIdeal.main_arg0) = m ((c.tc : Thread Cert.DxGateIdeal.nD Cert.DxGateIdeal.τ).loc Cert.DxGateIdeal.main_arg0)
      ∧ m' ((c.tc : Thread Cert.DxGateRefIdeal.nD Cert.DxGateRefIdeal.τ).loc Cert.DxGateRefIdeal.main_arg1) = m ((c.tc : Thread Cert.DxGateIdeal.nD Cert.DxGateIdeal.τ).loc Cert.DxGateIdeal.main_arg1)
      ∧ m' ((c.tc : Thread Cert.DxGateRefIdeal.nD Cert.DxGateRefIdeal.τ).loc Cert.DxGateRefIdeal.main_arg2) = m ((c.tc : Thread Cert.DxGateIdeal.nD Cert.DxGateIdeal.τ).loc Cert.DxGateIdeal.main_arg2)) →
    ∃ (v0 : (c : Dev Cert.DxGateIdeal.nD) → Buf (Elt Ideal) ((c.tc : Thread Cert.DxGateIdeal.nD Cert.DxGateIdeal.τ).loc Cert.DxGateIdeal.main_v0)),
      θ_run (Cert.DxGateIdeal.defs (F := Ideal)) (onTc (τ := Cert.DxGateIdeal.τ) (Cert.DxGateIdeal.main (F := Ideal))) ⟨m, fun _ => 0, g⟩ (fun r => ∀ c : Dev Cert.DxGateIdeal.nD,
          r.2.mem ((c.tc : Thread Cert.DxGateIdeal.nD Cert.DxGateIdeal.τ).loc Cert.DxGateIdeal.main_v0) = v0 c
          ∧ r.2.mem ((c.tc : Thread Cert.DxGateIdeal.nD Cert.DxGateIdeal.τ).loc Cert.DxGateIdeal.main_arg0) = m ((c.tc : Thread Cert.DxGateIdeal.nD Cert.DxGateIdeal.τ).loc Cert.DxGateIdeal.main_arg0)
          ∧ r.2.mem ((c.tc : Thread Cert.DxGateIdeal.nD Cert.DxGateIdeal.τ).loc Cert.DxGateIdeal.main_arg1) = m ((c.tc : Thread Cert.DxGateIdeal.nD Cert.DxGateIdeal.τ).loc Cert.DxGateIdeal.main_arg1)
          ∧ r.2.mem ((c.tc : Thread Cert.DxGateIdeal.nD Cert.DxGateIdeal.τ).loc Cert.DxGateIdeal.main_arg2) = m ((c.tc : Thread Cert.DxGateIdeal.nD Cert.DxGateIdeal.τ).loc Cert.DxGateIdeal.main_arg2))
      ∧ θ_run (Cert.DxGateRefIdeal.defs (F := Ideal)) (onTc (τ := Cert.DxGateRefIdeal.τ) (Cert.DxGateRefIdeal.main (F := Ideal))) ⟨m', fun _ => 0, g'⟩ (fun r => ∀ c : Dev Cert.DxGateRefIdeal.nD,
          r.2.mem ((c.tc : Thread Cert.DxGateRefIdeal.nD Cert.DxGateRefIdeal.τ).loc Cert.DxGateRefIdeal.main_v4) = v0 c
          ∧ r.2.mem ((c.tc : Thread Cert.DxGateRefIdeal.nD Cert.DxGateRefIdeal.τ).loc Cert.DxGateRefIdeal.main_arg0) = m' ((c.tc : Thread Cert.DxGateRefIdeal.nD Cert.DxGateRefIdeal.τ).loc Cert.DxGateRefIdeal.main_arg0)
          ∧ r.2.mem ((c.tc : Thread Cert.DxGateRefIdeal.nD Cert.DxGateRefIdeal.τ).loc Cert.DxGateRefIdeal.main_arg1) = m' ((c.tc : Thread Cert.DxGateRefIdeal.nD Cert.DxGateRefIdeal.τ).loc Cert.DxGateRefIdeal.main_arg1)
          ∧ r.2.mem ((c.tc : Thread Cert.DxGateRefIdeal.nD Cert.DxGateRefIdeal.τ).loc Cert.DxGateRefIdeal.main_arg2) = m' ((c.tc : Thread Cert.DxGateRefIdeal.nD Cert.DxGateRefIdeal.τ).loc Cert.DxGateRefIdeal.main_arg2))

def preserves_FwUp_FwUpIdeal : Prop :=
  True

def algebraic_FwUpIdeal_FwUpRefIdeal [hFwUpIdeal : Cert.FwUpIdeal.Facts] [hFwUpRefIdeal : Cert.FwUpRefIdeal.Facts] : Prop :=
  ∀ (m : (ℓ : Loc Cert.FwUpIdeal.nD Cert.FwUpIdeal.τ Cert.FwUpIdeal.sig) → Buf (Elt Ideal) ℓ) (g : Dev Cert.FwUpIdeal.nD → PrngReg)
    (m' : (ℓ : Loc Cert.FwUpRefIdeal.nD Cert.FwUpRefIdeal.τ Cert.FwUpRefIdeal.sig) → Buf (Elt Ideal) ℓ) (g' : Dev Cert.FwUpRefIdeal.nD → PrngReg), Pre_FwUpIdeal m →
    (∀ c : Dev Cert.FwUpIdeal.nD,
      m' ((c.tc : Thread Cert.FwUpRefIdeal.nD Cert.FwUpRefIdeal.τ).loc Cert.FwUpRefIdeal.main_arg0) = m ((c.tc : Thread Cert.FwUpIdeal.nD Cert.FwUpIdeal.τ).loc Cert.FwUpIdeal.main_arg0)
      ∧ m' ((c.tc : Thread Cert.FwUpRefIdeal.nD Cert.FwUpRefIdeal.τ).loc Cert.FwUpRefIdeal.main_arg1) = m ((c.tc : Thread Cert.FwUpIdeal.nD Cert.FwUpIdeal.τ).loc Cert.FwUpIdeal.main_arg1)) →
    ∃ (v0 : (c : Dev Cert.FwUpIdeal.nD) → Buf (Elt Ideal) ((c.tc : Thread Cert.FwUpIdeal.nD Cert.FwUpIdeal.τ).loc Cert.FwUpIdeal.main_v0)),
      θ_run (Cert.FwUpIdeal.defs (F := Ideal)) (onTc (τ := Cert.FwUpIdeal.τ) (Cert.FwUpIdeal.main (F := Ideal))) ⟨m, fun _ => 0, g⟩ (fun r => ∀ c : Dev Cert.FwUpIdeal.nD,
          r.2.mem ((c.tc : Thread Cert.FwUpIdeal.nD Cert.FwUpIdeal.τ).loc Cert.FwUpIdeal.main_v0) = v0 c
          ∧ r.2.mem ((c.tc : Thread Cert.FwUpIdeal.nD Cert.FwUpIdeal.τ).loc Cert.FwUpIdeal.main_arg0) = m ((c.tc : Thread Cert.FwUpIdeal.nD Cert.FwUpIdeal.τ).loc Cert.FwUpIdeal.main_arg0)
          ∧ r.2.mem ((c.tc : Thread Cert.FwUpIdeal.nD Cert.FwUpIdeal.τ).loc Cert.FwUpIdeal.main_arg1) = m ((c.tc : Thread Cert.FwUpIdeal.nD Cert.FwUpIdeal.τ).loc Cert.FwUpIdeal.main_arg1))
      ∧ θ_run (Cert.FwUpRefIdeal.defs (F := Ideal)) (onTc (τ := Cert.FwUpRefIdeal.τ) (Cert.FwUpRefIdeal.main (F := Ideal))) ⟨m', fun _ => 0, g'⟩ (fun r => ∀ c : Dev Cert.FwUpRefIdeal.nD,
          r.2.mem ((c.tc : Thread Cert.FwUpRefIdeal.nD Cert.FwUpRefIdeal.τ).loc Cert.FwUpRefIdeal.main_v2) = v0 c
          ∧ r.2.mem ((c.tc : Thread Cert.FwUpRefIdeal.nD Cert.FwUpRefIdeal.τ).loc Cert.FwUpRefIdeal.main_arg0) = m' ((c.tc : Thread Cert.FwUpRefIdeal.nD Cert.FwUpRefIdeal.τ).loc Cert.FwUpRefIdeal.main_arg0)
          ∧ r.2.mem ((c.tc : Thread Cert.FwUpRefIdeal.nD Cert.FwUpRefIdeal.τ).loc Cert.FwUpRefIdeal.main_arg1) = m' ((c.tc : Thread Cert.FwUpRefIdeal.nD Cert.FwUpRefIdeal.τ).loc Cert.FwUpRefIdeal.main_arg1))

def preserves_FwDown_FwDownIdeal : Prop :=
  True

def algebraic_FwDownIdeal_FwDownRefIdeal [hFwDownIdeal : Cert.FwDownIdeal.Facts] [hFwDownRefIdeal : Cert.FwDownRefIdeal.Facts] : Prop :=
  ∀ (m : (ℓ : Loc Cert.FwDownIdeal.nD Cert.FwDownIdeal.τ Cert.FwDownIdeal.sig) → Buf (Elt Ideal) ℓ) (g : Dev Cert.FwDownIdeal.nD → PrngReg)
    (m' : (ℓ : Loc Cert.FwDownRefIdeal.nD Cert.FwDownRefIdeal.τ Cert.FwDownRefIdeal.sig) → Buf (Elt Ideal) ℓ) (g' : Dev Cert.FwDownRefIdeal.nD → PrngReg), Pre_FwDownIdeal m →
    (∀ c : Dev Cert.FwDownIdeal.nD,
      m' ((c.tc : Thread Cert.FwDownRefIdeal.nD Cert.FwDownRefIdeal.τ).loc Cert.FwDownRefIdeal.main_arg0) = m ((c.tc : Thread Cert.FwDownIdeal.nD Cert.FwDownIdeal.τ).loc Cert.FwDownIdeal.main_arg0)
      ∧ m' ((c.tc : Thread Cert.FwDownRefIdeal.nD Cert.FwDownRefIdeal.τ).loc Cert.FwDownRefIdeal.main_arg1) = m ((c.tc : Thread Cert.FwDownIdeal.nD Cert.FwDownIdeal.τ).loc Cert.FwDownIdeal.main_arg1)
      ∧ m' ((c.tc : Thread Cert.FwDownRefIdeal.nD Cert.FwDownRefIdeal.τ).loc Cert.FwDownRefIdeal.main_arg2) = m ((c.tc : Thread Cert.FwDownIdeal.nD Cert.FwDownIdeal.τ).loc Cert.FwDownIdeal.main_arg2)) →
    ∃ (v0 : (c : Dev Cert.FwDownIdeal.nD) → Buf (Elt Ideal) ((c.tc : Thread Cert.FwDownIdeal.nD Cert.FwDownIdeal.τ).loc Cert.FwDownIdeal.main_v0)),
      θ_run (Cert.FwDownIdeal.defs (F := Ideal)) (onTc (τ := Cert.FwDownIdeal.τ) (Cert.FwDownIdeal.main (F := Ideal))) ⟨m, fun _ => 0, g⟩ (fun r => ∀ c : Dev Cert.FwDownIdeal.nD,
          r.2.mem ((c.tc : Thread Cert.FwDownIdeal.nD Cert.FwDownIdeal.τ).loc Cert.FwDownIdeal.main_v0) = v0 c
          ∧ r.2.mem ((c.tc : Thread Cert.FwDownIdeal.nD Cert.FwDownIdeal.τ).loc Cert.FwDownIdeal.main_arg0) = m ((c.tc : Thread Cert.FwDownIdeal.nD Cert.FwDownIdeal.τ).loc Cert.FwDownIdeal.main_arg0)
          ∧ r.2.mem ((c.tc : Thread Cert.FwDownIdeal.nD Cert.FwDownIdeal.τ).loc Cert.FwDownIdeal.main_arg1) = m ((c.tc : Thread Cert.FwDownIdeal.nD Cert.FwDownIdeal.τ).loc Cert.FwDownIdeal.main_arg1)
          ∧ r.2.mem ((c.tc : Thread Cert.FwDownIdeal.nD Cert.FwDownIdeal.τ).loc Cert.FwDownIdeal.main_arg2) = m ((c.tc : Thread Cert.FwDownIdeal.nD Cert.FwDownIdeal.τ).loc Cert.FwDownIdeal.main_arg2))
      ∧ θ_run (Cert.FwDownRefIdeal.defs (F := Ideal)) (onTc (τ := Cert.FwDownRefIdeal.τ) (Cert.FwDownRefIdeal.main (F := Ideal))) ⟨m', fun _ => 0, g'⟩ (fun r => ∀ c : Dev Cert.FwDownRefIdeal.nD,
          r.2.mem ((c.tc : Thread Cert.FwDownRefIdeal.nD Cert.FwDownRefIdeal.τ).loc Cert.FwDownRefIdeal.main_v3) = v0 c
          ∧ r.2.mem ((c.tc : Thread Cert.FwDownRefIdeal.nD Cert.FwDownRefIdeal.τ).loc Cert.FwDownRefIdeal.main_arg0) = m' ((c.tc : Thread Cert.FwDownRefIdeal.nD Cert.FwDownRefIdeal.τ).loc Cert.FwDownRefIdeal.main_arg0)
          ∧ r.2.mem ((c.tc : Thread Cert.FwDownRefIdeal.nD Cert.FwDownRefIdeal.τ).loc Cert.FwDownRefIdeal.main_arg1) = m' ((c.tc : Thread Cert.FwDownRefIdeal.nD Cert.FwDownRefIdeal.τ).loc Cert.FwDownRefIdeal.main_arg1)
          ∧ r.2.mem ((c.tc : Thread Cert.FwDownRefIdeal.nD Cert.FwDownRefIdeal.τ).loc Cert.FwDownRefIdeal.main_arg2) = m' ((c.tc : Thread Cert.FwDownRefIdeal.nD Cert.FwDownRefIdeal.τ).loc Cert.FwDownRefIdeal.main_arg2))

def preserves_FwInA_FwInAIdeal : Prop :=
  True

def algebraic_FwInAIdeal_FwInARefIdeal [hFwInAIdeal : Cert.FwInAIdeal.Facts] [hFwInARefIdeal : Cert.FwInARefIdeal.Facts] : Prop :=
  ∀ (m : (ℓ : Loc Cert.FwInAIdeal.nD Cert.FwInAIdeal.τ Cert.FwInAIdeal.sig) → Buf (Elt Ideal) ℓ) (g : Dev Cert.FwInAIdeal.nD → PrngReg)
    (m' : (ℓ : Loc Cert.FwInARefIdeal.nD Cert.FwInARefIdeal.τ Cert.FwInARefIdeal.sig) → Buf (Elt Ideal) ℓ) (g' : Dev Cert.FwInARefIdeal.nD → PrngReg), Pre_FwInAIdeal m →
    (∀ c : Dev Cert.FwInAIdeal.nD,
      m' ((c.tc : Thread Cert.FwInARefIdeal.nD Cert.FwInARefIdeal.τ).loc Cert.FwInARefIdeal.main_arg0) = m ((c.tc : Thread Cert.FwInAIdeal.nD Cert.FwInAIdeal.τ).loc Cert.FwInAIdeal.main_arg0)
      ∧ m' ((c.tc : Thread Cert.FwInARefIdeal.nD Cert.FwInARefIdeal.τ).loc Cert.FwInARefIdeal.main_arg1) = m ((c.tc : Thread Cert.FwInAIdeal.nD Cert.FwInAIdeal.τ).loc Cert.FwInAIdeal.main_arg1)) →
    ∃ (v0 : (c : Dev Cert.FwInAIdeal.nD) → Buf (Elt Ideal) ((c.tc : Thread Cert.FwInAIdeal.nD Cert.FwInAIdeal.τ).loc Cert.FwInAIdeal.main_v0)),
      θ_run (Cert.FwInAIdeal.defs (F := Ideal)) (onTc (τ := Cert.FwInAIdeal.τ) (Cert.FwInAIdeal.main (F := Ideal))) ⟨m, fun _ => 0, g⟩ (fun r => ∀ c : Dev Cert.FwInAIdeal.nD,
          r.2.mem ((c.tc : Thread Cert.FwInAIdeal.nD Cert.FwInAIdeal.τ).loc Cert.FwInAIdeal.main_v0) = v0 c
          ∧ r.2.mem ((c.tc : Thread Cert.FwInAIdeal.nD Cert.FwInAIdeal.τ).loc Cert.FwInAIdeal.main_arg0) = m ((c.tc : Thread Cert.FwInAIdeal.nD Cert.FwInAIdeal.τ).loc Cert.FwInAIdeal.main_arg0)
          ∧ r.2.mem ((c.tc : Thread Cert.FwInAIdeal.nD Cert.FwInAIdeal.τ).loc Cert.FwInAIdeal.main_arg1) = m ((c.tc : Thread Cert.FwInAIdeal.nD Cert.FwInAIdeal.τ).loc Cert.FwInAIdeal.main_arg1))
      ∧ θ_run (Cert.FwInARefIdeal.defs (F := Ideal)) (onTc (τ := Cert.FwInARefIdeal.τ) (Cert.FwInARefIdeal.main (F := Ideal))) ⟨m', fun _ => 0, g'⟩ (fun r => ∀ c : Dev Cert.FwInARefIdeal.nD,
          r.2.mem ((c.tc : Thread Cert.FwInARefIdeal.nD Cert.FwInARefIdeal.τ).loc Cert.FwInARefIdeal.main_v2) = v0 c
          ∧ r.2.mem ((c.tc : Thread Cert.FwInARefIdeal.nD Cert.FwInARefIdeal.τ).loc Cert.FwInARefIdeal.main_arg0) = m' ((c.tc : Thread Cert.FwInARefIdeal.nD Cert.FwInARefIdeal.τ).loc Cert.FwInARefIdeal.main_arg0)
          ∧ r.2.mem ((c.tc : Thread Cert.FwInARefIdeal.nD Cert.FwInARefIdeal.τ).loc Cert.FwInARefIdeal.main_arg1) = m' ((c.tc : Thread Cert.FwInARefIdeal.nD Cert.FwInARefIdeal.τ).loc Cert.FwInARefIdeal.main_arg1))

def preserves_FwInB_FwInBIdeal : Prop :=
  True

def algebraic_FwInBIdeal_FwInBRefIdeal [hFwInBIdeal : Cert.FwInBIdeal.Facts] [hFwInBRefIdeal : Cert.FwInBRefIdeal.Facts] : Prop :=
  ∀ (m : (ℓ : Loc Cert.FwInBIdeal.nD Cert.FwInBIdeal.τ Cert.FwInBIdeal.sig) → Buf (Elt Ideal) ℓ) (g : Dev Cert.FwInBIdeal.nD → PrngReg)
    (m' : (ℓ : Loc Cert.FwInBRefIdeal.nD Cert.FwInBRefIdeal.τ Cert.FwInBRefIdeal.sig) → Buf (Elt Ideal) ℓ) (g' : Dev Cert.FwInBRefIdeal.nD → PrngReg), Pre_FwInBIdeal m →
    (∀ c : Dev Cert.FwInBIdeal.nD,
      m' ((c.tc : Thread Cert.FwInBRefIdeal.nD Cert.FwInBRefIdeal.τ).loc Cert.FwInBRefIdeal.main_arg0) = m ((c.tc : Thread Cert.FwInBIdeal.nD Cert.FwInBIdeal.τ).loc Cert.FwInBIdeal.main_arg0)
      ∧ m' ((c.tc : Thread Cert.FwInBRefIdeal.nD Cert.FwInBRefIdeal.τ).loc Cert.FwInBRefIdeal.main_arg1) = m ((c.tc : Thread Cert.FwInBIdeal.nD Cert.FwInBIdeal.τ).loc Cert.FwInBIdeal.main_arg1)) →
    ∃ (v0 : (c : Dev Cert.FwInBIdeal.nD) → Buf (Elt Ideal) ((c.tc : Thread Cert.FwInBIdeal.nD Cert.FwInBIdeal.τ).loc Cert.FwInBIdeal.main_v0)),
      θ_run (Cert.FwInBIdeal.defs (F := Ideal)) (onTc (τ := Cert.FwInBIdeal.τ) (Cert.FwInBIdeal.main (F := Ideal))) ⟨m, fun _ => 0, g⟩ (fun r => ∀ c : Dev Cert.FwInBIdeal.nD,
          r.2.mem ((c.tc : Thread Cert.FwInBIdeal.nD Cert.FwInBIdeal.τ).loc Cert.FwInBIdeal.main_v0) = v0 c
          ∧ r.2.mem ((c.tc : Thread Cert.FwInBIdeal.nD Cert.FwInBIdeal.τ).loc Cert.FwInBIdeal.main_arg0) = m ((c.tc : Thread Cert.FwInBIdeal.nD Cert.FwInBIdeal.τ).loc Cert.FwInBIdeal.main_arg0)
          ∧ r.2.mem ((c.tc : Thread Cert.FwInBIdeal.nD Cert.FwInBIdeal.τ).loc Cert.FwInBIdeal.main_arg1) = m ((c.tc : Thread Cert.FwInBIdeal.nD Cert.FwInBIdeal.τ).loc Cert.FwInBIdeal.main_arg1))
      ∧ θ_run (Cert.FwInBRefIdeal.defs (F := Ideal)) (onTc (τ := Cert.FwInBRefIdeal.τ) (Cert.FwInBRefIdeal.main (F := Ideal))) ⟨m', fun _ => 0, g'⟩ (fun r => ∀ c : Dev Cert.FwInBRefIdeal.nD,
          r.2.mem ((c.tc : Thread Cert.FwInBRefIdeal.nD Cert.FwInBRefIdeal.τ).loc Cert.FwInBRefIdeal.main_v2) = v0 c
          ∧ r.2.mem ((c.tc : Thread Cert.FwInBRefIdeal.nD Cert.FwInBRefIdeal.τ).loc Cert.FwInBRefIdeal.main_arg0) = m' ((c.tc : Thread Cert.FwInBRefIdeal.nD Cert.FwInBRefIdeal.τ).loc Cert.FwInBRefIdeal.main_arg0)
          ∧ r.2.mem ((c.tc : Thread Cert.FwInBRefIdeal.nD Cert.FwInBRefIdeal.τ).loc Cert.FwInBRefIdeal.main_arg1) = m' ((c.tc : Thread Cert.FwInBRefIdeal.nD Cert.FwInBRefIdeal.τ).loc Cert.FwInBRefIdeal.main_arg1))

def preserves_FwGate_FwGateIdeal : Prop :=
  True

def algebraic_FwGateIdeal_FwGateRefIdeal [hFwGateIdeal : Cert.FwGateIdeal.Facts] [hFwGateRefIdeal : Cert.FwGateRefIdeal.Facts] : Prop :=
  ∀ (m : (ℓ : Loc Cert.FwGateIdeal.nD Cert.FwGateIdeal.τ Cert.FwGateIdeal.sig) → Buf (Elt Ideal) ℓ) (g : Dev Cert.FwGateIdeal.nD → PrngReg)
    (m' : (ℓ : Loc Cert.FwGateRefIdeal.nD Cert.FwGateRefIdeal.τ Cert.FwGateRefIdeal.sig) → Buf (Elt Ideal) ℓ) (g' : Dev Cert.FwGateRefIdeal.nD → PrngReg), Pre_FwGateIdeal m →
    (∀ c : Dev Cert.FwGateIdeal.nD,
      m' ((c.tc : Thread Cert.FwGateRefIdeal.nD Cert.FwGateRefIdeal.τ).loc Cert.FwGateRefIdeal.main_arg0) = m ((c.tc : Thread Cert.FwGateIdeal.nD Cert.FwGateIdeal.τ).loc Cert.FwGateIdeal.main_arg0)
      ∧ m' ((c.tc : Thread Cert.FwGateRefIdeal.nD Cert.FwGateRefIdeal.τ).loc Cert.FwGateRefIdeal.main_arg1) = m ((c.tc : Thread Cert.FwGateIdeal.nD Cert.FwGateIdeal.τ).loc Cert.FwGateIdeal.main_arg1)) →
    ∃ (v0 : (c : Dev Cert.FwGateIdeal.nD) → Buf (Elt Ideal) ((c.tc : Thread Cert.FwGateIdeal.nD Cert.FwGateIdeal.τ).loc Cert.FwGateIdeal.main_v0)),
      θ_run (Cert.FwGateIdeal.defs (F := Ideal)) (onTc (τ := Cert.FwGateIdeal.τ) (Cert.FwGateIdeal.main (F := Ideal))) ⟨m, fun _ => 0, g⟩ (fun r => ∀ c : Dev Cert.FwGateIdeal.nD,
          r.2.mem ((c.tc : Thread Cert.FwGateIdeal.nD Cert.FwGateIdeal.τ).loc Cert.FwGateIdeal.main_v0) = v0 c
          ∧ r.2.mem ((c.tc : Thread Cert.FwGateIdeal.nD Cert.FwGateIdeal.τ).loc Cert.FwGateIdeal.main_arg0) = m ((c.tc : Thread Cert.FwGateIdeal.nD Cert.FwGateIdeal.τ).loc Cert.FwGateIdeal.main_arg0)
          ∧ r.2.mem ((c.tc : Thread Cert.FwGateIdeal.nD Cert.FwGateIdeal.τ).loc Cert.FwGateIdeal.main_arg1) = m ((c.tc : Thread Cert.FwGateIdeal.nD Cert.FwGateIdeal.τ).loc Cert.FwGateIdeal.main_arg1))
      ∧ θ_run (Cert.FwGateRefIdeal.defs (F := Ideal)) (onTc (τ := Cert.FwGateRefIdeal.τ) (Cert.FwGateRefIdeal.main (F := Ideal))) ⟨m', fun _ => 0, g'⟩ (fun r => ∀ c : Dev Cert.FwGateRefIdeal.nD,
          r.2.mem ((c.tc : Thread Cert.FwGateRefIdeal.nD Cert.FwGateRefIdeal.τ).loc Cert.FwGateRefIdeal.main_v2) = v0 c
          ∧ r.2.mem ((c.tc : Thread Cert.FwGateRefIdeal.nD Cert.FwGateRefIdeal.τ).loc Cert.FwGateRefIdeal.main_arg0) = m' ((c.tc : Thread Cert.FwGateRefIdeal.nD Cert.FwGateRefIdeal.τ).loc Cert.FwGateRefIdeal.main_arg0)
          ∧ r.2.mem ((c.tc : Thread Cert.FwGateRefIdeal.nD Cert.FwGateRefIdeal.τ).loc Cert.FwGateRefIdeal.main_arg1) = m' ((c.tc : Thread Cert.FwGateRefIdeal.nD Cert.FwGateRefIdeal.τ).loc Cert.FwGateRefIdeal.main_arg1))

def preserves_FwOut_FwOutIdeal : Prop :=
  True

def algebraic_FwOutIdeal_FwOutRefIdeal [hFwOutIdeal : Cert.FwOutIdeal.Facts] [hFwOutRefIdeal : Cert.FwOutRefIdeal.Facts] : Prop :=
  ∀ (m : (ℓ : Loc Cert.FwOutIdeal.nD Cert.FwOutIdeal.τ Cert.FwOutIdeal.sig) → Buf (Elt Ideal) ℓ) (g : Dev Cert.FwOutIdeal.nD → PrngReg)
    (m' : (ℓ : Loc Cert.FwOutRefIdeal.nD Cert.FwOutRefIdeal.τ Cert.FwOutRefIdeal.sig) → Buf (Elt Ideal) ℓ) (g' : Dev Cert.FwOutRefIdeal.nD → PrngReg), Pre_FwOutIdeal m →
    (∀ c : Dev Cert.FwOutIdeal.nD,
      m' ((c.tc : Thread Cert.FwOutRefIdeal.nD Cert.FwOutRefIdeal.τ).loc Cert.FwOutRefIdeal.main_arg0) = m ((c.tc : Thread Cert.FwOutIdeal.nD Cert.FwOutIdeal.τ).loc Cert.FwOutIdeal.main_arg0)
      ∧ m' ((c.tc : Thread Cert.FwOutRefIdeal.nD Cert.FwOutRefIdeal.τ).loc Cert.FwOutRefIdeal.main_arg1) = m ((c.tc : Thread Cert.FwOutIdeal.nD Cert.FwOutIdeal.τ).loc Cert.FwOutIdeal.main_arg1)
      ∧ m' ((c.tc : Thread Cert.FwOutRefIdeal.nD Cert.FwOutRefIdeal.τ).loc Cert.FwOutRefIdeal.main_arg2) = m ((c.tc : Thread Cert.FwOutIdeal.nD Cert.FwOutIdeal.τ).loc Cert.FwOutIdeal.main_arg2)) →
    ∃ (v0 : (c : Dev Cert.FwOutIdeal.nD) → Buf (Elt Ideal) ((c.tc : Thread Cert.FwOutIdeal.nD Cert.FwOutIdeal.τ).loc Cert.FwOutIdeal.main_v0)),
      θ_run (Cert.FwOutIdeal.defs (F := Ideal)) (onTc (τ := Cert.FwOutIdeal.τ) (Cert.FwOutIdeal.main (F := Ideal))) ⟨m, fun _ => 0, g⟩ (fun r => ∀ c : Dev Cert.FwOutIdeal.nD,
          r.2.mem ((c.tc : Thread Cert.FwOutIdeal.nD Cert.FwOutIdeal.τ).loc Cert.FwOutIdeal.main_v0) = v0 c
          ∧ r.2.mem ((c.tc : Thread Cert.FwOutIdeal.nD Cert.FwOutIdeal.τ).loc Cert.FwOutIdeal.main_arg0) = m ((c.tc : Thread Cert.FwOutIdeal.nD Cert.FwOutIdeal.τ).loc Cert.FwOutIdeal.main_arg0)
          ∧ r.2.mem ((c.tc : Thread Cert.FwOutIdeal.nD Cert.FwOutIdeal.τ).loc Cert.FwOutIdeal.main_arg1) = m ((c.tc : Thread Cert.FwOutIdeal.nD Cert.FwOutIdeal.τ).loc Cert.FwOutIdeal.main_arg1)
          ∧ r.2.mem ((c.tc : Thread Cert.FwOutIdeal.nD Cert.FwOutIdeal.τ).loc Cert.FwOutIdeal.main_arg2) = m ((c.tc : Thread Cert.FwOutIdeal.nD Cert.FwOutIdeal.τ).loc Cert.FwOutIdeal.main_arg2))
      ∧ θ_run (Cert.FwOutRefIdeal.defs (F := Ideal)) (onTc (τ := Cert.FwOutRefIdeal.τ) (Cert.FwOutRefIdeal.main (F := Ideal))) ⟨m', fun _ => 0, g'⟩ (fun r => ∀ c : Dev Cert.FwOutRefIdeal.nD,
          r.2.mem ((c.tc : Thread Cert.FwOutRefIdeal.nD Cert.FwOutRefIdeal.τ).loc Cert.FwOutRefIdeal.main_v3) = v0 c
          ∧ r.2.mem ((c.tc : Thread Cert.FwOutRefIdeal.nD Cert.FwOutRefIdeal.τ).loc Cert.FwOutRefIdeal.main_arg0) = m' ((c.tc : Thread Cert.FwOutRefIdeal.nD Cert.FwOutRefIdeal.τ).loc Cert.FwOutRefIdeal.main_arg0)
          ∧ r.2.mem ((c.tc : Thread Cert.FwOutRefIdeal.nD Cert.FwOutRefIdeal.τ).loc Cert.FwOutRefIdeal.main_arg1) = m' ((c.tc : Thread Cert.FwOutRefIdeal.nD Cert.FwOutRefIdeal.τ).loc Cert.FwOutRefIdeal.main_arg1)
          ∧ r.2.mem ((c.tc : Thread Cert.FwOutRefIdeal.nD Cert.FwOutRefIdeal.τ).loc Cert.FwOutRefIdeal.main_arg2) = m' ((c.tc : Thread Cert.FwOutRefIdeal.nD Cert.FwOutRefIdeal.τ).loc Cert.FwOutRefIdeal.main_arg2))

def preserves_FoxGrad_FoxGradIdeal : Prop :=
  True

def algebraic_FoxGradIdeal_FoxRefIdeal_pre_fox_finite [hFoxGradIdeal : Cert.FoxGradIdeal.Facts] [hFoxRefIdeal : Cert.FoxRefIdeal.Facts] [hPre_fox_finite : Cert.Pre_fox_finite.Facts] : Prop :=
  ∀ (m : (ℓ : Loc Cert.FoxGradIdeal.nD Cert.FoxGradIdeal.τ Cert.FoxGradIdeal.sig) → Buf (Elt Ideal) ℓ) (g : Dev Cert.FoxGradIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxGradIdeal_fox_finite m →
    (∀ c : Dev Cert.FoxGradIdeal.nD,
      m' ((c.tc : Thread Cert.FoxRefIdeal.nD Cert.FoxRefIdeal.τ).loc Cert.FoxRefIdeal.main_arg0) = m ((c.tc : Thread Cert.FoxGradIdeal.nD Cert.FoxGradIdeal.τ).loc Cert.FoxGradIdeal.main_arg0)
      ∧ m' ((c.tc : Thread Cert.FoxRefIdeal.nD Cert.FoxRefIdeal.τ).loc Cert.FoxRefIdeal.main_arg1) = m ((c.tc : Thread Cert.FoxGradIdeal.nD Cert.FoxGradIdeal.τ).loc Cert.FoxGradIdeal.main_arg1)
      ∧ m' ((c.tc : Thread Cert.FoxRefIdeal.nD Cert.FoxRefIdeal.τ).loc Cert.FoxRefIdeal.main_arg2) = m ((c.tc : Thread Cert.FoxGradIdeal.nD Cert.FoxGradIdeal.τ).loc Cert.FoxGradIdeal.main_arg2)) →
    ∃ (v0 : (c : Dev Cert.FoxGradIdeal.nD) → Buf (Elt Ideal) ((c.tc : Thread Cert.FoxGradIdeal.nD Cert.FoxGradIdeal.τ).loc Cert.FoxGradIdeal.main_v42_0)) (v1 : (c : Dev Cert.FoxGradIdeal.nD) → Buf (Elt Ideal) ((c.tc : Thread Cert.FoxGradIdeal.nD Cert.FoxGradIdeal.τ).loc Cert.FoxGradIdeal.main_v42_1)) (v2 : (c : Dev Cert.FoxGradIdeal.nD) → Buf (Elt Ideal) ((c.tc : Thread Cert.FoxGradIdeal.nD Cert.FoxGradIdeal.τ).loc Cert.FoxGradIdeal.main_v42_2)) (v3 : (c : Dev Cert.FoxGradIdeal.nD) → Buf (Elt Ideal) ((c.tc : Thread Cert.FoxGradIdeal.nD Cert.FoxGradIdeal.τ).loc Cert.FoxGradIdeal.main_v48)),
      θ_run (Cert.FoxGradIdeal.defs (F := Ideal)) (onTc (τ := Cert.FoxGradIdeal.τ) (Cert.FoxGradIdeal.main (F := Ideal))) ⟨m, fun _ => 0, g⟩ (fun r => ∀ c : Dev Cert.FoxGradIdeal.nD,
          r.2.mem ((c.tc : Thread Cert.FoxGradIdeal.nD Cert.FoxGradIdeal.τ).loc Cert.FoxGradIdeal.main_v42_0) = v0 c
          ∧ r.2.mem ((c.tc : Thread Cert.FoxGradIdeal.nD Cert.FoxGradIdeal.τ).loc Cert.FoxGradIdeal.main_v42_1) = v1 c
          ∧ r.2.mem ((c.tc : Thread Cert.FoxGradIdeal.nD Cert.FoxGradIdeal.τ).loc Cert.FoxGradIdeal.main_v42_2) = v2 c
          ∧ r.2.mem ((c.tc : Thread Cert.FoxGradIdeal.nD Cert.FoxGradIdeal.τ).loc Cert.FoxGradIdeal.main_v48) = v3 c
          ∧ r.2.mem ((c.tc : Thread Cert.FoxGradIdeal.nD Cert.FoxGradIdeal.τ).loc Cert.FoxGradIdeal.main_arg0) = m ((c.tc : Thread Cert.FoxGradIdeal.nD Cert.FoxGradIdeal.τ).loc Cert.FoxGradIdeal.main_arg0)
          ∧ r.2.mem ((c.tc : Thread Cert.FoxGradIdeal.nD Cert.FoxGradIdeal.τ).loc Cert.FoxGradIdeal.main_arg1) = m ((c.tc : Thread Cert.FoxGradIdeal.nD Cert.FoxGradIdeal.τ).loc Cert.FoxGradIdeal.main_arg1)
          ∧ r.2.mem ((c.tc : Thread Cert.FoxGradIdeal.nD Cert.FoxGradIdeal.τ).loc Cert.FoxGradIdeal.main_arg2) = m ((c.tc : Thread Cert.FoxGradIdeal.nD Cert.FoxGradIdeal.τ).loc Cert.FoxGradIdeal.main_arg2))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v89) = v0 c
          ∧ r.2.mem ((c.tc : Thread Cert.FoxRefIdeal.nD Cert.FoxRefIdeal.τ).loc Cert.FoxRefIdeal.main_v88) = v1 c
          ∧ r.2.mem ((c.tc : Thread Cert.FoxRefIdeal.nD Cert.FoxRefIdeal.τ).loc Cert.FoxRefIdeal.main_v60) = v2 c
          ∧ r.2.mem ((c.tc : Thread Cert.FoxRefIdeal.nD Cert.FoxRefIdeal.τ).loc Cert.FoxRefIdeal.main_v81) = v3 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2))

def preserves_ActGrad_ActGradIdeal : Prop :=
  True

def algebraic_ActGradIdeal_ActRefIdeal_pre_act_finite [hActGradIdeal : Cert.ActGradIdeal.Facts] [hActRefIdeal : Cert.ActRefIdeal.Facts] [hPre_act_finite : Cert.Pre_act_finite.Facts] : Prop :=
  ∀ (m : (ℓ : Loc Cert.ActGradIdeal.nD Cert.ActGradIdeal.τ Cert.ActGradIdeal.sig) → Buf (Elt Ideal) ℓ) (g : Dev Cert.ActGradIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActGradIdeal_act_finite m →
    (∀ c : Dev Cert.ActGradIdeal.nD,
      m' ((c.tc : Thread Cert.ActRefIdeal.nD Cert.ActRefIdeal.τ).loc Cert.ActRefIdeal.main_arg0) = m ((c.tc : Thread Cert.ActGradIdeal.nD Cert.ActGradIdeal.τ).loc Cert.ActGradIdeal.main_arg0)
      ∧ m' ((c.tc : Thread Cert.ActRefIdeal.nD Cert.ActRefIdeal.τ).loc Cert.ActRefIdeal.main_arg1) = m ((c.tc : Thread Cert.ActGradIdeal.nD Cert.ActGradIdeal.τ).loc Cert.ActGradIdeal.main_arg1)
      ∧ m' ((c.tc : Thread Cert.ActRefIdeal.nD Cert.ActRefIdeal.τ).loc Cert.ActRefIdeal.main_arg2) = m ((c.tc : Thread Cert.ActGradIdeal.nD Cert.ActGradIdeal.τ).loc Cert.ActGradIdeal.main_arg2)) →
    ∃ (v0 : (c : Dev Cert.ActGradIdeal.nD) → Buf (Elt Ideal) ((c.tc : Thread Cert.ActGradIdeal.nD Cert.ActGradIdeal.τ).loc Cert.ActGradIdeal.main_v0_0)) (v1 : (c : Dev Cert.ActGradIdeal.nD) → Buf (Elt Ideal) ((c.tc : Thread Cert.ActGradIdeal.nD Cert.ActGradIdeal.τ).loc Cert.ActGradIdeal.main_v0_1)) (v2 : (c : Dev Cert.ActGradIdeal.nD) → Buf (Elt Ideal) ((c.tc : Thread Cert.ActGradIdeal.nD Cert.ActGradIdeal.τ).loc Cert.ActGradIdeal.main_v0_2)),
      θ_run (Cert.ActGradIdeal.defs (F := Ideal)) (onTc (τ := Cert.ActGradIdeal.τ) (Cert.ActGradIdeal.main (F := Ideal))) ⟨m, fun _ => 0, g⟩ (fun r => ∀ c : Dev Cert.ActGradIdeal.nD,
          r.2.mem ((c.tc : Thread Cert.ActGradIdeal.nD Cert.ActGradIdeal.τ).loc Cert.ActGradIdeal.main_v0_0) = v0 c
          ∧ r.2.mem ((c.tc : Thread Cert.ActGradIdeal.nD Cert.ActGradIdeal.τ).loc Cert.ActGradIdeal.main_v0_1) = v1 c
          ∧ r.2.mem ((c.tc : Thread Cert.ActGradIdeal.nD Cert.ActGradIdeal.τ).loc Cert.ActGradIdeal.main_v0_2) = v2 c
          ∧ r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
          ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1)
          ∧ r.2.mem ((c.tc : Thread Cert.ActGradIdeal.nD Cert.ActGradIdeal.τ).loc Cert.ActGradIdeal.main_arg2) = m ((c.tc : Thread Cert.ActGradIdeal.nD Cert.ActGradIdeal.τ).loc Cert.ActGradIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v69) = v0 c
          ∧ r.2.mem ((c.tc : Thread Cert.ActRefIdeal.nD Cert.ActRefIdeal.τ).loc Cert.ActRefIdeal.main_v70) = v1 c
          ∧ r.2.mem ((c.tc : Thread Cert.ActRefIdeal.nD Cert.ActRefIdeal.τ).loc Cert.ActRefIdeal.main_v71) = v2 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_FwAct_FwActIdeal : Prop :=
  True

def algebraic_FwActIdeal_FwActRefIdeal [hFwActIdeal : Cert.FwActIdeal.Facts] [hFwActRefIdeal : Cert.FwActRefIdeal.Facts] : Prop :=
  ∀ (m : (ℓ : Loc Cert.FwActIdeal.nD Cert.FwActIdeal.τ Cert.FwActIdeal.sig) → Buf (Elt Ideal) ℓ) (g : Dev Cert.FwActIdeal.nD → PrngReg)
    (m' : (ℓ : Loc Cert.FwActRefIdeal.nD Cert.FwActRefIdeal.τ Cert.FwActRefIdeal.sig) → Buf (Elt Ideal) ℓ) (g' : Dev Cert.FwActRefIdeal.nD → PrngReg), Pre_FwActIdeal m →
    (∀ c : Dev Cert.FwActIdeal.nD,
      m' ((c.tc : Thread Cert.FwActRefIdeal.nD Cert.FwActRefIdeal.τ).loc Cert.FwActRefIdeal.main_arg0) = m ((c.tc : Thread Cert.FwActIdeal.nD Cert.FwActIdeal.τ).loc Cert.FwActIdeal.main_arg0)
      ∧ m' ((c.tc : Thread Cert.FwActRefIdeal.nD Cert.FwActRefIdeal.τ).loc Cert.FwActRefIdeal.main_arg1) = m ((c.tc : Thread Cert.FwActIdeal.nD Cert.FwActIdeal.τ).loc Cert.FwActIdeal.main_arg1)) →
    ∃ (v0 : (c : Dev Cert.FwActIdeal.nD) → Buf (Elt Ideal) ((c.tc : Thread Cert.FwActIdeal.nD Cert.FwActIdeal.τ).loc Cert.FwActIdeal.main_v0)),
      θ_run (Cert.FwActIdeal.defs (F := Ideal)) (onTc (τ := Cert.FwActIdeal.τ) (Cert.FwActIdeal.main (F := Ideal))) ⟨m, fun _ => 0, g⟩ (fun r => ∀ c : Dev Cert.FwActIdeal.nD,
          r.2.mem ((c.tc : Thread Cert.FwActIdeal.nD Cert.FwActIdeal.τ).loc Cert.FwActIdeal.main_v0) = v0 c
          ∧ r.2.mem ((c.tc : Thread Cert.FwActIdeal.nD Cert.FwActIdeal.τ).loc Cert.FwActIdeal.main_arg0) = m ((c.tc : Thread Cert.FwActIdeal.nD Cert.FwActIdeal.τ).loc Cert.FwActIdeal.main_arg0)
          ∧ r.2.mem ((c.tc : Thread Cert.FwActIdeal.nD Cert.FwActIdeal.τ).loc Cert.FwActIdeal.main_arg1) = m ((c.tc : Thread Cert.FwActIdeal.nD Cert.FwActIdeal.τ).loc Cert.FwActIdeal.main_arg1))
      ∧ θ_run (Cert.FwActRefIdeal.defs (F := Ideal)) (onTc (τ := Cert.FwActRefIdeal.τ) (Cert.FwActRefIdeal.main (F := Ideal))) ⟨m', fun _ => 0, g'⟩ (fun r => ∀ c : Dev Cert.FwActRefIdeal.nD,
          r.2.mem ((c.tc : Thread Cert.FwActRefIdeal.nD Cert.FwActRefIdeal.τ).loc Cert.FwActRefIdeal.main_v26) = v0 c
          ∧ r.2.mem ((c.tc : Thread Cert.FwActRefIdeal.nD Cert.FwActRefIdeal.τ).loc Cert.FwActRefIdeal.main_arg0) = m' ((c.tc : Thread Cert.FwActRefIdeal.nD Cert.FwActRefIdeal.τ).loc Cert.FwActRefIdeal.main_arg0)
          ∧ r.2.mem ((c.tc : Thread Cert.FwActRefIdeal.nD Cert.FwActRefIdeal.τ).loc Cert.FwActRefIdeal.main_arg1) = m' ((c.tc : Thread Cert.FwActRefIdeal.nD Cert.FwActRefIdeal.τ).loc Cert.FwActRefIdeal.main_arg1))

def Claim : Prop :=
  ∃ (hScGrad : Cert.ScGrad.Facts) (hScGradIdeal : Cert.ScGradIdeal.Facts) (hScRefIdeal : Cert.ScRefIdeal.Facts) (hDwDown : Cert.DwDown.Facts) (hDwDownIdeal : Cert.DwDownIdeal.Facts) (hDwDownRefIdeal : Cert.DwDownRefIdeal.Facts) (hDxDown : Cert.DxDown.Facts) (hDxDownIdeal : Cert.DxDownIdeal.Facts) (hDxDownRefIdeal : Cert.DxDownRefIdeal.Facts) (hDwUp : Cert.DwUp.Facts) (hDwUpIdeal : Cert.DwUpIdeal.Facts) (hDwUpRefIdeal : Cert.DwUpRefIdeal.Facts) (hDxUp : Cert.DxUp.Facts) (hDxUpIdeal : Cert.DxUpIdeal.Facts) (hDxUpRefIdeal : Cert.DxUpRefIdeal.Facts) (hDwOut : Cert.DwOut.Facts) (hDwOutIdeal : Cert.DwOutIdeal.Facts) (hDwOutRefIdeal : Cert.DwOutRefIdeal.Facts) (hDxOut : Cert.DxOut.Facts) (hDxOutIdeal : Cert.DxOutIdeal.Facts) (hDxOutRefIdeal : Cert.DxOutRefIdeal.Facts) (hDwInA : Cert.DwInA.Facts) (hDwInAIdeal : Cert.DwInAIdeal.Facts) (hDwInARefIdeal : Cert.DwInARefIdeal.Facts) (hDxInA : Cert.DxInA.Facts) (hDxInAIdeal : Cert.DxInAIdeal.Facts) (hDxInARefIdeal : Cert.DxInARefIdeal.Facts) (hDwInB : Cert.DwInB.Facts) (hDwInBIdeal : Cert.DwInBIdeal.Facts) (hDwInBRefIdeal : Cert.DwInBRefIdeal.Facts) (hDxInB : Cert.DxInB.Facts) (hDxInBIdeal : Cert.DxInBIdeal.Facts) (hDxInBRefIdeal : Cert.DxInBRefIdeal.Facts) (hDwGate : Cert.DwGate.Facts) (hDwGateIdeal : Cert.DwGateIdeal.Facts) (hDwGateRefIdeal : Cert.DwGateRefIdeal.Facts) (hDxGate : Cert.DxGate.Facts) (hDxGateIdeal : Cert.DxGateIdeal.Facts) (hDxGateRefIdeal : Cert.DxGateRefIdeal.Facts) (hFwUp : Cert.FwUp.Facts) (hFwUpIdeal : Cert.FwUpIdeal.Facts) (hFwUpRefIdeal : Cert.FwUpRefIdeal.Facts) (hFwDown : Cert.FwDown.Facts) (hFwDownIdeal : Cert.FwDownIdeal.Facts) (hFwDownRefIdeal : Cert.FwDownRefIdeal.Facts) (hFwInA : Cert.FwInA.Facts) (hFwInAIdeal : Cert.FwInAIdeal.Facts) (hFwInARefIdeal : Cert.FwInARefIdeal.Facts) (hFwInB : Cert.FwInB.Facts) (hFwInBIdeal : Cert.FwInBIdeal.Facts) (hFwInBRefIdeal : Cert.FwInBRefIdeal.Facts) (hFwGate : Cert.FwGate.Facts) (hFwGateIdeal : Cert.FwGateIdeal.Facts) (hFwGateRefIdeal : Cert.FwGateRefIdeal.Facts) (hFwOut : Cert.FwOut.Facts) (hFwOutIdeal : Cert.FwOutIdeal.Facts) (hFwOutRefIdeal : Cert.FwOutRefIdeal.Facts) (hFoxGrad : Cert.FoxGrad.Facts) (hFoxGradIdeal : Cert.FoxGradIdeal.Facts) (hFoxRefIdeal : Cert.FoxRefIdeal.Facts) (hActGrad : Cert.ActGrad.Facts) (hActGradIdeal : Cert.ActGradIdeal.Facts) (hActRefIdeal : Cert.ActRefIdeal.Facts) (hFwAct : Cert.FwAct.Facts) (hFwActIdeal : Cert.FwActIdeal.Facts) (hFwActRefIdeal : Cert.FwActRefIdeal.Facts) (hPre_fox_finite : Cert.Pre_fox_finite.Facts) (hPre_act_finite : Cert.Pre_act_finite.Facts),
    quiescent_ScGrad (hScGrad := hScGrad)
    ∧ quiescent_ScGradIdeal (hScGradIdeal := hScGradIdeal)
    ∧ quiescent_ScRefIdeal (hScRefIdeal := hScRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DxDown (hDxDown := hDxDown)
    ∧ quiescent_DxDownIdeal (hDxDownIdeal := hDxDownIdeal)
    ∧ quiescent_DxDownRefIdeal (hDxDownRefIdeal := hDxDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DxUp (hDxUp := hDxUp)
    ∧ quiescent_DxUpIdeal (hDxUpIdeal := hDxUpIdeal)
    ∧ quiescent_DxUpRefIdeal (hDxUpRefIdeal := hDxUpRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DxOut (hDxOut := hDxOut)
    ∧ quiescent_DxOutIdeal (hDxOutIdeal := hDxOutIdeal)
    ∧ quiescent_DxOutRefIdeal (hDxOutRefIdeal := hDxOutRefIdeal)
    ∧ quiescent_DwInA (hDwInA := hDwInA)
    ∧ quiescent_DwInAIdeal (hDwInAIdeal := hDwInAIdeal)
    ∧ quiescent_DwInARefIdeal (hDwInARefIdeal := hDwInARefIdeal)
    ∧ quiescent_DxInA (hDxInA := hDxInA)
    ∧ quiescent_DxInAIdeal (hDxInAIdeal := hDxInAIdeal)
    ∧ quiescent_DxInARefIdeal (hDxInARefIdeal := hDxInARefIdeal)
    ∧ quiescent_DwInB (hDwInB := hDwInB)
    ∧ quiescent_DwInBIdeal (hDwInBIdeal := hDwInBIdeal)
    ∧ quiescent_DwInBRefIdeal (hDwInBRefIdeal := hDwInBRefIdeal)
    ∧ quiescent_DxInB (hDxInB := hDxInB)
    ∧ quiescent_DxInBIdeal (hDxInBIdeal := hDxInBIdeal)
    ∧ quiescent_DxInBRefIdeal (hDxInBRefIdeal := hDxInBRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_DxGate (hDxGate := hDxGate)
    ∧ quiescent_DxGateIdeal (hDxGateIdeal := hDxGateIdeal)
    ∧ quiescent_DxGateRefIdeal (hDxGateRefIdeal := hDxGateRefIdeal)
    ∧ quiescent_FwUp (hFwUp := hFwUp)
    ∧ quiescent_FwUpIdeal (hFwUpIdeal := hFwUpIdeal)
    ∧ quiescent_FwUpRefIdeal (hFwUpRefIdeal := hFwUpRefIdeal)
    ∧ quiescent_FwDown (hFwDown := hFwDown)
    ∧ quiescent_FwDownIdeal (hFwDownIdeal := hFwDownIdeal)
    ∧ quiescent_FwDownRefIdeal (hFwDownRefIdeal := hFwDownRefIdeal)
    ∧ quiescent_FwInA (hFwInA := hFwInA)
    ∧ quiescent_FwInAIdeal (hFwInAIdeal := hFwInAIdeal)
    ∧ quiescent_FwInARefIdeal (hFwInARefIdeal := hFwInARefIdeal)
    ∧ quiescent_FwInB (hFwInB := hFwInB)
    ∧ quiescent_FwInBIdeal (hFwInBIdeal := hFwInBIdeal)
    ∧ quiescent_FwInBRefIdeal (hFwInBRefIdeal := hFwInBRefIdeal)
    ∧ quiescent_FwGate (hFwGate := hFwGate)
    ∧ quiescent_FwGateIdeal (hFwGateIdeal := hFwGateIdeal)
    ∧ quiescent_FwGateRefIdeal (hFwGateRefIdeal := hFwGateRefIdeal)
    ∧ quiescent_FwOut (hFwOut := hFwOut)
    ∧ quiescent_FwOutIdeal (hFwOutIdeal := hFwOutIdeal)
    ∧ quiescent_FwOutRefIdeal (hFwOutRefIdeal := hFwOutRefIdeal)
    ∧ quiescent_FoxGrad (hFoxGrad := hFoxGrad)
    ∧ quiescent_FoxGradIdeal (hFoxGradIdeal := hFoxGradIdeal)
    ∧ quiescent_FoxGradIdeal_pre_fox_finite (hFoxGradIdeal := hFoxGradIdeal) (hPre_fox_finite := hPre_fox_finite)
    ∧ quiescent_FoxRefIdeal (hFoxRefIdeal := hFoxRefIdeal)
    ∧ quiescent_FoxRefIdeal_pre_fox_finite (hFoxRefIdeal := hFoxRefIdeal) (hPre_fox_finite := hPre_fox_finite)
    ∧ quiescent_ActGrad (hActGrad := hActGrad)
    ∧ quiescent_ActGradIdeal (hActGradIdeal := hActGradIdeal)
    ∧ quiescent_ActGradIdeal_pre_act_finite (hActGradIdeal := hActGradIdeal) (hPre_act_finite := hPre_act_finite)
    ∧ quiescent_ActRefIdeal (hActRefIdeal := hActRefIdeal)
    ∧ quiescent_ActRefIdeal_pre_act_finite (hActRefIdeal := hActRefIdeal) (hPre_act_finite := hPre_act_finite)
    ∧ quiescent_FwAct (hFwAct := hFwAct)
    ∧ quiescent_FwActIdeal (hFwActIdeal := hFwActIdeal)
    ∧ quiescent_FwActRefIdeal (hFwActRefIdeal := hFwActRefIdeal)
    ∧ preserves_ScGrad_ScGradIdeal
    ∧ algebraic_ScGradIdeal_ScRefIdeal (hScGradIdeal := hScGradIdeal) (hScRefIdeal := hScRefIdeal)
    ∧ preserves_DwDown_DwDownIdeal
    ∧ algebraic_DwDownIdeal_DwDownRefIdeal (hDwDownIdeal := hDwDownIdeal) (hDwDownRefIdeal := hDwDownRefIdeal)
    ∧ preserves_DxDown_DxDownIdeal
    ∧ algebraic_DxDownIdeal_DxDownRefIdeal (hDxDownIdeal := hDxDownIdeal) (hDxDownRefIdeal := hDxDownRefIdeal)
    ∧ preserves_DwUp_DwUpIdeal
    ∧ algebraic_DwUpIdeal_DwUpRefIdeal (hDwUpIdeal := hDwUpIdeal) (hDwUpRefIdeal := hDwUpRefIdeal)
    ∧ preserves_DxUp_DxUpIdeal
    ∧ algebraic_DxUpIdeal_DxUpRefIdeal (hDxUpIdeal := hDxUpIdeal) (hDxUpRefIdeal := hDxUpRefIdeal)
    ∧ preserves_DwOut_DwOutIdeal
    ∧ algebraic_DwOutIdeal_DwOutRefIdeal (hDwOutIdeal := hDwOutIdeal) (hDwOutRefIdeal := hDwOutRefIdeal)
    ∧ preserves_DxOut_DxOutIdeal
    ∧ algebraic_DxOutIdeal_DxOutRefIdeal (hDxOutIdeal := hDxOutIdeal) (hDxOutRefIdeal := hDxOutRefIdeal)
    ∧ preserves_DwInA_DwInAIdeal
    ∧ algebraic_DwInAIdeal_DwInARefIdeal (hDwInAIdeal := hDwInAIdeal) (hDwInARefIdeal := hDwInARefIdeal)
    ∧ preserves_DxInA_DxInAIdeal
    ∧ algebraic_DxInAIdeal_DxInARefIdeal (hDxInAIdeal := hDxInAIdeal) (hDxInARefIdeal := hDxInARefIdeal)
    ∧ preserves_DwInB_DwInBIdeal
    ∧ algebraic_DwInBIdeal_DwInBRefIdeal (hDwInBIdeal := hDwInBIdeal) (hDwInBRefIdeal := hDwInBRefIdeal)
    ∧ preserves_DxInB_DxInBIdeal
    ∧ algebraic_DxInBIdeal_DxInBRefIdeal (hDxInBIdeal := hDxInBIdeal) (hDxInBRefIdeal := hDxInBRefIdeal)
    ∧ preserves_DwGate_DwGateIdeal
    ∧ algebraic_DwGateIdeal_DwGateRefIdeal (hDwGateIdeal := hDwGateIdeal) (hDwGateRefIdeal := hDwGateRefIdeal)
    ∧ preserves_DxGate_DxGateIdeal
    ∧ algebraic_DxGateIdeal_DxGateRefIdeal (hDxGateIdeal := hDxGateIdeal) (hDxGateRefIdeal := hDxGateRefIdeal)
    ∧ preserves_FwUp_FwUpIdeal
    ∧ algebraic_FwUpIdeal_FwUpRefIdeal (hFwUpIdeal := hFwUpIdeal) (hFwUpRefIdeal := hFwUpRefIdeal)
    ∧ preserves_FwDown_FwDownIdeal
    ∧ algebraic_FwDownIdeal_FwDownRefIdeal (hFwDownIdeal := hFwDownIdeal) (hFwDownRefIdeal := hFwDownRefIdeal)
    ∧ preserves_FwInA_FwInAIdeal
    ∧ algebraic_FwInAIdeal_FwInARefIdeal (hFwInAIdeal := hFwInAIdeal) (hFwInARefIdeal := hFwInARefIdeal)
    ∧ preserves_FwInB_FwInBIdeal
    ∧ algebraic_FwInBIdeal_FwInBRefIdeal (hFwInBIdeal := hFwInBIdeal) (hFwInBRefIdeal := hFwInBRefIdeal)
    ∧ preserves_FwGate_FwGateIdeal
    ∧ algebraic_FwGateIdeal_FwGateRefIdeal (hFwGateIdeal := hFwGateIdeal) (hFwGateRefIdeal := hFwGateRefIdeal)
    ∧ preserves_FwOut_FwOutIdeal
    ∧ algebraic_FwOutIdeal_FwOutRefIdeal (hFwOutIdeal := hFwOutIdeal) (hFwOutRefIdeal := hFwOutRefIdeal)
    ∧ preserves_FoxGrad_FoxGradIdeal
    ∧ algebraic_FoxGradIdeal_FoxRefIdeal_pre_fox_finite (hFoxGradIdeal := hFoxGradIdeal) (hFoxRefIdeal := hFoxRefIdeal) (hPre_fox_finite := hPre_fox_finite)
    ∧ preserves_ActGrad_ActGradIdeal
    ∧ algebraic_ActGradIdeal_ActRefIdeal_pre_act_finite (hActGradIdeal := hActGradIdeal) (hActRefIdeal := hActRefIdeal) (hPre_act_finite := hPre_act_finite)
    ∧ preserves_FwAct_FwActIdeal
    ∧ algebraic_FwActIdeal_FwActRefIdeal (hFwActIdeal := hFwActIdeal) (hFwActRefIdeal := hFwActRefIdeal)
-- ==== Pre_act_finite.lean ====
abbrev S2048x11264 : Shape := ⟨2, ![2048, 11264]⟩
abbrev S3x11264 : Shape := ⟨2, ![3, 11264]⟩
abbrev S2048x5632 : Shape := ⟨2, ![2048, 5632]⟩
abbrev S_ : Shape := ⟨0, ![]⟩

class Facts : Prop where
  bcast_S_S2048x11264 : S_.BroadcastsInDim S2048x11264 (![] : Fin 0 → Fin S2048x11264.rank)
  reducesTo_S2048x11264_S_d0_1 : S2048x11264.ReducesTo [0, 1] S_
  h_S_ : 0 < S_.numel
  bcast_S_S3x11264 : S_.BroadcastsInDim S3x11264 (![] : Fin 0 → Fin S3x11264.rank)
  reducesTo_S3x11264_S_d0_1 : S3x11264.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S2048x11264 .f32) (main_arg1 : FVec F S3x11264 .f32) (main_arg2 : FVec F S2048x5632 .f32) : IVec S_ 1 :=
  let main_v0 : FVec F S2048x11264 .f32 := Host.absf main_arg0
  let main_cst : FVec F S_ .f32 := constant S_ .f32 0x7F800000#32
  let main_v1 : FVec F S2048x11264 .f32 := broadcastInDim S2048x11264 ![] bcast_S_S2048x11264 main_cst
  let main_v2 : IVec S2048x11264 1 := cmpf .olt main_v0 main_v1
  let main_c : IVec S_ 1 := constantI S_ 1 1#1
  let main_v3 : IVec S_ 1 := (fun x v => Host.reduce IntOp.andi x v reducesTo_S2048x11264_S_d0_1 h_S_) main_v2 main_c
  let main_v4 : FVec F S3x11264 .f32 := Host.absf main_arg1
  let main_cst_0 : FVec F S_ .f32 := constant S_ .f32 0x7F800000#32
  let main_v5 : FVec F S3x11264 .f32 := broadcastInDim S3x11264 ![] bcast_S_S3x11264 main_cst_0
  let main_v6 : IVec S3x11264 1 := cmpf .olt main_v4 main_v5
  let main_c_1 : IVec S_ 1 := constantI S_ 1 1#1
  let main_v7 : IVec S_ 1 := (fun x v => Host.reduce IntOp.andi x v reducesTo_S3x11264_S_d0_1 h_S_) main_v6 main_c_1
  let main_v8 : IVec S_ 1 := andi main_v3 main_v7
  let main_v9 : FVec F S2048x5632 .f32 := Host.absf main_arg2
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  main_v13
-- ==== Pre_fox_finite.lean ====
abbrev S2048x5120 : Shape := ⟨2, ![2048, 5120]⟩
abbrev S8x2048 : Shape := ⟨2, ![8, 2048]⟩
abbrev S2048x2048 : Shape := ⟨2, ![2048, 2048]⟩
abbrev S_ : Shape := ⟨0, ![]⟩

class Facts : Prop where
  bcast_S_S2048x5120 : S_.BroadcastsInDim S2048x5120 (![] : Fin 0 → Fin S2048x5120.rank)
  reducesTo_S2048x5120_S_d0_1 : S2048x5120.ReducesTo [0, 1] S_
  h_S_ : 0 < S_.numel
  bcast_S_S8x2048 : S_.BroadcastsInDim S8x2048 (![] : Fin 0 → Fin S8x2048.rank)
  reducesTo_S8x2048_S_d0_1 : S8x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2048x5120 .f32) (main_arg1 : FVec F S8x2048 .f32) (main_arg2 : FVec F S2048x2048 .f32) : IVec S_ 1 :=
  let main_v0 : FVec F S2048x5120 .f32 := Host.absf main_arg0
  let main_cst : FVec F S_ .f32 := constant S_ .f32 0x7F800000#32
  let main_v1 : FVec F S2048x5120 .f32 := broadcastInDim S2048x5120 ![] bcast_S_S2048x5120 main_cst
  let main_v2 : IVec S2048x5120 1 := cmpf .olt main_v0 main_v1
  let main_c : IVec S_ 1 := constantI S_ 1 1#1
  let main_v3 : IVec S_ 1 := (fun x v => Host.reduce IntOp.andi x v reducesTo_S2048x5120_S_d0_1 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== ScGrad.lean ====
abbrev S2048x6144 : Shape := ⟨2, ![2048, 6144]⟩
abbrev S3x1024 : Shape := ⟨2, ![3, 1024]⟩
abbrev S2048x2048 : Shape := ⟨2, ![2048, 2048]⟩
abbrev S2048x1024 : Shape := ⟨2, ![2048, 1024]⟩
abbrev S2048x256 : Shape := ⟨2, ![2048, 256]⟩
abbrev S3x256 : Shape := ⟨2, ![3, 256]⟩
abbrev S8x256 : Shape := ⟨2, ![8, 256]⟩
abbrev S2040x256 : Shape := ⟨2, ![2040, 256]⟩
abbrev S1x256 : Shape := ⟨2, ![1, 256]⟩
abbrev S256 : Shape := ⟨1, ![256]⟩

abbrev nBuf : Space → Nat
  | .hbm => 7
  | .vmem => 18
  | .smem => 0
  | _ => 0

abbrev bufTy : (tb : Table) → Fin (tcTables nBuf tb) → BufTy
  | .hbm, ⟨0, _⟩ => ⟨S2048x6144, .f32⟩
  | .hbm, ⟨1, _⟩ => ⟨S3x1024, .f32⟩
  | .hbm, ⟨2, _⟩ => ⟨S2048x2048, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S3x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S3x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S3x256, .f32⟩
  | .local _ .vmem, ⟨17, _⟩ => ⟨S3x256, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ScRefIdeal.lean ====
abbrev S2048x6144 : Shape := ⟨2, ![2048, 6144]⟩
abbrev S3x1024 : Shape := ⟨2, ![3, 1024]⟩
abbrev S2048x2048 : Shape := ⟨2, ![2048, 2048]⟩
abbrev S2048x1024 : Shape := ⟨2, ![2048, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩

abbrev nBuf : Space → Nat
  | .hbm => 83
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S3x1024, .f32⟩
  | .hbm, ⟨2, _⟩ => ⟨S2048x2048, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2x1024, .f32⟩
  | .hbm, ⟨9, _⟩ => ⟨S2050x1024, .f32⟩
  | .hbm, ⟨10, _⟩ => ⟨S_, .f32⟩
  | .hbm, ⟨11, _⟩ => ⟨S2x1024, .f32⟩
  | .hbm, ⟨12, _⟩ => ⟨S2048x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S3x1024, .f32⟩
  | .hbm, ⟨47, _⟩ => ⟨S_, .f32⟩
  | .hbm, ⟨48, _⟩ => ⟨S2050x1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S3x1024, .f32⟩
  | .hbm, ⟨60, _⟩ => ⟨S3x1024, .f32⟩
  | .hbm, ⟨61, _⟩ => ⟨S_, .f32⟩
  | .hbm, ⟨62, _⟩ => ⟨S2050x1024, .f32⟩
  | .hbm, ⟨63, _⟩ => ⟨S2050x1024, .f32⟩
  | .hbm, ⟨64, _⟩ => ⟨S2048x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S3x1024, .f32⟩
  | .hbm, ⟨75, _⟩ => ⟨S3x1024, .f32⟩
  | .hbm, ⟨76, _⟩ => ⟨S_, .f32⟩
  | .hbm, ⟨77, _⟩ => ⟨S2050x1024, .f32⟩
  | .hbm, ⟨78, _⟩ => ⟨S2050x1024, .f32⟩
  | .hbm, ⟨79, _⟩ => ⟨S2x1024, .f32⟩
  | .hbm, ⟨80, _⟩ => ⟨S2048x1024, .f32⟩
  | .hbm, ⟨81, _⟩ => ⟨S2048x1024, .f32⟩
  | .hbm, ⟨82, _⟩ => ⟨S2048x1024, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]
-- ==== DwDown.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .f32⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .f32⟩
  | .local _ .vmem, ⟨3, _⟩ => ⟨S2048x512, .f32⟩
  | .local _ .vmem, ⟨4, _⟩ => ⟨S1408x512, .bf16⟩
  | .local _ .vmem, ⟨5, _⟩ => ⟨S1408x512, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownIdeal.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .f32⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .f32⟩
  | .local _ .vmem, ⟨3, _⟩ => ⟨S2048x512, .f32⟩
  | .local _ .vmem, ⟨4, _⟩ => ⟨S1408x512, .bf16⟩
  | .local _ .vmem, ⟨5, _⟩ => ⟨S1408x512, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .f32⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x5632, .f32⟩
  | .hbm, ⟨7, _⟩ => ⟨S5632x2048, .f32⟩
  | .hbm, ⟨8, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DxDown.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S5632x2048, .bf16⟩
  | .hbm, ⟨2, _⟩ => ⟨S2048x5632, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxDownIdeal.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S5632x2048, .bf16⟩
  | .hbm, ⟨2, _⟩ => ⟨S2048x5632, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxDownRefIdeal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S5632x2048, .bf16⟩
  | .hbm, ⟨2, _⟩ => ⟨S_, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x5632, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwUp.lean ====
abbrev S2048x2048 : Shape := ⟨2, ![2048, 2048]⟩
abbrev S2x2048x5632 : Shape := ⟨3, ![2, 2048, 5632]⟩
abbrev S2048x11264 : Shape := ⟨2, ![2048, 11264]⟩
abbrev S2048x1024 : Shape := ⟨2, ![2048, 1024]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S2048x11264, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpIdeal.lean ====
abbrev S2048x2048 : Shape := ⟨2, ![2048, 2048]⟩
abbrev S2x2048x5632 : Shape := ⟨3, ![2, 2048, 5632]⟩
abbrev S2048x11264 : Shape := ⟨2, ![2048, 11264]⟩
abbrev S2048x1024 : Shape := ⟨2, ![2048, 1024]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S2048x11264, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S2048x2048 : Shape := ⟨2, ![2048, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S2048x11264 : Shape := ⟨2, ![2048, 11264]⟩
abbrev S_ : Shape := ⟨0, ![]⟩
abbrev S11264x2048 : Shape := ⟨2, ![11264, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S1x2048x5632, .bf16⟩
  | .hbm, ⟨3, _⟩ => ⟨S2048x5632, .bf16⟩
  | .hbm, ⟨4, _⟩ => ⟨S1x2048x5632, .bf16⟩
  | .hbm, ⟨5, _⟩ => ⟨S2048x5632, .bf16⟩
  | .hbm, ⟨6, _⟩ => ⟨S2048x11264, .bf16⟩
  | .hbm, ⟨7, _⟩ => ⟨S2048x11264, .f32⟩
  | .hbm, ⟨8, _⟩ => ⟨S_, .f32⟩
  | .hbm, ⟨9, _⟩ => ⟨S2048x11264, .f32⟩
  | .hbm, ⟨10, _⟩ => ⟨S2048x2048, .f32⟩
  | .hbm, ⟨11, _⟩ => ⟨S2048x11264, .f32⟩
  | .hbm, ⟨12, _⟩ => ⟨S11264x2048, .f32⟩
  | .hbm, ⟨13, _⟩ => ⟨S2048x11264, .f32⟩
  | .hbm, ⟨14, _⟩ => ⟨S2048x11264, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== DxUp.lean ====
abbrev S2x2048x5632 : Shape := ⟨3, ![2, 2048, 5632]⟩
abbrev S2048x11264 : Shape := ⟨2, ![2048, 11264]⟩
abbrev S2048x2048 : Shape := ⟨2, ![2048, 2048]⟩
abbrev S1x1024x5632 : Shape := ⟨3, ![1, 1024, 5632]⟩
abbrev S512x5632 : Shape := ⟨2, ![512, 5632]⟩
abbrev S1024x512 : Shape := ⟨2, ![1024, 512]⟩
abbrev S1024x5632 : Shape := ⟨2, ![1024, 5632]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S2048x11264, .bf16⟩
  | .hbm, ⟨2, _⟩ => ⟨S2048x2048, .f32⟩
  | .local _ .vmem, ⟨0, _⟩ => ⟨S1x1024x5632, .bf16⟩
  | .local _ .vmem, ⟨1, _⟩ => ⟨S1x1024x5632, .bf16⟩
  | .local _ .vmem, ⟨2, _⟩ => ⟨S512x5632, .bf16⟩
  | .local _ .vmem, ⟨3, _⟩ => ⟨S512x5632, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxUpIdeal.lean ====
abbrev S2x2048x5632 : Shape := ⟨3, ![2, 2048, 5632]⟩
abbrev S2048x11264 : Shape := ⟨2, ![2048, 11264]⟩
abbrev S2048x2048 : Shape := ⟨2, ![2048, 2048]⟩
abbrev S1x1024x5632 : Shape := ⟨3, ![1, 1024, 5632]⟩
abbrev S512x5632 : Shape := ⟨2, ![512, 5632]⟩
abbrev S1024x512 : Shape := ⟨2, ![1024, 512]⟩
abbrev S1024x5632 : Shape := ⟨2, ![1024, 5632]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S2048x11264, .bf16⟩
  | .hbm, ⟨2, _⟩ => ⟨S2048x2048, .f32⟩
  | .local _ .vmem, ⟨0, _⟩ => ⟨S1x1024x5632, .bf16⟩
  | .local _ .vmem, ⟨1, _⟩ => ⟨S1x1024x5632, .bf16⟩
  | .local _ .vmem, ⟨2, _⟩ => ⟨S512x5632, .bf16⟩
  | .local _ .vmem, ⟨3, _⟩ => ⟨S512x5632, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxUpRefIdeal.lean ====
abbrev S2x2048x5632 : Shape := ⟨3, ![2, 2048, 5632]⟩
abbrev S2048x11264 : Shape := ⟨2, ![2048, 11264]⟩
abbrev S1x2048x5632 : Shape := ⟨3, ![1, 2048, 5632]⟩
abbrev S2048x5632 : Shape := ⟨2, ![2048, 5632]⟩
abbrev S_ : Shape := ⟨0, ![]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S2048x11264, .bf16⟩
  | .hbm, ⟨2, _⟩ => ⟨S1x2048x5632, .bf16⟩
  | .hbm, ⟨3, _⟩ => ⟨S2048x5632, .bf16⟩
  | .hbm, ⟨4, _⟩ => ⟨S1x2048x5632, .bf16⟩
  | .hbm, ⟨5, _⟩ => ⟨S2048x5632, .bf16⟩
  | .hbm, ⟨6, _⟩ => ⟨S2048x11264, .bf16⟩
  | .hbm, ⟨7, _⟩ => ⟨S2048x11264, .f32⟩
  | .hbm, ⟨8, _⟩ => ⟨S_, .f32⟩
  | .hbm, ⟨9, _⟩ => ⟨S2048x2048, .f32⟩
  | .hbm, ⟨10, _⟩ => ⟨S2048x11264, .f32⟩
  | .hbm, ⟨11, _⟩ => ⟨S2048x11264, .f32⟩
  | .hbm, ⟨12, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DwOut.lean ====
abbrev S2048x2048 : Shape := ⟨2, ![2048, 2048]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutIdeal.lean ====
abbrev S2048x2048 : Shape := ⟨2, ![2048, 2048]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DxOut.lean ====
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxOutIdeal.lean ====
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxOutRefIdeal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwInA.lean ====
abbrev S2048x2048 : Shape := ⟨2, ![2048, 2048]⟩
abbrev S2048x6144 : Shape := ⟨2, ![2048, 6144]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInAIdeal.lean ====
abbrev S2048x2048 : Shape := ⟨2, ![2048, 2048]⟩
abbrev S2048x6144 : Shape := ⟨2, ![2048, 6144]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInARefIdeal.lean ====
abbrev S2048x2048 : Shape := ⟨2, ![2048, 2048]⟩
abbrev S2048x6144 : Shape := ⟨2, ![2048, 6144]⟩
abbrev S_ : Shape := ⟨0, ![]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .f32⟩
  | .hbm, ⟨3, _⟩ => ⟨S_, .f32⟩
  | .hbm, ⟨4, _⟩ => ⟨S2048x6144, .f32⟩
  | .hbm, ⟨5, _⟩ => ⟨S2048x2048, .f32⟩
  | .hbm, ⟨6, _⟩ => ⟨S2048x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DxInA.lean ====
abbrev S2048x6144 : Shape := ⟨2, ![2048, 6144]⟩
abbrev S2048x2048 : Shape := ⟨2, ![2048, 2048]⟩
abbrev S1024x3072 : Shape := ⟨2, ![1024, 3072]⟩
abbrev S512x3072 : Shape := ⟨2, ![512, 3072]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .bf16⟩
  | .hbm, ⟨2, _⟩ => ⟨S2048x2048, .f32⟩
  | .local _ .vmem, ⟨0, _⟩ => ⟨S1024x3072, .bf16⟩
  | .local _ .vmem, ⟨1, _⟩ => ⟨S1024x3072, .bf16⟩
  | .local _ .vmem, ⟨2, _⟩ => ⟨S512x3072, .bf16⟩
  | .local _ .vmem, ⟨3, _⟩ => ⟨S512x3072, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxInAIdeal.lean ====
abbrev S2048x6144 : Shape := ⟨2, ![2048, 6144]⟩
abbrev S2048x2048 : Shape := ⟨2, ![2048, 2048]⟩
abbrev S1024x3072 : Shape := ⟨2, ![1024, 3072]⟩
abbrev S512x3072 : Shape := ⟨2, ![512, 3072]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .bf16⟩
  | .hbm, ⟨2, _⟩ => ⟨S2048x2048, .f32⟩
  | .local _ .vmem, ⟨0, _⟩ => ⟨S1024x3072, .bf16⟩
  | .local _ .vmem, ⟨1, _⟩ => ⟨S1024x3072, .bf16⟩
  | .local _ .vmem, ⟨2, _⟩ => ⟨S512x3072, .bf16⟩
  | .local _ .vmem, ⟨3, _⟩ => ⟨S512x3072, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxInARefIdeal.lean ====
abbrev S2048x6144 : Shape := ⟨2, ![2048, 6144]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .bf16⟩
  | .hbm, ⟨2, _⟩ => ⟨S2048x6144, .f32⟩
  | .hbm, ⟨3, _⟩ => ⟨S_, .f32⟩
  | .hbm, ⟨4, _⟩ => ⟨S2048x2048, .f32⟩
  | .hbm, ⟨5, _⟩ => ⟨S2048x6144, .f32⟩
  | .hbm, ⟨6, _⟩ => ⟨S2048x6144, .f32⟩
  | .hbm, ⟨7, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwInB.lean ====
abbrev S2048x2048 : Shape := ⟨2, ![2048, 2048]⟩
abbrev S2048x5120 : Shape := ⟨2, ![2048, 5120]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5120, .bf16⟩
  | .hbm, ⟨2, _⟩ => ⟨S2048x5120, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInBIdeal.lean ====
abbrev S2048x2048 : Shape := ⟨2, ![2048, 2048]⟩
abbrev S2048x5120 : Shape := ⟨2, ![2048, 5120]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5120, .bf16⟩
  | .hbm, ⟨2, _⟩ => ⟨S2048x5120, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInBRefIdeal.lean ====
abbrev S2048x2048 : Shape := ⟨2, ![2048, 2048]⟩
abbrev S2048x5120 : Shape := ⟨2, ![2048, 5120]⟩
abbrev S_ : Shape := ⟨0, ![]⟩
abbrev S5120x2048 : Shape := ⟨2, ![5120, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5120, .bf16⟩
  | .hbm, ⟨2, _⟩ => ⟨S2048x5120, .f32⟩
  | .hbm, ⟨3, _⟩ => ⟨S_, .f32⟩
  | .hbm, ⟨4, _⟩ => ⟨S2048x5120, .f32⟩
  | .hbm, ⟨5, _⟩ => ⟨S2048x2048, .f32⟩
  | .hbm, ⟨6, _⟩ => ⟨S2048x5120, .f32⟩
  | .hbm, ⟨7, _⟩ => ⟨S5120x2048, .f32⟩
  | .hbm, ⟨8, _⟩ => ⟨S2048x5120, .f32⟩
  | .hbm, ⟨9, _⟩ => ⟨S2048x5120, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DxInB.lean ====
abbrev S2048x5120 : Shape := ⟨2, ![2048, 5120]⟩
abbrev S2048x2048 : Shape := ⟨2, ![2048, 2048]⟩
abbrev S1024x5120 : Shape := ⟨2, ![1024, 5120]⟩
abbrev S512x5120 : Shape := ⟨2, ![512, 5120]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x5120, .bf16⟩
  | .hbm, ⟨1, _⟩ => ⟨S2048x5120, .bf16⟩
  | .hbm, ⟨2, _⟩ => ⟨S2048x2048, .f32⟩
  | .local _ .vmem, ⟨0, _⟩ => ⟨S1024x5120, .bf16⟩
  | .local _ .vmem, ⟨1, _⟩ => ⟨S1024x5120, .bf16⟩
  | .local _ .vmem, ⟨2, _⟩ => ⟨S512x5120, .bf16⟩
  | .local _ .vmem, ⟨3, _⟩ => ⟨S512x5120, .bf16⟩
  | .local _ .vmem, ⟨4, _⟩ => ⟨S1024x512, .f32⟩
  | .local _ .vmem, ⟨5, _⟩ => ⟨S1024x512, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxInBIdeal.lean ====
abbrev S2048x5120 : Shape := ⟨2, ![2048, 5120]⟩
abbrev S2048x2048 : Shape := ⟨2, ![2048, 2048]⟩
abbrev S1024x5120 : Shape := ⟨2, ![1024, 5120]⟩
abbrev S512x5120 : Shape := ⟨2, ![512, 5120]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x5120, .bf16⟩
  | .hbm, ⟨1, _⟩ => ⟨S2048x5120, .bf16⟩
  | .hbm, ⟨2, _⟩ => ⟨S2048x2048, .f32⟩
  | .local _ .vmem, ⟨0, _⟩ => ⟨S1024x5120, .bf16⟩
  | .local _ .vmem, ⟨1, _⟩ => ⟨S1024x5120, .bf16⟩
  | .local _ .vmem, ⟨2, _⟩ => ⟨S512x5120, .bf16⟩
  | .local _ .vmem, ⟨3, _⟩ => ⟨S512x5120, .bf16⟩
  | .local _ .vmem, ⟨4, _⟩ => ⟨S1024x512, .f32⟩
  | .local _ .vmem, ⟨5, _⟩ => ⟨S1024x512, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxInBRefIdeal.lean ====
abbrev S2048x5120 : Shape := ⟨2, ![2048, 5120]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S2048x5120, .bf16⟩
  | .hbm, ⟨2, _⟩ => ⟨S2048x5120, .f32⟩
  | .hbm, ⟨3, _⟩ => ⟨S_, .f32⟩
  | .hbm, ⟨4, _⟩ => ⟨S2048x2048, .f32⟩
  | .hbm, ⟨5, _⟩ => ⟨S2048x5120, .f32⟩
  | .hbm, ⟨6, _⟩ => ⟨S2048x5120, .f32⟩
  | .hbm, ⟨7, _⟩ => ⟨S2048x2048, .f32⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwGate.lean ====
abbrev S2048x2048 : Shape := ⟨2, ![2048, 2048]⟩
abbrev S2048x128 : Shape := ⟨2, ![2048, 128]⟩
abbrev S2048x1024 : Shape := ⟨2, ![2048, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x128, .f32⟩
  | .hbm, ⟨2, _⟩ => ⟨S2048x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .f32⟩
  | .local _ .vmem, ⟨3, _⟩ => ⟨S1024x128, .bf16⟩
  | .local _ .vmem, ⟨4, _⟩ => ⟨S1024x128, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateIdeal.lean ====
abbrev S2048x2048 : Shape := ⟨2, ![2048, 2048]⟩
abbrev S2048x128 : Shape := ⟨2, ![2048, 128]⟩
abbrev S2048x1024 : Shape := ⟨2, ![2048, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x128, .f32⟩
  | .hbm, ⟨2, _⟩ => ⟨S2048x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .f32⟩
  | .local _ .vmem, ⟨3, _⟩ => ⟨S1024x128, .bf16⟩
  | .local _ .vmem, ⟨4, _⟩ => ⟨S1024x128, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateRefIdeal.lean ====
abbrev S2048x2048 : Shape := ⟨2, ![2048, 2048]⟩
abbrev S2048x128 : Shape := ⟨2, ![2048, 128]⟩
abbrev S_ : Shape := ⟨0, ![]⟩
abbrev S128x2048 : Shape := ⟨2, ![128, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x128, .f32⟩
  | .hbm, ⟨2, _⟩ => ⟨S_, .f32⟩
  | .hbm, ⟨3, _⟩ => ⟨S2048x128, .f32⟩
  | .hbm, ⟨4, _⟩ => ⟨S2048x2048, .f32⟩
  | .hbm, ⟨5, _⟩ => ⟨S2048x128, .f32⟩
  | .hbm, ⟨6, _⟩ => ⟨S128x2048, .f32⟩
  | .hbm, ⟨7, _⟩ => ⟨S2048x128, .f32⟩
  | .hbm, ⟨8, _⟩ => ⟨S2048x128, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DxGate.lean ====
abbrev S2048x128 : Shape := ⟨2, ![2048, 128]⟩
abbrev S2048x2048 : Shape := ⟨2, ![2048, 2048]⟩
abbrev S1024x128 : Shape := ⟨2, ![1024, 128]⟩
abbrev S512x128 : Shape := ⟨2, ![512, 128]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x128, .f32⟩
  | .hbm, ⟨1, _⟩ => ⟨S2048x128, .bf16⟩
  | .hbm, ⟨2, _⟩ => ⟨S2048x2048, .f32⟩
  | .hbm, ⟨3, _⟩ => ⟨S2048x2048, .f32⟩
  | .local _ .vmem, ⟨0, _⟩ => ⟨S1024x128, .f32⟩
  | .local _ .vmem, ⟨1, _⟩ => ⟨S1024x128, .f32⟩
  | .local _ .vmem, ⟨2, _⟩ => ⟨S512x128, .bf16⟩
  | .local _ .vmem, ⟨3, _⟩ => ⟨S512x128, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxGateIdeal.lean ====
abbrev S2048x128 : Shape := ⟨2, ![2048, 128]⟩
abbrev S2048x2048 : Shape := ⟨2, ![2048, 2048]⟩
abbrev S1024x128 : Shape := ⟨2, ![1024, 128]⟩
abbrev S512x128 : Shape := ⟨2, ![512, 128]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x128, .f32⟩
  | .hbm, ⟨1, _⟩ => ⟨S2048x128, .bf16⟩
  | .hbm, ⟨2, _⟩ => ⟨S2048x2048, .f32⟩
  | .hbm, ⟨3, _⟩ => ⟨S2048x2048, .f32⟩
  | .local _ .vmem, ⟨0, _⟩ => ⟨S1024x128, .f32⟩
  | .local _ .vmem, ⟨1, _⟩ => ⟨S1024x128, .f32⟩
  | .local _ .vmem, ⟨2, _⟩ => ⟨S512x128, .bf16⟩
  | .local _ .vmem, ⟨3, _⟩ => ⟨S512x128, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxGateRefIdeal.lean ====
abbrev S2048x128 : Shape := ⟨2, ![2048, 128]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x128, .f32⟩
  | .hbm, ⟨6, _⟩ => ⟨S2048x128, .f32⟩
  | .hbm, ⟨7, _⟩ => ⟨S2048x2048, .f32⟩
  | .hbm, ⟨8, _⟩ => ⟨S2048x2048, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== FwUp.lean ====
abbrev S2048x2048 : Shape := ⟨2, ![2048, 2048]⟩
abbrev S2048x11264 : Shape := ⟨2, ![2048, 11264]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwUpIdeal.lean ====
abbrev S2048x2048 : Shape := ⟨2, ![2048, 2048]⟩
abbrev S2048x11264 : Shape := ⟨2, ![2048, 11264]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwUpRefIdeal.lean ====
abbrev S2048x2048 : Shape := ⟨2, ![2048, 2048]⟩
abbrev S2048x11264 : Shape := ⟨2, ![2048, 11264]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x2048, .f32⟩
  | .hbm, ⟨3, _⟩ => ⟨S2048x11264, .f32⟩
  | .hbm, ⟨4, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FwDown.lean ====
abbrev S2048x5632 : Shape := ⟨2, ![2048, 5632]⟩
abbrev S5632x2048 : Shape := ⟨2, ![5632, 2048]⟩
abbrev S2048x2048 : Shape := ⟨2, ![2048, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FwDownIdeal.lean ====
abbrev S2048x5632 : Shape := ⟨2, ![2048, 5632]⟩
abbrev S5632x2048 : Shape := ⟨2, ![5632, 2048]⟩
abbrev S2048x2048 : Shape := ⟨2, ![2048, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FwDownRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FwInA.lean ====
abbrev S2048x2048 : Shape := ⟨2, ![2048, 2048]⟩
abbrev S2048x6144 : Shape := ⟨2, ![2048, 6144]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwInAIdeal.lean ====
abbrev S2048x2048 : Shape := ⟨2, ![2048, 2048]⟩
abbrev S2048x6144 : Shape := ⟨2, ![2048, 6144]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwInARefIdeal.lean ====
abbrev S2048x2048 : Shape := ⟨2, ![2048, 2048]⟩
abbrev S2048x6144 : Shape := ⟨2, ![2048, 6144]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x2048, .f32⟩
  | .hbm, ⟨3, _⟩ => ⟨S2048x6144, .f32⟩
  | .hbm, ⟨4, _⟩ => ⟨S2048x6144, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FwInB.lean ====
abbrev S2048x2048 : Shape := ⟨2, ![2048, 2048]⟩
abbrev S2048x5120 : Shape := ⟨2, ![2048, 5120]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5120, .bf16⟩
  | .hbm, ⟨2, _⟩ => ⟨S2048x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwInBIdeal.lean ====
abbrev S2048x2048 : Shape := ⟨2, ![2048, 2048]⟩
abbrev S2048x5120 : Shape := ⟨2, ![2048, 5120]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5120, .bf16⟩
  | .hbm, ⟨2, _⟩ => ⟨S2048x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwInBRefIdeal.lean ====
abbrev S2048x2048 : Shape := ⟨2, ![2048, 2048]⟩
abbrev S2048x5120 : Shape := ⟨2, ![2048, 5120]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5120, .bf16⟩
  | .hbm, ⟨2, _⟩ => ⟨S2048x2048, .f32⟩
  | .hbm, ⟨3, _⟩ => ⟨S2048x5120, .f32⟩
  | .hbm, ⟨4, _⟩ => ⟨S2048x5120, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FwGate.lean ====
abbrev S2048x2048 : Shape := ⟨2, ![2048, 2048]⟩
abbrev S2048x128 : Shape := ⟨2, ![2048, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x128, .bf16⟩
  | .hbm, ⟨2, _⟩ => ⟨S2048x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwGateIdeal.lean ====
abbrev S2048x2048 : Shape := ⟨2, ![2048, 2048]⟩
abbrev S2048x128 : Shape := ⟨2, ![2048, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x128, .bf16⟩
  | .hbm, ⟨2, _⟩ => ⟨S2048x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwGateRefIdeal.lean ====
abbrev S2048x2048 : Shape := ⟨2, ![2048, 2048]⟩
abbrev S2048x128 : Shape := ⟨2, ![2048, 128]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x128, .bf16⟩
  | .hbm, ⟨2, _⟩ => ⟨S2048x2048, .f32⟩
  | .hbm, ⟨3, _⟩ => ⟨S2048x128, .f32⟩
  | .hbm, ⟨4, _⟩ => ⟨S2048x128, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FwOut.lean ====
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FwOutRefIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FoxGrad.lean ====
abbrev S2048x5120 : Shape := ⟨2, ![2048, 5120]⟩
abbrev S8x2048 : Shape := ⟨2, ![8, 2048]⟩
abbrev S2048x2048 : Shape := ⟨2, ![2048, 2048]⟩
abbrev S2048x1024 : Shape := ⟨2, ![2048, 1024]⟩
abbrev S2048x8x128 : Shape := ⟨3, ![2048, 8, 128]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S1x2048 : Shape := ⟨2, ![1, 2048]⟩
abbrev S2048x1 : Shape := ⟨2, ![2048, 1]⟩
abbrev S8x128x2048 : Shape := ⟨3, ![8, 128, 2048]⟩
abbrev S8x4x1x512 : Shape := ⟨4, ![8, 4, 1, 512]⟩
abbrev S512x256 : Shape := ⟨2, ![512, 256]⟩
abbrev S2048x256 : Shape := ⟨2, ![2048, 256]⟩
abbrev S2x512x1 : Shape := ⟨3, ![2, 512, 1]⟩
abbrev S2x4x1x512 : Shape := ⟨4, ![2, 4, 1, 512]⟩
abbrev S512x128 : Shape := ⟨2, ![512, 128]⟩
abbrev S512 : Shape := ⟨1, ![512]⟩
abbrev S512x1 : Shape := ⟨2, ![512, 1]⟩
abbrev S1x512x1 : Shape := ⟨3, ![1, 512, 1]⟩
abbrev S512x512 : Shape := ⟨2, ![512, 512]⟩
abbrev S1x1x1x512 : Shape := ⟨4, ![1, 1, 1, 512]⟩
abbrev S1x512 : Shape := ⟨2, ![1, 512]⟩
abbrev S2048x8x1 : Shape := ⟨3, ![2048, 8, 1]⟩
abbrev S2048x8 : Shape := ⟨2, ![2048, 8]⟩

abbrev nBuf : Space → Nat
  | .hbm => 63
  | .vmem => 26
  | .smem => 0
  | _ => 0

abbrev bufTy : (tb : Table) → Fin (tcTables nBuf tb) → BufTy
  | .hbm, ⟨0, _⟩ => ⟨S2048x5120, .f32⟩
  | .hbm, ⟨1, _⟩ => ⟨S8x2048, .f32⟩
  | .hbm, ⟨2, _⟩ => ⟨S2048x2048, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x8x128, .f32⟩
  | .hbm, ⟨7, _⟩ => ⟨S2048x8x128, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S8x2048x1, .f32⟩
  | .hbm, ⟨13, _⟩ => ⟨S8x2048x2048, .f32⟩
  | .hbm, ⟨14, _⟩ => ⟨S8x2048x2048, .f32⟩
  | .hbm, ⟨15, _⟩ => ⟨S8x1x2048, .f32⟩
  | .hbm, ⟨16, _⟩ => ⟨S8x2048x2048, .f32⟩
  | .hbm, ⟨17, _⟩ => ⟨S8x2048x2048, .f32⟩
  | .hbm, ⟨18, _⟩ => ⟨S2048, .i32⟩
  | .hbm, ⟨19, _⟩ => ⟨S1x2048, .i32⟩
  | .hbm, ⟨20, _⟩ => ⟨S2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S8x2048x2048, .i1⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x1, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S2048x8x128, .f32⟩
  | .hbm, ⟨47, _⟩ => ⟨S8x128x2048, .f32⟩
  | .hbm, ⟨48, _⟩ => ⟨S2048x8x128, .f32⟩
  | .hbm, ⟨49, _⟩ => ⟨S2048x1024, .f32⟩
  | .hbm, ⟨50, _⟩ => ⟨S8x2048x1, .f32⟩
  | .hbm, ⟨51, _⟩ => ⟨S8x4x1x512, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S8x2048x1, .f32⟩
  | .hbm, ⟨57, _⟩ => ⟨S8x2048, .f32⟩
  | .hbm, ⟨58, _⟩ => ⟨S2048x8x128, .f32⟩
  | .hbm, ⟨59, _⟩ => ⟨S2048x8x1, .f32⟩
  | .hbm, ⟨60, _⟩ => ⟨S2048x8, .f32⟩
  | .hbm, ⟨61, _⟩ => ⟨S8x2048, .f32⟩
  | .hbm, ⟨62, _⟩ => ⟨S8x2048, .f32⟩
  | .local _ .vmem, ⟨0, _⟩ => ⟨S512x256, .f32⟩
  | .local _ .vmem, ⟨1, _⟩ => ⟨S512x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2x512x1, .f32⟩
  | .local _ .vmem, ⟨7, _⟩ => ⟨S2x512x1, .f32⟩
  | .local _ .vmem, ⟨8, _⟩ => ⟨S2x4x1x512, .f32⟩
  | .local _ .vmem, ⟨9, _⟩ => ⟨S2x4x1x512, .f32⟩
  | .local _ .vmem, ⟨10, _⟩ => ⟨S2x512x1, .f32⟩
  | .local _ .vmem, ⟨11, _⟩ => ⟨S2x512x1, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S2048x256, .f32⟩
  | .local _ .vmem, ⟨23, _⟩ => ⟨S2048x256, .f32⟩
  | .local _ .vmem, ⟨24, _⟩ => ⟨S2x512x1, .f32⟩
  | .local _ .vmem, ⟨25, _⟩ => ⟨S2x512x1, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42_0 : Ref sig .tc := ⟨.hbm, 52, rfl⟩
abbrev main_v42_1 : Ref sig .tc := ⟨.hbm, 53, rfl⟩
abbrev main_v42_2 : Ref sig .tc := ⟨.hbm, 54, rfl⟩
abbrev main_v42_3 : Ref sig .tc := ⟨.hbm, 55, rfl⟩
abbrev main_v42_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_32 : BitVec 32 := 0#32
  let arg1 : BitVec 32 := BitVec.ofNat 32 (i 1).val
  let v36 : BitVec 32 := Scalar.subi arg1 c0_i32_32
  let c1_i32 : BitVec 32 := 1#32
  let v38 : BitVec 32 := Scalar.divsi v36 c1_i32
  let v39 : BitVec 32 := Scalar.muli v38 c1_i32
  let v40 : BitVec 32 := Scalar.addi c0_i32_32 v39
  let c1_i32_33 : BitVec 32 := 1#32
  ⟨c0_i32_32, v40, c1_i32_33⟩
def k0_mult1 (i : grid0.Coords) (k0_t1 : Fin (k0_t1_loop i).trips) : BitVec 32 :=
  let c0_i32_32 : BitVec 32 := 0#32
  let c1_i32_33 : BitVec 32 := 1#32
  let arg15 : BitVec 32 := Scf.iv c0_i32_32 c1_i32_33 k0_t1
  let c512_i32_89 : BitVec 32 := 512#32
  let v175 : BitVec 32 := Scalar.muli arg15 c512_i32_89
  v175
def k0_off1 (i : grid0.Coords) (k0_t1 : Fin (k0_t1_loop i).trips) : Fin 2 → Nat :=
  let c0_i32_32 : BitVec 32 := 0#32
  let c1_i32_33 : BitVec 32 := 1#32
  let arg15 : BitVec 32 := Scf.iv c0_i32_32 c1_i32_33 k0_t1
  let c512_i32_89 : BitVec 32 := 512#32
  let v175 : BitVec 32 := Scalar.muli arg15 c512_i32_89
  let v176 : BitVec 32 := v175
  let v177 : Index := Scalar.indexCast v176
  let c0_90 : Index := 0#32
  ![v177.toNat, 0]
def k0_off2 (i : grid0.Coords) (k0_t1 : Fin (k0_t1_loop i).trips) : Fin 4 → Nat :=
  let c0_94 : Index := 0#32
  let c0_i32_32 : BitVec 32 := 0#32
  let c1_i32_33 : BitVec 32 := 1#32
  let arg15 : BitVec 32 := Scf.iv c0_i32_32 c1_i32_33 k0_t1
  let v188 : Index := Scalar.indexCast arg15
  let c0_95 : Index := 0#32
  let c0_96 : Index := 0#32
  ![0, v188.toNat, 0, 0]
def k0_off3 (i : grid0.Coords) (k0_t1 : Fin (k0_t1_loop i).trips) : Fin 2 → Nat :=
  let c0_i32_32 : BitVec 32 := 0#32
  let c1_i32_33 : BitVec 32 := 1#32
  let arg15 : BitVec 32 := Scf.iv c0_i32_32 c1_i32_33 k0_t1
  let c512_i32_89 : BitVec 32 := 512#32
  let v175 : BitVec 32 := Scalar.muli arg15 c512_i32_89
  let v176 : BitVec 32 := v175
  let v233 : Index := Scalar.indexCast v176
  let c128_111 : Index := 128#32
  ![v233.toNat, 128]
def k0_off4 (i : grid0.Coords) (k0_t1 : Fin (k0_t1_loop i).trips) : Fin 4 → Nat :=
  let c1_115 : Index := 1#32
  let c0_i32_32 : BitVec 32 := 0#32
  let c1_i32_33 : BitVec 32 := 1#32
  let arg15 : BitVec 32 := Scf.iv c0_i32_32 c1_i32_33 k0_t1
  let v244 : Index := Scalar.indexCast arg15
  let c0_116 : Index := 0#32
  let c0_117 : Index := 0#32
  ![1, v244.toNat, 0, 0]
@[reducible] def k0_t2_loop (i : grid0.Coords) : Scf.Loop 32 :=
  let c0_i32_32 : BitVec 32 := 0#32
  let arg1 : BitVec 32 := BitVec.ofNat 32 (i 1).val
  let v36 : BitVec 32 := Scalar.subi arg1 c0_i32_32
  let c1_i32 : BitVec 32 := 1#32
  let v38 : BitVec 32 := Scalar.divsi v36 c1_i32
  let v39 : BitVec 32 := Scalar.muli v38 c1_i32
  let v40 : BitVec 32 := Scalar.addi c0_i32_32 v39
  let v37 : BitVec 32 := Scalar.addi c0_i32_32 v36
  let c1_i32_34 : BitVec 32 := 1#32
  ⟨v40, v37, c1_i32_34⟩
def k0_mult2 (i : grid0.Coords) (k0_t2 : Fin (k0_t2_loop i).trips) : BitVec 32 :=
  let c0_i32_32 : BitVec 32 := 0#32
  let arg1 : BitVec 32 := BitVec.ofNat 32 (i 1).val
  let v36 : BitVec 32 := Scalar.subi arg1 c0_i32_32
  let c1_i32 : BitVec 32 := 1#32
  let v38 : BitVec 32 := Scalar.divsi v36 c1_i32
  let v39 : BitVec 32 := Scalar.muli v38 c1_i32
  let v40 : BitVec 32 := Scalar.addi c0_i32_32 v39
  let c1_i32_34 : BitVec 32 := 1#32
  let arg15 : BitVec 32 := Scf.iv v40 c1_i32_34 k0_t2
  let c512_i32_89 : BitVec 32 := 512#32
  let v175 : BitVec 32 := Scalar.muli arg15 c512_i32_89
  v175
def k0_off5 (i : grid0.Coords) (k0_t2 : Fin (k0_t2_loop i).trips) : Fin 2 → Nat :=
  let c0_i32_32 : BitVec 32 := 0#32
  let arg1 : BitVec 32 := BitVec.ofNat 32 (i 1).val
  let v36 : BitVec 32 := Scalar.subi arg1 c0_i32_32
  let c1_i32 : BitVec 32 := 1#32
  let v38 : BitVec 32 := Scalar.divsi v36 c1_i32
  let v39 : BitVec 32 := Scalar.muli v38 c1_i32
  let v40 : BitVec 32 := Scalar.addi c0_i32_32 v39
  let c1_i32_34 : BitVec 32 := 1#32
  let arg15 : BitVec 32 := Scf.iv v40 c1_i32_34 k0_t2
  let c512_i32_89 : BitVec 32 := 512#32
  let v175 : BitVec 32 := Scalar.muli arg15 c512_i32_89
  let v176 : BitVec 32 := v175
  let v177 : Index := Scalar.indexCast v176
  let c0_90 : Index := 0#32
  ![v177.toNat, 0]
def k0_off6 (i : grid0.Coords) (k0_t2 : Fin (k0_t2_loop i).trips) : Fin 4 → Nat :=
  let c0_94 : Index := 0#32
  let c0_i32_32 : BitVec 32 := 0#32
  let arg1 : BitVec 32 := BitVec.ofNat 32 (i 1).val
  let v36 : BitVec 32 := Scalar.subi arg1 c0_i32_32
  let c1_i32 : BitVec 32 := 1#32
  let v38 : BitVec 32 := Scalar.divsi v36 c1_i32
  let v39 : BitVec 32 := Scalar.muli v38 c1_i32
  let v40 : BitVec 32 := Scalar.addi c0_i32_32 v39
  let c1_i32_34 : BitVec 32 := 1#32
  let arg15 : BitVec 32 := Scf.iv v40 c1_i32_34 k0_t2
  let v188 : Index := Scalar.indexCast arg15
  let c0_95 : Index := 0#32
  let c0_96 : Index := 0#32
  ![0, v188.toNat, 0, 0]
def k0_off7 (i : grid0.Coords) (k0_t2 : Fin (k0_t2_loop i).trips) : Fin 2 → Nat :=
  let c0_i32_32 : BitVec 32 := 0#32
  let arg1 : BitVec 32 := BitVec.ofNat 32 (i 1).val
  let v36 : BitVec 32 := Scalar.subi arg1 c0_i32_32
  let c1_i32 : BitVec 32 := 1#32
  let v38 : BitVec 32 := Scalar.divsi v36 c1_i32
  let v39 : BitVec 32 := Scalar.muli v38 c1_i32
  let v40 : BitVec 32 := Scalar.addi c0_i32_32 v39
  let c1_i32_34 : BitVec 32 := 1#32
  let arg15 : BitVec 32 := Scf.iv v40 c1_i32_34 k0_t2
  let c512_i32_89 : BitVec 32 := 512#32
  let v175 : BitVec 32 := Scalar.muli arg15 c512_i32_89
  let v176 : BitVec 32 := v175
  let v233 : Index := Scalar.indexCast v176
  let c128_111 : Index := 128#32
  ![v233.toNat, 128]
def k0_off8 (i : grid0.Coords) (k0_t2 : Fin (k0_t2_loop i).trips) : Fin 4 → Nat :=
  let c1_115 : Index := 1#32
  let c0_i32_32 : BitVec 32 := 0#32
  let arg1 : BitVec 32 := BitVec.ofNat 32 (i 1).val
  let v36 : BitVec 32 := Scalar.subi arg1 c0_i32_32
  let c1_i32 : BitVec 32 := 1#32
  let v38 : BitVec 32 := Scalar.divsi v36 c1_i32
  let v39 : BitVec 32 := Scalar.muli v38 c1_i32
  let v40 : BitVec 32 := Scalar.addi c0_i32_32 v39
  let c1_i32_34 : BitVec 32 := 1#32
  let arg15 : BitVec 32 := Scf.iv v40 c1_i32_34 k0_t2
  let v244 : Index := Scalar.indexCast arg15
  let c0_116 : Index := 0#32
  let c0_117 : Index := 0#32
  ![1, v244.toNat, 0, 0]
def k0_mult3 (i : grid0.Coords) : BitVec 32 :=
  let arg1 : BitVec 32 := BitVec.ofNat 32 (i 1).val
  let c512_i32 : BitVec 32 := 512#32
  let v43 : BitVec 32 := Scalar.muli arg1 c512_i32
  v43
def k0_off9 (i : grid0.Coords) : Fin 2 → Nat :=
  let arg1 : BitVec 32 := BitVec.ofNat 32 (i 1).val
  let c512_i32 : BitVec 32 := 512#32
  let v43 : BitVec 32 := Scalar.muli arg1 c512_i32
  let v44 : BitVec 32 := v43
  let v45 : Index := Scalar.indexCast v44
  let c0_35 : Index := 0#32
  ![v45.toNat, 0]
def k0_off10 (i : grid0.Coords) : Fin 4 → Nat :=
  let c0_39 : Index := 0#32
  let arg1 : BitVec 32 := BitVec.ofNat 32 (i 1).val
  let v56 : Index := Scalar.indexCast arg1
  let c0_40 : Index := 0#32
  let c0_41 : Index := 0#32
  ![0, v56.toNat, 0, 0]
def k0_off11 (i : grid0.Coords) : Fin 2 → Nat :=
  let arg1 : BitVec 32 := BitVec.ofNat 32 (i 1).val
  let c512_i32 : BitVec 32 := 512#32
  let v43 : BitVec 32 := Scalar.muli arg1 c512_i32
  let v44 : BitVec 32 := v43
  let v106 : Index := Scalar.indexCast v44
  let c128_57 : Index := 128#32
  ![v106.toNat, 128]
def k0_off12 (i : grid0.Coords) : Fin 4 → Nat :=
  let c1_61 : Index := 1#32
  let arg1 : BitVec 32 := BitVec.ofNat 32 (i 1).val
  let v117 : Index := Scalar.indexCast arg1
  let c0_62 : Index := 0#32
  let c0_63 : Index := 0#32
  ![1, v117.toNat, 0, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x4x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2048x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2x512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== FoxRefIdeal.lean ====
abbrev S2048x5120 : Shape := ⟨2, ![2048, 5120]⟩
abbrev S8x2048 : Shape := ⟨2, ![8, 2048]⟩
abbrev S2048x2048 : Shape := ⟨2, ![2048, 2048]⟩
abbrev S2048x1024 : Shape := ⟨2, ![2048, 1024]⟩
abbrev S2048x8x128 : Shape := ⟨3, ![2048, 8, 128]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S1x2048 : Shape := ⟨2, ![1, 2048]⟩
abbrev S2048x1 : Shape := ⟨2, ![2048, 1]⟩
abbrev S8x128x2048 : Shape := ⟨3, ![8, 128, 2048]⟩
abbrev S8x2048x128 : Shape := ⟨3, ![8, 2048, 128]⟩

abbrev nBuf : Space → Nat
  | .hbm => 119
  | .vmem => 0
  | .smem => 0
  | _ => 0

abbrev bufTy : (tb : Table) → Fin (tcTables nBuf tb) → BufTy
  | .hbm, ⟨0, _⟩ => ⟨S2048x5120, .f32⟩
  | .hbm, ⟨1, _⟩ => ⟨S8x2048, .f32⟩
  | .hbm, ⟨2, _⟩ => ⟨S2048x2048, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x8x128, .f32⟩
  | .hbm, ⟨7, _⟩ => ⟨S2048x8x128, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S8x2048x1, .f32⟩
  | .hbm, ⟨13, _⟩ => ⟨S8x2048x2048, .f32⟩
  | .hbm, ⟨14, _⟩ => ⟨S8x2048x2048, .f32⟩
  | .hbm, ⟨15, _⟩ => ⟨S8x1x2048, .f32⟩
  | .hbm, ⟨16, _⟩ => ⟨S8x2048x2048, .f32⟩
  | .hbm, ⟨17, _⟩ => ⟨S8x2048x2048, .f32⟩
  | .hbm, ⟨18, _⟩ => ⟨S2048, .i32⟩
  | .hbm, ⟨19, _⟩ => ⟨S1x2048, .i32⟩
  | .hbm, ⟨20, _⟩ => ⟨S2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S8x2048x2048, .i1⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .i1⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S_, .f32⟩
  | .hbm, ⟨41, _⟩ => ⟨S8x2048, .f32⟩
  | .hbm, ⟨42, _⟩ => ⟨S8x2048, .f32⟩
  | .hbm, ⟨43, _⟩ => ⟨S_, .f32⟩
  | .hbm, ⟨44, _⟩ => ⟨S8x2048, .f32⟩
  | .hbm, ⟨45, _⟩ => ⟨S8x2048, .i1⟩
  | .hbm, ⟨46, _⟩ => ⟨S_, .f32⟩
  | .hbm, ⟨47, _⟩ => ⟨S8x2048, .f32⟩
  | .hbm, ⟨48, _⟩ => ⟨S8x2048, .i1⟩
  | .hbm, ⟨49, _⟩ => ⟨S_, .f32⟩
  | .hbm, ⟨50, _⟩ => ⟨S8x2048, .f32⟩
  | .hbm, ⟨51, _⟩ => ⟨S_, .f32⟩
  | .hbm, ⟨52, _⟩ => ⟨S8x2048, .f32⟩
  | .hbm, ⟨53, _⟩ => ⟨S_, .f32⟩
  | .hbm, ⟨54, _⟩ => ⟨S8x2048, .f32⟩
  | .hbm, ⟨55, _⟩ => ⟨S8x2048, .f32⟩
  | .hbm, ⟨56, _⟩ => ⟨S8x2048, .f32⟩
  | .hbm, ⟨57, _⟩ => ⟨S8x2048x1, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S_, .f32⟩
  | .hbm, ⟨62, _⟩ => ⟨S8x2048, .f32⟩
  | .hbm, ⟨63, _⟩ => ⟨S8x2048x1, .f32⟩
  | .hbm, ⟨64, _⟩ => ⟨S8x2048x2048, .f32⟩
  | .hbm, ⟨65, _⟩ => ⟨S8x2048x2048, .f32⟩
  | .hbm, ⟨66, _⟩ => ⟨S8x2048x1, .f32⟩
  | .hbm, ⟨67, _⟩ => ⟨S_, .f32⟩
  | .hbm, ⟨68, _⟩ => ⟨S8x2048x1, .f32⟩
  | .hbm, ⟨69, _⟩ => ⟨S8x2048x1, .f32⟩
  | .hbm, ⟨70, _⟩ => ⟨S2048x8x128, .f32⟩
  | .hbm, ⟨71, _⟩ => ⟨S8x128x2048, .f32⟩
  | .hbm, ⟨72, _⟩ => ⟨S2048x8x128, .f32⟩
  | .hbm, ⟨73, _⟩ => ⟨S2048x1024, .f32⟩
  | .hbm, ⟨74, _⟩ => ⟨S2048x1024, .f32⟩
  | .hbm, ⟨75, _⟩ => ⟨S2048x8x128, .f32⟩
  | .hbm, ⟨76, _⟩ => ⟨S8x128x2048, .f32⟩
  | .hbm, ⟨77, _⟩ => ⟨S8x2048x2048, .f32⟩
  | .hbm, ⟨78, _⟩ => ⟨S8x128x2048, .f32⟩
  | .hbm, ⟨79, _⟩ => ⟨S2048x8x128, .f32⟩
  | .hbm, ⟨80, _⟩ => ⟨S2048x1024, .f32⟩
  | .hbm, ⟨81, _⟩ => ⟨S8x2048x2048, .f32⟩
  | .hbm, ⟨82, _⟩ => ⟨S8x2048x2048, .f32⟩
  | .hbm, ⟨83, _⟩ => ⟨S8x2048x2048, .f32⟩
  | .hbm, ⟨84, _⟩ => ⟨S_, .f32⟩
  | .hbm, ⟨85, _⟩ => ⟨S8x2048, .f32⟩
  | .hbm, ⟨86, _⟩ => ⟨S8x2048x1, .f32⟩
  | .hbm, ⟨87, _⟩ => ⟨S8x2048x1, .f32⟩
  | .hbm, ⟨88, _⟩ => ⟨S8x2048x2048, .f32⟩
  | .hbm, ⟨89, _⟩ => ⟨S8x2048x2048, .f32⟩
  | .hbm, ⟨90, _⟩ => ⟨S_, .f32⟩
  | .hbm, ⟨91, _⟩ => ⟨S8x2048, .f32⟩
  | .hbm, ⟨92, _⟩ => ⟨S8x2048x2048, .f32⟩
  | .hbm, ⟨93, _⟩ => ⟨S8x2048x2048, .f32⟩
  | .hbm, ⟨94, _⟩ => ⟨S8x2048x2048, .f32⟩
  | .hbm, ⟨95, _⟩ => ⟨S_, .f32⟩
  | .hbm, ⟨96, _⟩ => ⟨S8x2048x2048, .f32⟩
  | .hbm, ⟨97, _⟩ => ⟨S8x2048x2048, .f32⟩
  | .hbm, ⟨98, _⟩ => ⟨S8x2048x2048, .f32⟩
  | .hbm, ⟨99, _⟩ => ⟨S_, .f32⟩
  | .hbm, ⟨100, _⟩ => ⟨S8x2048, .f32⟩
  | .hbm, ⟨101, _⟩ => ⟨S8x1x2048, .f32⟩
  | .hbm, ⟨102, _⟩ => ⟨S_, .f32⟩
  | .hbm, ⟨103, _⟩ => ⟨S8x2048, .f32⟩
  | .hbm, ⟨104, _⟩ => ⟨S_, .f32⟩
  | .hbm, ⟨105, _⟩ => ⟨S8x2048, .f32⟩
  | .hbm, ⟨106, _⟩ => ⟨S8x2048x1, .f32⟩
  | .hbm, ⟨107, _⟩ => ⟨S_, .f32⟩
  | .hbm, ⟨108, _⟩ => ⟨S8x2048, .f32⟩
  | .hbm, ⟨109, _⟩ => ⟨S8x2048, .f32⟩
  | .hbm, ⟨110, _⟩ => ⟨S_, .f32⟩
  | .hbm, ⟨111, _⟩ => ⟨S8x2048x2048, .f32⟩
  | .hbm, ⟨112, _⟩ => ⟨S8x2048x2048, .f32⟩
  | .hbm, ⟨113, _⟩ => ⟨S8x2048x128, .f32⟩
  | .hbm, ⟨114, _⟩ => ⟨S2048x8x128, .f32⟩
  | .hbm, ⟨115, _⟩ => ⟨S8x2048x128, .f32⟩
  | .hbm, ⟨116, _⟩ => ⟨S2048x8x128, .f32⟩
  | .hbm, ⟨117, _⟩ => ⟨S2048x1024, .f32⟩
  | .hbm, ⟨118, _⟩ => ⟨S2048x1024, .f32⟩
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_call0_v0 : Ref sig .tc := ⟨.hbm, 26, rfl⟩
abbrev main_v21_1 : Ref sig .tc := ⟨.hbm, 27, rfl⟩
abbrev main_call0_v2 : Ref sig .tc := ⟨.hbm, 28, rfl⟩
abbrev main_v21_0 : Ref sig .tc := ⟨.hbm, 29, rfl⟩
abbrev main_call0_cst : Ref sig .tc := ⟨.hbm, 30, rfl⟩
abbrev main_v21_2 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_call1_cst : Ref sig .tc := ⟨.hbm, 95, rfl⟩
abbrev main_call1_v0 : Ref sig .tc := ⟨.hbm, 96, rfl⟩
abbrev main_v73 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_cst_15 : Ref sig .tc := ⟨.hbm, 104, rfl⟩
abbrev main_v78 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩

abbrev nD : Nat := 1
abbrev τ : Topo := Topo.v7x

variable {F : FTy → Type} [FloatOps F]
-- ==== ActGrad.lean ====
abbrev S2048x11264 : Shape := ⟨2, ![2048, 11264]⟩
abbrev S3x11264 : Shape := ⟨2, ![3, 11264]⟩
abbrev S2048x5632 : Shape := ⟨2, ![2048, 5632]⟩
abbrev S2x2048x5632 : Shape := ⟨3, ![2, 2048, 5632]⟩
abbrev S3x5632 : Shape := ⟨2, ![3, 5632]⟩
abbrev S2048x256 : Shape := ⟨2, ![2048, 256]⟩
abbrev S3x256 : Shape := ⟨2, ![3, 256]⟩
abbrev S2x2048x256 : Shape := ⟨3, ![2, 2048, 256]⟩
abbrev S8x256 : Shape := ⟨2, ![8, 256]⟩
abbrev S2040x256 : Shape := ⟨2, ![2040, 256]⟩
abbrev S1x256 : Shape := ⟨2, ![1, 256]⟩
abbrev S256 : Shape := ⟨1, ![256]⟩
abbrev S1x2048x256 : Shape := ⟨3, ![1, 2048, 256]⟩

abbrev nBuf : Space → Nat
  | .hbm => 6
  | .vmem => 16
  | .smem => 0
  | _ => 0

abbrev bufTy : (tb : Table) → Fin (tcTables nBuf tb) → BufTy
  | .hbm, ⟨0, _⟩ => ⟨S2048x11264, .f32⟩
  | .hbm, ⟨1, _⟩ => ⟨S3x11264, .f32⟩
  | .hbm, ⟨2, _⟩ => ⟨S2048x5632, .f32⟩
  | .hbm, ⟨3, _⟩ => ⟨S2x2048x5632, .bf16⟩
  | .hbm, ⟨4, _⟩ => ⟨S3x5632, .f32⟩
  | .hbm, ⟨5, _⟩ => ⟨S3x5632, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S2048x256, .f32⟩
  | .local _ .vmem, ⟨9, _⟩ => ⟨S2048x256, .f32⟩
  | .local _ .vmem, ⟨10, _⟩ => ⟨S2x2048x256, .bf16⟩
  | .local _ .vmem, ⟨11, _⟩ => ⟨S2x2048x256, .bf16⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S3x256, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ActRefIdeal.lean ====
abbrev S2048x11264 : Shape := ⟨2, ![2048, 11264]⟩
abbrev S3x11264 : Shape := ⟨2, ![3, 11264]⟩
abbrev S2048x5632 : Shape := ⟨2, ![2048, 5632]⟩
abbrev S_ : Shape := ⟨0, ![]⟩
abbrev S2x11264 : Shape := ⟨2, ![2, 11264]⟩
abbrev S2050x11264 : Shape := ⟨2, ![2050, 11264]⟩
abbrev S1x11264 : Shape := ⟨2, ![1, 11264]⟩
abbrev S11264 : Shape := ⟨1, ![11264]⟩
abbrev S1x2048x5632 : Shape := ⟨3, ![1, 2048, 5632]⟩
abbrev S2x2048x5632 : Shape := ⟨3, ![2, 2048, 5632]⟩
abbrev S3x5632 : Shape := ⟨2, ![3, 5632]⟩

abbrev nBuf : Space → Nat
  | .hbm => 104
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S3x11264, .f32⟩
  | .hbm, ⟨2, _⟩ => ⟨S2048x5632, .f32⟩
  | .hbm, ⟨3, _⟩ => ⟨S_, .f32⟩
  | .hbm, ⟨4, _⟩ => ⟨S2x11264, .f32⟩
  | .hbm, ⟨5, _⟩ => ⟨S2050x11264, .f32⟩
  | .hbm, ⟨6, _⟩ => ⟨S_, .f32⟩
  | .hbm, ⟨7, _⟩ => ⟨S2x11264, .f32⟩
  | .hbm, ⟨8, _⟩ => ⟨S2048x11264, .f32⟩
  | .hbm, ⟨9, _⟩ => ⟨S1x11264, .f32⟩
  | .hbm, ⟨10, _⟩ => ⟨S11264, .f32⟩
  | .hbm, ⟨11, _⟩ => ⟨S1x11264, .f32⟩
  | .hbm, ⟨12, _⟩ => ⟨S2048x11264, .f32⟩
  | .hbm, ⟨13, _⟩ => ⟨S2048x11264, .f32⟩
  | .hbm, ⟨14, _⟩ => ⟨S2048x11264, .f32⟩
  | .hbm, ⟨15, _⟩ => ⟨S1x11264, .f32⟩
  | .hbm, ⟨16, _⟩ => ⟨S11264, .f32⟩
  | .hbm, ⟨17, _⟩ => ⟨S1x11264, .f32⟩
  | .hbm, ⟨18, _⟩ => ⟨S2048x11264, .f32⟩
  | .hbm, ⟨19, _⟩ => ⟨S2048x11264, .f32⟩
  | .hbm, ⟨20, _⟩ => ⟨S2048x11264, .f32⟩
  | .hbm, ⟨21, _⟩ => ⟨S2048x11264, .f32⟩
  | .hbm, ⟨22, _⟩ => ⟨S1x11264, .f32⟩
  | .hbm, ⟨23, _⟩ => ⟨S11264, .f32⟩
  | .hbm, ⟨24, _⟩ => ⟨S1x11264, .f32⟩
  | .hbm, ⟨25, _⟩ => ⟨S2048x11264, .f32⟩
  | .hbm, ⟨26, _⟩ => ⟨S2048x11264, .f32⟩
  | .hbm, ⟨27, _⟩ => ⟨S2048x11264, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S_, .f32⟩
  | .hbm, ⟨33, _⟩ => ⟨S2048x5632, .f32⟩
  | .hbm, ⟨34, _⟩ => ⟨S2048x5632, .f32⟩
  | .hbm, ⟨35, _⟩ => ⟨S_, .f32⟩
  | .hbm, ⟨36, _⟩ => ⟨S2048x5632, .f32⟩
  | .hbm, ⟨37, _⟩ => ⟨S2048x5632, .f32⟩
  | .hbm, ⟨38, _⟩ => ⟨S_, .f32⟩
  | .hbm, ⟨39, _⟩ => ⟨S2048x5632, .f32⟩
  | .hbm, ⟨40, _⟩ => ⟨S2048x5632, .f32⟩
  | .hbm, ⟨41, _⟩ => ⟨S2048x5632, .f32⟩
  | .hbm, ⟨42, _⟩ => ⟨S2048x5632, .f32⟩
  | .hbm, ⟨43, _⟩ => ⟨S2048x5632, .f32⟩
  | .hbm, ⟨44, _⟩ => ⟨S2048x5632, .f32⟩
  | .hbm, ⟨45, _⟩ => ⟨S2048x5632, .f32⟩
  | .hbm, ⟨46, _⟩ => ⟨S2048x5632, .f32⟩
  | .hbm, ⟨47, _⟩ => ⟨S2048x5632, .f32⟩
  | .hbm, ⟨48, _⟩ => ⟨S2048x5632, .f32⟩
  | .hbm, ⟨49, _⟩ => ⟨S2048x5632, .f32⟩
  | .hbm, ⟨50, _⟩ => ⟨S2048x11264, .f32⟩
  | .hbm, ⟨51, _⟩ => ⟨S2048x11264, .f32⟩
  | .hbm, ⟨52, _⟩ => ⟨S_, .f32⟩
  | .hbm, ⟨53, _⟩ => ⟨S11264, .f32⟩
  | .hbm, ⟨54, _⟩ => ⟨S1x11264, .f32⟩
  | .hbm, ⟨55, _⟩ => ⟨S2048x11264, .f32⟩
  | .hbm, ⟨56, _⟩ => ⟨S2048x11264, .f32⟩
  | .hbm, ⟨57, _⟩ => ⟨S_, .f32⟩
  | .hbm, ⟨58, _⟩ => ⟨S11264, .f32⟩
  | .hbm, ⟨59, _⟩ => ⟨S1x11264, .f32⟩
  | .hbm, ⟨60, _⟩ => ⟨S_, .f32⟩
  | .hbm, ⟨61, _⟩ => ⟨S3x11264, .f32⟩
  | .hbm, ⟨62, _⟩ => ⟨S_, .f32⟩
  | .hbm, ⟨63, _⟩ => ⟨S2050x11264, .f32⟩
  | .hbm, ⟨64, _⟩ => ⟨S2048x11264, .f32⟩
  | .hbm, ⟨65, _⟩ => ⟨S_, .f32⟩
  | .hbm, ⟨66, _⟩ => ⟨S11264, .f32⟩
  | .hbm, ⟨67, _⟩ => ⟨S1x11264, .f32⟩
  | .hbm, ⟨68, _⟩ => ⟨S2048x11264, .f32⟩
  | .hbm, ⟨69, _⟩ => ⟨S2048x11264, .f32⟩
  | .hbm, ⟨70, _⟩ => ⟨S_, .f32⟩
  | .hbm, ⟨71, _⟩ => ⟨S11264, .f32⟩
  | .hbm, ⟨72, _⟩ => ⟨S1x11264, .f32⟩
  | .hbm, ⟨73, _⟩ => ⟨S_, .f32⟩
  | .hbm, ⟨74, _⟩ => ⟨S3x11264, .f32⟩
  | .hbm, ⟨75, _⟩ => ⟨S3x11264, .f32⟩
  | .hbm, ⟨76, _⟩ => ⟨S_, .f32⟩
  | .hbm, ⟨77, _⟩ => ⟨S2050x11264, .f32⟩
  | .hbm, ⟨78, _⟩ => ⟨S2050x11264, .f32⟩
  | .hbm, ⟨79, _⟩ => ⟨S2048x11264, .f32⟩
  | .hbm, ⟨80, _⟩ => ⟨S_, .f32⟩
  | .hbm, ⟨81, _⟩ => ⟨S11264, .f32⟩
  | .hbm, ⟨82, _⟩ => ⟨S1x11264, .f32⟩
  | .hbm, ⟨83, _⟩ => ⟨S2048x11264, .f32⟩
  | .hbm, ⟨84, _⟩ => ⟨S2048x11264, .f32⟩
  | .hbm, ⟨85, _⟩ => ⟨S_, .f32⟩
  | .hbm, ⟨86, _⟩ => ⟨S11264, .f32⟩
  | .hbm, ⟨87, _⟩ => ⟨S1x11264, .f32⟩
  | .hbm, ⟨88, _⟩ => ⟨S_, .f32⟩
  | .hbm, ⟨89, _⟩ => ⟨S3x11264, .f32⟩
  | .hbm, ⟨90, _⟩ => ⟨S3x11264, .f32⟩
  | .hbm, ⟨91, _⟩ => ⟨S_, .f32⟩
  | .hbm, ⟨92, _⟩ => ⟨S2050x11264, .f32⟩
  | .hbm, ⟨93, _⟩ => ⟨S2050x11264, .f32⟩
  | .hbm, ⟨94, _⟩ => ⟨S2x11264, .f32⟩
  | .hbm, ⟨95, _⟩ => ⟨S2048x11264, .f32⟩
  | .hbm, ⟨96, _⟩ => ⟨S2048x5632, .f32⟩
  | .hbm, ⟨97, _⟩ => ⟨S2048x5632, .f32⟩
  | .hbm, ⟨98, _⟩ => ⟨S1x2048x5632, .f32⟩
  | .hbm, ⟨99, _⟩ => ⟨S1x2048x5632, .f32⟩
  | .hbm, ⟨100, _⟩ => ⟨S2x2048x5632, .f32⟩
  | .hbm, ⟨101, _⟩ => ⟨S2x2048x5632, .bf16⟩
  | .hbm, ⟨102, _⟩ => ⟨S3x5632, .f32⟩
  | .hbm, ⟨103, _⟩ => ⟨S3x5632, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v25_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v25_1 : Ref sig .tc := ⟨.hbm, 41, rfl⟩
abbrev main_v25_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_1 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_2 : Ref sig .tc := ⟨.hbm, 57, rfl⟩
abbrev main_v36 : Ref sig .tc := ⟨.hbm, 58, rfl⟩
abbrev main_v37 : Ref sig .tc := ⟨.hbm, 59, rfl⟩
abbrev main_cst_3 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_v57 : Ref sig .tc := ⟨.hbm, 87, rfl⟩
abbrev main_cst_11 : Ref sig .tc := ⟨.hbm, 88, rfl⟩
abbrev main_v58 : Ref sig .tc := ⟨.hbm, 89, rfl⟩
abbrev main_v59 : Ref sig .tc := ⟨.hbm, 90, rfl⟩
abbrev main_cst_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩

abbrev nD : Nat := 1
abbrev τ : Topo := Topo.v7x

variable {F : FTy → Type} [FloatOps F]
-- ==== FwAct.lean ====
abbrev S2048x11264 : Shape := ⟨2, ![2048, 11264]⟩
abbrev S3x11264 : Shape := ⟨2, ![3, 11264]⟩
abbrev S2048x5632 : Shape := ⟨2, ![2048, 5632]⟩
abbrev S2048x256 : Shape := ⟨2, ![2048, 256]⟩
abbrev S3x256 : Shape := ⟨2, ![3, 256]⟩
abbrev S8x256 : Shape := ⟨2, ![8, 256]⟩
abbrev S2040x256 : Shape := ⟨2, ![2040, 256]⟩
abbrev S1x256 : Shape := ⟨2, ![1, 256]⟩

abbrev nBuf : Space → Nat
  | .hbm => 3
  | .vmem => 10
  | .smem => 0
  | _ => 0

abbrev bufTy : (tb : Table) → Fin (tcTables nBuf tb) → BufTy
  | .hbm, ⟨0, _⟩ => ⟨S2048x11264, .f32⟩
  | .hbm, ⟨1, _⟩ => ⟨S3x11264, .f32⟩
  | .hbm, ⟨2, _⟩ => ⟨S2048x5632, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FwActRefIdeal.lean ====
abbrev S2048x11264 : Shape := ⟨2, ![2048, 11264]⟩
abbrev S3x11264 : Shape := ⟨2, ![3, 11264]⟩
abbrev S_ : Shape := ⟨0, ![]⟩
abbrev S2x11264 : Shape := ⟨2, ![2, 11264]⟩
abbrev S2050x11264 : Shape := ⟨2, ![2050, 11264]⟩
abbrev S1x11264 : Shape := ⟨2, ![1, 11264]⟩
abbrev S11264 : Shape := ⟨1, ![11264]⟩
abbrev S2048x5632 : Shape := ⟨2, ![2048, 5632]⟩

abbrev nBuf : Space → Nat
  | .hbm => 38
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S3x11264, .f32⟩
  | .hbm, ⟨2, _⟩ => ⟨S_, .f32⟩
  | .hbm, ⟨3, _⟩ => ⟨S2x11264, .f32⟩
  | .hbm, ⟨4, _⟩ => ⟨S2050x11264, .f32⟩
  | .hbm, ⟨5, _⟩ => ⟨S2048x11264, .f32⟩
  | .hbm, ⟨6, _⟩ => ⟨S1x11264, .f32⟩
  | .hbm, ⟨7, _⟩ => ⟨S11264, .f32⟩
  | .hbm, ⟨8, _⟩ => ⟨S1x11264, .f32⟩
  | .hbm, ⟨9, _⟩ => ⟨S2048x11264, .f32⟩
  | .hbm, ⟨10, _⟩ => ⟨S2048x11264, .f32⟩
  | .hbm, ⟨11, _⟩ => ⟨S2048x11264, .f32⟩
  | .hbm, ⟨12, _⟩ => ⟨S1x11264, .f32⟩
  | .hbm, ⟨13, _⟩ => ⟨S11264, .f32⟩
  | .hbm, ⟨14, _⟩ => ⟨S1x11264, .f32⟩
  | .hbm, ⟨15, _⟩ => ⟨S2048x11264, .f32⟩
  | .hbm, ⟨16, _⟩ => ⟨S2048x11264, .f32⟩
  | .hbm, ⟨17, _⟩ => ⟨S2048x11264, .f32⟩
  | .hbm, ⟨18, _⟩ => ⟨S2048x11264, .f32⟩
  | .hbm, ⟨19, _⟩ => ⟨S1x11264, .f32⟩
  | .hbm, ⟨20, _⟩ => ⟨S11264, .f32⟩
  | .hbm, ⟨21, _⟩ => ⟨S1x11264, .f32⟩
  | .hbm, ⟨22, _⟩ => ⟨S2048x11264, .f32⟩
  | .hbm, ⟨23, _⟩ => ⟨S2048x11264, .f32⟩
  | .hbm, ⟨24, _⟩ => ⟨S2048x11264, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S_, .f32⟩
  | .hbm, ⟨30, _⟩ => ⟨S2048x5632, .f32⟩
  | .hbm, ⟨31, _⟩ => ⟨S2048x5632, .f32⟩
  | .hbm, ⟨32, _⟩ => ⟨S_, .f32⟩
  | .hbm, ⟨33, _⟩ => ⟨S2048x5632, .f32⟩
  | .hbm, ⟨34, _⟩ => ⟨S2048x5632, .f32⟩
  | .hbm, ⟨35, _⟩ => ⟨S2048x5632, .f32⟩
  | .hbm, ⟨36, _⟩ => ⟨S2048x5632, .f32⟩
  | .hbm, ⟨37, _⟩ => ⟨S2048x5632, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Proof.ScSpec.lean ====
/-
  The gradient of the short gated convolution, as sums and products of extended reals over coordinates: the one
  description the kernel's arrays and the reference's arrays are both brought to.
-/
module

public import Idealize.ShloMosaic.Lib.Pointwise
public import Idealize.ShloMosaic.PureOps.Ideal

@[expose] public section

set_option maxRecDepth 16384

noncomputable section

namespace Cert.ScSpec

open Idealize.ShloMosaic

/-- A column moved down by `k` rows, zero above. -/
def dn (k : ℕ) (f : Fin 2048 → EReal) (i : Fin 2048) : EReal :=
  if (i : ℕ) < k then 0 else f ⟨i - k, by omega⟩

/-- A column moved up by `k` rows, zero below. -/
def up (k : ℕ) (f : Fin 2048 → EReal) (i : Fin 2048) : EReal :=
  if h : (i : ℕ) + k < 2048 then f ⟨i + k, h⟩ else 0

/-- The causal convolution with three weights of a column. -/
def conv (w : Fin 3 → EReal) (s : Fin 2048 → EReal) (i : Fin 2048) : EReal :=
  w 0 * dn 2 s i + w 1 * dn 1 s i + w 2 * s i

/-- The transposed convolution of a column. -/
def convT (w : Fin 3 → EReal) (d : Fin 2048 → EReal) (i : Fin 2048) : EReal :=
  w 2 * d i + w 1 * up 1 d i + w 0 * up 2 d i

/-- The gradient of weight `k` of the convolution. -/
def wgrad (d s : Fin 2048 → EReal) (k : Fin 3) : EReal :=
  ∑ i : Fin 2048, d i * dn (2 - k) s i

/-- The projections, the weights and the cotangent, as arrays. -/
abbrev Proj := (⟨2, ![2048, 6144]⟩ : Shape).Idx → EReal
abbrev Wts := (⟨2, ![3, 1024]⟩ : Shape).Idx → EReal
abbrev Cot := (⟨2, ![2048, 2048]⟩ : Shape).Idx → EReal

/-- Columns of the arguments: the two gates, the hidden input, their product, the weights, the cotangent and the
    cotangent of the convolution's output. -/
def gb (P : Proj) (c : Fin 1024) (i : Fin 2048) : EReal := P (ix2 i ⟨3072 + c, by omega⟩)
def gc (P : Proj) (c : Fin 1024) (i : Fin 2048) : EReal := P (ix2 i ⟨4096 + c, by omega⟩)
def hin (P : Proj) (c : Fin 1024) (i : Fin 2048) : EReal := P (ix2 i ⟨5120 + c, by omega⟩)
def sgl (P : Proj) (c : Fin 1024) (i : Fin 2048) : EReal := gc P c i * hin P c i
def wts (W : Wts) (c : Fin 1024) (k : Fin 3) : EReal := W (ix2 k c)
def cot (D : Cot) (c : Fin 1024) (i : Fin 2048) : EReal := D (ix2 i ⟨1024 + c, by omega⟩)
def dconv (P : Proj) (D : Cot) (c : Fin 1024) (i : Fin 2048) : EReal := cot D c i * gb P c i

/-- The four gradients. -/
def dgb (P : Proj) (W : Wts) (D : Cot) (i : Fin 2048) (c : Fin 1024) : EReal :=
  cot D c i * conv (wts W c) (sgl P c) i
def dgc (P : Proj) (W : Wts) (D : Cot) (i : Fin 2048) (c : Fin 1024) : EReal :=
  convT (wts W c) (dconv P D c) i * hin P c i
def dh (P : Proj) (W : Wts) (D : Cot) (i : Fin 2048) (c : Fin 1024) : EReal :=
  convT (wts W c) (dconv P D c) i * gc P c i
def dw (P : Proj) (D : Cot) (k : Fin 3) (c : Fin 1024) : EReal :=
  wgrad (dconv P D c) (sgl P c) k

end Cert.ScSpec

end
-- ==== Proof.ScBlock.lean ====
/-
  What one grid point of the short convolution's backward kernel computes: each output block at an index, from the
  columns of the input blocks.
-/
module

public import proofs.«01_k».proof.Proof.Gen.ScGradIdeal.Value
public import proofs.«01_k».proof.Proof.ScSpec
public import Idealize.ShloMosaic.Lib.Pipeline.ValueKit
public import Idealize.ShloMosaic.Lib.Pointwise

@[expose] public section

set_option maxRecDepth 16384

noncomputable section

namespace Cert.ScGradIdeal.Block

open Cert.ScGradIdeal Cert.ScGradIdeal.Gen Cert.ScSpec Idealize.ShloMosaic Idealize.SL.Sem

/-- Column `j` of a block. -/
abbrev col (x : Vec Ideal S2048x256 .f32) (j : Fin 256) : Fin 2048 → EReal := fun i => x (ix2 i j)
/-- Column `j` of the weights' block. -/
abbrev wcol (x : Vec Ideal S3x256 .f32) (j : Fin 256) : Fin 3 → EReal := fun k => x (ix2 k j)

/-- The comparison of a small row number with 1, 2, 6 or 7, as a condition on the row. -/
theorem sge_iff (k : ℕ) (h : k < 8) : (IntOp.cmpi .sge (BitVec.ofNat 32 k) 1#32 = 1#1 ↔ ¬ k < 1)
    ∧ (IntOp.cmpi .sge (BitVec.ofNat 32 k) 2#32 = 1#1 ↔ ¬ k < 2)
    ∧ (IntOp.cmpi .slt (BitVec.ofNat 32 k) 7#32 = 1#1 ↔ k < 7)
    ∧ (IntOp.cmpi .slt (BitVec.ofNat 32 k) 6#32 = 1#1 ↔ k < 6) := by
  revert h; revert k; decide

theorem sel_pos {a : Type} {c : BitVec 1} (h : c = 1#1) (x y : a) : Scalar.select c x y = x := if_pos h
theorem sel_neg {a : Type} {c : BitVec 1} (h : ¬ c = 1#1) (x y : a) : Scalar.select c x y = y := if_neg h

/-- The product of the gate and the hidden input at an index. -/
theorem pay2_apply (v0 v1 : Vec Ideal S2048x256 .f32) (i : Fin 2048) (j : Fin 256) :
    k0_pay2 v0 v1 (ix2 i j) = col v0 j i * col v1 j i := by
  pointwise [k0_pay2]

set_option backward.isDefEq.respectTransparency false in
/-- The signal moved down by one row, zero above. -/
theorem pay3_apply (v0 v1 : Vec Ideal S2048x256 .f32) (i : Fin 2048) (j : Fin 256) :
    k0_pay3 v0 v1 (ix2 i j) = dn 1 (fun i => col v0 j i * col v1 j i) i := by
  unfold dn
  pointwise [k0_pay3, k0_pay2]
  by_cases h8 : (i : ℕ) < 8
  · rw [dif_pos h8]
    by_cases h1 : (i : ℕ) < 1
    · rw [if_pos h1, sel_neg (fun h => (sge_iff _ h8).1.1 h h1)]
    · rw [if_neg h1, sel_pos ((sge_iff _ h8).1.2 h1)]
      have e : ((i : ℕ) + 2048 - 1) % 2048 = i - 1 := by omega
      simp only [e]
  · have h1 : ¬ (i : ℕ) < 1 := by omega
    have e : (8 + ((i : ℕ) - 8) + 2048 - 1) % 2048 = i - 1 := by omega
    rw [dif_neg h8, if_neg h1]; simp only [e]

set_option backward.isDefEq.respectTransparency false in
/-- The signal moved down by two rows, zero above. -/
theorem pay4_apply (v0 v1 : Vec Ideal S2048x256 .f32) (i : Fin 2048) (j : Fin 256) :
    k0_pay4 v0 v1 (ix2 i j) = dn 2 (fun i => col v0 j i * col v1 j i) i := by
  unfold dn
  pointwise [k0_pay4, k0_pay2]
  by_cases h8 : (i : ℕ) < 8
  · rw [dif_pos h8]
    by_cases h1 : (i : ℕ) < 2
    · rw [if_pos h1, sel_neg (fun h => (sge_iff _ h8).2.1.1 h h1)]
    · rw [if_neg h1, sel_pos ((sge_iff _ h8).2.1.2 h1)]
      have e : ((i : ℕ) + 2048 - 2) % 2048 = i - 2 := by omega
      simp only [e]
  · have h1 : ¬ (i : ℕ) < 2 := by omega
    have e : (8 + ((i : ℕ) - 8) + 2048 - 2) % 2048 = i - 2 := by omega
    rw [dif_neg h8, if_neg h1]; simp only [e]

set_option backward.isDefEq.respectTransparency false in
/-- The transposed convolution of a block. -/
theorem pay11_apply (v2 : Vec Ideal S3x256 .f32) (d : Vec Ideal S2048x256 .f32) (i : Fin 2048) (j : Fin 256) :
    k0_pay11 v2 d (ix2 i j) = convT (wcol v2 j) (col d j) i := by
  unfold convT up
  pointwise [k0_pay11]
  congr 1
  · congr 2
    by_cases h8 : (i : ℕ) < 2040
    · have h1 : (i : ℕ) + 1 < 2048 := by omega
      have e : ((i : ℕ) + 2048 - 2047) % 2048 = i + 1 := by omega
      rw [dif_pos h8, dif_pos h1]; simp only [e]
    · rw [dif_neg h8]
      have h8' : (i : ℕ) - 2040 < 8 := by omega
      by_cases h1 : (i : ℕ) + 1 < 2048
      · rw [dif_pos h1, sel_pos ((sge_iff _ h8').2.2.1.2 (by omega))]
        have e : (2040 + ((i : ℕ) - 2040) + 2048 - 2047) % 2048 = i + 1 := by omega
        simp only [e]
      · rw [dif_neg h1, sel_neg (fun h => by have := (sge_iff _ h8').2.2.1.1 h; omega)]
  · congr 1
    by_cases h8 : (i : ℕ) < 2040
    · have h1 : (i : ℕ) + 2 < 2048 := by omega
      have e : ((i : ℕ) + 2048 - 2046) % 2048 = i + 2 := by omega
      rw [dif_pos h8, dif_pos h1]; simp only [e]
    · rw [dif_neg h8]
      have h8' : (i : ℕ) - 2040 < 8 := by omega
      by_cases h1 : (i : ℕ) + 2 < 2048
      · rw [dif_pos h1, sel_pos ((sge_iff _ h8').2.2.2.2 (by omega))]
        have e : (2040 + ((i : ℕ) - 2040) + 2048 - 2046) % 2048 = i + 2 := by omega
        simp only [e]
      · rw [dif_neg h1, sel_neg (fun h => by have := (sge_iff _ h8').2.2.2.1 h; omega)]

variable (x0 x1 x2 : Vec Ideal S2048x256 .f32) (x3 : Vec Ideal S3x256 .f32) (x4 : Vec Ideal S2048x256 .f32)

theorem hz : (![0, 0] : Fin 2 → Nat) = fun _ => 0 := funext fun a => by fin_cases a <;> rfl

/-- The block of the first gate's gradient. -/
theorem out5_apply (i : Fin 2048) (j : Fin 256) : out0_5 x0 x1 x2 x3 x4 (ix2 i j)
    = col x4 j i * conv (wcol x3 j) (fun i => col x1 j i * col x2 j i) i := by
  unfold conv
  frame_out
  rw [← pay4_apply, ← pay3_apply]
  pointwise [k0_pay5, k0_pay2]

/-- The cotangent of the convolution's output, in a block. -/
theorem pay13_eq : k0_pay13 x0 x1 x2 x3 x4 = fun y => (x4 y : EReal) * x0 y := by
  unfold k0_pay13
  rw [View.ld_unit_zero hz, View.ld_unit_zero hz]
  rfl

/-- The block of the second gate's gradient. -/
theorem out6_apply (i : Fin 2048) (j : Fin 256) : out0_6 x0 x1 x2 x3 x4 (ix2 i j)
    = convT (wcol x3 j) (fun i => col x4 j i * col x0 j i) i * col x2 j i := by
  frame_out
  rw [pay13_eq]
  show k0_pay11 _ _ (ix2 i j) * _ = _
  rw [pay11_apply]

/-- The block of the hidden input's gradient. -/
theorem out7_apply (i : Fin 2048) (j : Fin 256) : out0_7 x0 x1 x2 x3 x4 (ix2 i j)
    = convT (wcol x3 j) (fun i => col x4 j i * col x0 j i) i * col x1 j i := by
  frame_out
  rw [pay13_eq]
  show k0_pay11 _ _ (ix2 i j) * _ = _
  rw [pay11_apply]

/-- An index of a one-row block is its column's. -/
theorem idx_eq (x : S1x256.Idx) (j : Fin 256) (h : (j : ℕ) = (x 1 : ℕ)) : x = ix2 (0 : Fin 1) j :=
  funext fun a => match a with
    | ⟨0, _⟩ => Fin.ext (by have : (x 0 : ℕ) < 1 := (x 0).isLt; show (x 0 : ℕ) = 0; omega)
    | ⟨1, _⟩ => Fin.ext h.symm

/-- The block of the weights' gradient. -/
theorem out8_apply (k : Fin 3) (j : Fin 256) : out0_8 x0 x1 x2 x3 x4 (ix2 k j)
    = wgrad (fun i => col x4 j i * col x0 j i) (fun i => col x1 j i * col x2 j i) k := by
  frame_out
  rw [pay13_eq]
  have e1 (u : Fin 1) : k0_pay10 (k0_pay2 x1 x2) (fun y => (x4 y : EReal) * x0 y) (ix2 u j)
      = wgrad (fun i => col x4 j i * col x0 j i) (fun i => col x1 j i * col x2 j i) 2 := by
    unfold wgrad dn
    pointwise [k0_pay10, k0_pay2]
    rfl
  have e2 (u : Fin 1) : k0_pay9 (k0_pay3 x1 x2) (fun y => (x4 y : EReal) * x0 y) (ix2 u j)
      = wgrad (fun i => col x4 j i * col x0 j i) (fun i => col x1 j i * col x2 j i) 1 := by
    unfold wgrad
    pointwise [k0_pay9]
    refine Finset.sum_congr rfl fun i _ => ?_
    rw [pay3_apply]
  have e3 (u : Fin 1) : k0_pay8 (k0_pay7 x1 x2 x4 x0) (ix2 u j)
      = wgrad (fun i => col x4 j i * col x0 j i) (fun i => col x1 j i * col x2 j i) 0 := by
    unfold wgrad
    pointwise [k0_pay8, k0_pay7, k0_pay6]
    refine Finset.sum_congr rfl fun i _ => ?_
    rw [pay4_apply]
  canon_tiles x h
  · obtain rfl : k = 2 := Fin.ext (by have : (k : ℕ) = 2 + (x 0 : ℕ) := h0; show (k : ℕ) = 2; omega)
    rw [← e1 0]; exact congrArg _ (idx_eq x j h1)
  · obtain rfl : k = 1 := Fin.ext (by have : (k : ℕ) = 1 + (x 0 : ℕ) := h0; show (k : ℕ) = 1; omega)
    rw [← e2 0]; exact congrArg _ (idx_eq x j h1)
  · obtain rfl : k = 0 := Fin.ext (by have : (k : ℕ) = (x 0 : ℕ) := h0; show (k : ℕ) = 0; omega)
    rw [← e3 0]; exact congrArg _ (idx_eq x j h1)

end Cert.ScGradIdeal.Block

end
-- ==== Proof.ScArrays.lean ====
/-
  The four arrays the kernel's run leaves, from its blocks.
-/
module

public import proofs.«01_k».proof.Proof.ScBlock

@[expose] public section

set_option maxRecDepth 16384

noncomputable section

namespace Cert.ScGradIdeal.Arrays

open Cert.ScGradIdeal Cert.ScGradIdeal.Gen Cert.ScSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Which block each window reads or writes at a point. -/
theorem idx : ∀ t : Fin cfg0.N, win0_0.index t = ![0, 12 + t.val] ∧ win0_1.index t = ![0, 16 + t.val]
    ∧ win0_2.index t = ![0, 20 + t.val] ∧ win0_3.index t = ![0, t.val] ∧ win0_4.index t = ![0, 4 + t.val]
    ∧ win0_5.index t = ![0, t.val] ∧ win0_6.index t = ![0, t.val] ∧ win0_7.index t = ![0, t.val]
    ∧ win0_8.index t = ![0, t.val] :=
  (by decide +kernel : ∀ t : Fin grid0.N, _)

/-- Column `j` of block `t`. -/
abbrev at4 (t : Fin cfg0.N) (j : Fin 256) : Fin 1024 :=
  ⟨t.val * 256 + j, by have := lt_of_lt_of_eq t.isLt N_0; omega⟩

/-- The columns of the input blocks are columns of the arguments. -/
theorem col0 (c : Dev nD) (t : Fin cfg0.N) (j : Fin 256) (i : Fin 2048) :
    Block.col (iblk m c 0 t) j i = gb (m ((c : Thread nD τ).loc main_arg0)) (at4 t j) i := by
  show iblk m c 0 t (ix2 i j) = _
  unfold gb
  blk_ext [iblk, V, idx t]
theorem col1 (c : Dev nD) (t : Fin cfg0.N) (j : Fin 256) (i : Fin 2048) :
    Block.col (iblk m c 1 t) j i = gc (m ((c : Thread nD τ).loc main_arg0)) (at4 t j) i := by
  show iblk m c 1 t (ix2 i j) = _
  unfold gc
  blk_ext [iblk, V, idx t]
theorem col2 (c : Dev nD) (t : Fin cfg0.N) (j : Fin 256) (i : Fin 2048) :
    Block.col (iblk m c 2 t) j i = hin (m ((c : Thread nD τ).loc main_arg0)) (at4 t j) i := by
  show iblk m c 2 t (ix2 i j) = _
  unfold hin
  blk_ext [iblk, V, idx t]
theorem col3 (c : Dev nD) (t : Fin cfg0.N) (j : Fin 256) (i : Fin 3) :
    Block.wcol (iblk m c 3 t) j i = wts (m ((c : Thread nD τ).loc main_arg1)) (at4 t j) i := by
  show iblk m c 3 t (ix2 i j) = _
  unfold wts
  blk_ext [iblk, V, idx t]
theorem col4 (c : Dev nD) (t : Fin cfg0.N) (j : Fin 256) (i : Fin 2048) :
    Block.col (iblk m c 4 t) j i = cot (m ((c : Thread nD τ).loc main_arg2)) (at4 t j) i := by
  show iblk m c 4 t (ix2 i j) = _
  unfold cot
  blk_ext [iblk, V, idx t]

/-- The first gate's gradient. -/
theorem final5 (c : Dev nD) : (dats m 0 c).arrAt 5 cfg0.N = (fun y => dgb (m ((c : Thread nD τ).loc main_arg0)) (m ((c : Thread nD τ).loc main_arg1)) (m ((c : Thread nD τ).loc main_arg2)) (y 0) (y 1)) := by
  refine (dats m 0 c).arrAt_eq_of_covers 5 _ (by decide +kernel) fun t _ y => ?_
  blk_simp
  rw [after0_5]
  idx_vars y
  have e : ((View.whole main_v0_0).slice (win0_5.rect t)).emb (ix2 y0 y1) = ix2 y0 (at4 t y1) := by
    blk_ext [idx t]
  refine (Block.out5_apply _ _ _ _ _ _ _).trans ?_
  rw [e]
  rw [show Block.wcol (iblk m c 3 t) y1 = _ from funext (col3 m c t y1)]
  simp only [col0, col1, col2, col4]
  rfl

/-- The second gate's gradient. -/
theorem final6 (c : Dev nD) : (dats m 0 c).arrAt 6 cfg0.N = (fun y => dgc (m ((c : Thread nD τ).loc main_arg0)) (m ((c : Thread nD τ).loc main_arg1)) (m ((c : Thread nD τ).loc main_arg2)) (y 0) (y 1)) := by
  refine (dats m 0 c).arrAt_eq_of_covers 6 _ (by decide +kernel) fun t _ y => ?_
  blk_simp
  rw [after0_6]
  idx_vars y
  have e : ((View.whole main_v0_1).slice (win0_6.rect t)).emb (ix2 y0 y1) = ix2 y0 (at4 t y1) := by
    blk_ext [idx t]
  refine (Block.out6_apply _ _ _ _ _ _ _).trans ?_
  rw [e]
  rw [show Block.wcol (iblk m c 3 t) y1 = _ from funext (col3 m c t y1)]
  simp only [col0, col1, col2, col4]
  rfl

/-- The hidden input's gradient. -/
theorem final7 (c : Dev nD) : (dats m 0 c).arrAt 7 cfg0.N = (fun y => dh (m ((c : Thread nD τ).loc main_arg0)) (m ((c : Thread nD τ).loc main_arg1)) (m ((c : Thread nD τ).loc main_arg2)) (y 0) (y 1)) := by
  refine (dats m 0 c).arrAt_eq_of_covers 7 _ (by decide +kernel) fun t _ y => ?_
  blk_simp
  rw [after0_7]
  idx_vars y
  have e : ((View.whole main_v0_2).slice (win0_7.rect t)).emb (ix2 y0 y1) = ix2 y0 (at4 t y1) := by
    blk_ext [idx t]
  refine (Block.out7_apply _ _ _ _ _ _ _).trans ?_
  rw [e]
  rw [show Block.wcol (iblk m c 3 t) y1 = _ from funext (col3 m c t y1)]
  simp only [col0, col1, col2, col4]
  rfl

/-- The weights' gradient. -/
theorem final8 (c : Dev nD) : (dats m 0 c).arrAt 8 cfg0.N = (fun y => dw (m ((c : Thread nD τ).loc main_arg0)) (m ((c : Thread nD τ).loc main_arg2)) (y 0) (y 1)) := by
  refine (dats m 0 c).arrAt_eq_of_covers 8 _ (by decide +kernel) fun t _ y => ?_
  blk_simp
  rw [after0_8]
  idx_vars y
  have e : ((View.whole main_v0_3).slice (win0_8.rect t)).emb (ix2 y0 y1) = ix2 y0 (at4 t y1) := by
    blk_ext [idx t]
  refine (Block.out8_apply _ _ _ _ _ _ _).trans ?_
  simp only [col0, col1, col2, col4]
  rw [e]
  rfl

/-- The kernel's run with its four results named as the gradients of the arguments. -/
theorem run : θ_run defs (onTc (τ := τ) (main (F := Ideal))) ⟨m, fun _ => 0, ρ⟩ fun r => ∀ c : Dev nD,
      r.2.mem ((c : Thread nD τ).loc main_v0_0) = (fun y => dgb (m ((c : Thread nD τ).loc main_arg0)) (m ((c : Thread nD τ).loc main_arg1)) (m ((c : Thread nD τ).loc main_arg2)) (y 0) (y 1))
      ∧ r.2.mem ((c : Thread nD τ).loc main_v0_1) = (fun y => dgc (m ((c : Thread nD τ).loc main_arg0)) (m ((c : Thread nD τ).loc main_arg1)) (m ((c : Thread nD τ).loc main_arg2)) (y 0) (y 1))
      ∧ r.2.mem ((c : Thread nD τ).loc main_v0_2) = (fun y => dh (m ((c : Thread nD τ).loc main_arg0)) (m ((c : Thread nD τ).loc main_arg1)) (m ((c : Thread nD τ).loc main_arg2)) (y 0) (y 1))
      ∧ r.2.mem ((c : Thread nD τ).loc main_v0_3) = (fun y => dw (m ((c : Thread nD τ).loc main_arg0)) (m ((c : Thread nD τ).loc main_arg2)) (y 0) (y 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final5 m c), (h c).2.1.trans (final6 m c),
    (h c).2.2.1.trans (final7 m c), (h c).2.2.2.1.trans (final8 m c), (h c).2.2.2.2⟩)
    (Value.run_blocks (F := Ideal) m ρ)

end Cert.ScGradIdeal.Arrays

end
-- ==== Proof.ScRef.lean ====
/-
  The four arrays the reference's run leaves, at an index.
-/
module

public import proofs.«01_k».proof.Proof.Gen.ScRefIdeal.Run
public import proofs.«01_k».proof.Proof.ScSpec
public import Idealize.ShloMosaic.Lib.Pointwise
public import Idealize.ShloMosaic.Lib.IdealHost

@[expose] public section

set_option maxRecDepth 16384

noncomputable section

namespace Cert.ScRefIdeal.Terms

open Cert.ScRefIdeal Cert.ScRefIdeal.Gen Cert.ScSpec Idealize.ShloMosaic Idealize.ShloMosaic.TcCoe Idealize.SL.Sem

variable (m : (ℓ : Loc nD τ sig) → Buf (Elt Ideal) ℓ) (ρ : Dev nD → PrngReg)

/-- The gradient of the first weight: the sum over all rows but the first two. -/
theorem wgrad_zero (d s : Fin 2048 → EReal) :
    wgrad d s 0 = ∑ x : Fin 2046, s ⟨x, by omega⟩ * d ⟨2 + x, by omega⟩ := by
  unfold wgrad dn
  refine (Fin.sum_univ_add (a := 2) (b := 2046) (fun i => d i * _)).trans ?_
  rw [Finset.sum_eq_zero (fun i _ => by
    rw [if_pos (show ((Fin.castAdd 2046 i : Fin (2 + 2046)) : ℕ) < 2 - ((0 : Fin 3) : ℕ) from i.isLt), mul_zero]), zero_add]
  refine Finset.sum_congr rfl fun x _ => ?_
  rw [if_neg (show ¬ ((Fin.natAdd 2 x : Fin (2 + 2046)) : ℕ) < 2 - ((0 : Fin 3) : ℕ) from
    Nat.not_lt.mpr (Nat.le_add_right 2 (x : ℕ))), mul_comm]
  refine congrArg₂ _ (congrArg s (Fin.ext ?_)) rfl
  show 2 + (x : ℕ) - 2 = x
  omega

/-- A shift by no rows. -/
theorem dn_zero (s : Fin 2048 → EReal) (i : Fin 2048) : dn (2 - ((2 : Fin 3) : ℕ)) s i = s i :=
  if_neg (Nat.not_lt_zero _)

/-- The convolution with its factors in the other order. -/
theorem conv_comm (w : Fin 3 → EReal) (s : Fin 2048 → EReal) (i : Fin 2048) :
    conv w s i = dn 2 s i * w 0 + dn 1 s i * w 1 + s i * w 2 := by
  unfold conv; rw [mul_comm (w 0), mul_comm (w 1), mul_comm (w 2)]

/-- The transposed convolution with its factors in the other order, and the factors inside the condition. -/
theorem convT_comm (w : Fin 3 → EReal) (d e : Fin 2048 → EReal) (h : ∀ i, d i = e i) (i : Fin 2048) :
    convT w d i = e i * w 2 + (if h : (i : ℕ) + 1 < 2048 then e ⟨i + 1, h⟩ * w 1 else 0)
      + (if h : (i : ℕ) + 2 < 2048 then e ⟨i + 2, h⟩ * w 0 else 0) := by
  obtain rfl : d = e := funext h
  unfold convT up; rw [mul_comm (w 0), mul_comm (w 1), mul_comm (w 2)]
  simp only [dite_mul, zero_mul]

set_option backward.isDefEq.respectTransparency false in
/-- The reference's run with its four results named as the gradients of the arguments. -/
theorem run : θ_run defs (onTc (τ := τ) (main (F := Ideal))) ⟨m, fun _ => 0, ρ⟩ fun r => ∀ c : Dev nD,
      r.2.mem ((c.tc : Thread nD τ).loc main_v30) = (fun y => dgb (m ((c.tc : Thread nD τ).loc main_arg0)) (m ((c.tc : Thread nD τ).loc main_arg1)) (m ((c.tc : Thread nD τ).loc main_arg2)) (y 0) (y 1))
      ∧ r.2.mem ((c.tc : Thread nD τ).loc main_v65) = (fun y => dgc (m ((c.tc : Thread nD τ).loc main_arg0)) (m ((c.tc : Thread nD τ).loc main_arg1)) (m ((c.tc : Thread nD τ).loc main_arg2)) (y 0) (y 1))
      ∧ r.2.mem ((c.tc : Thread nD τ).loc main_v64) = (fun y => dh (m ((c.tc : Thread nD τ).loc main_arg0)) (m ((c.tc : Thread nD τ).loc main_arg1)) (m ((c.tc : Thread nD τ).loc main_arg2)) (y 0) (y 1))
      ∧ r.2.mem ((c.tc : Thread nD τ).loc main_v59) = (fun y => dw (m ((c.tc : Thread nD τ).loc main_arg0)) (m ((c.tc : Thread nD τ).loc main_arg2)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run (F := Ideal) m ρ)
  obtain ⟨h1, h2, h3, h4, h5⟩ := h c
  refine ⟨h1.trans ?_, h2.trans ?_, h3.trans ?_, h4.trans ?_, h5⟩
  · clear h h1 h2 h3 h4 h5
    generalize m ((c.tc : Thread nD τ).loc main_arg0) = P
    generalize m ((c.tc : Thread nD τ).loc main_arg1) = W
    generalize m ((c.tc : Thread nD τ).loc main_arg2) = D
    funext y
    idx_vars y
    pointwise
    unfold dgb
    rw [conv_comm]
    have e : ∀ i : ℕ, 1 + i - 2 = i - 1 := fun i => by omega
    have e' : ∀ i : ℕ, (1 + i < 2) = (i < 1) := fun i => by apply propext; omega
    simp only [dite_eq_ite, e, e']
    rfl
  · clear h h1 h2 h3 h4 h5
    generalize m ((c.tc : Thread nD τ).loc main_arg0) = P
    generalize m ((c.tc : Thread nD τ).loc main_arg1) = W
    generalize m ((c.tc : Thread nD τ).loc main_arg2) = D
    funext y
    idx_vars y
    pointwise
    unfold dgc hin
    refine congrArg (· * _) ?_
    refine Eq.trans ?_ (convT_comm _ _ (fun i => gb P y1 i * cot D y1 i) (fun i => mul_comm _ _) y0).symm
    have e' : ∀ i : ℕ, 2 + i = i + 2 := fun i => by omega
    have e2 : ∀ i : ℕ, (1 ≤ i + 2 ∧ i + 1 < 2048) = (i + 1 < 2048) := fun i => by apply propext; omega
    have e3 : ∀ i : ℕ, i + 2 - 1 = i + 1 := fun i => by omega
    simp only [e', e2, e3]
    rfl
  · clear h h1 h2 h3 h4 h5
    generalize m ((c.tc : Thread nD τ).loc main_arg0) = P
    generalize m ((c.tc : Thread nD τ).loc main_arg1) = W
    generalize m ((c.tc : Thread nD τ).loc main_arg2) = D
    funext y
    idx_vars y
    pointwise
    unfold dh gc
    rw [mul_comm]
    refine congrArg (· * _) ?_
    refine Eq.trans ?_ (convT_comm _ _ (fun i => gb P y1 i * cot D y1 i) (fun i => mul_comm _ _) y0).symm
    have e' : ∀ i : ℕ, 2 + i = i + 2 := fun i => by omega
    have e2 : ∀ i : ℕ, (1 ≤ i + 2 ∧ i + 1 < 2048) = (i + 1 < 2048) := fun i => by apply propext; omega
    have e3 : ∀ i : ℕ, i + 2 - 1 = i + 1 := fun i => by omega
    simp only [e', e2, e3]
    rfl
  · clear h h1 h2 h3 h4 h5
    generalize m ((c.tc : Thread nD τ).loc main_arg0) = P
    generalize m ((c.tc : Thread nD τ).loc main_arg1) = W
    generalize m ((c.tc : Thread nD τ).loc main_arg2) = D
    funext y
    idx_vars y
    pointwise
    unfold dw
    have e : ∀ i : ℕ, 1 + i - 2 = i - 1 := fun i => by omega
    have e' : ∀ i : ℕ, (1 + i < 2) = (i < 1) := fun i => by apply propext; omega
    simp only [e, e', zero_mul, Finset.sum_const_zero, zero_add]
    match y0 with
    | 0 =>
      rw [wgrad_zero, dif_neg (fun h => absurd h.1 (by decide)), dif_neg (fun h => absurd h.1 (by decide)),
        dif_pos (by decide), zero_add, zero_add, Fin.sum_univ_one]
      exact Finset.sum_congr rfl fun x _ => congrArg₂ (· * ·) rfl (mul_comm _ _)
    | 1 =>
      rw [dif_neg (fun h => absurd h.1 (by decide)), dif_pos (by decide), dif_neg (by decide), zero_add, add_zero,
        Fin.sum_univ_one]
      exact Finset.sum_congr rfl fun x _ => (mul_comm _ _).trans (congrArg₂ (· * ·) (mul_comm _ _) rfl)
    | 2 =>
      rw [dif_pos (by decide), dif_neg (fun h => absurd h.2 (by decide)), dif_neg (by decide), add_zero, add_zero,
        Fin.sum_univ_one]
      exact Finset.sum_congr rfl fun x _ => (mul_comm _ _).trans (congrArg₂ (· * ·) (mul_comm _ _) (dn_zero (sgl P y1) x).symm)

end Cert.ScRefIdeal.Terms

end
-- ==== Proof.DwDown.lean ====
/-
  The call for the gradient of the down projection's weights: the array its run leaves, and the array the reference's run leaves.
-/
module

public import proofs.«01_k».proof.Proof.Gen.DwDownIdeal.Value
public import proofs.«01_k».proof.Proof.Gen.DwDownRefIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.DwDownIdeal.Arrays

open Cert.DwDownIdeal Cert.DwDownIdeal.Gen Idealize.ShloMosaic Idealize.ShloMosaic.TcCoe Idealize.SL.Sem
open Idealize.ShloMosaic.Pipeline (Dat)

/-- One entry of the product. -/
def entry (x : Vec Ideal S2048x5632 .bf16) (d : Vec Ideal S2048x2048 .f32) (i : Fin 5632) (j : Fin 2048) : EReal :=
  ∑ k : Fin 2048, (x (ix2 k i) : EReal) * d (ix2 k j)

/-- The array of the product's entries. -/
def prod (x : Vec Ideal S2048x5632 .bf16) (d : Vec Ideal S2048x2048 .f32) : Vec Ideal S5632x2048 .bf16 :=
  fun y => entry x d (y 0) (y 1)

variable (m : (ℓ : Loc nD τ sig) → Buf (Elt Ideal) ℓ) (ρ : Dev nD → PrngReg)

/-- Which block each window reads or writes at a point. -/
theorem idx : ∀ t : Fin cfg0.N, win0_0.index t = ![0, t.val / 4] ∧ win0_1.index t = ![0, t.val % 4]
    ∧ win0_2.index t = ![t.val / 4, t.val % 4] :=
  (by decide +kernel : ∀ t : Fin grid0.N, _)

/-- The array after the kernel's run. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  unfold prod entry
  pointwise [k0_pay1]
  blk_point [iblk, V, idx t]

/-- The kernel's run with its result named. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks (F := Ideal) m ρ)

end Cert.DwDownIdeal.Arrays

namespace Cert.DwDownRefIdeal.Terms

open Cert.DwDownRefIdeal Cert.DwDownRefIdeal.Gen Idealize.ShloMosaic Idealize.ShloMosaic.TcCoe Idealize.SL.Sem

variable (m : (ℓ : Loc nD τ sig) → Buf (Elt Ideal) ℓ) (ρ : Dev nD → PrngReg)

set_option backward.isDefEq.respectTransparency false in
/-- The reference's run with its result named. -/
theorem run : θ_run defs (onTc (τ := τ) (main (F := Ideal))) ⟨m, fun _ => 0, ρ⟩ fun r => ∀ c : Dev nD,
      r.2.mem ((c.tc : Thread nD τ).loc main_v5) = Cert.DwDownIdeal.Arrays.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run (F := Ideal) m ρ)
  funext y
  idx_vars y
  unfold Cert.DwDownIdeal.Arrays.prod Cert.DwDownIdeal.Arrays.entry
  pointwise
  refine Finset.sum_congr rfl fun k _ => ?_
  exact mul_comm _ _

end Cert.DwDownRefIdeal.Terms

end
-- ==== Proof.DxDown.lean ====
/-
  The call for the gradient of the down projection's input: the array its run leaves, and the array the reference's run leaves.
-/
module

public import proofs.«01_k».proof.Proof.Gen.DxDownIdeal.Value
public import proofs.«01_k».proof.Proof.Gen.DxDownRefIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.DxDownIdeal.Arrays

open Cert.DxDownIdeal Cert.DxDownIdeal.Gen Idealize.ShloMosaic Idealize.ShloMosaic.TcCoe Idealize.SL.Sem
open Idealize.ShloMosaic.Pipeline (Dat)

/-- One entry of the product. -/
def entry (d : Vec Ideal S2048x2048 .f32) (w : Vec Ideal S5632x2048 .bf16) (i : Fin 2048) (j : Fin 5632) : EReal :=
  ∑ k : Fin 2048, (d (ix2 i k) : EReal) * w (ix2 j k)

/-- The array of the product's entries. -/
def prod (d : Vec Ideal S2048x2048 .f32) (w : Vec Ideal S5632x2048 .bf16) : Vec Ideal S2048x5632 .f32 :=
  fun y => entry d w (y 0) (y 1)

variable (m : (ℓ : Loc nD τ sig) → Buf (Elt Ideal) ℓ) (ρ : Dev nD → PrngReg)

/-- Which block each window reads or writes at a point. -/
theorem idx : ∀ t : Fin cfg0.N, win0_0.index t = ![t.val / 11, 0] ∧ win0_1.index t = ![t.val % 11, 0]
    ∧ win0_2.index t = ![t.val / 11, t.val % 11] :=
  (by decide +kernel : ∀ t : Fin grid0.N, _)

/-- The array after the kernel's run. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  unfold prod entry
  pointwise [k0_pay1]
  blk_point [iblk, V, idx t]

/-- The kernel's run with its result named. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks (F := Ideal) m ρ)

end Cert.DxDownIdeal.Arrays

namespace Cert.DxDownRefIdeal.Terms

open Cert.DxDownRefIdeal Cert.DxDownRefIdeal.Gen Idealize.ShloMosaic Idealize.ShloMosaic.TcCoe Idealize.SL.Sem

variable (m : (ℓ : Loc nD τ sig) → Buf (Elt Ideal) ℓ) (ρ : Dev nD → PrngReg)

set_option backward.isDefEq.respectTransparency false in
/-- The reference's run with its result named. -/
theorem run : θ_run defs (onTc (τ := τ) (main (F := Ideal))) ⟨m, fun _ => 0, ρ⟩ fun r => ∀ c : Dev nD,
      r.2.mem ((c.tc : Thread nD τ).loc main_v3) = Cert.DxDownIdeal.Arrays.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run (F := Ideal) m ρ)
  funext y
  idx_vars y
  unfold Cert.DxDownIdeal.Arrays.prod Cert.DxDownIdeal.Arrays.entry
  pointwise

end Cert.DxDownRefIdeal.Terms

end
-- ==== Proof.DwUp.lean ====
/-
  The call for the gradient of the up projection's weights: the array its run leaves, and the array the reference's run leaves.
-/
module

public import proofs.«01_k».proof.Proof.Gen.DwUpIdeal.Value
public import proofs.«01_k».proof.Proof.Gen.DwUpRefIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.DwUpIdeal.Arrays

open Cert.DwUpIdeal Cert.DwUpIdeal.Gen Idealize.ShloMosaic Idealize.ShloMosaic.TcCoe Idealize.SL.Sem
open Idealize.ShloMosaic.Pipeline (Dat)

/-- One entry of the product. -/
def entry (x : Vec Ideal S2048x2048 .bf16) (d : Vec Ideal S2x2048x5632 .bf16) (i : Fin 2048) (j : Fin 11264) : EReal :=
  ∑ k : Fin 2048, (x (ix2 k i) : EReal) * (if h : (j : ℕ) < 5632 then d (ix3 (0 : Fin 2) k (⟨j, h⟩ : Fin 5632)) else d (ix3 (1 : Fin 2) k (⟨j - 5632, by omega⟩ : Fin 5632)) : EReal)

/-- The array of the product's entries. -/
def prod (x : Vec Ideal S2048x2048 .bf16) (d : Vec Ideal S2x2048x5632 .bf16) : Vec Ideal S2048x11264 .bf16 :=
  fun y => entry x d (y 0) (y 1)

variable (m : (ℓ : Loc nD τ sig) → Buf (Elt Ideal) ℓ) (ρ : Dev nD → PrngReg)

/-- Which block each window reads or writes at a point. -/
theorem idx : ∀ t : Fin cfg0.N, win0_0.index t = ![0, t.val / 22] ∧ win0_1.index t = ![(t.val % 22) / 11, 0, (t.val % 22) % 11]
    ∧ win0_2.index t = ![t.val / 22, t.val % 22] :=
  (by decide +kernel : ∀ t : Fin grid0.N, _)

/-- The array after the kernel's run. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  unfold prod entry
  pointwise [k0_pay1]
  refine Fin.sum_fin_congr fun k => congrArg₂ (· * ·) ?_ ?_
  · blk_point [iblk, V, idx t]
  · split_ifs with h
    · have hh := h
      blk_simp [idx t] at hh
      have := y1.isLt
      blk_ext [iblk, V, idx t] <;> omega
    · have hh := h
      blk_simp [idx t] at hh
      have := y1.isLt
      have := lt_of_lt_of_eq t.isLt N_0
      blk_ext [iblk, V, idx t] <;> omega

/-- The kernel's run with its result named. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks (F := Ideal) m ρ)

end Cert.DwUpIdeal.Arrays

namespace Cert.DwUpRefIdeal.Terms

open Cert.DwUpRefIdeal Cert.DwUpRefIdeal.Gen Idealize.ShloMosaic Idealize.ShloMosaic.TcCoe Idealize.SL.Sem

variable (m : (ℓ : Loc nD τ sig) → Buf (Elt Ideal) ℓ) (ρ : Dev nD → PrngReg)

set_option backward.isDefEq.respectTransparency false in
/-- The reference's run with its result named. -/
theorem run : θ_run defs (onTc (τ := τ) (main (F := Ideal))) ⟨m, fun _ => 0, ρ⟩ fun r => ∀ c : Dev nD,
      r.2.mem ((c.tc : Thread nD τ).loc main_v11) = Cert.DwUpIdeal.Arrays.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run (F := Ideal) m ρ)
  funext y
  idx_vars y
  unfold Cert.DwUpIdeal.Arrays.prod Cert.DwUpIdeal.Arrays.entry
  pointwise
  exact Finset.sum_congr rfl fun k _ => mul_comm _ _

end Cert.DwUpRefIdeal.Terms

end
-- ==== Proof.DxUp.lean ====
/-
  The call for the gradient of the up projection's input: the array its run leaves, and the array the reference's run leaves.
-/
module

public import proofs.«01_k».proof.Proof.Gen.DxUpIdeal.Value
public import proofs.«01_k».proof.Proof.Gen.DxUpRefIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.DxUpIdeal.Arrays

open Cert.DxUpIdeal Cert.DxUpIdeal.Gen Idealize.ShloMosaic Idealize.ShloMosaic.TcCoe Idealize.SL.Sem
open Idealize.ShloMosaic.Pipeline (Dat)

/-- One entry of the product. -/
def entry (d : Vec Ideal S2x2048x5632 .bf16) (w : Vec Ideal S2048x11264 .bf16) (i : Fin 2048) (j : Fin 2048) : EReal :=
  (∑ k : Fin 5632, (d (ix3 (0 : Fin 2) i k) : EReal) * w (ix2 j (⟨k, by omega⟩ : Fin 11264)))
    + ∑ k : Fin 5632, (d (ix3 (1 : Fin 2) i k) : EReal) * w (ix2 j (⟨5632 + k, by omega⟩ : Fin 11264))

/-- The array of the product's entries. -/
def prod (d : Vec Ideal S2x2048x5632 .bf16) (w : Vec Ideal S2048x11264 .bf16) : Vec Ideal S2048x2048 .f32 :=
  fun y => entry d w (y 0) (y 1)

variable (m : (ℓ : Loc nD τ sig) → Buf (Elt Ideal) ℓ) (ρ : Dev nD → PrngReg)

/-- Which block each window reads or writes at a point. -/
theorem idx : ∀ t : Fin cfg0.N, win0_0.index t = ![t.val % 2, t.val / 8, 0] ∧ win0_1.index t = ![t.val / 2 % 4, t.val % 2]
    ∧ win0_2.index t = ![t.val / 8, t.val / 2 % 4] :=
  (by decide +kernel : ∀ t : Fin grid0.N, _)

/-- The array after the kernel's run. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have hp : t.val - 1 < cfg0.N := lt_of_le_of_lt (Nat.sub_le _ _) t.isLt
  blk_simp
  rw [after0_2, outsAt0_B m c t (by omega) h1 h1]
  frame_out
  rw [outsAt0_A m c ⟨t.val - 1, hp⟩ (show (t.val - 1) % 2 = 0 by omega) (show ¬ (t.val - 1) % 2 = 1 by omega)
    (show ¬ (t.val - 1) % 2 = 1 by omega)]
  frame_out
  idx_vars y
  unfold prod entry
  rw [show ∀ v : Vec Ideal S1024x512 .f32, (View.whole cc0_scratch0).read (Elt Ideal) ((Memref.isWhole_whole cc0_scratch0).unread v) = v from fun v => (Memref.isWhole_whole cc0_scratch0).read_unread v]
  pointwise [k0_pay3, k0_pay2, k0_pay1]
  have i0 := idx t
  have i1 := idx ⟨t.val - 1, hp⟩
  dsimp only at i1
  refine congrArg₂ (· + ·) (Fin.sum_fin_congr fun k => ?_) (Fin.sum_fin_congr fun k => ?_)
  · blk_point [iblk, V, i0, i1]
  · blk_point [iblk, V, i0, i1]

/-- The kernel's run with its result named. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks (F := Ideal) m ρ)

end Cert.DxUpIdeal.Arrays

namespace Cert.DxUpRefIdeal.Terms

open Cert.DxUpRefIdeal Cert.DxUpRefIdeal.Gen Idealize.ShloMosaic Idealize.ShloMosaic.TcCoe Idealize.SL.Sem

variable (m : (ℓ : Loc nD τ sig) → Buf (Elt Ideal) ℓ) (ρ : Dev nD → PrngReg)

set_option backward.isDefEq.respectTransparency false in
/-- The reference's run with its result named. -/
theorem run : θ_run defs (onTc (τ := τ) (main (F := Ideal))) ⟨m, fun _ => 0, ρ⟩ fun r => ∀ c : Dev nD,
      r.2.mem ((c.tc : Thread nD τ).loc main_v9) = Cert.DxUpIdeal.Arrays.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run (F := Ideal) m ρ)
  funext y
  idx_vars y
  unfold Cert.DxUpIdeal.Arrays.prod Cert.DxUpIdeal.Arrays.entry
  pointwise

end Cert.DxUpRefIdeal.Terms

end
-- ==== Proof.DwOut.lean ====
/-
  The call for the gradient of the output projection's weights: the array its run leaves, and the array the reference's run leaves.
-/
module

public import proofs.«01_k».proof.Proof.Gen.DwOutIdeal.Value
public import proofs.«01_k».proof.Proof.Gen.DwOutRefIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.DwOutIdeal.Arrays

open Cert.DwOutIdeal Cert.DwOutIdeal.Gen Idealize.ShloMosaic Idealize.ShloMosaic.TcCoe Idealize.SL.Sem
open Idealize.ShloMosaic.Pipeline (Dat)

/-- One entry of the product. -/
def entry (x : Vec Ideal S2048x2048 .bf16) (d : Vec Ideal S2048x2048 .f32) (i : Fin 2048) (j : Fin 2048) : EReal :=
  ∑ k : Fin 2048, (x (ix2 k i) : EReal) * d (ix2 k j)

/-- The array of the product's entries. -/
def prod (x : Vec Ideal S2048x2048 .bf16) (d : Vec Ideal S2048x2048 .f32) : Vec Ideal S2048x2048 .bf16 :=
  fun y => entry x d (y 0) (y 1)

variable (m : (ℓ : Loc nD τ sig) → Buf (Elt Ideal) ℓ) (ρ : Dev nD → PrngReg)

/-- Which block each window reads or writes at a point. -/
theorem idx : ∀ t : Fin cfg0.N, win0_0.index t = ![0, t.val / 4] ∧ win0_1.index t = ![0, t.val % 4]
    ∧ win0_2.index t = ![t.val / 4, t.val % 4] :=
  (by decide +kernel : ∀ t : Fin grid0.N, _)

/-- The array after the kernel's run. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  unfold prod entry
  pointwise [k0_pay1]
  blk_point [iblk, V, idx t]

/-- The kernel's run with its result named. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks (F := Ideal) m ρ)

end Cert.DwOutIdeal.Arrays

namespace Cert.DwOutRefIdeal.Terms

open Cert.DwOutRefIdeal Cert.DwOutRefIdeal.Gen Idealize.ShloMosaic Idealize.ShloMosaic.TcCoe Idealize.SL.Sem

variable (m : (ℓ : Loc nD τ sig) → Buf (Elt Ideal) ℓ) (ρ : Dev nD → PrngReg)

set_option backward.isDefEq.respectTransparency false in
/-- The reference's run with its result named. -/
theorem run : θ_run defs (onTc (τ := τ) (main (F := Ideal))) ⟨m, fun _ => 0, ρ⟩ fun r => ∀ c : Dev nD,
      r.2.mem ((c.tc : Thread nD τ).loc main_v5) = Cert.DwOutIdeal.Arrays.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run (F := Ideal) m ρ)
  funext y
  idx_vars y
  unfold Cert.DwOutIdeal.Arrays.prod Cert.DwOutIdeal.Arrays.entry
  pointwise
  refine Finset.sum_congr rfl fun k _ => ?_
  exact mul_comm _ _

end Cert.DwOutRefIdeal.Terms

end
-- ==== Proof.DxOut.lean ====
/-
  The call for the gradient of the output projection's input: the array its run leaves, and the array the reference's run leaves.
-/
module

public import proofs.«01_k».proof.Proof.Gen.DxOutIdeal.Value
public import proofs.«01_k».proof.Proof.Gen.DxOutRefIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.DxOutIdeal.Arrays

open Cert.DxOutIdeal Cert.DxOutIdeal.Gen Idealize.ShloMosaic Idealize.ShloMosaic.TcCoe Idealize.SL.Sem
open Idealize.ShloMosaic.Pipeline (Dat)

/-- One entry of the product. -/
def entry (d : Vec Ideal S2048x2048 .f32) (w : Vec Ideal S2048x2048 .bf16) (i : Fin 2048) (j : Fin 2048) : EReal :=
  ∑ k : Fin 2048, (d (ix2 i k) : EReal) * w (ix2 j k)

/-- The array of the product's entries. -/
def prod (d : Vec Ideal S2048x2048 .f32) (w : Vec Ideal S2048x2048 .bf16) : Vec Ideal S2048x2048 .f32 :=
  fun y => entry d w (y 0) (y 1)

variable (m : (ℓ : Loc nD τ sig) → Buf (Elt Ideal) ℓ) (ρ : Dev nD → PrngReg)

/-- Which block each window reads or writes at a point. -/
theorem idx : ∀ t : Fin cfg0.N, win0_0.index t = ![t.val / 4, 0] ∧ win0_1.index t = ![t.val % 4, 0]
    ∧ win0_2.index t = ![t.val / 4, t.val % 4] :=
  (by decide +kernel : ∀ t : Fin grid0.N, _)

/-- The array after the kernel's run. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  unfold prod entry
  pointwise [k0_pay1]
  blk_point [iblk, V, idx t]

/-- The kernel's run with its result named. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks (F := Ideal) m ρ)

end Cert.DxOutIdeal.Arrays

namespace Cert.DxOutRefIdeal.Terms

open Cert.DxOutRefIdeal Cert.DxOutRefIdeal.Gen Idealize.ShloMosaic Idealize.ShloMosaic.TcCoe Idealize.SL.Sem

variable (m : (ℓ : Loc nD τ sig) → Buf (Elt Ideal) ℓ) (ρ : Dev nD → PrngReg)

set_option backward.isDefEq.respectTransparency false in
/-- The reference's run with its result named. -/
theorem run : θ_run defs (onTc (τ := τ) (main (F := Ideal))) ⟨m, fun _ => 0, ρ⟩ fun r => ∀ c : Dev nD,
      r.2.mem ((c.tc : Thread nD τ).loc main_v3) = Cert.DxOutIdeal.Arrays.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run (F := Ideal) m ρ)
  funext y
  idx_vars y
  unfold Cert.DxOutIdeal.Arrays.prod Cert.DxOutIdeal.Arrays.entry
  pointwise

end Cert.DxOutRefIdeal.Terms

end
-- ==== Proof.DwInA.lean ====
/-
  The call for the gradient of the first layer's input projection's weights: the array its run leaves, and the array the reference's run leaves.
-/
module

public import proofs.«01_k».proof.Proof.Gen.DwInAIdeal.Value
public import proofs.«01_k».proof.Proof.Gen.DwInARefIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.DwInAIdeal.Arrays

open Cert.DwInAIdeal Cert.DwInAIdeal.Gen Idealize.ShloMosaic Idealize.ShloMosaic.TcCoe Idealize.SL.Sem
open Idealize.ShloMosaic.Pipeline (Dat)

/-- One entry of the product. -/
def entry (x : Vec Ideal S2048x2048 .bf16) (d : Vec Ideal S2048x6144 .bf16) (i : Fin 2048) (j : Fin 6144) : EReal :=
  ∑ k : Fin 2048, (x (ix2 k i) : EReal) * d (ix2 k j)

/-- The array of the product's entries. -/
def prod (x : Vec Ideal S2048x2048 .bf16) (d : Vec Ideal S2048x6144 .bf16) : Vec Ideal S2048x6144 .bf16 :=
  fun y => entry x d (y 0) (y 1)

variable (m : (ℓ : Loc nD τ sig) → Buf (Elt Ideal) ℓ) (ρ : Dev nD → PrngReg)

/-- Which block each window reads or writes at a point. -/
theorem idx : ∀ t : Fin cfg0.N, win0_0.index t = ![0, t.val / 12] ∧ win0_1.index t = ![0, t.val % 12]
    ∧ win0_2.index t = ![t.val / 12, t.val % 12] :=
  (by decide +kernel : ∀ t : Fin grid0.N, _)

/-- The array after the kernel's run. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  unfold prod entry
  pointwise [k0_pay1]
  blk_point [iblk, V, idx t]

/-- The kernel's run with its result named. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks (F := Ideal) m ρ)

end Cert.DwInAIdeal.Arrays

namespace Cert.DwInARefIdeal.Terms

open Cert.DwInARefIdeal Cert.DwInARefIdeal.Gen Idealize.ShloMosaic Idealize.ShloMosaic.TcCoe Idealize.SL.Sem

variable (m : (ℓ : Loc nD τ sig) → Buf (Elt Ideal) ℓ) (ρ : Dev nD → PrngReg)

set_option backward.isDefEq.respectTransparency false in
/-- The reference's run with its result named. -/
theorem run : θ_run defs (onTc (τ := τ) (main (F := Ideal))) ⟨m, fun _ => 0, ρ⟩ fun r => ∀ c : Dev nD,
      r.2.mem ((c.tc : Thread nD τ).loc main_v6) = Cert.DwInAIdeal.Arrays.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run (F := Ideal) m ρ)
  funext y
  idx_vars y
  unfold Cert.DwInAIdeal.Arrays.prod Cert.DwInAIdeal.Arrays.entry
  pointwise
  refine Finset.sum_congr rfl fun k _ => ?_
  exact mul_comm _ _

end Cert.DwInARefIdeal.Terms

end
-- ==== Proof.DxInA.lean ====
/-
  The call for the gradient of the first layer's input projection's input: the array its run leaves, and the array the reference's run leaves.
-/
module

public import proofs.«01_k».proof.Proof.Gen.DxInAIdeal.Value
public import proofs.«01_k».proof.Proof.Gen.DxInARefIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.DxInAIdeal.Arrays

open Cert.DxInAIdeal Cert.DxInAIdeal.Gen Idealize.ShloMosaic Idealize.ShloMosaic.TcCoe Idealize.SL.Sem
open Idealize.ShloMosaic.Pipeline (Dat)

/-- One entry of the product. -/
def entry (d : Vec Ideal S2048x6144 .bf16) (w : Vec Ideal S2048x6144 .bf16) (i : Fin 2048) (j : Fin 2048) : EReal :=
  (∑ k : Fin 3072, (d (ix2 i (⟨k, by omega⟩ : Fin 6144)) : EReal) * w (ix2 j (⟨k, by omega⟩ : Fin 6144)))
    + ∑ k : Fin 3072, (d (ix2 i (⟨3072 + k, by omega⟩ : Fin 6144)) : EReal) * w (ix2 j (⟨3072 + k, by omega⟩ : Fin 6144))

/-- The array of the product's entries. -/
def prod (d : Vec Ideal S2048x6144 .bf16) (w : Vec Ideal S2048x6144 .bf16) : Vec Ideal S2048x2048 .f32 :=
  fun y => entry d w (y 0) (y 1)

variable (m : (ℓ : Loc nD τ sig) → Buf (Elt Ideal) ℓ) (ρ : Dev nD → PrngReg)

/-- Which block each window reads or writes at a point. -/
theorem idx : ∀ t : Fin cfg0.N, win0_0.index t = ![t.val / 8, t.val % 2] ∧ win0_1.index t = ![t.val / 2 % 4, t.val % 2]
    ∧ win0_2.index t = ![t.val / 8, t.val / 2 % 4] :=
  (by decide +kernel : ∀ t : Fin grid0.N, _)

/-- The array after the kernel's run. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have hp : t.val - 1 < cfg0.N := lt_of_le_of_lt (Nat.sub_le _ _) t.isLt
  blk_simp
  rw [after0_2, outsAt0_B m c t (by omega) h1 h1]
  frame_out
  rw [outsAt0_A m c ⟨t.val - 1, hp⟩ (show (t.val - 1) % 2 = 0 by omega) (show ¬ (t.val - 1) % 2 = 1 by omega)
    (show ¬ (t.val - 1) % 2 = 1 by omega)]
  frame_out
  idx_vars y
  unfold prod entry
  rw [show ∀ v : Vec Ideal S1024x512 .f32, (View.whole cc0_scratch0).read (Elt Ideal) ((Memref.isWhole_whole cc0_scratch0).unread v) = v from fun v => (Memref.isWhole_whole cc0_scratch0).read_unread v]
  pointwise [k0_pay3, k0_pay2, k0_pay1]
  have i0 := idx t
  have i1 := idx ⟨t.val - 1, hp⟩
  dsimp only at i1
  refine congrArg₂ (· + ·) (Fin.sum_fin_congr fun k => ?_) (Fin.sum_fin_congr fun k => ?_)
  · blk_point [iblk, V, i0, i1]
  · blk_point [iblk, V, i0, i1]

/-- The kernel's run with its result named. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks (F := Ideal) m ρ)

end Cert.DxInAIdeal.Arrays

namespace Cert.DxInARefIdeal.Terms

open Cert.DxInARefIdeal Cert.DxInARefIdeal.Gen Idealize.ShloMosaic Idealize.ShloMosaic.TcCoe Idealize.SL.Sem

variable (m : (ℓ : Loc nD τ sig) → Buf (Elt Ideal) ℓ) (ρ : Dev nD → PrngReg)

set_option backward.isDefEq.respectTransparency false in
/-- The reference's run with its result named. -/
theorem run : θ_run defs (onTc (τ := τ) (main (F := Ideal))) ⟨m, fun _ => 0, ρ⟩ fun r => ∀ c : Dev nD,
      r.2.mem ((c.tc : Thread nD τ).loc main_v4) = Cert.DxInAIdeal.Arrays.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run (F := Ideal) m ρ)
  funext y
  idx_vars y
  unfold Cert.DxInAIdeal.Arrays.prod Cert.DxInAIdeal.Arrays.entry
  pointwise
  exact Fin.sum_univ_add (a := 3072) (b := 3072) _

end Cert.DxInARefIdeal.Terms

end
-- ==== Proof.DwInB.lean ====
/-
  The call for the gradient of the second layer's input projection's weights: the array its run leaves, and the array the reference's run leaves.
-/
module

public import proofs.«01_k».proof.Proof.Gen.DwInBIdeal.Value
public import proofs.«01_k».proof.Proof.Gen.DwInBRefIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.DwInBIdeal.Arrays

open Cert.DwInBIdeal Cert.DwInBIdeal.Gen Idealize.ShloMosaic Idealize.ShloMosaic.TcCoe Idealize.SL.Sem
open Idealize.ShloMosaic.Pipeline (Dat)

/-- One entry of the product. -/
def entry (x : Vec Ideal S2048x2048 .bf16) (d : Vec Ideal S2048x5120 .bf16) (i : Fin 2048) (j : Fin 5120) : EReal :=
  ∑ k : Fin 2048, (x (ix2 k i) : EReal) * d (ix2 k j)

/-- The array of the product's entries. -/
def prod (x : Vec Ideal S2048x2048 .bf16) (d : Vec Ideal S2048x5120 .bf16) : Vec Ideal S2048x5120 .bf16 :=
  fun y => entry x d (y 0) (y 1)

variable (m : (ℓ : Loc nD τ sig) → Buf (Elt Ideal) ℓ) (ρ : Dev nD → PrngReg)

/-- Which block each window reads or writes at a point. -/
theorem idx : ∀ t : Fin cfg0.N, win0_0.index t = ![0, t.val / 10] ∧ win0_1.index t = ![0, t.val % 10]
    ∧ win0_2.index t = ![t.val / 10, t.val % 10] :=
  (by decide +kernel : ∀ t : Fin grid0.N, _)

/-- The array after the kernel's run. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  unfold prod entry
  pointwise [k0_pay1]
  blk_point [iblk, V, idx t]

/-- The kernel's run with its result named. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks (F := Ideal) m ρ)

end Cert.DwInBIdeal.Arrays

namespace Cert.DwInBRefIdeal.Terms

open Cert.DwInBRefIdeal Cert.DwInBRefIdeal.Gen Idealize.ShloMosaic Idealize.ShloMosaic.TcCoe Idealize.SL.Sem

variable (m : (ℓ : Loc nD τ sig) → Buf (Elt Ideal) ℓ) (ρ : Dev nD → PrngReg)

set_option backward.isDefEq.respectTransparency false in
/-- The reference's run with its result named. -/
theorem run : θ_run defs (onTc (τ := τ) (main (F := Ideal))) ⟨m, fun _ => 0, ρ⟩ fun r => ∀ c : Dev nD,
      r.2.mem ((c.tc : Thread nD τ).loc main_v6) = Cert.DwInBIdeal.Arrays.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run (F := Ideal) m ρ)
  funext y
  idx_vars y
  unfold Cert.DwInBIdeal.Arrays.prod Cert.DwInBIdeal.Arrays.entry
  pointwise
  refine Finset.sum_congr rfl fun k _ => ?_
  exact mul_comm _ _

end Cert.DwInBRefIdeal.Terms

end
-- ==== Proof.DxInB.lean ====
/-
  The call for the gradient of the second layer's input projection's input: the array its run leaves, and the array the reference's run leaves.
-/
module

public import proofs.«01_k».proof.Proof.Gen.DxInBIdeal.Value
public import proofs.«01_k».proof.Proof.Gen.DxInBRefIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.DxInBIdeal.Arrays

open Cert.DxInBIdeal Cert.DxInBIdeal.Gen Idealize.ShloMosaic Idealize.ShloMosaic.TcCoe Idealize.SL.Sem
open Idealize.ShloMosaic.Pipeline (Dat)

/-- One entry of the product. -/
def entry (d : Vec Ideal S2048x5120 .bf16) (w : Vec Ideal S2048x5120 .bf16) (i : Fin 2048) (j : Fin 2048) : EReal :=
  ∑ k : Fin 5120, (d (ix2 i k) : EReal) * w (ix2 j k)

/-- The array of the product's entries. -/
def prod (d : Vec Ideal S2048x5120 .bf16) (w : Vec Ideal S2048x5120 .bf16) : Vec Ideal S2048x2048 .f32 :=
  fun y => entry d w (y 0) (y 1)

variable (m : (ℓ : Loc nD τ sig) → Buf (Elt Ideal) ℓ) (ρ : Dev nD → PrngReg)

/-- Which block each window reads or writes at a point. -/
theorem idx : ∀ t : Fin cfg0.N, win0_0.index t = ![t.val / 4, 0] ∧ win0_1.index t = ![t.val % 4, 0]
    ∧ win0_2.index t = ![t.val / 4, t.val % 4] :=
  (by decide +kernel : ∀ t : Fin grid0.N, _)

/-- The array after the kernel's run. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  unfold prod entry
  pointwise [k0_pay1]
  blk_point [iblk, V, idx t]

/-- The kernel's run with its result named. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks (F := Ideal) m ρ)

end Cert.DxInBIdeal.Arrays

namespace Cert.DxInBRefIdeal.Terms

open Cert.DxInBRefIdeal Cert.DxInBRefIdeal.Gen Idealize.ShloMosaic Idealize.ShloMosaic.TcCoe Idealize.SL.Sem

variable (m : (ℓ : Loc nD τ sig) → Buf (Elt Ideal) ℓ) (ρ : Dev nD → PrngReg)

set_option backward.isDefEq.respectTransparency false in
/-- The reference's run with its result named. -/
theorem run : θ_run defs (onTc (τ := τ) (main (F := Ideal))) ⟨m, fun _ => 0, ρ⟩ fun r => ∀ c : Dev nD,
      r.2.mem ((c.tc : Thread nD τ).loc main_v4) = Cert.DxInBIdeal.Arrays.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run (F := Ideal) m ρ)
  funext y
  idx_vars y
  unfold Cert.DxInBIdeal.Arrays.prod Cert.DxInBIdeal.Arrays.entry
  pointwise

end Cert.DxInBRefIdeal.Terms

end
-- ==== Proof.DwGate.lean ====
/-
  The call for the gradient of the forget logits' projection's weights: the array its run leaves, and the array the reference's run leaves.
-/
module

public import proofs.«01_k».proof.Proof.Gen.DwGateIdeal.Value
public import proofs.«01_k».proof.Proof.Gen.DwGateRefIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.DwGateIdeal.Arrays

open Cert.DwGateIdeal Cert.DwGateIdeal.Gen Idealize.ShloMosaic Idealize.ShloMosaic.TcCoe Idealize.SL.Sem
open Idealize.ShloMosaic.Pipeline (Dat)

/-- One entry of the product. -/
def entry (x : Vec Ideal S2048x2048 .bf16) (d : Vec Ideal S2048x128 .f32) (i : Fin 2048) (j : Fin 128) : EReal :=
  ∑ k : Fin 2048, (x (ix2 k i) : EReal) * d (ix2 k j)

/-- The array of the product's entries. -/
def prod (x : Vec Ideal S2048x2048 .bf16) (d : Vec Ideal S2048x128 .f32) : Vec Ideal S2048x128 .bf16 :=
  fun y => entry x d (y 0) (y 1)

variable (m : (ℓ : Loc nD τ sig) → Buf (Elt Ideal) ℓ) (ρ : Dev nD → PrngReg)

/-- Which block each window reads or writes at a point. -/
theorem idx : ∀ t : Fin cfg0.N, win0_0.index t = ![0, t.val] ∧ win0_1.index t = ![0, 0]
    ∧ win0_2.index t = ![t.val, 0] :=
  (by decide +kernel : ∀ t : Fin grid0.N, _)

/-- The array after the kernel's run. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  unfold prod entry
  pointwise [k0_pay1]
  blk_point [iblk, V, idx t]

/-- The kernel's run with its result named. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks (F := Ideal) m ρ)

end Cert.DwGateIdeal.Arrays

namespace Cert.DwGateRefIdeal.Terms

open Cert.DwGateRefIdeal Cert.DwGateRefIdeal.Gen Idealize.ShloMosaic Idealize.ShloMosaic.TcCoe Idealize.SL.Sem

variable (m : (ℓ : Loc nD τ sig) → Buf (Elt Ideal) ℓ) (ρ : Dev nD → PrngReg)

set_option backward.isDefEq.respectTransparency false in
/-- The reference's run with its result named. -/
theorem run : θ_run defs (onTc (τ := τ) (main (F := Ideal))) ⟨m, fun _ => 0, ρ⟩ fun r => ∀ c : Dev nD,
      r.2.mem ((c.tc : Thread nD τ).loc main_v5) = Cert.DwGateIdeal.Arrays.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run (F := Ideal) m ρ)
  funext y
  idx_vars y
  unfold Cert.DwGateIdeal.Arrays.prod Cert.DwGateIdeal.Arrays.entry
  pointwise
  refine Finset.sum_congr rfl fun k _ => ?_
  exact mul_comm _ _

end Cert.DwGateRefIdeal.Terms

end
-- ==== Proof.DxGate.lean ====
/-
  The call for the gradient of the forget logits' projection's input, added to the gradient there already: the array its run leaves, and the array the reference's run leaves.
-/
module

public import proofs.«01_k».proof.Proof.Gen.DxGateIdeal.Value
public import proofs.«01_k».proof.Proof.Gen.DxGateRefIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.DxGateIdeal.Arrays

open Cert.DxGateIdeal Cert.DxGateIdeal.Gen Idealize.ShloMosaic Idealize.ShloMosaic.TcCoe Idealize.SL.Sem
open Idealize.ShloMosaic.Pipeline (Dat)

/-- One entry of the product. -/
def entry (d : Vec Ideal S2048x128 .f32) (w : Vec Ideal S2048x128 .bf16) (res : Vec Ideal S2048x2048 .f32) (i : Fin 2048) (j : Fin 2048) : EReal :=
  (∑ k : Fin 128, (d (ix2 i k) : EReal) * w (ix2 j k)) + (res (ix2 i j) : EReal)

/-- The array of the product's entries. -/
def prod (d : Vec Ideal S2048x128 .f32) (w : Vec Ideal S2048x128 .bf16) (res : Vec Ideal S2048x2048 .f32) : Vec Ideal S2048x2048 .f32 :=
  fun y => entry d w res (y 0) (y 1)

variable (m : (ℓ : Loc nD τ sig) → Buf (Elt Ideal) ℓ) (ρ : Dev nD → PrngReg)

/-- Which block each window reads or writes at a point. -/
theorem idx : ∀ t : Fin cfg0.N, win0_0.index t = ![t.val / 4, 0] ∧ win0_1.index t = ![t.val % 4, 0]
    ∧ win0_2.index t = ![t.val / 4, t.val % 4]
    ∧ win0_3.index t = ![t.val / 4, t.val % 4] :=
  (by decide +kernel : ∀ t : Fin grid0.N, _)

/-- The array after the kernel's run. -/
theorem final (c : Dev nD) : (dats m 0 c).arrAt 3 cfg0.N
    = prod (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  idx_vars y
  unfold prod entry
  pointwise [k0_pay1]
  blk_point [iblk, V, idx t]

/-- The kernel's run with its result named. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks (F := Ideal) m ρ)

end Cert.DxGateIdeal.Arrays

namespace Cert.DxGateRefIdeal.Terms

open Cert.DxGateRefIdeal Cert.DxGateRefIdeal.Gen Idealize.ShloMosaic Idealize.ShloMosaic.TcCoe Idealize.SL.Sem

variable (m : (ℓ : Loc nD τ sig) → Buf (Elt Ideal) ℓ) (ρ : Dev nD → PrngReg)

set_option backward.isDefEq.respectTransparency false in
/-- The reference's run with its result named. -/
theorem run : θ_run defs (onTc (τ := τ) (main (F := Ideal))) ⟨m, fun _ => 0, ρ⟩ fun r => ∀ c : Dev nD,
      r.2.mem ((c.tc : Thread nD τ).loc main_v4) = Cert.DxGateIdeal.Arrays.prod (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run (F := Ideal) m ρ)
  funext y
  idx_vars y
  unfold Cert.DxGateIdeal.Arrays.prod Cert.DxGateIdeal.Arrays.entry
  pointwise
  refine (add_comm _ _).trans (congrArg₂ (· + ·) (Finset.sum_congr rfl fun k _ => ?_) rfl)
  rfl

end Cert.DxGateRefIdeal.Terms

end
-- ==== Proof.FwUp.lean ====
/-
  The call for the up projection: the array its run leaves, and the array the reference's run leaves.
-/
module

public import proofs.«01_k».proof.Proof.Gen.FwUpIdeal.Value
public import proofs.«01_k».proof.Proof.Gen.FwUpRefIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.FwUpIdeal.Arrays

open Cert.FwUpIdeal Cert.FwUpIdeal.Gen Idealize.ShloMosaic Idealize.ShloMosaic.TcCoe Idealize.SL.Sem
open Idealize.ShloMosaic.Pipeline (Dat)

/-- One entry of the product. -/
def entry (x : Vec Ideal S2048x2048 .bf16) (w : Vec Ideal S2048x11264 .bf16) (i : Fin 2048) (j : Fin 11264) : EReal :=
  ∑ k : Fin 2048, (x (ix2 i k) : EReal) * w (ix2 k j)

/-- The array of the product's entries. -/
def prod (x : Vec Ideal S2048x2048 .bf16) (w : Vec Ideal S2048x11264 .bf16) : Vec Ideal S2048x11264 .f32 :=
  fun y => entry x w (y 0) (y 1)

variable (m : (ℓ : Loc nD τ sig) → Buf (Elt Ideal) ℓ) (ρ : Dev nD → PrngReg)

/-- Which block each window reads or writes at a point. -/
theorem idx : ∀ t : Fin cfg0.N, win0_0.index t = ![t.val / 22, 0] ∧ win0_1.index t = ![0, t.val % 22]
    ∧ win0_2.index t = ![t.val / 22, t.val % 22] :=
  (by decide +kernel : ∀ t : Fin grid0.N, _)

/-- The array after the kernel's run. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  unfold prod entry
  pointwise [k0_pay1]
  blk_point [iblk, V, idx t]

/-- The kernel's run with its result named. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks (F := Ideal) m ρ)

end Cert.FwUpIdeal.Arrays

namespace Cert.FwUpRefIdeal.Terms

open Cert.FwUpRefIdeal Cert.FwUpRefIdeal.Gen Idealize.ShloMosaic Idealize.ShloMosaic.TcCoe Idealize.SL.Sem

variable (m : (ℓ : Loc nD τ sig) → Buf (Elt Ideal) ℓ) (ρ : Dev nD → PrngReg)

set_option backward.isDefEq.respectTransparency false in
/-- The reference's run with its result named. -/
theorem run : θ_run defs (onTc (τ := τ) (main (F := Ideal))) ⟨m, fun _ => 0, ρ⟩ fun r => ∀ c : Dev nD,
      r.2.mem ((c.tc : Thread nD τ).loc main_v2) = Cert.FwUpIdeal.Arrays.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run (F := Ideal) m ρ)
  funext y
  idx_vars y
  unfold Cert.FwUpIdeal.Arrays.prod Cert.FwUpIdeal.Arrays.entry
  pointwise

end Cert.FwUpRefIdeal.Terms

end
-- ==== Proof.FwDown.lean ====
/-
  The call for the down projection, added to the residual stream: the array its run leaves, and the array the reference's run leaves.
-/
module

public import proofs.«01_k».proof.Proof.Gen.FwDownIdeal.Value
public import proofs.«01_k».proof.Proof.Gen.FwDownRefIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.FwDownIdeal.Arrays

open Cert.FwDownIdeal Cert.FwDownIdeal.Gen Idealize.ShloMosaic Idealize.ShloMosaic.TcCoe Idealize.SL.Sem
open Idealize.ShloMosaic.Pipeline (Dat)

/-- One entry of the product. -/
def entry (x : Vec Ideal S2048x5632 .bf16) (w : Vec Ideal S5632x2048 .bf16) (res : Vec Ideal S2048x2048 .f32) (i : Fin 2048) (j : Fin 2048) : EReal :=
  (∑ k : Fin 5632, (x (ix2 i k) : EReal) * w (ix2 k j)) + (res (ix2 i j) : EReal)

/-- The array of the product's entries. -/
def prod (x : Vec Ideal S2048x5632 .bf16) (w : Vec Ideal S5632x2048 .bf16) (res : Vec Ideal S2048x2048 .f32) : Vec Ideal S2048x2048 .f32 :=
  fun y => entry x w res (y 0) (y 1)

variable (m : (ℓ : Loc nD τ sig) → Buf (Elt Ideal) ℓ) (ρ : Dev nD → PrngReg)

/-- Which block each window reads or writes at a point. -/
theorem idx : ∀ t : Fin cfg0.N, win0_0.index t = ![t.val / 4, 0] ∧ win0_1.index t = ![0, t.val % 4]
    ∧ win0_2.index t = ![t.val / 4, t.val % 4]
    ∧ win0_3.index t = ![t.val / 4, t.val % 4] :=
  (by decide +kernel : ∀ t : Fin grid0.N, _)

/-- The array after the kernel's run. -/
theorem final (c : Dev nD) : (dats m 0 c).arrAt 3 cfg0.N
    = prod (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  idx_vars y
  unfold prod entry
  pointwise [k0_pay1]
  blk_point [iblk, V, idx t]

/-- The kernel's run with its result named. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks (F := Ideal) m ρ)

end Cert.FwDownIdeal.Arrays

namespace Cert.FwDownRefIdeal.Terms

open Cert.FwDownRefIdeal Cert.FwDownRefIdeal.Gen Idealize.ShloMosaic Idealize.ShloMosaic.TcCoe Idealize.SL.Sem

variable (m : (ℓ : Loc nD τ sig) → Buf (Elt Ideal) ℓ) (ρ : Dev nD → PrngReg)

set_option backward.isDefEq.respectTransparency false in
/-- The reference's run with its result named. -/
theorem run : θ_run defs (onTc (τ := τ) (main (F := Ideal))) ⟨m, fun _ => 0, ρ⟩ fun r => ∀ c : Dev nD,
      r.2.mem ((c.tc : Thread nD τ).loc main_v3) = Cert.FwDownIdeal.Arrays.prod (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run (F := Ideal) m ρ)
  funext y
  idx_vars y
  unfold Cert.FwDownIdeal.Arrays.prod Cert.FwDownIdeal.Arrays.entry
  pointwise
  refine (add_comm _ _).trans (congrArg₂ (· + ·) (Finset.sum_congr rfl fun k _ => ?_) rfl)
  rfl

end Cert.FwDownRefIdeal.Terms

end
-- ==== Proof.FwInA.lean ====
/-
  The call for the first layer's input projection: the array its run leaves, and the array the reference's run leaves.
-/
module

public import proofs.«01_k».proof.Proof.Gen.FwInAIdeal.Value
public import proofs.«01_k».proof.Proof.Gen.FwInARefIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.FwInAIdeal.Arrays

open Cert.FwInAIdeal Cert.FwInAIdeal.Gen Idealize.ShloMosaic Idealize.ShloMosaic.TcCoe Idealize.SL.Sem
open Idealize.ShloMosaic.Pipeline (Dat)

/-- One entry of the product. -/
def entry (x : Vec Ideal S2048x2048 .bf16) (w : Vec Ideal S2048x6144 .bf16) (i : Fin 2048) (j : Fin 6144) : EReal :=
  ∑ k : Fin 2048, (x (ix2 i k) : EReal) * w (ix2 k j)

/-- The array of the product's entries. -/
def prod (x : Vec Ideal S2048x2048 .bf16) (w : Vec Ideal S2048x6144 .bf16) : Vec Ideal S2048x6144 .f32 :=
  fun y => entry x w (y 0) (y 1)

variable (m : (ℓ : Loc nD τ sig) → Buf (Elt Ideal) ℓ) (ρ : Dev nD → PrngReg)

/-- Which block each window reads or writes at a point. -/
theorem idx : ∀ t : Fin cfg0.N, win0_0.index t = ![t.val / 12, 0] ∧ win0_1.index t = ![0, t.val % 12]
    ∧ win0_2.index t = ![t.val / 12, t.val % 12] :=
  (by decide +kernel : ∀ t : Fin grid0.N, _)

/-- The array after the kernel's run. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  unfold prod entry
  pointwise [k0_pay1]
  blk_point [iblk, V, idx t]

/-- The kernel's run with its result named. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks (F := Ideal) m ρ)

end Cert.FwInAIdeal.Arrays

namespace Cert.FwInARefIdeal.Terms

open Cert.FwInARefIdeal Cert.FwInARefIdeal.Gen Idealize.ShloMosaic Idealize.ShloMosaic.TcCoe Idealize.SL.Sem

variable (m : (ℓ : Loc nD τ sig) → Buf (Elt Ideal) ℓ) (ρ : Dev nD → PrngReg)

set_option backward.isDefEq.respectTransparency false in
/-- The reference's run with its result named. -/
theorem run : θ_run defs (onTc (τ := τ) (main (F := Ideal))) ⟨m, fun _ => 0, ρ⟩ fun r => ∀ c : Dev nD,
      r.2.mem ((c.tc : Thread nD τ).loc main_v2) = Cert.FwInAIdeal.Arrays.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run (F := Ideal) m ρ)
  funext y
  idx_vars y
  unfold Cert.FwInAIdeal.Arrays.prod Cert.FwInAIdeal.Arrays.entry
  pointwise

end Cert.FwInARefIdeal.Terms

end
-- ==== Proof.FwInB.lean ====
/-
  The call for the second layer's input projection: the array its run leaves, and the array the reference's run leaves.
-/
module

public import proofs.«01_k».proof.Proof.Gen.FwInBIdeal.Value
public import proofs.«01_k».proof.Proof.Gen.FwInBRefIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.FwInBIdeal.Arrays

open Cert.FwInBIdeal Cert.FwInBIdeal.Gen Idealize.ShloMosaic Idealize.ShloMosaic.TcCoe Idealize.SL.Sem
open Idealize.ShloMosaic.Pipeline (Dat)

/-- One entry of the product. -/
def entry (x : Vec Ideal S2048x2048 .bf16) (w : Vec Ideal S2048x5120 .bf16) (i : Fin 2048) (j : Fin 5120) : EReal :=
  ∑ k : Fin 2048, (x (ix2 i k) : EReal) * w (ix2 k j)

/-- The array of the product's entries. -/
def prod (x : Vec Ideal S2048x2048 .bf16) (w : Vec Ideal S2048x5120 .bf16) : Vec Ideal S2048x5120 .f32 :=
  fun y => entry x w (y 0) (y 1)

variable (m : (ℓ : Loc nD τ sig) → Buf (Elt Ideal) ℓ) (ρ : Dev nD → PrngReg)

/-- Which block each window reads or writes at a point. -/
theorem idx : ∀ t : Fin cfg0.N, win0_0.index t = ![t.val / 10, 0] ∧ win0_1.index t = ![0, t.val % 10]
    ∧ win0_2.index t = ![t.val / 10, t.val % 10] :=
  (by decide +kernel : ∀ t : Fin grid0.N, _)

/-- The array after the kernel's run. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  unfold prod entry
  pointwise [k0_pay1]
  blk_point [iblk, V, idx t]

/-- The kernel's run with its result named. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks (F := Ideal) m ρ)

end Cert.FwInBIdeal.Arrays

namespace Cert.FwInBRefIdeal.Terms

open Cert.FwInBRefIdeal Cert.FwInBRefIdeal.Gen Idealize.ShloMosaic Idealize.ShloMosaic.TcCoe Idealize.SL.Sem

variable (m : (ℓ : Loc nD τ sig) → Buf (Elt Ideal) ℓ) (ρ : Dev nD → PrngReg)

set_option backward.isDefEq.respectTransparency false in
/-- The reference's run with its result named. -/
theorem run : θ_run defs (onTc (τ := τ) (main (F := Ideal))) ⟨m, fun _ => 0, ρ⟩ fun r => ∀ c : Dev nD,
      r.2.mem ((c.tc : Thread nD τ).loc main_v2) = Cert.FwInBIdeal.Arrays.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run (F := Ideal) m ρ)
  funext y
  idx_vars y
  unfold Cert.FwInBIdeal.Arrays.prod Cert.FwInBIdeal.Arrays.entry
  pointwise

end Cert.FwInBRefIdeal.Terms

end
-- ==== Proof.FwGate.lean ====
/-
  The call for the forget logits' projection: the array its run leaves, and the array the reference's run leaves.
-/
module

public import proofs.«01_k».proof.Proof.Gen.FwGateIdeal.Value
public import proofs.«01_k».proof.Proof.Gen.FwGateRefIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.FwGateIdeal.Arrays

open Cert.FwGateIdeal Cert.FwGateIdeal.Gen Idealize.ShloMosaic Idealize.ShloMosaic.TcCoe Idealize.SL.Sem
open Idealize.ShloMosaic.Pipeline (Dat)

/-- One entry of the product. -/
def entry (x : Vec Ideal S2048x2048 .bf16) (w : Vec Ideal S2048x128 .bf16) (i : Fin 2048) (j : Fin 128) : EReal :=
  ∑ k : Fin 2048, (x (ix2 i k) : EReal) * w (ix2 k j)

/-- The array of the product's entries. -/
def prod (x : Vec Ideal S2048x2048 .bf16) (w : Vec Ideal S2048x128 .bf16) : Vec Ideal S2048x128 .f32 :=
  fun y => entry x w (y 0) (y 1)

variable (m : (ℓ : Loc nD τ sig) → Buf (Elt Ideal) ℓ) (ρ : Dev nD → PrngReg)

/-- Which block each window reads or writes at a point. -/
theorem idx : ∀ t : Fin cfg0.N, win0_0.index t = ![t.val, 0] ∧ win0_1.index t = ![0, 0]
    ∧ win0_2.index t = ![t.val, 0] :=
  (by decide +kernel : ∀ t : Fin grid0.N, _)

/-- The array after the kernel's run. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  unfold prod entry
  pointwise [k0_pay1]
  blk_point [iblk, V, idx t]

/-- The kernel's run with its result named. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks (F := Ideal) m ρ)

end Cert.FwGateIdeal.Arrays

namespace Cert.FwGateRefIdeal.Terms

open Cert.FwGateRefIdeal Cert.FwGateRefIdeal.Gen Idealize.ShloMosaic Idealize.ShloMosaic.TcCoe Idealize.SL.Sem

variable (m : (ℓ : Loc nD τ sig) → Buf (Elt Ideal) ℓ) (ρ : Dev nD → PrngReg)

set_option backward.isDefEq.respectTransparency false in
/-- The reference's run with its result named. -/
theorem run : θ_run defs (onTc (τ := τ) (main (F := Ideal))) ⟨m, fun _ => 0, ρ⟩ fun r => ∀ c : Dev nD,
      r.2.mem ((c.tc : Thread nD τ).loc main_v2) = Cert.FwGateIdeal.Arrays.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run (F := Ideal) m ρ)
  funext y
  idx_vars y
  unfold Cert.FwGateIdeal.Arrays.prod Cert.FwGateIdeal.Arrays.entry
  pointwise

end Cert.FwGateRefIdeal.Terms

end
-- ==== Proof.FwOut.lean ====
/-
  The call for the output projection, added to the residual stream: the array its run leaves, and the array the reference's run leaves.
-/
module

public import proofs.«01_k».proof.Proof.Gen.FwOutIdeal.Value
public import proofs.«01_k».proof.Proof.Gen.FwOutRefIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.FwOutIdeal.Arrays

open Cert.FwOutIdeal Cert.FwOutIdeal.Gen Idealize.ShloMosaic Idealize.ShloMosaic.TcCoe Idealize.SL.Sem
open Idealize.ShloMosaic.Pipeline (Dat)

/-- One entry of the product. -/
def entry (x : Vec Ideal S2048x2048 .bf16) (w : Vec Ideal S2048x2048 .bf16) (res : Vec Ideal S2048x2048 .f32) (i : Fin 2048) (j : Fin 2048) : EReal :=
  (∑ k : Fin 2048, (x (ix2 i k) : EReal) * w (ix2 k j)) + (res (ix2 i j) : EReal)

/-- The array of the product's entries. -/
def prod (x : Vec Ideal S2048x2048 .bf16) (w : Vec Ideal S2048x2048 .bf16) (res : Vec Ideal S2048x2048 .f32) : Vec Ideal S2048x2048 .f32 :=
  fun y => entry x w res (y 0) (y 1)

variable (m : (ℓ : Loc nD τ sig) → Buf (Elt Ideal) ℓ) (ρ : Dev nD → PrngReg)

/-- Which block each window reads or writes at a point. -/
theorem idx : ∀ t : Fin cfg0.N, win0_0.index t = ![t.val / 4, 0] ∧ win0_1.index t = ![0, t.val % 4]
    ∧ win0_2.index t = ![t.val / 4, t.val % 4]
    ∧ win0_3.index t = ![t.val / 4, t.val % 4] :=
  (by decide +kernel : ∀ t : Fin grid0.N, _)

/-- The array after the kernel's run. -/
theorem final (c : Dev nD) : (dats m 0 c).arrAt 3 cfg0.N
    = prod (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  idx_vars y
  unfold prod entry
  pointwise [k0_pay1]
  blk_point [iblk, V, idx t]

/-- The kernel's run with its result named. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks (F := Ideal) m ρ)

end Cert.FwOutIdeal.Arrays

namespace Cert.FwOutRefIdeal.Terms

open Cert.FwOutRefIdeal Cert.FwOutRefIdeal.Gen Idealize.ShloMosaic Idealize.ShloMosaic.TcCoe Idealize.SL.Sem

variable (m : (ℓ : Loc nD τ sig) → Buf (Elt Ideal) ℓ) (ρ : Dev nD → PrngReg)

set_option backward.isDefEq.respectTransparency false in
/-- The reference's run with its result named. -/
theorem run : θ_run defs (onTc (τ := τ) (main (F := Ideal))) ⟨m, fun _ => 0, ρ⟩ fun r => ∀ c : Dev nD,
      r.2.mem ((c.tc : Thread nD τ).loc main_v3) = Cert.FwOutIdeal.Arrays.prod (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run (F := Ideal) m ρ)
  funext y
  idx_vars y
  unfold Cert.FwOutIdeal.Arrays.prod Cert.FwOutIdeal.Arrays.entry
  pointwise
  refine (add_comm _ _).trans (congrArg₂ (· + ·) (Finset.sum_congr rfl fun k _ => ?_) rfl)
  rfl

end Cert.FwOutRefIdeal.Terms

end
-- ==== Proof.FoxSpec.lean ====
/-
  One tile of the forgetting attention's gradient, as sums and products of extended reals over coordinates.
-/
module

public import Idealize.ShloMosaic.Lib.Pointwise
public import Idealize.ShloMosaic.PureOps.Ideal

@[expose] public section

set_option maxRecDepth 16384

noncomputable section

namespace Cert.FoxSpec

open Idealize.ShloMosaic

/-- The factor of the logits. -/
abbrev sc : EReal := Ideal.ofBits FTy.f32 0x3DB504F3#32

/-- What the kernel reads at a point of its grid: a block of 512 rows of q, of the cotangent and of the output, all rows of
    k and v, two heads side by side in the columns; the two heads' sums of gates by rows and by columns and log-sums. -/
@[ext] structure Win where
  q : (⟨2, ![512, 256]⟩ : Shape).Idx → EReal
  k : (⟨2, ![2048, 256]⟩ : Shape).Idx → EReal
  v : (⟨2, ![2048, 256]⟩ : Shape).Idx → EReal
  cc : (⟨3, ![2, 512, 1]⟩ : Shape).Idx → EReal
  cr : (⟨4, ![2, 4, 1, 512]⟩ : Shape).Idx → EReal
  lse : (⟨3, ![2, 512, 1]⟩ : Shape).Idx → EReal
  dd : (⟨2, ![512, 256]⟩ : Shape).Idx → EReal
  o : (⟨2, ![512, 256]⟩ : Shape).Idx → EReal

/-- The column of entry `d` of head `h` of the two. -/
def hc (h : Fin 2) (d : Fin 128) : Fin 256 := ⟨128 * h + d, by omega⟩

/-- The head a column belongs to. -/
def hd (c : Fin 256) : Fin 2 := ⟨c / 128, by omega⟩

variable (w : Win)

/-- The unmasked probability of key `s` for row `r` of the block. -/
def pr (h : Fin 2) (r : Fin 512) (s : Fin 2048) : EReal :=
  Ideal.exp ((∑ d : Fin 128, w.q (ix2 r (hc h d)) * w.k (ix2 s (hc h d))) * sc + w.cc (ix3 h r 0)
    - w.cr (ix4 h (⟨s / 512, by omega⟩ : Fin 4) 0 (⟨s % 512, by omega⟩ : Fin 512)) - w.lse (ix3 h r 0))

/-- The probability, zero for keys after the row; the block is the `n`-th. -/
def prm (n : ℕ) (h : Fin 2) (r : Fin 512) (s : Fin 2048) : EReal :=
  if (s : ℕ) ≤ 512 * n + r then pr w h r s else 0

/-- The inner product of the cotangent and the output. -/
def delta (h : Fin 2) (r : Fin 512) : EReal := ∑ d : Fin 128, w.dd (ix2 r (hc h d)) * w.o (ix2 r (hc h d))

/-- The cotangent of the logits. -/
def dsm (n : ℕ) (h : Fin 2) (r : Fin 512) (s : Fin 2048) : EReal :=
  prm w n h r s * (∑ d : Fin 128, w.dd (ix2 r (hc h d)) * w.v (ix2 s (hc h d)) - delta w h r)

/-- What the block adds to the gradients of v, of k and of the sums of gates by columns. -/
def dvc (n : ℕ) (s : Fin 2048) (c : Fin 256) : EReal := ∑ r : Fin 512, prm w n (hd c) r s * w.dd (ix2 r c)
def dkc (n : ℕ) (s : Fin 2048) (c : Fin 256) : EReal := (∑ r : Fin 512, dsm w n (hd c) r s * w.q (ix2 r c)) * sc
def dcc (n : ℕ) (s : Fin 2048) (c : Fin 256) : EReal := ∑ r : Fin 512, dsm w n (hd c) r s * Ideal.ofBits FTy.bf16 0x3F80#16

/-- Key `s` of block `m` of keys. -/
def key (m : Fin 4) (s : Fin 512) : Fin 2048 := ⟨512 * m + s, by omega⟩

/-- What block `m` of keys adds to the gradient of q and to the row sums of the logits' cotangent. -/
def dqc (n : ℕ) (m : Fin 4) (h : Fin 2) (r : Fin 512) (d : Fin 128) : EReal :=
  (∑ s : Fin 512, dsm w n h r (key m s) * w.k (ix2 (key m s) (hc h d))) * sc
def drc (n : ℕ) (m : Fin 4) (h : Fin 2) (r : Fin 512) : EReal := ∑ s : Fin 512, dsm w n h r (key m s)

/-- The arrays the grid reads: the projection, the sums of gates twice, the log-sums, the cotangent and the output. -/
structure Args where
  p : (⟨2, ![2048, 5120]⟩ : Shape).Idx → EReal
  cc : (⟨3, ![8, 2048, 1]⟩ : Shape).Idx → EReal
  cr : (⟨4, ![8, 4, 1, 512]⟩ : Shape).Idx → EReal
  lse : (⟨3, ![8, 2048, 1]⟩ : Shape).Idx → EReal
  dd : (⟨2, ![2048, 2048]⟩ : Shape).Idx → EReal
  o : (⟨2, ![2048, 1024]⟩ : Shape).Idx → EReal

/-- Column `x` of group `g` of two heads, and a head of the group. -/
def gcol (g : Fin 4) (x : Fin 256) : Fin 1024 := ⟨256 * g + x, by omega⟩
def ghead (g : Fin 4) (h : Fin 2) : Fin 8 := ⟨2 * g + h, by omega⟩

/-- The windows of group `g` and block `i` of rows. -/
def winAt (a : Args) (g i : Fin 4) : Win where
  q y := a.p (ix2 (key i (y 0)) (⟨2048 + gcol g (y 1), by omega⟩ : Fin 5120))
  k y := a.p (ix2 (y 0) (⟨3072 + gcol g (y 1), by omega⟩ : Fin 5120))
  v y := a.p (ix2 (y 0) (⟨4096 + gcol g (y 1), by omega⟩ : Fin 5120))
  cc y := a.cc (ix3 (ghead g (y 0)) (key i (y 1)) (y 2))
  cr y := a.cr (ix4 (ghead g (y 0)) (y 1) (y 2) (y 3))
  lse y := a.lse (ix3 (ghead g (y 0)) (key i (y 1)) (y 2))
  dd y := a.dd (ix2 (key i (y 0)) (⟨1024 + gcol g (y 1), by omega⟩ : Fin 2048))
  o y := a.o (ix2 (key i (y 0)) (gcol g (y 1)))

/-- The group and the place in it of a column and of a head, and the block and the place in it of a row. -/
def cg (x : Fin 1024) : Fin 4 := ⟨x / 256, by omega⟩
def cx (x : Fin 1024) : Fin 256 := ⟨x % 256, by omega⟩
def hg (h : Fin 8) : Fin 4 := ⟨h / 2, by omega⟩
def hx (h : Fin 8) : Fin 2 := ⟨h % 2, by omega⟩
def dx (x : Fin 256) : Fin 128 := ⟨x % 128, by omega⟩
def rb (r : Fin 2048) : Fin 4 := ⟨r / 512, by omega⟩
def rx (r : Fin 2048) : Fin 512 := ⟨r % 512, by omega⟩

/-- The five arrays the grid writes: the gradients of q, k and v, the column sums and the row sums. -/
def dqA (a : Args) (r : Fin 2048) (x : Fin 1024) : EReal :=
  ∑ j : Fin 4, dqc (winAt a (cg x) (rb r)) (rb r) j (hd (cx x)) (rx r) (dx (cx x))
def dkA (a : Args) (s : Fin 2048) (x : Fin 1024) : EReal := ∑ n : Fin 4, dkc (winAt a (cg x) n) n s (cx x)
def dvA (a : Args) (s : Fin 2048) (x : Fin 1024) : EReal := ∑ n : Fin 4, dvc (winAt a (cg x) n) n s (cx x)
def dcA (a : Args) (s : Fin 2048) (x : Fin 1024) : EReal := ∑ n : Fin 4, dcc (winAt a (cg x) n) n s (cx x)
def drA (a : Args) (h : Fin 8) (r : Fin 2048) : EReal :=
  ∑ j : Fin 4, drc (winAt a (hg h) (rb r)) (rb r) j (hx h) (rx r)

theorem cg_gcol (g : Fin 4) (x : Fin 256) : cg (gcol g x) = g := by apply Fin.ext; simp only [cg, gcol]; omega
theorem cx_gcol (g : Fin 4) (x : Fin 256) : cx (gcol g x) = x := by apply Fin.ext; simp only [cx, gcol]; omega
theorem hg_ghead (g : Fin 4) (h : Fin 2) : hg (ghead g h) = g := by apply Fin.ext; simp only [hg, ghead]; omega
theorem hx_ghead (g : Fin 4) (h : Fin 2) : hx (ghead g h) = h := by apply Fin.ext; simp only [hx, ghead]; omega
theorem rb_key (i : Fin 4) (r : Fin 512) : rb (key i r) = i := by apply Fin.ext; simp only [rb, key]; omega
theorem rx_key (i : Fin 4) (r : Fin 512) : rx (key i r) = r := by apply Fin.ext; simp only [rx, key]; omega

end Cert.FoxSpec

end
-- ==== Proof.FoxRef.lean ====
/-
  The four arrays the attention reference's run leaves, at an index.
-/
module

public import proofs.«01_k».proof.Proof.Gen.FoxRefIdeal.Run
public import proofs.«01_k».proof.Proof.FoxSpec
public import Idealize.ShloMosaic.Lib.Pointwise
public import Idealize.ShloMosaic.Lib.IdealHost

@[expose] public section

set_option maxRecDepth 16384

noncomputable section

namespace Cert.FoxRefIdeal.Terms

open Cert.FoxRefIdeal Cert.FoxRefIdeal.Gen Cert.FoxSpec Idealize.ShloMosaic Idealize.ShloMosaic.TcCoe Idealize.SL.Sem
open Cert.FoxRefIdeal.Facts

variable (m : (ℓ : Loc nD τ sig) → Buf (Elt Ideal) ℓ) (ρ : Dev nD → PrngReg)

/-- The masked logits. -/
def logit (P : FVec Ideal S2048x5120 .f32) (C : FVec Ideal S8x2048 .f32) : FVec Ideal S8x2048x2048 .f32 :=
  select (broadcastInDim S8x2048x2048 ![1, 2] bcast_S2048x2048_S8x2048x2048_1_2 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (subf (addf (mulf (Host.dotGeneral dot_S2048x8x128_S2048x8x128_S8x2048x2048_2_2_0_0_1_1 none (shapeCast _ (extractStridedSlice S2048x1024 ![0, 2048] P slices_S2048x5120_S2048x1024_0_2048) shapeCasts_S2048x1024_S2048x8x128) (shapeCast _ (extractStridedSlice S2048x1024 ![0, 3072] P slices_S2048x5120_S2048x1024_0_3072) shapeCasts_S2048x1024_S2048x8x128)) (broadcastInDim S8x2048x2048 ![] bcast_S_S8x2048x2048 (constant S_ .f32 0x3DB504F3#32))) (broadcastInDim S8x2048x2048 ![0, 1, 2] bcast_S8x2048x1_S8x2048x2048_0_1_2 (broadcastInDim S8x2048x1 ![0, 1] bcast_S8x2048_S8x2048x1_0_1 C))) (broadcastInDim S8x2048x2048 ![0, 1, 2] bcast_S8x1x2048_S8x2048x2048_0_1_2 (broadcastInDim S8x1x2048 ![0, 2] bcast_S8x2048_S8x1x2048_0_2 C))) (broadcastInDim S8x2048x2048 ![] bcast_S_S8x2048x2048 (id (constant S_ .f32 0xFF800000#32)))

/-- Their maximum by rows. -/
def top (P : FVec Ideal S2048x5120 .f32) (C : FVec Ideal S8x2048 .f32) : FVec Ideal S8x2048 .f32 :=
  Host.reduce FloatOps.maximumf (logit P C) (constant S_ .f32 0xFF800000#32) reducesTo_S8x2048x2048_S8x2048_d2 h_S_

/-- The same maximum, once more against minus infinity. -/
def topm (P : FVec Ideal S2048x5120 .f32) (C : FVec Ideal S8x2048 .f32) : FVec Ideal S8x2048 .f32 :=
  maximumf (broadcastInDim S8x2048 ![] bcast_S_S8x2048 (constant S_ .f32 0xFF800000#32)) (top P C)

/-- The exponentials of the logits less the maximum. -/
def expd (P : FVec Ideal S2048x5120 .f32) (C : FVec Ideal S8x2048 .f32) : FVec Ideal S8x2048x2048 .f32 :=
  Host.exp (subf (logit P C) (broadcastInDim S8x2048x2048 ![0, 1, 2] bcast_S8x2048x1_S8x2048x2048_0_1_2 (broadcastInDim S8x2048x1 ![0, 1] bcast_S8x2048_S8x2048x1_0_1 (topm P C))))

/-- Their sums by rows. -/
def total (P : FVec Ideal S2048x5120 .f32) (C : FVec Ideal S8x2048 .f32) : FVec Ideal S8x2048x1 .f32 :=
  broadcastInDim S8x2048x1 ![0, 1] bcast_S8x2048_S8x2048x1_0_1 (Host.reduceAdd (expd P C) (constant S_ .f32 0x00000000#32) reducesTo_S8x2048x2048_S8x2048_d2 h_S_)

/-- The cotangent of the probabilities. -/
def dprob (P : FVec Ideal S2048x5120 .f32) (D : FVec Ideal S2048x2048 .f32) : FVec Ideal S8x2048x2048 .f32 :=
  Host.dotGeneral dot_S8x128x2048_S2048x8x128_S8x2048x2048_1_2_2_0_0_1 none (transpose S8x128x2048 [1, 2, 0] (shapeCast _ (extractStridedSlice S2048x1024 ![0, 1024] D slices_S2048x2048_S2048x1024_0_1024) shapeCasts_S2048x1024_S2048x8x128) transposes_S2048x8x128_S8x128x2048_1_2_0) (shapeCast _ (extractStridedSlice S2048x1024 ![0, 4096] P slices_S2048x5120_S2048x1024_0_4096) shapeCasts_S2048x1024_S2048x8x128)

/-- What the sums contribute to the cotangent of the exponentials. -/
def back (P : FVec Ideal S2048x5120 .f32) (C : FVec Ideal S8x2048 .f32) (D : FVec Ideal S2048x2048 .f32) : FVec Ideal S8x2048 .f32 :=
  Host.reduceAdd (Host.negf (shapeCast _ (Host.reduceAdd (mulf (mulf (dprob P D) (broadcastInDim S8x2048x2048 ![0, 1, 2] bcast_S8x2048x1_S8x2048x2048_0_1_2 (Host.divf (broadcastInDim S8x2048x1 ![] bcast_S_S8x2048x1 (constant S_ .f32 0x3F800000#32)) (mulf (total P C) (total P C))))) (expd P C)) (constant S_ .f32 0x00000000#32) reducesTo_S8x2048x2048_S8x2048_d2 h_S_) shapeCasts_S8x2048_S8x2048x1)) (constant S_ .f32 0x00000000#32) reducesTo_S8x2048x1_S8x2048_d2 h_S_

/-- The cotangent of the logits. -/
def dlog (P : FVec Ideal S2048x5120 .f32) (C : FVec Ideal S8x2048 .f32) (D : FVec Ideal S2048x2048 .f32) : FVec Ideal S8x2048x2048 .f32 :=
  select (broadcastInDim S8x2048x2048 ![1, 2] bcast_S2048x2048_S8x2048x2048_1_2 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (addf (Host.divf (dprob P D) (broadcastInDim S8x2048x2048 ![0, 1, 2] bcast_S8x2048x1_S8x2048x2048_0_1_2 (total P C))) (broadcastInDim S8x2048x2048 ![0, 1] bcast_S8x2048_S8x2048x2048_0_1 (back P C D))) (expd P C)) (broadcastInDim S8x2048x2048 ![] bcast_S_S8x2048x2048 (constant S_ .f32 0x00000000#32))

/-- The gradient of q, of k, of v and of the sums of gates. -/
def rq (P : FVec Ideal S2048x5120 .f32) (C : FVec Ideal S8x2048 .f32) (D : FVec Ideal S2048x2048 .f32) : FVec Ideal S2048x1024 .f32 :=
  shapeCast _ (transpose S2048x8x128 [1, 0, 2] (Host.dotGeneral dot_S8x2048x2048_S2048x8x128_S8x2048x128_2_0_1_2_0_1 none (mulf (dlog P C D) (broadcastInDim S8x2048x2048 ![] bcast_S_S8x2048x2048 (constant S_ .f32 0x3DB504F3#32))) (shapeCast _ (extractStridedSlice S2048x1024 ![0, 3072] P slices_S2048x5120_S2048x1024_0_3072) shapeCasts_S2048x1024_S2048x8x128)) transposes_S8x2048x128_S2048x8x128_1_0_2) shapeCasts_S2048x8x128_S2048x1024
def rk (P : FVec Ideal S2048x5120 .f32) (C : FVec Ideal S8x2048 .f32) (D : FVec Ideal S2048x2048 .f32) : FVec Ideal S2048x1024 .f32 :=
  shapeCast _ (transpose S2048x8x128 [1, 0, 2] (Host.dotGeneral dot_S8x2048x2048_S2048x8x128_S8x2048x128_1_0_2_2_0_1 none (mulf (dlog P C D) (broadcastInDim S8x2048x2048 ![] bcast_S_S8x2048x2048 (constant S_ .f32 0x3DB504F3#32))) (shapeCast _ (extractStridedSlice S2048x1024 ![0, 2048] P slices_S2048x5120_S2048x1024_0_2048) shapeCasts_S2048x1024_S2048x8x128)) transposes_S8x2048x128_S2048x8x128_1_0_2) shapeCasts_S2048x8x128_S2048x1024
def rv (P : FVec Ideal S2048x5120 .f32) (C : FVec Ideal S8x2048 .f32) (D : FVec Ideal S2048x2048 .f32) : FVec Ideal S2048x1024 .f32 :=
  shapeCast _ (transpose S2048x8x128 [2, 0, 1] (Host.dotGeneral dot_S8x128x2048_S8x2048x2048_S8x128x2048_2_1_1_2_0_0 none (transpose S8x128x2048 [1, 2, 0] (shapeCast _ (extractStridedSlice S2048x1024 ![0, 1024] D slices_S2048x2048_S2048x1024_0_1024) shapeCasts_S2048x1024_S2048x8x128) transposes_S2048x8x128_S8x128x2048_1_2_0) (Host.divf (expd P C) (broadcastInDim S8x2048x2048 ![0, 1, 2] bcast_S8x2048x1_S8x2048x2048_0_1_2 (total P C)))) transposes_S8x128x2048_S2048x8x128_2_0_1) shapeCasts_S2048x8x128_S2048x1024
def rc (P : FVec Ideal S2048x5120 .f32) (C : FVec Ideal S8x2048 .f32) (D : FVec Ideal S2048x2048 .f32) : FVec Ideal S8x2048 .f32 :=
  addf (Host.reduceAdd (shapeCast _ (Host.reduceAdd (Host.negf (dlog P C D)) (constant S_ .f32 0x00000000#32) reducesTo_S8x2048x2048_S8x2048_d1 h_S_) shapeCasts_S8x2048_S8x1x2048) (constant S_ .f32 0x00000000#32) reducesTo_S8x1x2048_S8x2048_d1 h_S_) (Host.reduceAdd (shapeCast _ (Host.reduceAdd (dlog P C D) (constant S_ .f32 0x00000000#32) reducesTo_S8x2048x2048_S8x2048_d2 h_S_) shapeCasts_S8x2048_S8x2048x1) (constant S_ .f32 0x00000000#32) reducesTo_S8x2048x1_S8x2048_d2 h_S_)

variable (P : FVec Ideal S2048x5120 .f32) (C : FVec Ideal S8x2048 .f32) (D : FVec Ideal S2048x2048 .f32)

/-- The mask: keys no later than the row. -/
theorem mask_at (t s : Fin 2048) (a b : EReal) :
    Scalar.select (IntOp.cmpi CmpIPredicate.sle (BitVec.ofNat 32 s.val) (BitVec.ofNat 32 t.val)) a b = if s ≤ t then a else b := by
  have i : ∀ n : ℕ, n < 2048 → (BitVec.ofNat 32 n).toInt = n := by
    intro n hn
    rw [BitVec.toInt_ofNat', Int.bmod_eq_of_le] <;> push_cast <;> omega
  have e : (BitVec.ofNat 32 s.val).sle (BitVec.ofNat 32 t.val) = decide (s ≤ t) := by
    rw [BitVec.sle_eq_decide, i _ s.2, i _ t.2]
    simp only [Nat.cast_le, Fin.le_def]
  show (if BitVec.ofBool ((BitVec.ofNat 32 s.val).sle (BitVec.ofNat 32 t.val)) = 1 then a else b) = _
  rw [e]
  by_cases h : s ≤ t <;> simp [h]

/-- The larger of minus infinity and an array. -/
theorem max_at (Y : FVec Ideal S8x2048 .f32) (h : Fin 8) (t : Fin 2048) :
    maximumf (broadcastInDim S8x2048 ![] bcast_S_S8x2048 (constant S_ .f32 0xFF800000#32)) Y (ix2 h t)
      = max (Ideal.ofBits FTy.f32 0xFF800000#32) (Y (ix2 h t)) := rfl

theorem logit_at (h : Fin 8) (t s : Fin 2048) : logit P C (ix3 h t s) =
    if s ≤ t then (∑ x : Fin 128, P (ix2 t (⟨2048 + (h * 128 + x), by omega⟩ : Fin 5120)) * P (ix2 s (⟨3072 + (h * 128 + x), by omega⟩ : Fin 5120)))
      * Ideal.ofBits FTy.f32 0x3DB504F3#32 + C (ix2 h t) - C (ix2 h s) else Ideal.ofBits FTy.f32 0xFF800000#32 := by
  refine Eq.trans ?_ (mask_at t s _ _)
  pointwise [logit]
  rfl
theorem top_at (h : Fin 8) (t : Fin 2048) : top P C (ix2 h t) =
    Finset.fold max (Ideal.ofBits FTy.f32 0xFF800000#32) (fun x => logit P C (ix3 h t x)) Finset.univ := by
  pointwise [top]
theorem topm_at (h : Fin 8) (t : Fin 2048) : topm P C (ix2 h t) = max (Ideal.ofBits FTy.f32 0xFF800000#32) (top P C (ix2 h t)) := by
  unfold topm
  exact max_at (top P C) h t
theorem expd_at (h : Fin 8) (t s : Fin 2048) : expd P C (ix3 h t s) = Ideal.exp (logit P C (ix3 h t s) - topm P C (ix2 h t)) := by
  pointwise [expd]
theorem total_at (h : Fin 8) (t : Fin 2048) : total P C (ix3 h t 0) = ∑ x, expd P C (ix3 h t x) := by
  pointwise [total]
theorem dprob_at (h : Fin 8) (t s : Fin 2048) : dprob P D (ix3 h t s) =
    ∑ x : Fin 128, D (ix2 t (⟨1024 + (h * 128 + x), by omega⟩ : Fin 2048)) * P (ix2 s (⟨4096 + (h * 128 + x), by omega⟩ : Fin 5120)) := by
  pointwise [dprob]
theorem back_at (h : Fin 8) (t : Fin 2048) : back P C D (ix2 h t) =
    ∑ x : Fin 1, -∑ x, dprob P D (ix3 h t x) * Ideal.div 1 (total P C (ix3 h t 0) * total P C (ix3 h t 0)) * expd P C (ix3 h t x) := by
  pointwise [back]
theorem dlog_at (h : Fin 8) (t s : Fin 2048) : dlog P C D (ix3 h t s) =
    if s ≤ t then (Ideal.div (dprob P D (ix3 h t s)) (total P C (ix3 h t 0)) + back P C D (ix2 h t)) * expd P C (ix3 h t s) else 0 := by
  refine Eq.trans ?_ (mask_at t s _ _)
  pointwise [dlog]
theorem rq_at (t : Fin 2048) (x : Fin 1024) : rq P C D (ix2 t x) =
    ∑ s : Fin 2048, dlog P C D (ix3 (⟨x / 128, by omega⟩ : Fin 8) t s) * Ideal.ofBits FTy.f32 0x3DB504F3#32 * P (ix2 s (⟨3072 + x, by omega⟩ : Fin 5120)) := by
  pointwise [rq]
theorem rk_at (s : Fin 2048) (x : Fin 1024) : rk P C D (ix2 s x) =
    ∑ t : Fin 2048, dlog P C D (ix3 (⟨x / 128, by omega⟩ : Fin 8) t s) * Ideal.ofBits FTy.f32 0x3DB504F3#32 * P (ix2 t (⟨2048 + x, by omega⟩ : Fin 5120)) := by
  pointwise [rk]
theorem rv_at (s : Fin 2048) (x : Fin 1024) : rv P C D (ix2 s x) =
    ∑ t : Fin 2048, D (ix2 t (⟨1024 + x, by omega⟩ : Fin 2048)) * Ideal.div (expd P C (ix3 (⟨x / 128, by omega⟩ : Fin 8) t s))
      (total P C (ix3 (⟨x / 128, by omega⟩ : Fin 8) t 0)) := by
  pointwise [rv]
theorem rc_at (h : Fin 8) (t : Fin 2048) : rc P C D (ix2 h t) =
    (∑ x : Fin 1, ∑ r : Fin 2048, -dlog P C D (ix3 h r t)) + ∑ x : Fin 1, ∑ s : Fin 2048, dlog P C D (ix3 h t s) := by
  pointwise [rc]

end Cert.FoxRefIdeal.Terms

end
-- ==== Proof.FoxRefRun.lean ====
/-
  The attention reference's run, its four results named as the gradients of its arguments.
-/
module

public import proofs.«01_k».proof.Proof.FoxRef

@[expose] public section

set_option maxRecDepth 16384

noncomputable section

namespace Cert.FoxRefIdeal.Terms

open Cert.FoxRefIdeal Cert.FoxRefIdeal.Gen Idealize.ShloMosaic Idealize.ShloMosaic.TcCoe Idealize.SL.Sem

variable (m : (ℓ : Loc nD τ sig) → Buf (Elt Ideal) ℓ) (ρ : Dev nD → PrngReg)

set_option backward.isDefEq.respectTransparency false in
/-- The reference's result for the queries is their gradient's term. -/
theorem res_q (c : Dev nD) : Value.res_main_v89 m c = rq (m ((c.tc : Thread nD τ).loc main_arg0)) (m ((c.tc : Thread nD τ).loc main_arg1)) (m ((c.tc : Thread nD τ).loc main_arg2)) := by
  unfold Value.res_main_v89
  generalize m ((c.tc : Thread nD τ).loc main_arg0) = P
  generalize m ((c.tc : Thread nD τ).loc main_arg1) = C
  generalize m ((c.tc : Thread nD τ).loc main_arg2) = D
  rfl

set_option backward.isDefEq.respectTransparency false in
/-- The reference's result for the keys is their gradient's term. -/
theorem res_k (c : Dev nD) : Value.res_main_v88 m c = rk (m ((c.tc : Thread nD τ).loc main_arg0)) (m ((c.tc : Thread nD τ).loc main_arg1)) (m ((c.tc : Thread nD τ).loc main_arg2)) := by
  unfold Value.res_main_v88
  generalize m ((c.tc : Thread nD τ).loc main_arg0) = P
  generalize m ((c.tc : Thread nD τ).loc main_arg1) = C
  generalize m ((c.tc : Thread nD τ).loc main_arg2) = D
  rfl

set_option backward.isDefEq.respectTransparency false in
/-- The reference's result for the values is their gradient's term. -/
theorem res_v (c : Dev nD) : Value.res_main_v60 m c = rv (m ((c.tc : Thread nD τ).loc main_arg0)) (m ((c.tc : Thread nD τ).loc main_arg1)) (m ((c.tc : Thread nD τ).loc main_arg2)) := by
  unfold Value.res_main_v60
  generalize m ((c.tc : Thread nD τ).loc main_arg0) = P
  generalize m ((c.tc : Thread nD τ).loc main_arg1) = C
  generalize m ((c.tc : Thread nD τ).loc main_arg2) = D
  rfl

set_option backward.isDefEq.respectTransparency false in
/-- The reference's result for the cumulated log gates is their gradient's term. -/
theorem res_c (c : Dev nD) : Value.res_main_v81 m c = rc (m ((c.tc : Thread nD τ).loc main_arg0)) (m ((c.tc : Thread nD τ).loc main_arg1)) (m ((c.tc : Thread nD τ).loc main_arg2)) := by
  unfold Value.res_main_v81
  generalize m ((c.tc : Thread nD τ).loc main_arg0) = P
  generalize m ((c.tc : Thread nD τ).loc main_arg1) = C
  generalize m ((c.tc : Thread nD τ).loc main_arg2) = D
  rfl

/-- The reference's run with its four results named as the gradients of the arguments. -/
theorem run : θ_run defs (onTc (τ := τ) (main (F := Ideal))) ⟨m, fun _ => 0, ρ⟩ fun r => ∀ c : Dev nD,
      r.2.mem ((c.tc : Thread nD τ).loc main_v89) = rq (m ((c.tc : Thread nD τ).loc main_arg0)) (m ((c.tc : Thread nD τ).loc main_arg1)) (m ((c.tc : Thread nD τ).loc main_arg2))
      ∧ r.2.mem ((c.tc : Thread nD τ).loc main_v88) = rk (m ((c.tc : Thread nD τ).loc main_arg0)) (m ((c.tc : Thread nD τ).loc main_arg1)) (m ((c.tc : Thread nD τ).loc main_arg2))
      ∧ r.2.mem ((c.tc : Thread nD τ).loc main_v60) = rv (m ((c.tc : Thread nD τ).loc main_arg0)) (m ((c.tc : Thread nD τ).loc main_arg1)) (m ((c.tc : Thread nD τ).loc main_arg2))
      ∧ r.2.mem ((c.tc : Thread nD τ).loc main_v81) = rc (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (res_q m c), (h c).2.1.trans (res_k m c), (h c).2.2.1.trans (res_v m c),
    (h c).2.2.2.1.trans (res_c m c), (h c).2.2.2.2⟩) (Value.run (F := Ideal) m ρ)

end Cert.FoxRefIdeal.Terms

end
-- ==== Proof.FoxPre.lean ====
/-
  What the precondition of the attention's claim says: every entry of the three arguments is a real number.
-/
module

public import proofs.«01_k».proof.Defs
public import Idealize.ShloMosaic.Lib.ReduceAll
public import Idealize.ShloMosaic.PureOps.Ideal

@[expose] public section

set_option maxRecDepth 16384

noncomputable section

namespace Cert.FoxPre

open Idealize.ShloMosaic Cert.Pre_fox_finite

/-- A value whose magnitude compares below plus infinity is a real number. -/
theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  refine ⟨x.toReal, (EReal.coe_toReal ?_ ?_).symm⟩ <;> rintro rfl <;> simp at h

variable [Facts]

/-- A conjunction over a whole array that came out true held of every entry. -/
theorem all_real {s : Shape} {axes : List (Fin s.rank)} (x : FVec Ideal s .f32) (b : S_.BroadcastsInDim s (![] : Fin 0 → Fin s.rank))
    (h : s.ReducesTo axes S_) (hu : 0 < S_.numel) (j : S_.Idx)
    (e : Host.reduce IntOp.andi (cmpf .olt (Host.absf x) (broadcastInDim s ![] b (constant S_ .f32 0x7F800000#32))) (constantI S_ 1 1#1) h hu j = 1#1) :
    ∃ r : s.Idx → ℝ, ∀ y, x y = (r y : EReal) := by
  have : Subsingleton S_.Idx := ⟨fun a b => funext fun k => k.elim0⟩
  have a : ∀ y, ∃ r : ℝ, x y = (r : EReal) := fun y => real_of_lt _ (Host.reduce_andi_all _ _ h hu j e y)
  exact ⟨fun y => (a y).choose, fun y => (a y).choose_spec⟩

/-- The precondition: the three arguments hold real numbers. -/
theorem real (P : FVec Ideal S2048x5120 .f32) (C : FVec Ideal S8x2048 .f32) (D : FVec Ideal S2048x2048 .f32)
    (h : fn (F := Ideal) P C D = fun _ => 1#1) :
    (∃ p : S2048x5120.Idx → ℝ, ∀ y, P y = (p y : EReal)) ∧ (∃ g : S8x2048.Idx → ℝ, ∀ y, C y = (g y : EReal))
      ∧ ∃ d : S2048x2048.Idx → ℝ, ∀ y, D y = (d y : EReal) := by
  have e := congrFun h (fun k => k.elim0)
  obtain ⟨e1, e2⟩ := IntOp.andi_eq_one.1 e
  obtain ⟨e3, e4⟩ := IntOp.andi_eq_one.1 e1
  exact ⟨all_real P _ _ _ _ e3, all_real C _ _ _ _ e4, all_real D _ _ _ _ e2⟩

end Cert.FoxPre

end
-- ==== Proof.FoxHost.lean ====
/-
  What the host hands the attention kernel, as terms of the arguments and at an index.
-/
module

public import proofs.«01_k».proof.Proof.Gen.FoxGradIdeal.Skeleton
public import proofs.«01_k».proof.Proof.FoxRef

@[expose] public section

set_option maxRecDepth 16384

noncomputable section

namespace Cert.FoxGradIdeal.Host

open Cert.FoxGradIdeal Cert.FoxGradIdeal.Gen Cert.FoxSpec Idealize.ShloMosaic Idealize.ShloMosaic.TcCoe Idealize.SL.Sem
open Cert.FoxGradIdeal.Facts

/-- The masked logits. -/
def logit (P : FVec Ideal S2048x5120 .f32) (C : FVec Ideal S8x2048 .f32) : FVec Ideal S8x2048x2048 .f32 :=
  select (broadcastInDim S8x2048x2048 ![1, 2] bcast_S2048x2048_S8x2048x2048_1_2 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (subf (addf (mulf (Host.dotGeneral dot_S2048x8x128_S2048x8x128_S8x2048x2048_2_2_0_0_1_1 none (shapeCast _ (extractStridedSlice S2048x1024 ![0, 2048] P slices_S2048x5120_S2048x1024_0_2048) shapeCasts_S2048x1024_S2048x8x128) (shapeCast _ (extractStridedSlice S2048x1024 ![0, 3072] P slices_S2048x5120_S2048x1024_0_3072) shapeCasts_S2048x1024_S2048x8x128)) (broadcastInDim S8x2048x2048 ![] bcast_S_S8x2048x2048 (constant S_ .f32 0x3DB504F3#32))) (broadcastInDim S8x2048x2048 ![0, 1, 2] bcast_S8x2048x1_S8x2048x2048_0_1_2 (broadcastInDim S8x2048x1 ![0, 1] bcast_S8x2048_S8x2048x1_0_1 C))) (broadcastInDim S8x2048x2048 ![0, 1, 2] bcast_S8x1x2048_S8x2048x2048_0_1_2 (broadcastInDim S8x1x2048 ![0, 2] bcast_S8x2048_S8x1x2048_0_2 C))) (broadcastInDim S8x2048x2048 ![] bcast_S_S8x2048x2048 (constant S_ .f32 0xFF800000#32))

/-- Their maximum by rows. -/
def top (P : FVec Ideal S2048x5120 .f32) (C : FVec Ideal S8x2048 .f32) : FVec Ideal S8x2048x1 .f32 :=
  broadcastInDim S8x2048x1 ![0, 1] bcast_S8x2048_S8x2048x1_0_1 (Host.reduce FloatOps.maximumf (logit P C) (constant S_ .f32 0xFF800000#32) reducesTo_S8x2048x2048_S8x2048_d2 h_S_)

/-- The exponentials of the logits less the maximum. -/
def expd (P : FVec Ideal S2048x5120 .f32) (C : FVec Ideal S8x2048 .f32) : FVec Ideal S8x2048x2048 .f32 :=
  Host.exp (subf (logit P C) (broadcastInDim S8x2048x2048 ![0, 1, 2] bcast_S8x2048x1_S8x2048x2048_0_1_2 (top P C)))

/-- Their sums by rows. -/
def total (P : FVec Ideal S2048x5120 .f32) (C : FVec Ideal S8x2048 .f32) : FVec Ideal S8x2048x1 .f32 :=
  broadcastInDim S8x2048x1 ![0, 1] bcast_S8x2048_S8x2048x1_0_1 (Host.reduceAdd (expd P C) (constant S_ .f32 0x00000000#32) reducesTo_S8x2048x2048_S8x2048_d2 h_S_)

/-- The logarithms of the rows' sums of exponentials of the logits. -/
def lse (P : FVec Ideal S2048x5120 .f32) (C : FVec Ideal S8x2048 .f32) : FVec Ideal S8x2048x1 .f32 := addf (top P C) (Host.log (total P C))

/-- The attention's output. -/
def outp (P : FVec Ideal S2048x5120 .f32) (C : FVec Ideal S8x2048 .f32) : FVec Ideal S2048x1024 .f32 :=
  shapeCast _ (transpose S2048x8x128 [2, 0, 1] (Host.dotGeneral dot_S2048x8x128_S8x2048x2048_S8x128x2048_0_2_2_1_1_0 none
    (shapeCast _ (extractStridedSlice S2048x1024 ![0, 4096] P slices_S2048x5120_S2048x1024_0_4096) shapeCasts_S2048x1024_S2048x8x128)
    (Host.divf (expd P C) (broadcastInDim S8x2048x2048 ![0, 1, 2] bcast_S8x2048x1_S8x2048x2048_0_1_2 (total P C))))
    transposes_S8x128x2048_S2048x8x128_2_0_1) shapeCasts_S2048x8x128_S2048x1024

/-- The sums of gates in the two shapes the kernel takes. -/
def gates (C : FVec Ideal S8x2048 .f32) : FVec Ideal S8x2048x1 .f32 := broadcastInDim S8x2048x1 ![0, 1] bcast_S8x2048_S8x2048x1_0_1 C
def gatesT (C : FVec Ideal S8x2048 .f32) : FVec Ideal S8x4x1x512 .f32 := shapeCast S8x4x1x512 C shapeCasts_S8x2048_S8x4x1x512

/-- The gradient of the sums of gates, from the rows' sums and the columns' sums. -/
def diff (R : FVec Ideal S8x2048x1 .f32) (K : FVec Ideal S2048x1024 .f32) : FVec Ideal S8x2048 .f32 :=
  subf (shapeCast S8x2048 R shapeCasts_S8x2048x1_S8x2048) (transpose S8x2048 [1, 0] (shapeCast S2048x8 (extractStridedSlice S2048x8x1 ![0, 0, 0] (shapeCast S2048x8x128 K shapeCasts_S2048x1024_S2048x8x128) slices_S2048x8x128_S2048x8x1_0_0_0) shapeCasts_S2048x8x1_S2048x8) transposes_S2048x8_S8x2048_1_0)

variable (P : FVec Ideal S2048x5120 .f32) (C : FVec Ideal S8x2048 .f32)

theorem logit_at (h : Fin 8) (t s : Fin 2048) : logit P C (ix3 h t s) =
    if s ≤ t then (∑ x : Fin 128, P (ix2 t (⟨2048 + (h * 128 + x), by omega⟩ : Fin 5120)) * P (ix2 s (⟨3072 + (h * 128 + x), by omega⟩ : Fin 5120)))
      * Ideal.ofBits FTy.f32 0x3DB504F3#32 + C (ix2 h t) - C (ix2 h s) else Ideal.ofBits FTy.f32 0xFF800000#32 := by
  refine Eq.trans ?_ (Cert.FoxRefIdeal.Terms.mask_at t s _ _)
  pointwise [logit]
theorem top_at (h : Fin 8) (t : Fin 2048) : top P C (ix3 h t 0) =
    Finset.fold max (Ideal.ofBits FTy.f32 0xFF800000#32) (fun x => logit P C (ix3 h t x)) Finset.univ := by
  pointwise [top]
theorem expd_at (h : Fin 8) (t s : Fin 2048) : expd P C (ix3 h t s) = Ideal.exp (logit P C (ix3 h t s) - top P C (ix3 h t 0)) := by
  pointwise [expd]
theorem total_at (h : Fin 8) (t : Fin 2048) : total P C (ix3 h t 0) = ∑ x, expd P C (ix3 h t x) := by
  pointwise [total]
theorem lse_gen (A B : FVec Ideal S8x2048x1 .f32) (y : S8x2048x1.Idx) : addf A (Host.log B) y = A y + Ideal.log (B y) := rfl
theorem lse_at (h : Fin 8) (t : Fin 2048) : lse P C (ix3 h t 0) = top P C (ix3 h t 0) + Ideal.log (total P C (ix3 h t 0)) := by
  unfold lse
  exact lse_gen _ _ _
theorem outp_at (t : Fin 2048) (x : Fin 1024) : outp P C (ix2 t x) =
    ∑ s : Fin 2048, P (ix2 s (⟨4096 + x, by omega⟩ : Fin 5120)) * Ideal.div (expd P C (ix3 (⟨x / 128, by omega⟩ : Fin 8) t s)) (total P C (ix3 (⟨x / 128, by omega⟩ : Fin 8) t 0)) := by
  pointwise [outp]
theorem gates_at (h : Fin 8) (t : Fin 2048) : gates C (ix3 h t 0) = C (ix2 h t) := by
  pointwise [gates]
theorem gatesT_at (h : Fin 8) (j : Fin 4) (s : Fin 512) : gatesT C (ix4 h j 0 s) = C (ix2 h (key j s)) := by
  pointwise [gatesT]
  exact congrArg (fun t => C (ix2 h t)) (Fin.ext (congrArg (· + s.val) (Nat.mul_comm _ _)))
theorem diff_at (R : FVec Ideal S8x2048x1 .f32) (K : FVec Ideal S2048x1024 .f32) (h : Fin 8) (t : Fin 2048) :
    diff R K (ix2 h t) = R (ix3 h t 0) - K (ix2 t (⟨h * 128, by omega⟩ : Fin 1024)) := by
  pointwise [diff]

end Cert.FoxGradIdeal.Host

end
-- ==== Proof.FoxReal.lean ====
/-
  The forgetting attention over the real numbers: logits, exponentials, their sums, and the cotangent of the logits.
-/
module

public import proofs.«01_k».proof.Proof.FoxSpec

@[expose] public section

set_option maxRecDepth 16384

noncomputable section

namespace Cert.FoxReal

open Idealize.ShloMosaic Cert.FoxSpec

/-- The coercion of a sum. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The maximum of finitely many numbers, minus infinity among them but not all, is a real number. -/
theorem fold_real {ι : Type} [Fintype ι] (f : ι → EReal) (h1 : ∀ i, f i ≠ ⊤) (i₀ : ι) (h2 : f i₀ ≠ ⊥) :
    ∃ r : ℝ, Finset.fold max ⊥ f Finset.univ = (r : EReal) := by
  have a : Finset.fold max ⊥ f Finset.univ < ⊤ :=
    (Finset.fold_max_lt _).2 ⟨bot_lt_top, fun i _ => lt_top_iff_ne_top.2 (h1 i)⟩
  have b : ⊥ < Finset.fold max ⊥ f Finset.univ :=
    (Finset.lt_fold_max _).2 (Or.inr ⟨i₀, Finset.mem_univ _, bot_lt_iff_ne_bot.2 h2⟩)
  exact ⟨_, (EReal.coe_toReal a.ne b.ne').symm⟩

/-- A sum over 2048 keys by blocks of 512. -/
theorem sum_key (f : Fin 2048 → ℝ) : ∑ j : Fin 4, ∑ s : Fin 512, f (key j s) = ∑ s, f s := by
  rw [← Fintype.sum_prod_type' (f := fun (j : Fin 4) (s : Fin 512) => f (key j s))]
  refine Fintype.sum_equiv (finProdFinEquiv (m := 4) (n := 512)) _ _ fun x => congrArg f (Fin.ext ?_)
  show 512 * x.1.val + x.2.val = x.2.val + 512 * x.1.val
  omega

theorem bot_ofBits : Ideal.ofBits FTy.f32 0xFF800000#32 = ⊥ := by simp [Ideal.ofBits, Ideal.ieee]

/-- The factor of the logits is a real number. -/
theorem sc_real : ∃ r : ℝ, Ideal.ofBits FTy.f32 0x3DB504F3#32 = (r : EReal) := ⟨_, by simp [Ideal.ofBits, Ideal.ieee]; rfl⟩

/-- The factor of the logits. -/
def σ : ℝ := sc_real.choose
theorem sc_eq : Ideal.ofBits FTy.f32 0x3DB504F3#32 = (σ : EReal) := sc_real.choose_spec

variable (p : (⟨2, ![2048, 5120]⟩ : Shape).Idx → ℝ) (g : (⟨2, ![8, 2048]⟩ : Shape).Idx → ℝ)
  (d : (⟨2, ![2048, 2048]⟩ : Shape).Idx → ℝ) (T : Fin 8 → Fin 2048 → ℝ)

/-- Entries of q, k and v and of the output's cotangent. -/
def q (h : Fin 8) (t : Fin 2048) (x : Fin 128) : ℝ := p (ix2 t (⟨2048 + (h * 128 + x), by omega⟩ : Fin 5120))
def k (h : Fin 8) (t : Fin 2048) (x : Fin 128) : ℝ := p (ix2 t (⟨3072 + (h * 128 + x), by omega⟩ : Fin 5120))
def v (h : Fin 8) (t : Fin 2048) (x : Fin 128) : ℝ := p (ix2 t (⟨4096 + (h * 128 + x), by omega⟩ : Fin 5120))
def dd (h : Fin 8) (t : Fin 2048) (x : Fin 128) : ℝ := d (ix2 t (⟨1024 + (h * 128 + x), by omega⟩ : Fin 2048))

/-- The logit of row `t` and key `s`. -/
def X (h : Fin 8) (t s : Fin 2048) : ℝ := (∑ x, q p h t x * k p h s x) * σ + g (ix2 h t) - g (ix2 h s)

/-- Its exponential less `T`, zero for keys after the row, and the row's sum. -/
def e (h : Fin 8) (t s : Fin 2048) : ℝ := if s ≤ t then Real.exp (X p g h t s - T h t) else 0
def Z (h : Fin 8) (t : Fin 2048) : ℝ := ∑ s, e p g T h t s

/-- The cotangent of the probability, its mean by the row's probabilities, and the cotangent of the logit. -/
def G (h : Fin 8) (t s : Fin 2048) : ℝ := ∑ x, dd d h t x * v p h s x
def Δ (h : Fin 8) (t : Fin 2048) : ℝ := ∑ s, G p d h t s * (e p g T h t s / Z p g T h t)
def S (h : Fin 8) (t s : Fin 2048) : ℝ := e p g T h t s / Z p g T h t * (G p d h t s - Δ p g d T h t)

theorem e_nonneg (h : Fin 8) (t s : Fin 2048) : 0 ≤ e p g T h t s := by
  unfold e; split
  · exact (Real.exp_pos _).le
  · exact le_rfl

theorem Z_pos (h : Fin 8) (t : Fin 2048) : 0 < Z p g T h t := by
  refine lt_of_lt_of_le ?_ (Finset.single_le_sum (fun s _ => e_nonneg p g T h t s) (Finset.mem_univ t))
  unfold e
  rw [if_pos le_rfl]
  exact Real.exp_pos _

theorem Z_ne (h : Fin 8) (t : Fin 2048) : Z p g T h t ≠ 0 := (Z_pos p g T h t).ne'

/-- The head of a column. -/
def hc8 (x : Fin 1024) : Fin 8 := ⟨x / 128, by omega⟩

/-- The four gradients. -/
def gq (t : Fin 2048) (x : Fin 1024) : ℝ := (∑ s, S p g d T (hc8 x) t s * p (ix2 s (⟨3072 + x, by omega⟩ : Fin 5120))) * σ
def gk (s : Fin 2048) (x : Fin 1024) : ℝ := (∑ t, S p g d T (hc8 x) t s * p (ix2 t (⟨2048 + x, by omega⟩ : Fin 5120))) * σ
def gv (s : Fin 2048) (x : Fin 1024) : ℝ :=
  ∑ t, e p g T (hc8 x) t s / Z p g T (hc8 x) t * d (ix2 t (⟨1024 + x, by omega⟩ : Fin 2048))
def gc (h : Fin 8) (t : Fin 2048) : ℝ := (∑ s, S p g d T h t s) - ∑ r, S p g d T h r t

end Cert.FoxReal

end
-- ==== Proof.FoxRefReal.lean ====
/-
  At finite arguments the attention reference's stages and results are the real numbers of the attention's gradient.
-/
module

public import proofs.«01_k».proof.Proof.FoxRef
public import proofs.«01_k».proof.Proof.FoxReal

@[expose] public section

set_option maxRecDepth 16384

noncomputable section

namespace Cert.FoxRefIdeal.Terms

open Cert.FoxRefIdeal Cert.FoxSpec Cert.FoxReal Idealize.ShloMosaic

variable {P : FVec Ideal S2048x5120 .f32} {C : FVec Ideal S8x2048 .f32} {D : FVec Ideal S2048x2048 .f32}
variable {p : (⟨2, ![2048, 5120]⟩ : Shape).Idx → ℝ} {g : (⟨2, ![8, 2048]⟩ : Shape).Idx → ℝ}
  {d : (⟨2, ![2048, 2048]⟩ : Shape).Idx → ℝ} {T : Fin 8 → Fin 2048 → ℝ}

/-- The masked logits are real numbers, and minus infinity after the row. -/
theorem logit_real (hP : ∀ y, P y = (p y : EReal)) (hC : ∀ y, C y = (g y : EReal)) (h : Fin 8) (t s : Fin 2048) :
    logit P C (ix3 h t s) = if s ≤ t then (X p g h t s : EReal) else ⊥ := by
  rw [logit_at, bot_ofBits, sc_eq]
  refine if_congr Iff.rfl ?_ rfl
  simp only [hP, hC]
  unfold X q k
  rw [EReal.coe_sub, EReal.coe_add, EReal.coe_mul, coe_sum]
  simp only [EReal.coe_mul]

/-- Their maximum by rows is real. -/
theorem top_real (hP : ∀ y, P y = (p y : EReal)) (hC : ∀ y, C y = (g y : EReal)) :
    ∃ T : Fin 8 → Fin 2048 → ℝ, ∀ h t, top P C (ix2 h t) = (T h t : EReal) := by
  have a : ∀ h t, ∃ r : ℝ, top P C (ix2 h t) = (r : EReal) := by
    intro h t
    rw [top_at, bot_ofBits]
    refine fold_real _ (fun s => ?_) t ?_
    · rw [logit_real hP hC]
      split
      · exact EReal.coe_ne_top _
      · exact bot_ne_top
    · rw [logit_real hP hC, if_pos le_rfl]
      exact EReal.coe_ne_bot _
  exact ⟨fun h t => (a h t).choose, fun h t => (a h t).choose_spec⟩

/-- The exponential of a masked logit less a real number. -/
theorem exp_real (h : Fin 8) (t s : Fin 2048) :
    Ideal.exp ((if s ≤ t then (X p g h t s : EReal) else ⊥) - (T h t : EReal)) = (e p g T h t s : EReal) := by
  unfold e
  split
  · rw [← EReal.coe_sub, Ideal.exp_coe]
  · rw [sub_eq_add_neg, EReal.bot_add, Ideal.exp_bot, EReal.coe_zero]

section
variable (hP : ∀ y, P y = (p y : EReal)) (hC : ∀ y, C y = (g y : EReal)) (hD : ∀ y, D y = (d y : EReal))
  (hT : ∀ h t, top P C (ix2 h t) = (T h t : EReal))
include hP hC hT

theorem expd_real (h : Fin 8) (t s : Fin 2048) : expd P C (ix3 h t s) = (e p g T h t s : EReal) := by
  rw [expd_at, topm_at, hT, bot_ofBits, max_eq_right bot_le, logit_real hP hC, exp_real]

theorem total_real (h : Fin 8) (t : Fin 2048) : total P C (ix3 h t 0) = (Z p g T h t : EReal) := by
  rw [total_at]
  unfold Z
  rw [coe_sum]
  exact Finset.sum_congr rfl fun s _ => expd_real hP hC hT h t s

omit hC hT in
include hD in
theorem dprob_real (h : Fin 8) (t s : Fin 2048) : dprob P D (ix3 h t s) = (G p d h t s : EReal) := by
  rw [dprob_at]
  simp only [hP, hD]
  unfold G dd v
  rw [coe_sum]
  simp only [EReal.coe_mul]

include hD in
theorem back_real (h : Fin 8) (t : Fin 2048) :
    back P C D (ix2 h t) = ((-∑ s, G p d h t s * (1 / (Z p g T h t * Z p g T h t)) * e p g T h t s : ℝ) : EReal) := by
  rw [back_at, Fin.sum_univ_one, EReal.coe_neg, coe_sum]
  refine congrArg (fun z : EReal => -z) (Finset.sum_congr rfl fun s _ => ?_)
  rw [total_real hP hC hT, ← EReal.coe_mul, Ideal.div_coe (mul_ne_zero (Z_ne p g T h t) (Z_ne p g T h t)), one_mul,
    dprob_real hP hD, expd_real hP hC hT, EReal.coe_mul, EReal.coe_mul]

include hD in
theorem dlog_real (h : Fin 8) (t s : Fin 2048) : dlog P C D (ix3 h t s) = (S p g d T h t s : EReal) := by
  rw [dlog_at]
  have hz := Z_ne p g T h t
  split
  · rw [total_real hP hC hT, Ideal.div_coe hz, dprob_real hP hD, back_real hP hC hD hT, expd_real hP hC hT,
      ← EReal.coe_mul, ← EReal.coe_add, ← EReal.coe_mul]
    congr 1
    have b : ∑ s, G p d h t s * (1 / (Z p g T h t * Z p g T h t)) * e p g T h t s = 1 / Z p g T h t * Δ p g d T h t := by
      unfold Δ
      rw [Finset.mul_sum]
      refine Finset.sum_congr rfl fun s _ => ?_
      field_simp
    rw [b]
    unfold S
    field_simp
    ring
  · rename_i hs
    unfold S e
    rw [if_neg hs, zero_div, zero_mul, EReal.coe_zero]

include hD in
theorem rq_real (t : Fin 2048) (x : Fin 1024) : rq P C D (ix2 t x) = (gq p g d T t x : EReal) := by
  rw [rq_at]
  unfold gq
  rw [Finset.sum_mul, coe_sum]
  refine Finset.sum_congr rfl fun s _ => ?_
  rw [dlog_real hP hC hD hT, sc_eq, hP, ← EReal.coe_mul, ← EReal.coe_mul]
  congr 1
  unfold hc8
  ring

include hD in
theorem rk_real (s : Fin 2048) (x : Fin 1024) : rk P C D (ix2 s x) = (gk p g d T s x : EReal) := by
  rw [rk_at]
  unfold gk
  rw [Finset.sum_mul, coe_sum]
  refine Finset.sum_congr rfl fun t _ => ?_
  rw [dlog_real hP hC hD hT, sc_eq, hP, ← EReal.coe_mul, ← EReal.coe_mul]
  congr 1
  unfold hc8
  ring

include hD in
theorem rv_real (s : Fin 2048) (x : Fin 1024) : rv P C D (ix2 s x) = (gv p g d T s x : EReal) := by
  rw [rv_at]
  unfold gv
  rw [coe_sum]
  refine Finset.sum_congr rfl fun t _ => ?_
  rw [total_real hP hC hT, Ideal.div_coe (Z_ne p g T _ t), expd_real hP hC hT, hD, ← EReal.coe_mul, ← EReal.coe_mul]
  congr 1
  unfold hc8
  rw [one_div, div_eq_mul_inv]
  ring

include hD in
theorem rc_real (h : Fin 8) (t : Fin 2048) : rc P C D (ix2 h t) = (gc p g d T h t : EReal) := by
  rw [rc_at, Fin.sum_univ_one, Fin.sum_univ_one]
  unfold gc
  simp only [dlog_real hP hC hD hT]
  simp only [← EReal.coe_neg]
  rw [← coe_sum, ← coe_sum, ← EReal.coe_add]
  congr 1
  rw [Finset.sum_neg_distrib]
  ring

end

end Cert.FoxRefIdeal.Terms

end
-- ==== Proof.FoxKerReal.lean ====
/-
  At finite arrays what the attention kernel's grid leaves are the real numbers of the attention's gradient.
-/
module

public import proofs.«01_k».proof.Proof.FoxReal
public import Idealize.ShloMosaic.Lib.IdealHost

@[expose] public section

set_option maxRecDepth 16384

noncomputable section

namespace Cert.FoxKer

open Cert.FoxSpec Cert.FoxReal Idealize.ShloMosaic

/-- The arrays hold real numbers: the projection, the gates' sums, the log-sums, the cotangent and the output. -/
structure Holds (a : Args) (p : (⟨2, ![2048, 5120]⟩ : Shape).Idx → ℝ) (g : (⟨2, ![8, 2048]⟩ : Shape).Idx → ℝ)
    (d : (⟨2, ![2048, 2048]⟩ : Shape).Idx → ℝ) (T : Fin 8 → Fin 2048 → ℝ) : Prop where
  hp : ∀ y, a.p y = (p y : EReal)
  hcc : ∀ h t, a.cc (ix3 h t 0) = (g (ix2 h t) : EReal)
  hcr : ∀ h j s, a.cr (ix4 h j 0 s) = (g (ix2 h (key j s)) : EReal)
  hl : ∀ h t, a.lse (ix3 h t 0) = ((T h t + Real.log (Z p g T h t) : ℝ) : EReal)
  hd : ∀ y, a.dd y = (d y : EReal)
  ho : ∀ (t : Fin 2048) (x : Fin 1024), a.o (ix2 t x)
    = ((∑ s, p (ix2 s (⟨4096 + x, by omega⟩ : Fin 5120)) * (e p g T (hc8 x) t s / Z p g T (hc8 x) t) : ℝ) : EReal)

theorem gcol_hc (i : Fin 4) (h : Fin 2) (x : Fin 128) : (gcol i (hc h x) : ℕ) = ghead i h * 128 + x := by
  show 256 * i.val + (128 * h.val + x.val) = (2 * i.val + h.val) * 128 + x.val
  omega

theorem hc8_gcol (i : Fin 4) (h : Fin 2) (x : Fin 128) : hc8 (gcol i (hc h x)) = ghead i h := by
  apply Fin.ext
  show (gcol i (hc h x) : ℕ) / 128 = _
  rw [gcol_hc]
  omega

theorem hc_hd_dx (c : Fin 256) : hc (hd c) (dx c) = c := by
  apply Fin.ext
  show 128 * (c.val / 128) + c.val % 128 = c.val
  omega

theorem gcol_cg_cx (x : Fin 1024) : gcol (cg x) (cx x) = x := by
  apply Fin.ext
  show 256 * (x.val / 256) + x.val % 256 = x.val
  omega

theorem key_rb_rx (r : Fin 2048) : key (rb r) (rx r) = r := by
  apply Fin.ext
  show 512 * (r.val / 512) + r.val % 512 = r.val
  omega

theorem ghead_hg_hx (h : Fin 8) : ghead (hg h) (hx h) = h := by
  apply Fin.ext
  show 2 * (h.val / 2) + h.val % 2 = h.val
  omega

theorem ghead_hd (x : Fin 1024) : ghead (cg x) (hd (cx x)) = hc8 x := by
  apply Fin.ext
  show 2 * (x.val / 256) + x.val % 256 / 128 = x.val / 128
  omega

theorem hc8_dx (x : Fin 1024) : (hc8 x : ℕ) * 128 + dx (cx x) = x := by
  show x.val / 128 * 128 + x.val % 256 % 128 = x.val
  omega

theorem hd_hc (h : Fin 2) (x : Fin 128) : hd (hc h x) = h := by
  apply Fin.ext
  show (128 * h.val + x.val) / 128 = h.val
  omega

variable {a : Args} {p : (⟨2, ![2048, 5120]⟩ : Shape).Idx → ℝ} {g : (⟨2, ![8, 2048]⟩ : Shape).Idx → ℝ}
  {d : (⟨2, ![2048, 2048]⟩ : Shape).Idx → ℝ} {T : Fin 8 → Fin 2048 → ℝ} (H : Holds a p g d T)
  (i n : Fin 4) (h : Fin 2) (r : Fin 512) (s : Fin 2048) (x : Fin 128)
include H

/-! ### The windows -/

theorem w_q : (winAt a i n).q (ix2 r (hc h x)) = (q p (ghead i h) (key n r) x : EReal) :=
  (H.hp _).trans (congrArg (fun c : Fin 5120 => ((p (ix2 (key n r) c) : ℝ) : EReal)) (Fin.ext (congrArg (2048 + ·) (gcol_hc i h x))))

theorem w_k : (winAt a i n).k (ix2 s (hc h x)) = (k p (ghead i h) s x : EReal) :=
  (H.hp _).trans (congrArg (fun c : Fin 5120 => ((p (ix2 s c) : ℝ) : EReal)) (Fin.ext (congrArg (3072 + ·) (gcol_hc i h x))))

theorem w_v : (winAt a i n).v (ix2 s (hc h x)) = (v p (ghead i h) s x : EReal) :=
  (H.hp _).trans (congrArg (fun c : Fin 5120 => ((p (ix2 s c) : ℝ) : EReal)) (Fin.ext (congrArg (4096 + ·) (gcol_hc i h x))))

theorem w_dd : (winAt a i n).dd (ix2 r (hc h x)) = (dd d (ghead i h) (key n r) x : EReal) :=
  (H.hd _).trans (congrArg (fun c : Fin 2048 => ((d (ix2 (key n r) c) : ℝ) : EReal)) (Fin.ext (congrArg (1024 + ·) (gcol_hc i h x))))

theorem w_cc : (winAt a i n).cc (ix3 h r 0) = (g (ix2 (ghead i h) (key n r)) : EReal) := H.hcc _ _

theorem w_cr : (winAt a i n).cr (ix4 h (⟨s / 512, by omega⟩ : Fin 4) 0 (⟨s % 512, by omega⟩ : Fin 512)) = (g (ix2 (ghead i h) s) : EReal) :=
  (H.hcr _ _ _).trans (congrArg (fun t => ((g (ix2 (ghead i h) t) : ℝ) : EReal)) (key_rb_rx s))

theorem w_l : (winAt a i n).lse (ix3 h r 0)
    = ((T (ghead i h) (key n r) + Real.log (Z p g T (ghead i h) (key n r)) : ℝ) : EReal) := H.hl _ _

theorem w_o : (winAt a i n).o (ix2 r (hc h x))
    = ((∑ s, v p (ghead i h) s x * (e p g T (ghead i h) (key n r) s / Z p g T (ghead i h) (key n r)) : ℝ) : EReal) := by
  refine (H.ho (key n r) (gcol i (hc h x))).trans (congrArg (fun y : ℝ => (y : EReal)) (Finset.sum_congr rfl fun s _ => ?_))
  rw [hc8_gcol]
  unfold v
  congr 3
  exact Fin.ext (congrArg (4096 + ·) (gcol_hc i h x))

/-! ### A tile -/

theorem pr_real : pr (winAt a i n) h r s = (Real.exp (X p g (ghead i h) (key n r) s - T (ghead i h) (key n r))
    / Z p g T (ghead i h) (key n r) : ℝ) := by
  unfold pr
  simp only [w_q H, w_k H, w_cc H, w_cr H, w_l H, sc, sc_eq, ← EReal.coe_mul, ← coe_sum, ← EReal.coe_add, ← EReal.coe_sub]
  rw [Ideal.exp_coe]
  congr 1
  rw [← sub_sub, Real.exp_sub, Real.exp_log (Z_pos p g T _ _)]
  rfl

theorem prm_real : prm (winAt a i n) n h r s
    = (e p g T (ghead i h) (key n r) s / Z p g T (ghead i h) (key n r) : ℝ) := by
  unfold prm e
  by_cases hs : s ≤ key n r
  · rw [if_pos hs, if_pos (show (s : ℕ) ≤ 512 * n + r from hs), pr_real H]
  · rw [if_neg hs, if_neg (show ¬ (s : ℕ) ≤ 512 * n + r from hs), zero_div, EReal.coe_zero]

theorem delta_real : delta (winAt a i n) h r = (Δ p g d T (ghead i h) (key n r) : EReal) := by
  unfold delta
  simp only [w_dd H, w_o H, ← EReal.coe_mul, ← coe_sum]
  congr 1
  unfold Δ G
  simp only [Finset.mul_sum, Finset.sum_mul]
  rw [Finset.sum_comm]
  exact Finset.sum_congr rfl fun s _ => Finset.sum_congr rfl fun x _ => (mul_assoc _ _ _).symm

theorem dsm_real : dsm (winAt a i n) n h r s = (S p g d T (ghead i h) (key n r) s : EReal) := by
  unfold dsm
  simp only [prm_real H, delta_real H, w_dd H, w_v H, ← EReal.coe_mul, ← coe_sum, ← EReal.coe_sub]
  rfl

/-! ### The arrays -/

theorem dqA_real (t : Fin 2048) (y : Fin 1024) : dqA a t y = (gq p g d T t y : EReal) := by
  unfold dqA dqc
  simp only [dsm_real H, w_k H, sc, sc_eq, ← EReal.coe_mul, ← coe_sum, ← Finset.sum_mul, ghead_hd, key_rb_rx]
  congr 1
  unfold gq
  congr 1
  refine (sum_key fun s => S p g d T (hc8 y) t s * k p (hc8 y) s (dx (cx y))).trans (Finset.sum_congr rfl fun s _ => ?_)
  unfold k
  congr 3
  exact Fin.ext (congrArg (3072 + ·) (hc8_dx y))

theorem dkc_real (c : Fin 256) : dkc (winAt a i n) n s c
    = ((∑ r, S p g d T (ghead i (hd c)) (key n r) s * q p (ghead i (hd c)) (key n r) (dx c)) * σ : ℝ) := by
  unfold dkc
  have e1 : ∀ r, (winAt a i n).q (ix2 r c) = (q p (ghead i (hd c)) (key n r) (dx c) : EReal) := fun r => by
    rw [← w_q H, hc_hd_dx]
  simp only [dsm_real H, e1, sc, sc_eq, ← EReal.coe_mul, ← coe_sum]

theorem dkA_real (t : Fin 2048) (y : Fin 1024) : dkA a t y = (gk p g d T t y : EReal) := by
  unfold dkA
  simp only [dkc_real H, ← coe_sum, ← Finset.sum_mul, ghead_hd]
  congr 1
  unfold gk
  congr 1
  refine (sum_key fun r => S p g d T (hc8 y) r t * q p (hc8 y) r (dx (cx y))).trans (Finset.sum_congr rfl fun s _ => ?_)
  unfold q
  congr 3
  exact Fin.ext (congrArg (2048 + ·) (hc8_dx y))

theorem dvc_real (c : Fin 256) : dvc (winAt a i n) n s c
    = ((∑ r, e p g T (ghead i (hd c)) (key n r) s / Z p g T (ghead i (hd c)) (key n r) * dd d (ghead i (hd c)) (key n r) (dx c) : ℝ) : EReal) := by
  unfold dvc
  have e1 : ∀ r, (winAt a i n).dd (ix2 r c) = (dd d (ghead i (hd c)) (key n r) (dx c) : EReal) := fun r => by
    rw [← w_dd H, hc_hd_dx]
  simp only [prm_real H, e1, ← EReal.coe_mul, ← coe_sum]

theorem dvA_real (t : Fin 2048) (y : Fin 1024) : dvA a t y = (gv p g d T t y : EReal) := by
  unfold dvA
  simp only [dvc_real H, ← coe_sum, ghead_hd]
  congr 1
  unfold gv
  refine (sum_key fun r => e p g T (hc8 y) r t / Z p g T (hc8 y) r * dd d (hc8 y) r (dx (cx y))).trans (Finset.sum_congr rfl fun s _ => ?_)
  unfold dd
  congr 3
  exact Fin.ext (congrArg (1024 + ·) (hc8_dx y))

theorem dcA_real (t : Fin 2048) (y : Fin 1024) : dcA a t y = ((∑ r, S p g d T (hc8 y) r t : ℝ) : EReal) := by
  unfold dcA dcc
  simp only [dsm_real H, Ideal.ofBits_one_bf16, mul_one, ← coe_sum, ghead_hd]
  congr 1
  exact sum_key fun r => S p g d T (hc8 y) r t

theorem drA_real (b : Fin 8) (t : Fin 2048) : drA a b t = ((∑ s, S p g d T b t s : ℝ) : EReal) := by
  unfold drA drc
  simp only [dsm_real H, ← coe_sum, ghead_hg_hx, key_rb_rx]
  congr 1
  exact sum_key fun s => S p g d T b t s

end Cert.FoxKer

end
-- ==== Proof.FoxHostReal.lean ====
/-
  At finite arguments the host hands the attention kernel real numbers.
-/
module

public import proofs.«01_k».proof.Proof.FoxHost
public import proofs.«01_k».proof.Proof.FoxRefReal
public import proofs.«01_k».proof.Proof.FoxKerReal

@[expose] public section

set_option maxRecDepth 16384

noncomputable section

namespace Cert.FoxGradIdeal.Host

open Cert.FoxGradIdeal Cert.FoxSpec Cert.FoxReal Idealize.ShloMosaic

variable {P : FVec Ideal S2048x5120 .f32} {C : FVec Ideal S8x2048 .f32} {D : FVec Ideal S2048x2048 .f32}
variable {p : (⟨2, ![2048, 5120]⟩ : Shape).Idx → ℝ} {g : (⟨2, ![8, 2048]⟩ : Shape).Idx → ℝ}
  {d : (⟨2, ![2048, 2048]⟩ : Shape).Idx → ℝ} {T : Fin 8 → Fin 2048 → ℝ}

/-- The host's logits are the reference's. -/
theorem logit_eq (h : Fin 8) (t s : Fin 2048) : logit P C (ix3 h t s) = Cert.FoxRefIdeal.Terms.logit P C (ix3 h t s) := by
  rw [logit_at, Cert.FoxRefIdeal.Terms.logit_at]

/-- And so are their maxima. -/
theorem top_eq (h : Fin 8) (t : Fin 2048) : top P C (ix3 h t 0) = Cert.FoxRefIdeal.Terms.top P C (ix2 h t) := by
  rw [top_at, Cert.FoxRefIdeal.Terms.top_at]
  simp only [logit_eq]

section
variable (hP : ∀ y, P y = (p y : EReal)) (hC : ∀ y, C y = (g y : EReal)) (hD : ∀ y, D y = (d y : EReal))
  (hT : ∀ h t, Cert.FoxRefIdeal.Terms.top P C (ix2 h t) = (T h t : EReal))
include hP hC hT

theorem expd_real (h : Fin 8) (t s : Fin 2048) : expd P C (ix3 h t s) = (e p g T h t s : EReal) := by
  rw [expd_at, top_eq, hT, logit_eq, Cert.FoxRefIdeal.Terms.logit_real hP hC, Cert.FoxRefIdeal.Terms.exp_real]

theorem total_real (h : Fin 8) (t : Fin 2048) : total P C (ix3 h t 0) = (Z p g T h t : EReal) := by
  rw [total_at]
  unfold Z
  rw [coe_sum]
  exact Finset.sum_congr rfl fun s _ => expd_real hP hC hT h t s

theorem lse_real (h : Fin 8) (t : Fin 2048) : lse P C (ix3 h t 0) = ((T h t + Real.log (Z p g T h t) : ℝ) : EReal) := by
  rw [lse_at, top_eq, hT, total_real hP hC hT, Ideal.log_coe, if_neg (not_le.2 (Z_pos p g T h t)), EReal.coe_add]

theorem outp_real (t : Fin 2048) (x : Fin 1024) : outp P C (ix2 t x)
    = ((∑ s, p (ix2 s (⟨4096 + x, by omega⟩ : Fin 5120)) * (e p g T (hc8 x) t s / Z p g T (hc8 x) t) : ℝ) : EReal) := by
  rw [outp_at, coe_sum]
  refine Finset.sum_congr rfl fun s _ => ?_
  rw [total_real hP hC hT, Ideal.div_coe (Z_ne p g T _ t), expd_real hP hC hT, hP, ← EReal.coe_mul, ← EReal.coe_mul]
  congr 1
  unfold hc8
  rw [one_div, div_eq_mul_inv]

include hD in
/-- What the host hands the kernel. -/
theorem holds : Cert.FoxKer.Holds ⟨P, gates C, gatesT C, lse P C, D, outp P C⟩ p g d T where
  hp := hP
  hcc h t := (gates_at C h t).trans (hC _)
  hcr h j s := (gatesT_at C h j s).trans (hC _)
  hl := lse_real hP hC hT
  hd := hD
  ho := outp_real hP hC hT

end

end Cert.FoxGradIdeal.Host

end
-- ==== Proof.FoxEntry.lean ====
/-
  What the attention kernel's grid finds in its arrays, and what the lines after it make of them.
-/
module

public import proofs.«01_k».proof.Proof.FoxHost
public import proofs.«01_k».proof.Proof.Gen.FoxGradIdeal.Frame
public import Idealize.ShloMosaic.Lib.Claim

@[expose] public section

set_option maxRecDepth 16384

noncomputable section

namespace Cert.FoxGradIdeal.Host

open Cert.FoxGradIdeal Cert.FoxGradIdeal.Gen Cert.FoxSpec Idealize.ShloMosaic Idealize.ShloMosaic.TcCoe Idealize.SL.Sem
open Cert.FoxGradIdeal.Facts

variable (m : (ℓ : Loc nD τ sig) → Buf (Elt Ideal) ℓ) (c : Dev nD)

/-- The gates' sums as the grid finds them. -/
theorem V_gates : V m c main_v40 = gates (m ((c.tc : Thread nD τ).loc main_arg1)) := by
  entry_read
  rfl
theorem V_gatesT : V m c main_v41 = gatesT (m ((c.tc : Thread nD τ).loc main_arg1)) := by
  entry_read
  rfl

/-- The log-sums and the output, from the masked logits and from v. -/
def topOf (L : FVec Ideal S8x2048x2048 .f32) : FVec Ideal S8x2048x1 .f32 :=
  broadcastInDim S8x2048x1 ![0, 1] bcast_S8x2048_S8x2048x1_0_1 (Host.reduce FloatOps.maximumf L (constant S_ .f32 0xFF800000#32) reducesTo_S8x2048x2048_S8x2048_d2 h_S_)
def expdOf (L : FVec Ideal S8x2048x2048 .f32) : FVec Ideal S8x2048x2048 .f32 :=
  Host.exp (subf L (broadcastInDim S8x2048x2048 ![0, 1, 2] bcast_S8x2048x1_S8x2048x2048_0_1_2 (topOf L)))
def totalOf (L : FVec Ideal S8x2048x2048 .f32) : FVec Ideal S8x2048x1 .f32 :=
  broadcastInDim S8x2048x1 ![0, 1] bcast_S8x2048_S8x2048x1_0_1 (Host.reduceAdd (expdOf L) (constant S_ .f32 0x00000000#32) reducesTo_S8x2048x2048_S8x2048_d2 h_S_)
def lseOf (L : FVec Ideal S8x2048x2048 .f32) : FVec Ideal S8x2048x1 .f32 := addf (topOf L) (Host.log (totalOf L))
def outpOf (V : FVec Ideal S2048x1024 .f32) (L : FVec Ideal S8x2048x2048 .f32) : FVec Ideal S2048x1024 .f32 :=
  shapeCast _ (transpose S2048x8x128 [2, 0, 1] (Host.dotGeneral dot_S2048x8x128_S8x2048x2048_S8x128x2048_0_2_2_1_1_0 none
    (shapeCast _ V shapeCasts_S2048x1024_S2048x8x128)
    (Host.divf (expdOf L) (broadcastInDim S8x2048x2048 ![0, 1, 2] bcast_S8x2048x1_S8x2048x2048_0_1_2 (totalOf L))))
    transposes_S8x128x2048_S2048x8x128_2_0_1) shapeCasts_S2048x8x128_S2048x1024

variable (σ : Valuation τ sig (Elt Ideal))

/-- The last lines before the grid, from any contents. -/
theorem seg2_lse : StableHlo.after hostOps0_2 σ (Proc.devRef .tc main_v30) = lseOf (σ (Proc.devRef .tc main_v21)) := by
  simp only [hostOps0_2, StableHlo.after_cons, StableHlo.after_nil]
  after_results_simp
  rfl
theorem seg2_outp : StableHlo.after hostOps0_2 σ (Proc.devRef .tc main_v39) = outpOf (σ (Proc.devRef .tc main_v2)) (σ (Proc.devRef .tc main_v21)) := by
  simp only [hostOps0_2, StableHlo.after_cons, StableHlo.after_nil]
  after_results_simp
  rfl

/-- The masking, from any contents. -/
def maskOf (M : IVec S2048x2048 1) (L : FVec Ideal S8x2048x2048 .f32) (K : FVec Ideal S_ .f32) : FVec Ideal S8x2048x2048 .f32 :=
  select (broadcastInDim S8x2048x2048 ![1, 2] bcast_S2048x2048_S8x2048x2048_1_2 M) L (broadcastInDim S8x2048x2048 ![] bcast_S_S8x2048x2048 K)
theorem seg1_logit : StableHlo.after hostOps0_1 σ (Proc.devRef .tc main_v21)
    = maskOf (σ (Proc.devRef .tc main_v20)) (σ (Proc.devRef .tc main_v13)) (σ (Proc.devRef .tc main_cst_0)) := by
  simp only [hostOps0_1, StableHlo.after_cons, StableHlo.after_nil, StableHlo.TRef.unary, StableHlo.TRef.ternary, StableHlo.TRef.toBuf, StableHlo.TRef.ofBuf, cast_eq]
  after_results_simp
  rfl
theorem seg1_v : StableHlo.after hostOps0_1 σ (Proc.devRef .tc main_v2) = σ (Proc.devRef .tc main_v2) := by
  simp only [hostOps0_1, StableHlo.after_cons, StableHlo.after_nil, StableHlo.TRef.unary, StableHlo.TRef.ternary, StableHlo.TRef.toBuf, StableHlo.TRef.ofBuf, cast_eq]
  after_results_simp

/-- The first lines, from any contents. -/
def vOf (P : FVec Ideal S2048x5120 .f32) : FVec Ideal S2048x1024 .f32 := extractStridedSlice S2048x1024 ![0, 4096] P slices_S2048x5120_S2048x1024_0_4096
theorem seg0_logit : maskOf (StableHlo.after hostOps0 σ (Proc.devRef .tc main_v20)) (StableHlo.after hostOps0 σ (Proc.devRef .tc main_v13))
    (StableHlo.after hostOps0 σ (Proc.devRef .tc main_cst_0)) = logit (σ (Proc.devRef .tc main_arg0)) (σ (Proc.devRef .tc main_arg1)) := by
  simp only [hostOps0, StableHlo.after_cons, StableHlo.after_nil]
  after_results_simp
  unfold maskOf logit
  rfl
theorem seg0_v : StableHlo.after hostOps0 σ (Proc.devRef .tc main_v2) = vOf (σ (Proc.devRef .tc main_arg0)) := by
  simp only [hostOps0, StableHlo.after_cons, StableHlo.after_nil]
  after_results_simp
  rfl

theorem lse_of (P : FVec Ideal S2048x5120 .f32) (C : FVec Ideal S8x2048 .f32) : lse P C = lseOf (logit P C) := by
  unfold lse total expd top lseOf totalOf expdOf topOf
  with_reducible rfl
theorem outp_of (P : FVec Ideal S2048x5120 .f32) (C : FVec Ideal S8x2048 .f32) : outp P C = outpOf (vOf P) (logit P C) := by
  unfold outp total expd top outpOf vOf totalOf expdOf topOf
  with_reducible rfl

/-- The lines before the grid, one list after another. -/
theorem V0_eq : V0 m c = StableHlo.after hostOps0_2 (StableHlo.after hostOps0_1 (StableHlo.after hostOps0 (fun b => m (c, b)))) := by
  show StableHlo.after (hostOps0 ++ (hostOps0_1 ++ (hostOps0_2 ++ []))) _ = _
  rw [StableHlo.after_append, StableHlo.after_append, List.append_nil]

/-- The log-sums as the grid finds them. -/
theorem V_lse : V m c main_v30 = lse (m ((c.tc : Thread nD τ).loc main_arg0)) (m ((c.tc : Thread nD τ).loc main_arg1)) := by
  show V0 m c (Proc.devRef .tc main_v30) = _
  rw [V0_eq, seg2_lse, seg1_logit, seg0_logit, ← lse_of]

/-- The attention's output as the grid finds it. -/
theorem V_outp : V m c main_v39 = outp (m ((c.tc : Thread nD τ).loc main_arg0)) (m ((c.tc : Thread nD τ).loc main_arg1)) := by
  show V0 m c (Proc.devRef .tc main_v39) = _
  rw [V0_eq, seg2_outp, seg1_logit, seg1_v, seg0_v, seg0_logit, ← outp_of]

/-- The lines after the grid, from any contents. -/
theorem tail_gen (σ : Valuation τ sig (Elt Ideal)) :
    StableHlo.after (List.flatten [hostOps1]) σ (Proc.devRef .tc main_v48)
      = diff (σ (Proc.devRef .tc main_v42_4)) (σ (Proc.devRef .tc main_v42_3)) := by
  simp only [List.flatten_cons, List.flatten_nil, List.append_nil, hostOps1, StableHlo.after_cons, StableHlo.after_nil]
  after_results_simp
  rfl

/-- The gradient of the gates' sums, from what the grid leaves. -/
theorem tail_diff : Pipeline.afterTail₀ cfgs (dats m) 0 (V0 m) [hostOps1] c main_v48
    = diff ((dats m 0 c).arrAt 12 cfg0.N) ((dats m 0 c).arrAt 11 cfg0.N) := by
  unfold Pipeline.afterTail₀
  rw [tail_gen]
  exact congrArg₂ diff ((dats m 0 c).withArrays_arrAt sharedIn0 (V0 m c) (A_eq m c) 12)
    ((dats m 0 c).withArrays_arrAt sharedIn0 (V0 m c) (A_eq m c) 11)

end Cert.FoxGradIdeal.Host

end
-- ==== Proof.FoxTile.lean ====
/-
  The values one tile of the forgetting attention's gradient computes, entry by entry.
-/
module

public import proofs.«01_k».proof.Proof.Gen.FoxGradIdeal.Skeleton
public import proofs.«01_k».proof.Proof.FoxSpec
public import Idealize.ShloMosaic.Lib.Pipeline.ValueKit
public import Idealize.ShloMosaic.Lib.Pointwise

@[expose] public section

set_option maxRecDepth 16384

noncomputable section

namespace Cert.FoxGradIdeal.Tile

open Idealize.ShloMosaic Idealize.SL.Sem Cert.FoxGradIdeal Cert.FoxGradIdeal.Gen Cert.FoxSpec

theorem pr_key (w : Win) (h : Fin 2) (r : Fin 512) (m : Fin 4) (s : Fin 512) :
    pr w h r (key m s) = Ideal.exp ((∑ d : Fin 128, w.q (ix2 r (hc h d)) * w.k (ix2 (key m s) (hc h d))) * sc + w.cc (ix3 h r 0)
      - w.cr (ix4 h m 0 s) - w.lse (ix3 h r 0)) := by
  have e1 : (⟨(key m s : ℕ) / 512, by have := (key m s).isLt; omega⟩ : Fin 4) = m := Fin.ext (by show (512 * m.val + s.val) / 512 = m.val; omega)
  have e2 : (⟨(key m s : ℕ) % 512, by omega⟩ : Fin 512) = s := Fin.ext (by show (512 * m.val + s.val) % 512 = s.val; omega)
  unfold pr
  rw [e1, e2]

theorem prm_above (w : Win) (n : ℕ) (h : Fin 2) (r : Fin 512) (m : Fin 4) (s : Fin 512) (hm : m.val < n) :
    prm w n h r (key m s) = pr w h r (key m s) :=
  if_pos (by show 512 * m.val + s.val ≤ _; omega)

theorem prm_diag (w : Win) (n : ℕ) (h : Fin 2) (r : Fin 512) (m : Fin 4) (s : Fin 512) (hm : m.val = n) :
    prm w n h r (key m s) = if (s : ℕ) ≤ r then pr w h r (key m s) else 0 := by
  unfold prm
  refine if_congr ?_ rfl rfl
  show 512 * m.val + s.val ≤ _ ↔ _
  omega

theorem prm_below (w : Win) (n : ℕ) (h : Fin 2) (r : Fin 512) (m : Fin 4) (s : Fin 512) (hm : n < m.val) :
    prm w n h r (key m s) = 0 :=
  if_neg (by show ¬ 512 * m.val + s.val ≤ _; omega)

theorem hd_hc (h : Fin 2) (d : Fin 128) : hd (hc h d) = h := Fin.ext (by show (128 * h.val + d.val) / 128 = h.val; omega)

/-- The comparison of two places in a block, as a choice. -/
theorem select_le (r s : Fin 512) (a b : EReal) :
    Scalar.select (IntOp.cmpi CmpIPredicate.sle (BitVec.ofNat 32 s.val) (BitVec.ofNat 32 r.val)) a b = if (s : ℕ) ≤ r then a else b := by
  have hr := r.isLt
  have hs := s.isLt
  have e : (BitVec.ofNat 32 s.val).sle (BitVec.ofNat 32 r.val) = decide (s.val ≤ r.val) := by
    have i : ∀ x : ℕ, x < 512 → (BitVec.ofNat 32 x).toInt = x := fun x hx => by
      rw [BitVec.toInt_eq_toNat_of_lt (by rw [BitVec.toNat_ofNat]; omega), BitVec.toNat_ofNat]
      omega
    rw [BitVec.sle_eq_decide, i _ hr, i _ hs]
    simp
  by_cases h : (s : ℕ) ≤ r <;> simp [Scalar.select, IntOp.cmpi, e, h]

variable (w : Win) (n : ℕ) (h : Fin 2) (m : Fin 4)
variable {q d : FVec Ideal S512x128 .bf16} {e ct l : FVec Ideal S512x1 .f32} {l' : Vec Ideal S1x512x1 .f32} {kb vb : Vec Ideal S512x128 .f32} {crb : Vec Ideal S1x1x1x512 .f32}
  {kf vf : FVec Ideal S512x128 .bf16}
variable (hq : ∀ r x, q (ix2 r x) = w.q (ix2 r (hc h x))) (hd' : ∀ r x, d (ix2 r x) = w.dd (ix2 r (hc h x)))
  (he : ∀ r, e (ix2 r 0) = delta w h r) (hct : ∀ r, ct (ix2 r 0) = w.cc (ix3 h r 0)) (hl : ∀ r, l (ix2 r 0) = w.lse (ix3 h r 0))
  (hl' : ∀ r, l' (ix3 0 r 0) = w.lse (ix3 h r 0))
  (hk : ∀ s x, kb (ix2 s x) = w.k (ix2 (key m s) (hc h x))) (hv : ∀ s x, vb (ix2 s x) = w.v (ix2 (key m s) (hc h x)))
  (hkf : ∀ s x, kf (ix2 s x) = w.k (ix2 (key m s) (hc h x))) (hvf : ∀ s x, vf (ix2 s x) = w.v (ix2 (key m s) (hc h x)))
  (hcr : ∀ s, crb (ix4 0 0 0 s) = w.cr (ix4 h m 0 s))

include hq hct hl hk hcr in
/-- The probabilities of a tile before the diagonal, first head. -/
theorem pay6 (hm : m.val < n) (r s : Fin 512) : k0_pay6 q ct l kb crb (ix2 r s) = prm w n h r (key m s) := by
  rw [prm_above w n h r m s hm, pr_key]
  pointwise [k0_pay6, k0_pay5]
  simp only [hq, hct, hl, hk, hcr]

include hq hct hl hk hcr in
/-- The probabilities of a tile before the diagonal, second head. -/
theorem pay14 (hm : m.val < n) (r s : Fin 512) : k0_pay14 q ct l kb crb (ix2 r s) = prm w n h r (key m s) := by
  rw [prm_above w n h r m s hm, pr_key]
  pointwise [k0_pay14, k0_pay13]
  simp only [hq, hct, hl, hk, hcr]

include hq hd' he hct hl hk hv hcr in
/-- The logits' cotangents of a tile before the diagonal, first head. -/
theorem pay7 (hm : m.val < n) (r s : Fin 512) : k0_pay7 q d e ct l kb vb crb (ix2 r s) = dsm w n h r (key m s) := by
  unfold dsm
  rw [← pay6 w n h m hq hct hl hk hcr hm r s]
  pointwise [k0_pay7]
  simp only [hd', hv, he]

include hq hd' he hct hl hk hv hcr in
/-- The logits' cotangents of a tile before the diagonal, second head. -/
theorem pay15 (hm : m.val < n) (r s : Fin 512) : k0_pay15 q d e ct l kb vb crb (ix2 r s) = dsm w n h r (key m s) := by
  unfold dsm
  rw [← pay14 w n h m hq hct hl hk hcr hm r s]
  pointwise [k0_pay15]
  simp only [hd', hv, he]

include hq hct hl' hk hcr in
/-- The probabilities of the tile on the diagonal, first head. -/
theorem pay61 (hm : m.val = n) (r s : Fin 512) :
    k0_pay61 (k0_pay59 q ct l' kb crb) k0_pay60 (Scalar.ofBits .f32 0x00000000#32) (ix2 r s) = prm w n h r (key m s) := by
  rw [prm_diag w n h r m s hm, pr_key]
  pointwise [k0_pay61, k0_pay60, k0_pay59, k0_pay57, k0_pay40]
  rw [select_le]
  simp only [hq, hct, hl', hk, hcr]

include hq hct hl hkf hcr in
/-- The probabilities of the tile on the diagonal, second head. -/
theorem pay69 (hm : m.val = n) (r s : Fin 512) : k0_pay69 q ct l kf crb (ix2 r s) = prm w n h r (key m s) := by
  rw [prm_diag w n h r m s hm, pr_key]
  pointwise [k0_pay69]
  rw [select_le]
  simp only [hq, hct, hl, hkf, hcr]

include hq hd' he hct hl' hk hvf hcr in
/-- The logits' cotangents of the tile on the diagonal, first head. -/
theorem pay62 (hm : m.val = n) (r s : Fin 512) :
    k0_pay62 d e vf (k0_pay59 q ct l' kb crb) k0_pay60 (Scalar.ofBits .f32 0x00000000#32) (ix2 r s) = dsm w n h r (key m s) := by
  unfold dsm
  rw [← pay61 w n h m hq hct hl' hk hcr hm r s]
  pointwise [k0_pay62]
  simp only [hd', hvf, he]

include hq hd' he hct hl hkf hv hcr in
/-- The logits' cotangents of the tile on the diagonal, second head. -/
theorem pay70 (hm : m.val = n) (r s : Fin 512) : k0_pay70 q d e ct l kf vb crb (ix2 r s) = dsm w n h r (key m s) := by
  unfold dsm
  rw [← pay69 w n h m hq hct hl hkf hcr hm r s]
  pointwise [k0_pay70]
  simp only [hd', hv, he]

/-! What the tile adds, from its probabilities `P` and its logits' cotangents `D`. -/

variable {P : FVec Ideal S512x512 .f32} {D : FVec Ideal S512x512 .bf16} {v63 : FVec Ideal S512x512 .f32} {b : IVec S512x512 1} {z : Ideal .f32}
variable (hP : ∀ r s, P (ix2 r s) = prm w n h r (key m s)) (hD : ∀ r s, D (ix2 r s) = dsm w n h r (key m s))
variable (old : Vec Ideal S512x128 .f32) (olf acc : FVec Ideal S512x128 .f32) (ac1 : FVec Ideal S512x1 .f32)

include hP hd' in
theorem pay47 (s : Fin 512) (x : Fin 128) : k0_pay47 d P olf (ix2 s x) = olf (ix2 s x) + dvc w n (key m s) (hc h x) := by
  unfold dvc
  rw [hd_hc]
  pointwise [k0_pay47]
  simp only [hP, hd']

include hq hd' hct hl hk hcr in
theorem pay8 (hm : m.val < n) (s : Fin 512) (x : Fin 128) :
    k0_pay8 q d ct l kb crb old (ix2 s x) = old (ix2 s x) + dvc w n (key m s) (hc h x) := by
  unfold dvc
  rw [hd_hc]
  simp only [← pay6 w n h m hq hct hl hk hcr hm, ← hd']
  pointwise [k0_pay8]

include hq hd' he hct hl hk hv hcr in
theorem pay9 (hm : m.val < n) (s : Fin 512) (x : Fin 128) :
    k0_pay9 q d e ct l kb vb crb old (ix2 s x) = old (ix2 s x) + dkc w n (key m s) (hc h x) := by
  unfold dkc
  rw [hd_hc]
  simp only [← pay7 w n h m hq hd' he hct hl hk hv hcr hm, ← hq]
  pointwise [k0_pay9]

include hD in
theorem pay10 (s : Fin 512) (x : Fin 128) : k0_pay10 k0_pay42 D old (ix2 s x) = old (ix2 s x) + dcc w n (key m s) (hc h x) := by
  unfold dcc
  rw [hd_hc]
  simp only [← hD]
  pointwise [k0_pay10, k0_pay42]

include hD in
theorem pay49 (s : Fin 512) (x : Fin 128) : k0_pay49 D old (ix2 s x) = old (ix2 s x) + dcc w n (key m s) (hc h x) := by
  unfold dcc
  rw [hd_hc]
  simp only [← hD]
  pointwise [k0_pay49, k0_pay42]

include hD in
theorem pay1 (s : Fin 512) (x : Fin 128) : k0_pay1 k0_pay42 D old (ix2 s x) = old (ix2 s x) + dcc w n (key m s) (hc h x) := by
  unfold dcc
  rw [hd_hc]
  simp only [← hD]
  pointwise [k0_pay1, k0_pay42]

include hD hq in
theorem pay48 (s : Fin 512) (x : Fin 128) : k0_pay48 q D old (ix2 s x) = old (ix2 s x) + dkc w n (key m s) (hc h x) := by
  unfold dkc
  rw [hd_hc]
  simp only [← hD, ← hq]
  pointwise [k0_pay48]

include hD hkf in
theorem pay11 (r : Fin 512) (x : Fin 128) : k0_pay11 acc kf D (ix2 r x) = acc (ix2 r x) + dqc w n m h r x := by
  unfold dqc
  simp only [← hD, ← hkf]
  pointwise [k0_pay11]

include hD hkf in
theorem pay50 (r : Fin 512) (x : Fin 128) : k0_pay50 acc kf D (ix2 r x) = acc (ix2 r x) + dqc w n m h r x := by
  unfold dqc
  simp only [← hD, ← hkf]
  pointwise [k0_pay50]

include hD hkf in
theorem pay2 (r : Fin 512) (x : Fin 128) : k0_pay2 acc kf D (ix2 r x) = acc (ix2 r x) + dqc w n m h r x := by
  unfold dqc
  simp only [← hD, ← hkf]
  pointwise [k0_pay2]

include hD in
theorem pay12 (r : Fin 512) : k0_pay12 ac1 D (ix2 r 0) = ac1 (ix2 r 0) + drc w n m h r := by
  unfold drc
  simp only [← hD]
  pointwise [k0_pay12]

include hD in
theorem pay51 (r : Fin 512) : k0_pay51 ac1 D (ix2 r 0) = ac1 (ix2 r 0) + drc w n m h r := by
  unfold drc
  simp only [← hD]
  pointwise [k0_pay51]

include hD in
theorem pay4 (r : Fin 512) : k0_pay4 ac1 D (ix3 0 r 0) = ac1 (ix2 r 0) + drc w n m h r := by
  unfold drc
  simp only [← hD]
  pointwise [k0_pay4]

theorem pay3 (r : Fin 512) : k0_pay3 ac1 (ix3 0 r 0) = ac1 (ix2 r 0) := by
  pointwise [k0_pay3]

section
variable (hP' : ∀ r s, k0_pay61 v63 b z (ix2 r s) = prm w n h r (key m s)) (hD' : ∀ r s, k0_pay62 d e vf v63 b z (ix2 r s) = dsm w n h r (key m s))

include hP' hd' in
theorem pay63 (s : Fin 512) (x : Fin 128) : k0_pay63 d v63 b z old (ix2 s x) = old (ix2 s x) + dvc w n (key m s) (hc h x) := by
  unfold dvc
  rw [hd_hc]
  simp only [← hP', ← hd']
  pointwise [k0_pay63]

include hD' hq in
theorem pay64 (s : Fin 512) (x : Fin 128) : k0_pay64 q d e vf v63 b z old (ix2 s x) = old (ix2 s x) + dkc w n (key m s) (hc h x) := by
  unfold dkc
  rw [hd_hc]
  simp only [← hD', ← hq]
  pointwise [k0_pay64]

include hD' in
theorem pay65 (s : Fin 512) (x : Fin 128) : k0_pay65 d e k0_pay42 vf v63 b z old (ix2 s x) = old (ix2 s x) + dcc w n (key m s) (hc h x) := by
  unfold dcc
  rw [hd_hc]
  simp only [← hD']
  pointwise [k0_pay65, k0_pay42]

include hD' hkf in
theorem pay66 (r : Fin 512) (x : Fin 128) : k0_pay66 d e acc kf vf v63 b z (ix2 r x) = acc (ix2 r x) + dqc w n m h r x := by
  unfold dqc
  simp only [← hD', ← hkf]
  pointwise [k0_pay66]

include hD' in
theorem pay67 (r : Fin 512) : k0_pay67 d e ac1 vf v63 b z (ix2 r 0) = ac1 (ix2 r 0) + drc w n m h r := by
  unfold drc
  simp only [← hD']
  pointwise [k0_pay67]
end

include hq hd' hct hl hkf hcr in
theorem pay71 (hm : m.val = n) (s : Fin 512) (x : Fin 128) :
    k0_pay71 q d ct l kf crb old (ix2 s x) = old (ix2 s x) + dvc w n (key m s) (hc h x) := by
  unfold dvc
  rw [hd_hc]
  simp only [← pay69 w n h m hq hct hl hkf hcr hm, ← hd']
  pointwise [k0_pay71]

include hq hd' he hct hl hkf hv hcr in
theorem pay72 (hm : m.val = n) (s : Fin 512) (x : Fin 128) :
    k0_pay72 q d e ct l kf vb crb old (ix2 s x) = old (ix2 s x) + dkc w n (key m s) (hc h x) := by
  unfold dkc
  rw [hd_hc]
  simp only [← pay70 w n h m hq hd' he hct hl hv hkf hcr hm, ← hq]
  pointwise [k0_pay72]

end Cert.FoxGradIdeal.Tile

end
-- ==== Proof.FoxTrip.lean ====
module

public import proofs.«01_k».proof.Proof.Gen.FoxGradIdeal.Frame
public import proofs.«01_k».proof.Proof.FoxTile
public import Idealize.ShloMosaic.Lib.Pipeline.ValueKit
public import Idealize.ShloMosaic.Lib.Pointwise
public import Idealize.ShloMosaic.Lib.VecWindow

@[expose] public section

set_option maxRecDepth 16384

noncomputable section

namespace Cert.FoxGradIdeal.Trip

open Idealize.ShloMosaic Idealize.SL.Sem Cert.FoxGradIdeal Cert.FoxGradIdeal.Gen

/-- The loop before the diagonal runs once for each block above it. -/
theorem t1_trips (i : grid0.Coords) : (k0_t1_loop i).trips = (i 1).val := by
  revert i; decide +kernel
theorem i1_lt (i : grid0.Coords) : (i 1).val < 4 := (i 1).isLt
theorem t2_trips (i : grid0.Coords) : (k0_t2_loop i).trips = 0 := by
  revert i; decide +kernel

theorem off1_eq (i : grid0.Coords) (k : Fin (k0_t1_loop i).trips) : k0_off1 i k = ![512 * k.val, 0] := by
  revert i; decide +kernel
theorem off2_eq (i : grid0.Coords) (k : Fin (k0_t1_loop i).trips) : k0_off2 i k = ![0, k.val, 0, 0] := by
  revert i; decide +kernel
theorem off1_inb (i : grid0.Coords) (k : Fin (k0_t1_loop i).trips) : ∀ a, (![512 * k.val, 0] : Fin 2 → ℕ) a + S512x128.size a ≤ S2048x256.size a :=
  off1_eq i k ▸ k0_off1_inb i k
theorem off2_inb (i : grid0.Coords) (k : Fin (k0_t1_loop i).trips) : ∀ a, (![0, k.val, 0, 0] : Fin 4 → ℕ) a + S1x1x1x512.size a ≤ S2x4x1x512.size a :=
  off2_eq i k ▸ k0_off2_inb i k
theorem off3_eq (i : grid0.Coords) (k : Fin (k0_t1_loop i).trips) : k0_off3 i k = ![512 * k.val, 128] := by
  revert i; decide +kernel
theorem off4_eq (i : grid0.Coords) (k : Fin (k0_t1_loop i).trips) : k0_off4 i k = ![1, k.val, 0, 0] := by
  revert i; decide +kernel
theorem off9_eq (i : grid0.Coords) : k0_off9 i = ![512 * (i 1).val, 0] := by
  revert i; decide +kernel
theorem off10_eq (i : grid0.Coords) : k0_off10 i = ![0, (i 1).val, 0, 0] := by
  revert i; decide +kernel
theorem off11_eq (i : grid0.Coords) : k0_off11 i = ![512 * (i 1).val, 128] := by
  revert i; decide +kernel
theorem off12_eq (i : grid0.Coords) : k0_off12 i = ![1, (i 1).val, 0, 0] := by
  revert i; decide +kernel

open Cert.FoxSpec

variable (𝒱 : Variants) (c : Dev nD) (bd : Option 𝒱.V) (i : grid0.Coords) (arg2 : Memref sig .tc .vmem S512x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2x512x1 .f32) (harg5 : arg5.IsWhole) (arg6 : Memref sig .tc .vmem S2x4x1x512 .f32) (harg6 : arg6.IsWhole) (arg7 : Memref sig .tc .vmem S2x512x1 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S2048x256 .f32) (harg11 : arg11.IsWhole) (arg12 : Memref sig .tc .vmem S2048x256 .f32) (harg12 : arg12.IsWhole) (arg13 : Memref sig .tc .vmem S2048x256 .f32) (harg13 : arg13.IsWhole) (arg14 : Memref sig .tc .vmem S2x512x1 .f32) (harg14 : arg14.IsWhole) (arg1 : BitVec 32) (v4 : FVec Ideal S512x128 .bf16) (v6 : FVec Ideal S512x128 .bf16) (v8 : FVec Ideal S512x128 .bf16) (v10 : FVec Ideal S512x128 .bf16) (v16 : FVec Ideal S512x1 .f32) (v22 : FVec Ideal S512x1 .f32) (v24 : FVec Ideal S512x1 .f32) (v26 : FVec Ideal S512x1 .f32) (v27 : Vec Ideal S1x512x1 .f32) (v29 : Vec Ideal S1x512x1 .f32) (X_arg3 : BufTy.Contents (Elt Ideal) arg3.view.ty) (X_arg4 : BufTy.Contents (Elt Ideal) arg4.view.ty) (X_arg6 : BufTy.Contents (Elt Ideal) arg6.view.ty)
variable (w : Win)

/-- The values read before the loop are those of `w`. -/
structure Reads : Prop where
  q0 : ∀ r d, v4 (ix2 r d) = w.q (ix2 r (hc 0 d))
  q1 : ∀ r d, v6 (ix2 r d) = w.q (ix2 r (hc 1 d))
  d0 : ∀ r d, v8 (ix2 r d) = w.dd (ix2 r (hc 0 d))
  d1 : ∀ r d, v10 (ix2 r d) = w.dd (ix2 r (hc 1 d))
  e0 : ∀ r, v16 (ix2 r 0) = delta w 0 r
  e1 : ∀ r, v22 (ix2 r 0) = delta w 1 r
  c0 : ∀ r, v24 (ix2 r 0) = w.cc (ix3 0 r 0)
  c1 : ∀ r, v26 (ix2 r 0) = w.cc (ix3 1 r 0)
  l0 : ∀ r, v27 (ix3 0 r 0) = w.lse (ix3 0 r 0)
  l1 : ∀ r, v29 (ix3 0 r 0) = w.lse (ix3 1 r 0)
  k : arg3.view.read (Elt Ideal) X_arg3 = w.k
  v : arg4.view.read (Elt Ideal) X_arg4 = w.v
  cr : arg6.view.read (Elt Ideal) X_arg6 = w.cr

section
variable (k : Fin (k0_t1_loop i).trips) (acc : FVec Ideal S512x128 .f32 × FVec Ideal S512x1 .f32 × FVec Ideal S512x128 .f32 × FVec Ideal S512x1 .f32)
  (f11 : BufTy.Contents (Elt Ideal) arg11.view.ty) (f12 : BufTy.Contents (Elt Ideal) arg12.view.ty) (f13 : BufTy.Contents (Elt Ideal) arg13.view.ty)

/-- The block of keys trip `k` reads. -/
def blkOf (k : Fin (k0_t1_loop i).trips) : Fin 4 := ⟨k.val, by have := k.isLt; have := t1_trips i; have := i1_lt i; omega⟩

theorem blkOf_lt : (blkOf i k).val < (i 1).val := by have := k.isLt; have := t1_trips i; show k.val < _; omega

/-- What the tile's reads are: the first head's columns of a block of rows, the second head's, and its gates. -/
theorem read1 (v : View sig .tc .vmem S2048x256 .f32) (X : v.ty.Contents (Elt Ideal)) (inb) (s : Fin 512) (x : Fin 128) :
    v.readAt (Elt Ideal) (Rect.unit (s := S2048x256) (k0_off1 i k) S512x128.size inb).toLoadRect X (ix2 s x) = v.read (Elt Ideal) X (ix2 (key (blkOf i k) s) (hc 0 x)) := by
  rw [View.readAt_unit v X inb (off1_eq i k) (off1_inb i k)]
  refine congrArg (v.read (Elt Ideal) X) (funext fun a => Fin.ext ?_)
  fin_cases a
  · show 512 * k.val + 1 * s.val = 512 * k.val + s.val; omega
  · show 0 + 1 * x.val = 128 * 0 + x.val; omega

theorem read3 (v : View sig .tc .vmem S2048x256 .f32) (X : v.ty.Contents (Elt Ideal)) (inb) (s : Fin 512) (x : Fin 128) :
    v.readAt (Elt Ideal) (Rect.unit (s := S2048x256) (k0_off3 i k) S512x128.size inb).toLoadRect X (ix2 s x) = v.read (Elt Ideal) X (ix2 (key (blkOf i k) s) (hc 1 x)) := by
  rw [View.readAt_unit v X inb (off3_eq i k) (off3_eq i k ▸ k0_off3_inb i k)]
  refine congrArg (v.read (Elt Ideal) X) (funext fun a => Fin.ext ?_)
  fin_cases a
  · show 512 * k.val + 1 * s.val = 512 * k.val + s.val; omega
  · show 128 + 1 * x.val = 128 * 1 + x.val; omega

theorem read2 (v : View sig .tc .vmem S2x4x1x512 .f32) (X : v.ty.Contents (Elt Ideal)) (inb) (s : Fin 512) :
    v.readAt (Elt Ideal) (Rect.unit (s := S2x4x1x512) (k0_off2 i k) S1x1x1x512.size inb).toLoadRect X (ix4 0 0 0 s) = v.read (Elt Ideal) X (ix4 0 (blkOf i k) 0 s) := by
  rw [View.readAt_unit v X inb (off2_eq i k) (off2_inb i k)]
  refine congrArg (v.read (Elt Ideal) X) (funext fun a => Fin.ext ?_)
  fin_cases a
  · rfl
  · show k.val + 1 * 0 = k.val; omega
  · rfl
  · show 0 + 1 * s.val = s.val; omega

theorem read4 (v : View sig .tc .vmem S2x4x1x512 .f32) (X : v.ty.Contents (Elt Ideal)) (inb) (s : Fin 512) :
    v.readAt (Elt Ideal) (Rect.unit (s := S2x4x1x512) (k0_off4 i k) S1x1x1x512.size inb).toLoadRect X (ix4 0 0 0 s) = v.read (Elt Ideal) X (ix4 1 (blkOf i k) 0 s) := by
  rw [View.readAt_unit v X inb (off4_eq i k) (off4_eq i k ▸ k0_off4_inb i k)]
  refine congrArg (v.read (Elt Ideal) X) (funext fun a => Fin.ext ?_)
  fin_cases a
  · rfl
  · show k.val + 1 * 0 = k.val; omega
  · rfl
  · show 0 + 1 * s.val = s.val; omega

theorem cast40 {v : Vec Ideal S1x512x1 .f32} (r : Fin 512) : k0_pay40 v (ix2 r 0) = v (ix3 0 r 0) := by
  pointwise [k0_pay40]
theorem cast41 {v : Vec Ideal S1x512x1 .f32} (r : Fin 512) : k0_pay41 v (ix2 r 0) = v (ix3 0 r 0) := by
  pointwise [k0_pay41]

theorem cast5 {v : Vec Ideal S512x128 .f32} (s : Fin 512) (x : Fin 128) : k0_pay5 v (ix2 s x) = v (ix2 s x) := by
  pointwise [k0_pay5]
theorem cast13 {v : Vec Ideal S512x128 .f32} (s : Fin 512) (x : Fin 128) : k0_pay13 v (ix2 s x) = v (ix2 s x) := by
  pointwise [k0_pay13]
theorem cast16 {v : Vec Ideal S512x128 .f32} (s : Fin 512) (x : Fin 128) : k0_pay16 v (ix2 s x) = v (ix2 s x) := by
  pointwise [k0_pay16]

theorem off1_blk : k0_off1 i k = ![512 * (blkOf i k).val, 0] := off1_eq i k
theorem off3_blk : k0_off3 i k = ![512 * (blkOf i k).val, 128] := off3_eq i k

/-- A tile's two stores, one for each head, add to the block they fall on. -/
theorem two_puts (v : View sig .tc .vmem S2048x256 .f32) (f : v.ty.Contents (Elt Ideal)) (m : Fin 4) {o1 o3 : Fin 2 → ℕ}
    (h1 : o1 = ![512 * m.val, 0]) (h3 : o3 = ![512 * m.val, 128]) (i1 i3) (w1 w3 : S512x128.Idx → EReal) (L : List (View.Piece (Elt Ideal) S2048x256 .f32))
    (g : Fin 2048 → Fin 256 → EReal) (old : S2048x256.Idx → EReal) (hL : v.read (Elt Ideal) (v.writes (Elt Ideal) f L) = old)
    (e1 : ∀ s x, w1 (ix2 s x) = old (ix2 (key m s) (hc 0 x)) + g (key m s) (hc 0 x))
    (e3 : ∀ s x, w3 (ix2 s x) = old (ix2 (key m s) (hc 1 x)) + g (key m s) (hc 1 x)) (s : Fin 2048) (x : Fin 256) :
    v.read (Elt Ideal) (v.writes (Elt Ideal) f (⟨Rect.unit o3 ![512, 128] i3, w3⟩ :: ⟨Rect.unit o1 ![512, 128] i1, w1⟩ :: L)) (ix2 s x)
      = old (ix2 s x) + if s.val / 512 = m.val then g s x else 0 := by
  by_cases hs : s.val / 512 = m.val
  · rw [if_pos hs]
    have hsk : s = key m ⟨s.val % 512, by omega⟩ := Fin.ext (by show s.val = 512 * m.val + s.val % 512; omega)
    by_cases hx : x.val < 128
    · have hxk : x = hc 0 ⟨x.val, hx⟩ := Fin.ext (by show x.val = 128 * 0 + x.val; omega)
      rw [View.read_writes_cons_unit_of_not_mem v f i3 w3 _ (ix2 s x) h3 (1 : Fin 2) (Or.inl hx),
        View.read_writes_cons_unit_of_mem v f i1 w1 _ (ix2 s x) (ix2 (⟨s.val % 512, by omega⟩ : Fin 512) (⟨x.val, hx⟩ : Fin 128)) h1 (by
          intro a; fin_cases a
          · show s.val = 512 * m.val + s.val % 512; omega
          · show x.val = 0 + x.val; omega), e1, ← hsk, ← hxk]
    · have hxk : x = hc 1 ⟨x.val - 128, by omega⟩ := Fin.ext (by show x.val = 128 * 1 + (x.val - 128); omega)
      rw [View.read_writes_cons_unit_of_mem v f i3 w3 _ (ix2 s x) (ix2 (⟨s.val % 512, by omega⟩ : Fin 512) (⟨x.val - 128, by omega⟩ : Fin 128)) h3 (by
          intro a; fin_cases a
          · show s.val = 512 * m.val + s.val % 512; omega
          · show x.val = 128 + (x.val - 128); omega), e3, ← hsk, ← hxk]
  · rw [if_neg hs, add_zero]
    have hr : s.val < 512 * m.val ∨ 512 * m.val + 512 ≤ s.val := by omega
    rw [View.read_writes_cons_unit_of_not_mem v f i3 w3 _ (ix2 s x) h3 (0 : Fin 2) hr,
      View.read_writes_cons_unit_of_not_mem v f i1 w1 _ (ix2 s x) h1 (0 : Fin 2) hr, hL]

theorem tripR_1 (hw : Reads arg3 arg4 arg6 v4 v6 v8 v10 v16 v22 v24 v26 v27 v29 X_arg3 X_arg4 X_arg6 w) (r : Fin 512) (x : Fin 128) :
    (tripR_k0_t1 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v8 v10 v16 v22 v24 v26 v27 v29 X_arg3 X_arg4 X_arg6 k acc f11 f12 f13).1 (ix2 r x) = acc.1 (ix2 r x) + dqc w (i 1).val (blkOf i k) 0 r x := by
  unfold tripR_k0_t1 trip_k0_t1
  dsimp only
  unfold trip_k0_t1.sl.r_3 trip_k0_t1.sl.r_1
  exact Tile.pay11 w _ 0 (blkOf i k) (fun s x => (cast5 s x).trans ((read1 i k _ _ _ s x).trans (congrFun hw.k _))) (Tile.pay7 w _ 0 (blkOf i k) hw.q0 hw.d0 hw.e0 hw.c0 (fun r => (cast40 r).trans (hw.l0 r)) (fun s x => (read1 i k _ _ _ s x).trans (congrFun hw.k _)) (fun s x => (read1 i k _ _ _ s x).trans (congrFun hw.v _)) (fun s => (read2 i k _ _ _ s).trans (congrFun hw.cr _)) (blkOf_lt i k)) _ r x

theorem tripR_2 (hw : Reads arg3 arg4 arg6 v4 v6 v8 v10 v16 v22 v24 v26 v27 v29 X_arg3 X_arg4 X_arg6 w) (r : Fin 512) :
    (tripR_k0_t1 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v8 v10 v16 v22 v24 v26 v27 v29 X_arg3 X_arg4 X_arg6 k acc f11 f12 f13).2.1 (ix2 r 0) = acc.2.1 (ix2 r 0) + drc w (i 1).val (blkOf i k) 0 r := by
  unfold tripR_k0_t1 trip_k0_t1
  dsimp only
  unfold trip_k0_t1.sl.r_4 trip_k0_t1.sl.r_1
  exact Tile.pay12 w _ 0 (blkOf i k) (Tile.pay7 w _ 0 (blkOf i k) hw.q0 hw.d0 hw.e0 hw.c0 (fun r => (cast40 r).trans (hw.l0 r)) (fun s x => (read1 i k _ _ _ s x).trans (congrFun hw.k _)) (fun s x => (read1 i k _ _ _ s x).trans (congrFun hw.v _)) (fun s => (read2 i k _ _ _ s).trans (congrFun hw.cr _)) (blkOf_lt i k)) _ r

theorem tripR_3 (hw : Reads arg3 arg4 arg6 v4 v6 v8 v10 v16 v22 v24 v26 v27 v29 X_arg3 X_arg4 X_arg6 w) (r : Fin 512) (x : Fin 128) :
    (tripR_k0_t1 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v8 v10 v16 v22 v24 v26 v27 v29 X_arg3 X_arg4 X_arg6 k acc f11 f12 f13).2.2.1 (ix2 r x) = acc.2.2.1 (ix2 r x) + dqc w (i 1).val (blkOf i k) 1 r x := by
  unfold tripR_k0_t1 trip_k0_t1
  dsimp only
  unfold trip_k0_t1.sl.r_5 trip_k0_t1.sl.r_7
  exact Tile.pay50 w _ 1 (blkOf i k) (fun s x => (cast13 s x).trans ((read3 i k _ _ _ s x).trans (congrFun hw.k _))) (Tile.pay15 w _ 1 (blkOf i k) hw.q1 hw.d1 hw.e1 hw.c1 (fun r => (cast41 r).trans (hw.l1 r)) (fun s x => (read3 i k _ _ _ s x).trans (congrFun hw.k _)) (fun s x => (read3 i k _ _ _ s x).trans (congrFun hw.v _)) (fun s => (read4 i k _ _ _ s).trans (congrFun hw.cr _)) (blkOf_lt i k)) _ r x

theorem tripR_4 (hw : Reads arg3 arg4 arg6 v4 v6 v8 v10 v16 v22 v24 v26 v27 v29 X_arg3 X_arg4 X_arg6 w) (r : Fin 512) :
    (tripR_k0_t1 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v8 v10 v16 v22 v24 v26 v27 v29 X_arg3 X_arg4 X_arg6 k acc f11 f12 f13).2.2.2 (ix2 r 0) = acc.2.2.2 (ix2 r 0) + drc w (i 1).val (blkOf i k) 1 r := by
  unfold tripR_k0_t1 trip_k0_t1
  dsimp only
  unfold trip_k0_t1.sl.r_7
  exact Tile.pay51 w _ 1 (blkOf i k) (Tile.pay15 w _ 1 (blkOf i k) hw.q1 hw.d1 hw.e1 hw.c1 (fun r => (cast41 r).trans (hw.l1 r)) (fun s x => (read3 i k _ _ _ s x).trans (congrFun hw.k _)) (fun s x => (read3 i k _ _ _ s x).trans (congrFun hw.v _)) (fun s => (read4 i k _ _ _ s).trans (congrFun hw.cr _)) (blkOf_lt i k)) _ r

theorem tripL_11 (hw : Reads arg3 arg4 arg6 v4 v6 v8 v10 v16 v22 v24 v26 v27 v29 X_arg3 X_arg4 X_arg6 w) (s : Fin 2048) (x : Fin 256) :
    arg11.view.read (Elt Ideal) (arg11.view.writes (Elt Ideal) f11 (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v8 v10 v16 v22 v24 v26 v27 v29 X_arg3 X_arg4 X_arg6 k acc f11 f12 f13).1) (ix2 s x)
      = arg11.view.read (Elt Ideal) f11 (ix2 s x) + if s.val / 512 = (blkOf i k).val then dkc w (i 1).val s x else 0 := by
  unfold tripL_k0_t1 trip_k0_t1
  dsimp only
  unfold trip_k0_t1.sl.r_2 trip_k0_t1.sl.v266 trip_k0_t1.sl.r_7
  refine two_puts _ _ (blkOf i k) (off1_blk i k) (off3_blk i k) _ _ _ _ [] (dkc w (i 1).val) _ rfl (fun s x => ?_) (fun s x => ?_) s x
  · refine (Tile.pay9 w _ 0 (blkOf i k) hw.q0 hw.d0 hw.e0 hw.c0 (fun r => (cast40 r).trans (hw.l0 r)) (fun s x => (read1 i k _ _ _ s x).trans (congrFun hw.k _)) (fun s x => (read1 i k _ _ _ s x).trans (congrFun hw.v _)) (fun s => (read2 i k _ _ _ s).trans (congrFun hw.cr _)) _ (blkOf_lt i k) s x).trans ?_
    rw [read1]; rfl
  · refine (Tile.pay48 w _ 1 (blkOf i k) hw.q1 (Tile.pay15 w _ 1 (blkOf i k) hw.q1 hw.d1 hw.e1 hw.c1 (fun r => (cast41 r).trans (hw.l1 r)) (fun s x => (read3 i k _ _ _ s x).trans (congrFun hw.k _)) (fun s x => (read3 i k _ _ _ s x).trans (congrFun hw.v _)) (fun s => (read4 i k _ _ _ s).trans (congrFun hw.cr _)) (blkOf_lt i k)) _ s x).trans ?_
    rw [read3]; rfl

theorem tripL_12 (hw : Reads arg3 arg4 arg6 v4 v6 v8 v10 v16 v22 v24 v26 v27 v29 X_arg3 X_arg4 X_arg6 w) (s : Fin 2048) (x : Fin 256) :
    arg12.view.read (Elt Ideal) (arg12.view.writes (Elt Ideal) f12 (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v8 v10 v16 v22 v24 v26 v27 v29 X_arg3 X_arg4 X_arg6 k acc f11 f12 f13).2.1) (ix2 s x)
      = arg12.view.read (Elt Ideal) f12 (ix2 s x) + if s.val / 512 = (blkOf i k).val then dvc w (i 1).val s x else 0 := by
  unfold tripL_k0_t1 trip_k0_t1
  dsimp only
  unfold trip_k0_t1.sl.r_6 trip_k0_t1.sl.r_8
  refine two_puts _ _ (blkOf i k) (off1_blk i k) (off3_blk i k) _ _ _ _ [] (dvc w (i 1).val) _ rfl (fun s x => ?_) (fun s x => ?_) s x
  · refine (Tile.pay8 w _ 0 (blkOf i k) hw.q0 hw.d0 hw.c0 (fun r => (cast40 r).trans (hw.l0 r)) (fun s x => (read1 i k _ _ _ s x).trans (congrFun hw.k _)) (fun s => (read2 i k _ _ _ s).trans (congrFun hw.cr _)) _ (blkOf_lt i k) s x).trans ?_
    rw [read1]; rfl
  · refine (Tile.pay47 w _ 1 (blkOf i k) hw.d1 (Tile.pay14 w _ 1 (blkOf i k) hw.q1 hw.c1 (fun r => (cast41 r).trans (hw.l1 r)) (fun s x => (read3 i k _ _ _ s x).trans (congrFun hw.k _)) (fun s => (read4 i k _ _ _ s).trans (congrFun hw.cr _)) (blkOf_lt i k)) _ s x).trans ?_
    unfold trip_k0_t1.sl.v258
    rw [cast16, read3]; rfl

theorem tripL_13 (hw : Reads arg3 arg4 arg6 v4 v6 v8 v10 v16 v22 v24 v26 v27 v29 X_arg3 X_arg4 X_arg6 w) (s : Fin 2048) (x : Fin 256) :
    arg13.view.read (Elt Ideal) (arg13.view.writes (Elt Ideal) f13 (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v8 v10 v16 v22 v24 v26 v27 v29 X_arg3 X_arg4 X_arg6 k acc f11 f12 f13).2.2) (ix2 s x)
      = arg13.view.read (Elt Ideal) f13 (ix2 s x) + if s.val / 512 = (blkOf i k).val then dcc w (i 1).val s x else 0 := by
  unfold tripL_k0_t1 trip_k0_t1
  dsimp only
  unfold trip_k0_t1.sl.r_1 trip_k0_t1.sl.v275 trip_k0_t1.sl.r_7
  refine two_puts _ _ (blkOf i k) (off1_blk i k) (off3_blk i k) _ _ _ _ [] (dcc w (i 1).val) _ rfl (fun s x => ?_) (fun s x => ?_) s x
  · refine (Tile.pay10 w _ 0 (blkOf i k) (Tile.pay7 w _ 0 (blkOf i k) hw.q0 hw.d0 hw.e0 hw.c0 (fun r => (cast40 r).trans (hw.l0 r)) (fun s x => (read1 i k _ _ _ s x).trans (congrFun hw.k _)) (fun s x => (read1 i k _ _ _ s x).trans (congrFun hw.v _)) (fun s => (read2 i k _ _ _ s).trans (congrFun hw.cr _)) (blkOf_lt i k)) _ s x).trans ?_
    rw [read1]; rfl
  · refine (Tile.pay49 w _ 1 (blkOf i k) (Tile.pay15 w _ 1 (blkOf i k) hw.q1 hw.d1 hw.e1 hw.c1 (fun r => (cast41 r).trans (hw.l1 r)) (fun s x => (read3 i k _ _ _ s x).trans (congrFun hw.k _)) (fun s x => (read3 i k _ _ _ s x).trans (congrFun hw.v _)) (fun s => (read4 i k _ _ _ s).trans (congrFun hw.cr _)) (blkOf_lt i k)) _ s x).trans ?_
    rw [read3]; rfl
end

end Cert.FoxGradIdeal.Trip

end
-- ==== Proof.FoxLoop.lean ====
/-
  The loop over the blocks of keys before the diagonal: what it has added after some of its trips.
-/
module

public import proofs.«01_k».proof.Proof.FoxTrip
public import Idealize.ShloMosaic.Lib.Pipeline.ValueKit

@[expose] public section

set_option maxRecDepth 16384

noncomputable section

namespace Cert.FoxGradIdeal.Trip

open Idealize.ShloMosaic Idealize.SL.Sem Cert.FoxGradIdeal Cert.FoxGradIdeal.Gen Cert.FoxSpec

/-- The sum of the first `j` of four. -/
def upto (j : ℕ) (f : Fin 4 → EReal) : EReal := ∑ m : Fin 4, if m.val < j then f m else 0

theorem upto_zero (f : Fin 4 → EReal) : upto 0 f = 0 := by simp [upto]

theorem upto_succ (m : Fin 4) (f : Fin 4 → EReal) : upto (m.val + 1) f = upto m.val f + f m := by
  unfold upto
  simp only [Fin.sum_univ_four]
  fin_cases m <;> simp

/-- Adding to block `j` what was already added to the blocks before it. -/
theorem below_succ (a g : EReal) (s j : ℕ) :
    (a + if s / 512 < j then g else 0) + (if s / 512 = j then g else 0) = a + if s / 512 < j + 1 then g else 0 := by
  by_cases h : s / 512 < j
  · rw [if_pos h, if_neg (by omega), if_pos (by omega), add_zero]
  · by_cases h' : s / 512 = j
    · rw [if_neg h, if_pos h', if_pos (by omega), add_zero]
    · rw [if_neg h, if_neg h', if_neg (by omega), add_zero, add_zero]

variable (𝒱 : Variants) (c : Dev nD) (bd : Option 𝒱.V) (i : grid0.Coords) (arg2 : Memref sig .tc .vmem S512x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2x512x1 .f32) (harg5 : arg5.IsWhole) (arg6 : Memref sig .tc .vmem S2x4x1x512 .f32) (harg6 : arg6.IsWhole) (arg7 : Memref sig .tc .vmem S2x512x1 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S2048x256 .f32) (harg11 : arg11.IsWhole) (arg12 : Memref sig .tc .vmem S2048x256 .f32) (harg12 : arg12.IsWhole) (arg13 : Memref sig .tc .vmem S2048x256 .f32) (harg13 : arg13.IsWhole) (arg14 : Memref sig .tc .vmem S2x512x1 .f32) (harg14 : arg14.IsWhole) (arg1 : BitVec 32) (v4 : FVec Ideal S512x128 .bf16) (v6 : FVec Ideal S512x128 .bf16) (v8 : FVec Ideal S512x128 .bf16) (v10 : FVec Ideal S512x128 .bf16) (v16 : FVec Ideal S512x1 .f32) (v22 : FVec Ideal S512x1 .f32) (v24 : FVec Ideal S512x1 .f32) (v26 : FVec Ideal S512x1 .f32) (v27 : Vec Ideal S1x512x1 .f32) (v29 : Vec Ideal S1x512x1 .f32) (X_arg3 : BufTy.Contents (Elt Ideal) arg3.view.ty) (X_arg4 : BufTy.Contents (Elt Ideal) arg4.view.ty) (X_arg6 : BufTy.Contents (Elt Ideal) arg6.view.ty)
variable (w : Win) (G11 : BufTy.Contents (Elt Ideal) arg11.view.ty) (G12 : BufTy.Contents (Elt Ideal) arg12.view.ty) (G13 : BufTy.Contents (Elt Ideal) arg13.view.ty)
  (init : FVec Ideal S512x128 .f32 × FVec Ideal S512x1 .f32 × FVec Ideal S512x128 .f32 × FVec Ideal S512x1 .f32)

/-- The sums carried and the buffers written, after the first `j` trips. -/
structure After (j : ℕ) (st : (FVec Ideal S512x128 .f32 × FVec Ideal S512x1 .f32 × FVec Ideal S512x128 .f32 × FVec Ideal S512x1 .f32)
    × List (View.Piece (Elt Ideal) S2048x256 .f32) × List (View.Piece (Elt Ideal) S2048x256 .f32) × List (View.Piece (Elt Ideal) S2048x256 .f32)) : Prop where
  dq0 : ∀ r x, st.1.1 (ix2 r x) = init.1 (ix2 r x) + upto j fun m => dqc w (i 1).val m 0 r x
  dr0 : ∀ r, st.1.2.1 (ix2 r 0) = init.2.1 (ix2 r 0) + upto j fun m => drc w (i 1).val m 0 r
  dq1 : ∀ r x, st.1.2.2.1 (ix2 r x) = init.2.2.1 (ix2 r x) + upto j fun m => dqc w (i 1).val m 1 r x
  dr1 : ∀ r, st.1.2.2.2 (ix2 r 0) = init.2.2.2 (ix2 r 0) + upto j fun m => drc w (i 1).val m 1 r
  dk : ∀ s x, arg11.view.read (Elt Ideal) (arg11.view.writes (Elt Ideal) G11 st.2.1) (ix2 s x)
    = arg11.view.read (Elt Ideal) G11 (ix2 s x) + if s.val / 512 < j then dkc w (i 1).val s x else 0
  dv : ∀ s x, arg12.view.read (Elt Ideal) (arg12.view.writes (Elt Ideal) G12 st.2.2.1) (ix2 s x)
    = arg12.view.read (Elt Ideal) G12 (ix2 s x) + if s.val / 512 < j then dvc w (i 1).val s x else 0
  dc : ∀ s x, arg13.view.read (Elt Ideal) (arg13.view.writes (Elt Ideal) G13 st.2.2.2) (ix2 s x)
    = arg13.view.read (Elt Ideal) G13 (ix2 s x) + if s.val / 512 < j then dcc w (i 1).val s x else 0

/-- After `j` trips the carried sums and the buffers hold what the first `j` blocks of keys add. -/
theorem after (hw : Reads arg3 arg4 arg6 v4 v6 v8 v10 v16 v22 v24 v26 v27 v29 X_arg3 X_arg4 X_arg6 w) (j : ℕ) (hj : j ≤ (k0_t1_loop i).trips) :
    After i arg11 arg12 arg13 w G11 G12 G13 init j (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v8 v10 v16 v22 v24 v26 v27 v29 X_arg3 X_arg4 X_arg6 G11 G12 G13 init j) := by
  induction j with
  | zero =>
    refine ⟨fun r x => ?_, fun r => ?_, fun r x => ?_, fun r => ?_, fun s x => ?_, fun s x => ?_, fun s x => ?_⟩
    · rw [upto_zero, add_zero]; rfl
    · rw [upto_zero, add_zero]; rfl
    · rw [upto_zero, add_zero]; rfl
    · rw [upto_zero, add_zero]; rfl
    · rw [if_neg (Nat.not_lt_zero _), add_zero]; rfl
    · rw [if_neg (Nat.not_lt_zero _), add_zero]; rfl
    · rw [if_neg (Nat.not_lt_zero _), add_zero]; rfl
  | succ j ih =>
    obtain ⟨h1, h2, h3, h4, h5, h6, h7⟩ := ih (Nat.le_of_succ_le hj)
    rw [st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v8 v10 v16 v22 v24 v26 v27 v29 X_arg3 X_arg4 X_arg6 G11 G12 G13 init ⟨j, hj⟩]
    refine ⟨fun r x => ?_, fun r => ?_, fun r x => ?_, fun r => ?_, fun s x => ?_, fun s x => ?_, fun s x => ?_⟩
    · dsimp only
      rw [tripR_1 (hw := hw), h1, add_assoc]
      exact congrArg (HAdd.hAdd _) (upto_succ (blkOf i ⟨j, hj⟩) _).symm
    · dsimp only
      rw [tripR_2 (hw := hw), h2, add_assoc]
      exact congrArg (HAdd.hAdd _) (upto_succ (blkOf i ⟨j, hj⟩) _).symm
    · dsimp only
      rw [tripR_3 (hw := hw), h3, add_assoc]
      exact congrArg (HAdd.hAdd _) (upto_succ (blkOf i ⟨j, hj⟩) _).symm
    · dsimp only
      rw [tripR_4 (hw := hw), h4, add_assoc]
      exact congrArg (HAdd.hAdd _) (upto_succ (blkOf i ⟨j, hj⟩) _).symm
    · dsimp only
      rw [View.writes_append, tripL_11 (hw := hw), h5]
      exact below_succ _ _ _ _
    · dsimp only
      rw [View.writes_append, tripL_12 (hw := hw), h6]
      exact below_succ _ _ _ _
    · dsimp only
      rw [View.writes_append, tripL_13 (hw := hw), h7]
      exact below_succ _ _ _ _

end Cert.FoxGradIdeal.Trip

end
-- ==== Proof.FoxRead.lean ====
/-
  What one point of the grid reads: the windows, and the tile on the diagonal.
-/
module

public import proofs.«01_k».proof.Proof.FoxLoop
public import Idealize.ShloMosaic.Lib.Pipeline.ValueKit

@[expose] public section

set_option maxRecDepth 16384

noncomputable section

namespace Cert.FoxGradIdeal.Trip

open Idealize.ShloMosaic Idealize.SL.Sem Cert.FoxGradIdeal Cert.FoxGradIdeal.Gen Cert.FoxSpec

/-! The parts of the windows read before the loop: the first head's and the second head's. -/

theorem half0 (v : View sig .tc .vmem S512x256 .f32) (X : v.ty.Contents (Elt Ideal)) (inb) (r : Fin 512) (d : Fin 128) :
    v.readAt (Elt Ideal) (Rect.unit (s := S512x256) ![0, 0] S512x128.size inb).toLoadRect X (ix2 r d) = v.read (Elt Ideal) X (ix2 r (hc 0 d)) := by
  rw [View.readAt_unit v X inb rfl inb]
  refine congrArg (v.read (Elt Ideal) X) (funext fun a => Fin.ext ?_)
  fin_cases a
  · show 0 + 1 * r.val = r.val; omega
  · show 0 + 1 * d.val = 128 * 0 + d.val; omega

theorem half1 (v : View sig .tc .vmem S512x256 .f32) (X : v.ty.Contents (Elt Ideal)) (inb) (r : Fin 512) (d : Fin 128) :
    v.readAt (Elt Ideal) (Rect.unit (s := S512x256) ![0, 128] S512x128.size inb).toLoadRect X (ix2 r d) = v.read (Elt Ideal) X (ix2 r (hc 1 d)) := by
  rw [View.readAt_unit v X inb rfl inb]
  refine congrArg (v.read (Elt Ideal) X) (funext fun a => Fin.ext ?_)
  fin_cases a
  · show 0 + 1 * r.val = r.val; omega
  · show 128 + 1 * d.val = 128 * 1 + d.val; omega

theorem row0 (v : View sig .tc .vmem S2x512x1 .f32) (X : v.ty.Contents (Elt Ideal)) (inb) (r : Fin 512) :
    v.readAt (Elt Ideal) (Rect.unit (s := S2x512x1) ![0, 0, 0] S1x512x1.size inb).toLoadRect X (ix3 0 r 0) = v.read (Elt Ideal) X (ix3 0 r 0) := by
  rw [View.readAt_unit v X inb rfl inb]
  refine congrArg (v.read (Elt Ideal) X) (funext fun a => Fin.ext ?_)
  fin_cases a
  · rfl
  · show 0 + 1 * r.val = r.val; omega
  · rfl

theorem row1 (v : View sig .tc .vmem S2x512x1 .f32) (X : v.ty.Contents (Elt Ideal)) (inb) (r : Fin 512) :
    v.readAt (Elt Ideal) (Rect.unit (s := S2x512x1) ![1, 0, 0] S1x512x1.size inb).toLoadRect X (ix3 0 r 0) = v.read (Elt Ideal) X (ix3 1 r 0) := by
  rw [View.readAt_unit v X inb rfl inb]
  refine congrArg (v.read (Elt Ideal) X) (funext fun a => Fin.ext ?_)
  fin_cases a
  · rfl
  · show 0 + 1 * r.val = r.val; omega
  · rfl

/-- The block on the diagonal. -/
def blkD (i : grid0.Coords) : Fin 4 := ⟨(i 1).val, i1_lt i⟩

theorem read9 (i : grid0.Coords) (v : View sig .tc .vmem S2048x256 .f32) (X : v.ty.Contents (Elt Ideal)) (inb) (s : Fin 512) (x : Fin 128) :
    v.readAt (Elt Ideal) (Rect.unit (s := S2048x256) (k0_off9 i) S512x128.size inb).toLoadRect X (ix2 s x) = v.read (Elt Ideal) X (ix2 (key (blkD i) s) (hc 0 x)) := by
  rw [View.readAt_unit v X inb (off9_eq i) (off9_eq i ▸ k0_off9_inb i)]
  refine congrArg (v.read (Elt Ideal) X) (funext fun a => Fin.ext ?_)
  fin_cases a
  · show 512 * (i 1).val + 1 * s.val = 512 * (i 1).val + s.val; omega
  · show 0 + 1 * x.val = 128 * 0 + x.val; omega

theorem read11 (i : grid0.Coords) (v : View sig .tc .vmem S2048x256 .f32) (X : v.ty.Contents (Elt Ideal)) (inb) (s : Fin 512) (x : Fin 128) :
    v.readAt (Elt Ideal) (Rect.unit (s := S2048x256) (k0_off11 i) S512x128.size inb).toLoadRect X (ix2 s x) = v.read (Elt Ideal) X (ix2 (key (blkD i) s) (hc 1 x)) := by
  rw [View.readAt_unit v X inb (off11_eq i) (off11_eq i ▸ k0_off11_inb i)]
  refine congrArg (v.read (Elt Ideal) X) (funext fun a => Fin.ext ?_)
  fin_cases a
  · show 512 * (i 1).val + 1 * s.val = 512 * (i 1).val + s.val; omega
  · show 128 + 1 * x.val = 128 * 1 + x.val; omega

theorem read10 (i : grid0.Coords) (v : View sig .tc .vmem S2x4x1x512 .f32) (X : v.ty.Contents (Elt Ideal)) (inb) (s : Fin 512) :
    v.readAt (Elt Ideal) (Rect.unit (s := S2x4x1x512) (k0_off10 i) S1x1x1x512.size inb).toLoadRect X (ix4 0 0 0 s) = v.read (Elt Ideal) X (ix4 0 (blkD i) 0 s) := by
  rw [View.readAt_unit v X inb (off10_eq i) (off10_eq i ▸ k0_off10_inb i)]
  refine congrArg (v.read (Elt Ideal) X) (funext fun a => Fin.ext ?_)
  fin_cases a
  · rfl
  · show (i 1).val + 1 * 0 = (i 1).val; omega
  · rfl
  · show 0 + 1 * s.val = s.val; omega

theorem read12 (i : grid0.Coords) (v : View sig .tc .vmem S2x4x1x512 .f32) (X : v.ty.Contents (Elt Ideal)) (inb) (s : Fin 512) :
    v.readAt (Elt Ideal) (Rect.unit (s := S2x4x1x512) (k0_off12 i) S1x1x1x512.size inb).toLoadRect X (ix4 0 0 0 s) = v.read (Elt Ideal) X (ix4 1 (blkD i) 0 s) := by
  rw [View.readAt_unit v X inb (off12_eq i) (off12_eq i ▸ k0_off12_inb i)]
  refine congrArg (v.read (Elt Ideal) X) (funext fun a => Fin.ext ?_)
  fin_cases a
  · rfl
  · show (i 1).val + 1 * 0 = (i 1).val; omega
  · rfl
  · show 0 + 1 * s.val = s.val; omega

theorem cast32 {v : Vec Ideal S512x128 .f32} (r : Fin 512) (d : Fin 128) : k0_pay32 v (ix2 r d) = v (ix2 r d) := by pointwise [k0_pay32]
theorem cast33 {v : Vec Ideal S512x128 .f32} (r : Fin 512) (d : Fin 128) : k0_pay33 v (ix2 r d) = v (ix2 r d) := by pointwise [k0_pay33]
theorem cast34 {v : Vec Ideal S512x128 .f32} (r : Fin 512) (d : Fin 128) : k0_pay34 v (ix2 r d) = v (ix2 r d) := by pointwise [k0_pay34]
theorem cast35 {v : Vec Ideal S512x128 .f32} (r : Fin 512) (d : Fin 128) : k0_pay35 v (ix2 r d) = v (ix2 r d) := by pointwise [k0_pay35]
theorem cast57 {v : Vec Ideal S512x128 .f32} (r : Fin 512) (d : Fin 128) : k0_pay57 v (ix2 r d) = v (ix2 r d) := by pointwise [k0_pay57]
theorem cast58 {v : Vec Ideal S512x128 .f32} (r : Fin 512) (d : Fin 128) : k0_pay58 v (ix2 r d) = v (ix2 r d) := by pointwise [k0_pay58]
theorem cast68 {v : Vec Ideal S512x128 .f32} (r : Fin 512) (d : Fin 128) : k0_pay68 v (ix2 r d) = v (ix2 r d) := by pointwise [k0_pay68]
theorem cast38 {v : Vec Ideal S1x512x1 .f32} (r : Fin 512) : k0_pay38 v (ix2 r 0) = v (ix3 0 r 0) := by pointwise [k0_pay38]
theorem cast39 {v : Vec Ideal S1x512x1 .f32} (r : Fin 512) : k0_pay39 v (ix2 r 0) = v (ix3 0 r 0) := by pointwise [k0_pay39]
theorem val36 {a b : Vec Ideal S512x128 .f32} (r : Fin 512) : k0_pay36 a b (ix2 r 0) = ∑ d : Fin 128, a (ix2 r d) * b (ix2 r d) := by pointwise [k0_pay36]
theorem val37 {a b : Vec Ideal S512x128 .f32} (r : Fin 512) : k0_pay37 a b (ix2 r 0) = ∑ d : Fin 128, a (ix2 r d) * b (ix2 r d) := by pointwise [k0_pay37]
theorem val43 (r : Fin 512) (d : Fin 128) : (k0_pay43 : FVec Ideal S512x128 .f32) (ix2 r d) = 0 := by pointwise [k0_pay43]
theorem val44 (r : Fin 512) : (k0_pay44 : FVec Ideal S512x1 .f32) (ix2 r 0) = 0 := by pointwise [k0_pay44]
theorem val45 (r : Fin 512) (d : Fin 128) : (k0_pay45 : FVec Ideal S512x128 .f32) (ix2 r d) = 0 := by pointwise [k0_pay45]
theorem val46 (r : Fin 512) : (k0_pay46 : FVec Ideal S512x1 .f32) (ix2 r 0) = 0 := by pointwise [k0_pay46]
theorem val29 (s : Fin 2048) (x : Fin 256) : (k0_pay29 : FVec Ideal S2048x256 .f32) (ix2 s x) = 0 := by pointwise [k0_pay29]
theorem val30 (s : Fin 2048) (x : Fin 256) : (k0_pay30 : FVec Ideal S2048x256 .f32) (ix2 s x) = 0 := by pointwise [k0_pay30]
theorem val31 (s : Fin 2048) (x : Fin 256) : (k0_pay31 : FVec Ideal S2048x256 .f32) (ix2 s x) = 0 := by pointwise [k0_pay31]

theorem delta0 (w : Win) (v v' : View sig .tc .vmem S512x256 .f32) (X : v.ty.Contents (Elt Ideal)) (X' : v'.ty.Contents (Elt Ideal))
    (hX : v.read (Elt Ideal) X = w.dd) (hX' : v'.read (Elt Ideal) X' = w.o) (inb inb') (r : Fin 512) :
    k0_pay36 (v.readAt (Elt Ideal) (Rect.unit (s := S512x256) ![0, 0] S512x128.size inb).toLoadRect X)
      (v'.readAt (Elt Ideal) (Rect.unit (s := S512x256) ![0, 0] S512x128.size inb').toLoadRect X') (ix2 r 0) = delta w 0 r := by
  rw [val36]
  unfold delta
  exact Finset.sum_congr rfl fun d _ => by rw [half0, half0, hX, hX']

theorem delta1 (w : Win) (v v' : View sig .tc .vmem S512x256 .f32) (X : v.ty.Contents (Elt Ideal)) (X' : v'.ty.Contents (Elt Ideal))
    (hX : v.read (Elt Ideal) X = w.dd) (hX' : v'.read (Elt Ideal) X' = w.o) (inb inb') (r : Fin 512) :
    k0_pay37 (v.readAt (Elt Ideal) (Rect.unit (s := S512x256) ![0, 128] S512x128.size inb).toLoadRect X)
      (v'.readAt (Elt Ideal) (Rect.unit (s := S512x256) ![0, 128] S512x128.size inb').toLoadRect X') (ix2 r 0) = delta w 1 r := by
  rw [val37]
  unfold delta
  exact Finset.sum_congr rfl fun d _ => by rw [half1, half1, hX, hX']

/-! Nothing is added for the keys after the block's last row. -/

theorem dsm_beyond (w : Win) (n : ℕ) (h : Fin 2) (r : Fin 512) (s : Fin 2048) (hs : n < s.val / 512) : dsm w n h r s = 0 := by
  unfold dsm prm
  rw [if_neg (by omega), zero_mul]

theorem dvc_beyond (w : Win) (n : ℕ) (s : Fin 2048) (x : Fin 256) (hs : n < s.val / 512) : dvc w n s x = 0 := by
  unfold dvc prm
  refine Finset.sum_eq_zero fun r _ => ?_
  rw [if_neg (by omega), zero_mul]

theorem dkc_beyond (w : Win) (n : ℕ) (s : Fin 2048) (x : Fin 256) (hs : n < s.val / 512) : dkc w n s x = 0 := by
  unfold dkc
  rw [Finset.sum_eq_zero fun r _ => by rw [dsm_beyond w n _ r s hs, zero_mul], zero_mul]

theorem dcc_beyond (w : Win) (n : ℕ) (s : Fin 2048) (x : Fin 256) (hs : n < s.val / 512) : dcc w n s x = 0 := by
  unfold dcc
  exact Finset.sum_eq_zero fun r _ => by rw [dsm_beyond w n _ r s hs, zero_mul]

theorem key_div (m : Fin 4) (s : Fin 512) : (key m s).val / 512 = m.val := by show (512 * m.val + s.val) / 512 = m.val; omega

theorem dqc_beyond (w : Win) (n : ℕ) (m : Fin 4) (h : Fin 2) (r : Fin 512) (d : Fin 128) (hm : n < m.val) : dqc w n m h r d = 0 := by
  unfold dqc
  rw [Finset.sum_eq_zero fun s _ => by rw [dsm_beyond w n h r _ (by rw [key_div]; exact hm), zero_mul], zero_mul]

theorem drc_beyond (w : Win) (n : ℕ) (m : Fin 4) (h : Fin 2) (r : Fin 512) (hm : n < m.val) : drc w n m h r = 0 := by
  unfold drc
  exact Finset.sum_eq_zero fun s _ => dsm_beyond w n h r _ (by rw [key_div]; exact hm)

theorem upto_all (n : ℕ) (f : Fin 4 → EReal) (hf : ∀ m : Fin 4, n < m.val → f m = 0) : upto (n + 1) f = ∑ m, f m := by
  unfold upto
  refine Finset.sum_congr rfl fun m _ => ?_
  by_cases h : m.val < n + 1
  · rw [if_pos h]
  · rw [if_neg h, hf m (by omega)]

theorem all_blocks (a g : EReal) (s n : ℕ) (hg : n < s / 512 → g = 0) :
    (a + if s / 512 < n then g else 0) + (if s / 512 = n then g else 0) = a + g := by
  rw [below_succ]
  by_cases h : s / 512 < n + 1
  · rw [if_pos h]
  · rw [if_neg h, hg (by omega)]

end Cert.FoxGradIdeal.Trip

end
-- ==== Proof.FoxPointB.lean ====
/-
  What a point of the grid after the first of its group leaves.
-/
module

public import proofs.«01_k».proof.Proof.FoxRead
public import Idealize.ShloMosaic.Lib.Pipeline.ValueKit

@[expose] public section

set_option maxRecDepth 16384

noncomputable section

namespace Cert.FoxGradIdeal.Trip

open Idealize.ShloMosaic Idealize.SL.Sem Cert.FoxGradIdeal Cert.FoxGradIdeal.Gen Cert.FoxSpec

section
variable (𝒱 : Variants) (c : Dev nD) (bd : Option 𝒱.V) (i : grid0.Coords) (arg2 : Memref sig .tc .vmem S512x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2x512x1 .f32) (harg5 : arg5.IsWhole) (arg6 : Memref sig .tc .vmem S2x4x1x512 .f32) (harg6 : arg6.IsWhole) (arg7 : Memref sig .tc .vmem S2x512x1 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S2048x256 .f32) (harg11 : arg11.IsWhole) (arg12 : Memref sig .tc .vmem S2048x256 .f32) (harg12 : arg12.IsWhole) (arg13 : Memref sig .tc .vmem S2048x256 .f32) (harg13 : arg13.IsWhole) (arg14 : Memref sig .tc .vmem S2x512x1 .f32) (harg14 : arg14.IsWhole) (arg1 : BitVec 32) (v4 : FVec Ideal S512x128 .bf16) (v6 : FVec Ideal S512x128 .bf16) (v8 : FVec Ideal S512x128 .bf16) (v10 : FVec Ideal S512x128 .bf16) (v16 : FVec Ideal S512x1 .f32) (v22 : FVec Ideal S512x1 .f32) (v24 : FVec Ideal S512x1 .f32) (v26 : FVec Ideal S512x1 .f32) (v27 : Vec Ideal S1x512x1 .f32) (v29 : Vec Ideal S1x512x1 .f32) (X_arg3 : BufTy.Contents (Elt Ideal) arg3.view.ty) (X_arg4 : BufTy.Contents (Elt Ideal) arg4.view.ty) (X_arg6 : BufTy.Contents (Elt Ideal) arg6.view.ty) (v40 : BitVec 32)
variable (G11 : BufTy.Contents (Elt Ideal) arg11.view.ty) (G12 : BufTy.Contents (Elt Ideal) arg12.view.ty) (G13 : BufTy.Contents (Elt Ideal) arg13.view.ty)
  (init : FVec Ideal S512x128 .f32 × FVec Ideal S512x1 .f32 × FVec Ideal S512x128 .f32 × FVec Ideal S512x1 .f32)

/-- The loop of the rest runs not at all. -/
theorem st2 : st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v8 v10 v16 v22 v24 v26 v27 v29 v40 X_arg3 X_arg4 X_arg6 G11 G12 G13 init (Scf.trips (k0_t2_loop i).lb (k0_t2_loop i).ub (k0_t2_loop i).st) = (init, [], [], []) := by
  rw [show Scf.trips (k0_t2_loop i).lb (k0_t2_loop i).ub (k0_t2_loop i).st = 0 from t2_trips i]
  rfl
end

theorem After.cast {i : grid0.Coords} {arg11 arg12 arg13 : Memref sig .tc .vmem S2048x256 .f32} {w : Win} {G11 : BufTy.Contents (Elt Ideal) arg11.view.ty} {G12 : BufTy.Contents (Elt Ideal) arg12.view.ty} {G13 : BufTy.Contents (Elt Ideal) arg13.view.ty}
    {init} {j j' : ℕ} {st} (h : After i arg11 arg12 arg13 w G11 G12 G13 init j st) (e : j = j') : After i arg11 arg12 arg13 w G11 G12 G13 init j' st := e ▸ h

/-! Two stores, one for each head: of halves of the columns, and of rows. -/

theorem halves_put1 (v : View sig .tc .vmem S512x256 .f32) (f : v.ty.Contents (Elt Ideal)) (i1) (w1 : S512x128.Idx → EReal) (L : List (View.Piece (Elt Ideal) S512x256 .f32)) (r : Fin 512) (d : Fin 128) :
    v.read (Elt Ideal) (v.writes (Elt Ideal) f (⟨Rect.unit (s := S512x256) ![0, 128] ![512, 128] i1, w1⟩ :: L)) (ix2 r (hc 1 d)) = w1 (ix2 r d) :=
  View.read_writes_cons_unit_of_mem v f i1 w1 L (ix2 r (hc 1 d)) (ix2 (r : Fin 512) (d : Fin 128)) rfl (by
      intro a; fin_cases a
      · show r.val = 0 + r.val; omega
      · show 128 * 1 + d.val = 128 + d.val; omega)

theorem halves_put0 (v : View sig .tc .vmem S512x256 .f32) (f : v.ty.Contents (Elt Ideal)) (i1 i0) (w1 w0 : S512x128.Idx → EReal) (L : List (View.Piece (Elt Ideal) S512x256 .f32)) (r : Fin 512) (d : Fin 128) :
    v.read (Elt Ideal) (v.writes (Elt Ideal) f (⟨Rect.unit (s := S512x256) ![0, 128] ![512, 128] i1, w1⟩ :: ⟨Rect.unit (s := S512x256) ![0, 0] ![512, 128] i0, w0⟩ :: L)) (ix2 r (hc 0 d)) = w0 (ix2 r d) :=
  (View.read_writes_cons_unit_of_not_mem v f i1 w1 _ (ix2 r (hc 0 d)) rfl (1 : Fin 2) (Or.inl (show 128 * 0 + d.val < 128 by omega))).trans
    (View.read_writes_cons_unit_of_mem v f i0 w0 L (ix2 r (hc 0 d)) (ix2 (r : Fin 512) (d : Fin 128)) rfl (by
      intro a; fin_cases a
      · show r.val = 0 + r.val; omega
      · show 128 * 0 + d.val = 0 + d.val; omega))

theorem rows_put1 (v : View sig .tc .vmem S2x512x1 .f32) (f : v.ty.Contents (Elt Ideal)) (i1) (w1 : S1x512x1.Idx → EReal) (L : List (View.Piece (Elt Ideal) S2x512x1 .f32)) (r : Fin 512) :
    v.read (Elt Ideal) (v.writes (Elt Ideal) f (⟨Rect.unit (s := S2x512x1) ![1, 0, 0] ![1, 512, 1] i1, w1⟩ :: L)) (ix3 1 r 0) = w1 (ix3 0 r 0) :=
  View.read_writes_cons_unit_of_mem v f i1 w1 L (ix3 1 r 0) (ix3 (0 : Fin 1) (r : Fin 512) (0 : Fin 1)) rfl (by
      intro a; fin_cases a
      · rfl
      · show r.val = 0 + r.val; omega
      · rfl)

theorem rows_put0 (v : View sig .tc .vmem S2x512x1 .f32) (f : v.ty.Contents (Elt Ideal)) (i1 i0) (w1 w0 : S1x512x1.Idx → EReal) (L : List (View.Piece (Elt Ideal) S2x512x1 .f32)) (r : Fin 512) :
    v.read (Elt Ideal) (v.writes (Elt Ideal) f (⟨Rect.unit (s := S2x512x1) ![1, 0, 0] ![1, 512, 1] i1, w1⟩ :: ⟨Rect.unit (s := S2x512x1) ![0, 0, 0] ![1, 512, 1] i0, w0⟩ :: L)) (ix3 0 r 0) = w0 (ix3 0 r 0) :=
  (View.read_writes_cons_unit_of_not_mem v f i1 w1 _ (ix3 0 r 0) rfl (0 : Fin 3) (Or.inl (show 0 < 1 by omega))).trans
    (View.read_writes_cons_unit_of_mem v f i0 w0 L (ix3 0 r 0) (ix3 (0 : Fin 1) (r : Fin 512) (0 : Fin 1)) rfl (by
      intro a; fin_cases a
      · rfl
      · show r.val = 0 + r.val; omega
      · rfl))

/-! ## Case B -/

section B

variable (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2x512x1 .f32) (harg5 : arg5.IsWhole) (arg6 : Memref sig .tc .vmem S2x4x1x512 .f32) (harg6 : arg6.IsWhole) (arg7 : Memref sig .tc .vmem S2x512x1 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S2048x256 .f32) (harg11 : arg11.IsWhole) (arg12 : Memref sig .tc .vmem S2048x256 .f32) (harg12 : arg12.IsWhole) (arg13 : Memref sig .tc .vmem S2048x256 .f32) (harg13 : arg13.IsWhole) (arg14 : Memref sig .tc .vmem S2x512x1 .f32) (harg14 : arg14.IsWhole) (hc0 : ¬cond0_0 i)
    (x0 : Vec Ideal S512x256 .f32) (x1 : Vec Ideal S2048x256 .f32) (x2 : Vec Ideal S2048x256 .f32) (x3 : Vec Ideal S2x512x1 .f32) (x4 : Vec Ideal S2x4x1x512 .f32) (x5 : Vec Ideal S2x512x1 .f32) (x6 : Vec Ideal S512x256 .f32) (x7 : Vec Ideal S512x256 .f32) (xo9 : Vec Ideal S2048x256 .f32) (xo10 : Vec Ideal S2048x256 .f32) (xo11 : Vec Ideal S2048x256 .f32)

include c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11

/-- What is read before the loop is of the windows. -/
theorem reads_B : Reads arg3 arg4 arg6 (kernelRun0_B.sl.r (F := Ideal) c arg2 harg2 x0) (kernelRun0_B.sl.r_1 (F := Ideal) c arg2 harg2 x0) (kernelRun0_B.sl.r_2 (F := Ideal) c arg8 harg8 x6) (kernelRun0_B.sl.r_3 (F := Ideal) c arg8 harg8 x6) (kernelRun0_B.sl.r_4 (F := Ideal) c arg8 harg8 arg9 harg9 x6 x7) (kernelRun0_B.sl.r_5 (F := Ideal) c arg8 harg8 arg9 harg9 x6 x7) (kernelRun0_B.sl.r_6 (F := Ideal) c arg5 harg5 x3) (kernelRun0_B.sl.r_7 (F := Ideal) c arg5 harg5 x3) (kernelRun0_B.sl.r_8 (F := Ideal) c arg7 harg7 x5) (View.readAt (Elt Ideal) arg7.view (Rect.unit (s := S2x512x1) ![1, 0, 0] S1x512x1.size inb_S2x512x1_S1x512x1_1_0_0).toLoadRect (harg7.unread x5)) (harg3.unread x1) (harg4.unread x2) (harg6.unread x4) ⟨x0, x1, x2, x3, x4, x5, x6, x7⟩ where
  q0 r d := by
    unfold kernelRun0_B.sl.r; rw [cast32, half0, harg2.read_unread]
  q1 r d := by
    unfold kernelRun0_B.sl.r_1; rw [cast33, half1, harg2.read_unread]
  d0 r d := by
    unfold kernelRun0_B.sl.r_2; rw [cast34, half0, harg8.read_unread]
  d1 r d := by
    unfold kernelRun0_B.sl.r_3; rw [cast35, half1, harg8.read_unread]
  e0 r := by
    unfold kernelRun0_B.sl.r_4
    exact delta0 ⟨x0, x1, x2, x3, x4, x5, x6, x7⟩ _ _ _ _ (harg8.read_unread x6) (harg9.read_unread x7) _ _ r
  e1 r := by
    unfold kernelRun0_B.sl.r_5
    exact delta1 ⟨x0, x1, x2, x3, x4, x5, x6, x7⟩ _ _ _ _ (harg8.read_unread x6) (harg9.read_unread x7) _ _ r
  c0 r := by
    unfold kernelRun0_B.sl.r_6; rw [cast38, row0, harg5.read_unread]
  c1 r := by
    unfold kernelRun0_B.sl.r_7; rw [cast39, row1, harg5.read_unread]
  l0 r := by
    unfold kernelRun0_B.sl.r_8; rw [row0, harg7.read_unread]
  l1 r := by
    rw [row1, harg7.read_unread]
  k := harg3.read_unread x1
  v := harg4.read_unread x2
  cr := harg6.read_unread x4

/-- What the loop before the diagonal leaves. -/
theorem after_B : After i arg11 arg12 arg13 ⟨x0, x1, x2, x3, x4, x5, x6, x7⟩ (harg11.unread xo9) (harg12.unread xo10) (harg13.unread xo11) (k0_pay43, k0_pay44, k0_pay45, k0_pay46) (i 1).val (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_B.sl.r (F := Ideal) c arg2 harg2 x0) (kernelRun0_B.sl.r_1 (F := Ideal) c arg2 harg2 x0) (kernelRun0_B.sl.r_2 (F := Ideal) c arg8 harg8 x6) (kernelRun0_B.sl.r_3 (F := Ideal) c arg8 harg8 x6) (kernelRun0_B.sl.r_4 (F := Ideal) c arg8 harg8 arg9 harg9 x6 x7) (kernelRun0_B.sl.r_5 (F := Ideal) c arg8 harg8 arg9 harg9 x6 x7) (kernelRun0_B.sl.r_6 (F := Ideal) c arg5 harg5 x3) (kernelRun0_B.sl.r_7 (F := Ideal) c arg5 harg5 x3) (kernelRun0_B.sl.r_8 (F := Ideal) c arg7 harg7 x5) (View.readAt (Elt Ideal) arg7.view (Rect.unit (s := S2x512x1) ![1, 0, 0] S1x512x1.size inb_S2x512x1_S1x512x1_1_0_0).toLoadRect (harg7.unread x5)) (harg3.unread x1) (harg4.unread x2) (harg6.unread x4) (harg11.unread xo9) (harg12.unread xo10) (harg13.unread xo11) (k0_pay43, k0_pay44, k0_pay45, k0_pay46) (Scf.trips (k0_t1_loop i).lb (k0_t1_loop i).ub (k0_t1_loop i).st)) :=
  (after Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_B.sl.r (F := Ideal) c arg2 harg2 x0) (kernelRun0_B.sl.r_1 (F := Ideal) c arg2 harg2 x0) (kernelRun0_B.sl.r_2 (F := Ideal) c arg8 harg8 x6) (kernelRun0_B.sl.r_3 (F := Ideal) c arg8 harg8 x6) (kernelRun0_B.sl.r_4 (F := Ideal) c arg8 harg8 arg9 harg9 x6 x7) (kernelRun0_B.sl.r_5 (F := Ideal) c arg8 harg8 arg9 harg9 x6 x7) (kernelRun0_B.sl.r_6 (F := Ideal) c arg5 harg5 x3) (kernelRun0_B.sl.r_7 (F := Ideal) c arg5 harg5 x3) (kernelRun0_B.sl.r_8 (F := Ideal) c arg7 harg7 x5) (View.readAt (Elt Ideal) arg7.view (Rect.unit (s := S2x512x1) ![1, 0, 0] S1x512x1.size inb_S2x512x1_S1x512x1_1_0_0).toLoadRect (harg7.unread x5)) (harg3.unread x1) (harg4.unread x2) (harg6.unread x4) ⟨x0, x1, x2, x3, x4, x5, x6, x7⟩ (harg11.unread xo9) (harg12.unread xo10) (harg13.unread xo11) (k0_pay43, k0_pay44, k0_pay45, k0_pay46) (reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11) (k0_t1_loop i).trips le_rfl).cast (t1_trips i)

/-- The first head's probabilities and cotangents on the diagonal. -/
theorem P0_B (r s : Fin 512) :
    k0_pay61 (k0_pay59 (kernelRun0_B.sl.r (F := Ideal) c arg2 harg2 x0) (kernelRun0_B.sl.r_6 (F := Ideal) c arg5 harg5 x3) (kernelRun0_B.sl.r_8 (F := Ideal) c arg7 harg7 x5) (View.readAt (Elt Ideal) arg3.view (Rect.unit (s := S2048x256) (k0_off9 i) S512x128.size (k0_off9_inb i)).toLoadRect (harg3.unread x1))
        (View.readAt (Elt Ideal) arg6.view (Rect.unit (s := S2x4x1x512) (k0_off10 i) S1x1x1x512.size (k0_off10_inb i)).toLoadRect (harg6.unread x4))) k0_pay60 (Scalar.ofBits .f32 0x00000000#32) (ix2 r s)
      = prm ⟨x0, x1, x2, x3, x4, x5, x6, x7⟩ (i 1).val 0 r (key (blkD i) s) :=
  Tile.pay61 ⟨x0, x1, x2, x3, x4, x5, x6, x7⟩ _ 0 (blkD i) (reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).q0 (reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).c0 (reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).l0 (fun s x => (read9 i _ _ _ s x).trans (congrFun (harg3.read_unread x1) _)) (fun s => (read10 i _ _ _ s).trans (congrFun (harg6.read_unread x4) _)) rfl r s

theorem D0_B (r s : Fin 512) :
    k0_pay62 (kernelRun0_B.sl.r_2 (F := Ideal) c arg8 harg8 x6) (kernelRun0_B.sl.r_4 (F := Ideal) c arg8 harg8 arg9 harg9 x6 x7) (k0_pay58 (View.readAt (Elt Ideal) arg4.view (Rect.unit (s := S2048x256) (k0_off9 i) S512x128.size (k0_off9_inb i)).toLoadRect (harg4.unread x2)))
        (k0_pay59 (kernelRun0_B.sl.r (F := Ideal) c arg2 harg2 x0) (kernelRun0_B.sl.r_6 (F := Ideal) c arg5 harg5 x3) (kernelRun0_B.sl.r_8 (F := Ideal) c arg7 harg7 x5) (View.readAt (Elt Ideal) arg3.view (Rect.unit (s := S2048x256) (k0_off9 i) S512x128.size (k0_off9_inb i)).toLoadRect (harg3.unread x1))
        (View.readAt (Elt Ideal) arg6.view (Rect.unit (s := S2x4x1x512) (k0_off10 i) S1x1x1x512.size (k0_off10_inb i)).toLoadRect (harg6.unread x4))) k0_pay60 (Scalar.ofBits .f32 0x00000000#32) (ix2 r s)
      = dsm ⟨x0, x1, x2, x3, x4, x5, x6, x7⟩ (i 1).val 0 r (key (blkD i) s) :=
  Tile.pay62 ⟨x0, x1, x2, x3, x4, x5, x6, x7⟩ _ 0 (blkD i) (reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).q0 (reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).d0 (reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).e0 (reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).c0 (reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).l0 (fun s x => (read9 i _ _ _ s x).trans (congrFun (harg3.read_unread x1) _)) (fun s x => (cast58 s x).trans ((read9 i _ _ _ s x).trans (congrFun (harg4.read_unread x2) _))) (fun s => (read10 i _ _ _ s).trans (congrFun (harg6.read_unread x4) _)) rfl r s

/-- The second head's cotangents on the diagonal. -/
theorem D1_B (r s : Fin 512) :
    k0_pay70 (kernelRun0_B.sl.r_1 (F := Ideal) c arg2 harg2 x0) (kernelRun0_B.sl.r_3 (F := Ideal) c arg8 harg8 x6) (kernelRun0_B.sl.r_5 (F := Ideal) c arg8 harg8 arg9 harg9 x6 x7) (kernelRun0_B.sl.r_7 (F := Ideal) c arg5 harg5 x3) (k0_pay41 (View.readAt (Elt Ideal) arg7.view (Rect.unit (s := S2x512x1) ![1, 0, 0] S1x512x1.size inb_S2x512x1_S1x512x1_1_0_0).toLoadRect (harg7.unread x5)))
        (k0_pay68 (View.readAt (Elt Ideal) arg3.view (Rect.unit (s := S2048x256) (k0_off11 i) S512x128.size (k0_off11_inb i)).toLoadRect (harg3.unread x1)))
        (View.readAt (Elt Ideal) arg4.view (Rect.unit (s := S2048x256) (k0_off11 i) S512x128.size (k0_off11_inb i)).toLoadRect (harg4.unread x2))
        (View.readAt (Elt Ideal) arg6.view (Rect.unit (s := S2x4x1x512) (k0_off12 i) S1x1x1x512.size (k0_off12_inb i)).toLoadRect (harg6.unread x4)) (ix2 r s)
      = dsm ⟨x0, x1, x2, x3, x4, x5, x6, x7⟩ (i 1).val 1 r (key (blkD i) s) :=
  Tile.pay70 ⟨x0, x1, x2, x3, x4, x5, x6, x7⟩ _ 1 (blkD i) (reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).q1 (reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).d1 (reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).e1 (reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).c1 (fun r => (cast41 r).trans ((reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).l1 r)) (fun s x => (read11 i _ _ _ s x).trans (congrFun (harg4.read_unread x2) _)) (fun s x => (cast68 s x).trans ((read11 i _ _ _ s x).trans (congrFun (harg3.read_unread x1) _))) (fun s => (read12 i _ _ _ s).trans (congrFun (harg6.read_unread x4) _)) rfl r s

/-- What the point leaves for the gradient of k. -/
theorem out9_B (s : Fin 2048) (x : Fin 256) : out0_B_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 (ix2 s x) = xo9 (ix2 s x) + dkc ⟨x0, x1, x2, x3, x4, x5, x6, x7⟩ (i 1).val s x := by
  unfold out0_B_9
  unfold kernelRun0_B
  dsimp only
  unfold kernelRun0_B.sl.H9_1
  rw [st2]
  dsimp only [List.nil_append]
  refine (two_puts arg11.view (harg11.unread xo9) (blkD i) (off9_eq i) (off11_eq i) _ _ _ _ ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_B.sl.r (F := Ideal) c arg2 harg2 x0) (kernelRun0_B.sl.r_1 (F := Ideal) c arg2 harg2 x0) (kernelRun0_B.sl.r_2 (F := Ideal) c arg8 harg8 x6) (kernelRun0_B.sl.r_3 (F := Ideal) c arg8 harg8 x6) (kernelRun0_B.sl.r_4 (F := Ideal) c arg8 harg8 arg9 harg9 x6 x7) (kernelRun0_B.sl.r_5 (F := Ideal) c arg8 harg8 arg9 harg9 x6 x7) (kernelRun0_B.sl.r_6 (F := Ideal) c arg5 harg5 x3) (kernelRun0_B.sl.r_7 (F := Ideal) c arg5 harg5 x3) (kernelRun0_B.sl.r_8 (F := Ideal) c arg7 harg7 x5) (View.readAt (Elt Ideal) arg7.view (Rect.unit (s := S2x512x1) ![1, 0, 0] S1x512x1.size inb_S2x512x1_S1x512x1_1_0_0).toLoadRect (harg7.unread x5)) (harg3.unread x1) (harg4.unread x2) (harg6.unread x4) (harg11.unread xo9) (harg12.unread xo10) (harg13.unread xo11) (k0_pay43, k0_pay44, k0_pay45, k0_pay46) (Scf.trips (k0_t1_loop i).lb (k0_t1_loop i).ub (k0_t1_loop i).st)).2.1) (dkc ⟨x0, x1, x2, x3, x4, x5, x6, x7⟩ (i 1).val) _ rfl (fun s x => ?_) (fun s x => ?_) s x).trans ?_
  · unfold kernelRun0_B.sl.r_16 kernelRun0_B.sl.r_15 kernelRun0_B.sl.cst_42 kernelRun0_B.sl.v83
    refine (Tile.pay64 ⟨x0, x1, x2, x3, x4, x5, x6, x7⟩ _ 0 (blkD i) (reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).q0 _ (D0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11) s x).trans ?_
    rw [st2]
    dsimp only [List.nil_append]
    rw [read9]
    all_goals rfl
  · unfold kernelRun0_B.sl.r_9 kernelRun0_B.sl.r_19
    refine (Tile.pay72 ⟨x0, x1, x2, x3, x4, x5, x6, x7⟩ _ 1 (blkD i) (reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).q1 (reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).d1 (reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).e1 (reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).c1 (fun r => (cast41 r).trans ((reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).l1 r)) (fun s x => (read11 i _ _ _ s x).trans (congrFun (harg4.read_unread x2) _)) (fun s x => (cast68 s x).trans ((read11 i _ _ _ s x).trans (congrFun (harg3.read_unread x1) _))) (fun s => (read12 i _ _ _ s).trans (congrFun (harg6.read_unread x4) _)) _ rfl s x).trans ?_
    rw [read11, View.read_writes_cons_unit_of_not_mem arg11.view _ _ _ _ _ (off9_eq i) (1 : Fin 2) (Or.inr (Nat.le_add_right 128 x.val))]
    all_goals rfl
  · rw [(after_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).dk, harg11.read_unread]
    exact all_blocks _ _ _ _ (dkc_beyond _ _ s x)

/-- What the point leaves for the gradient of v. -/
theorem out10_B (s : Fin 2048) (x : Fin 256) : out0_B_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 (ix2 s x) = xo10 (ix2 s x) + dvc ⟨x0, x1, x2, x3, x4, x5, x6, x7⟩ (i 1).val s x := by
  unfold out0_B_10
  unfold kernelRun0_B
  dsimp only
  unfold kernelRun0_B.sl.H10_1
  rw [st2]
  dsimp only [List.nil_append]
  refine (two_puts arg12.view (harg12.unread xo10) (blkD i) (off9_eq i) (off11_eq i) _ _ _ _ ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_B.sl.r (F := Ideal) c arg2 harg2 x0) (kernelRun0_B.sl.r_1 (F := Ideal) c arg2 harg2 x0) (kernelRun0_B.sl.r_2 (F := Ideal) c arg8 harg8 x6) (kernelRun0_B.sl.r_3 (F := Ideal) c arg8 harg8 x6) (kernelRun0_B.sl.r_4 (F := Ideal) c arg8 harg8 arg9 harg9 x6 x7) (kernelRun0_B.sl.r_5 (F := Ideal) c arg8 harg8 arg9 harg9 x6 x7) (kernelRun0_B.sl.r_6 (F := Ideal) c arg5 harg5 x3) (kernelRun0_B.sl.r_7 (F := Ideal) c arg5 harg5 x3) (kernelRun0_B.sl.r_8 (F := Ideal) c arg7 harg7 x5) (View.readAt (Elt Ideal) arg7.view (Rect.unit (s := S2x512x1) ![1, 0, 0] S1x512x1.size inb_S2x512x1_S1x512x1_1_0_0).toLoadRect (harg7.unread x5)) (harg3.unread x1) (harg4.unread x2) (harg6.unread x4) (harg11.unread xo9) (harg12.unread xo10) (harg13.unread xo11) (k0_pay43, k0_pay44, k0_pay45, k0_pay46) (Scf.trips (k0_t1_loop i).lb (k0_t1_loop i).ub (k0_t1_loop i).st)).2.2.1) (dvc ⟨x0, x1, x2, x3, x4, x5, x6, x7⟩ (i 1).val) _ rfl (fun s x => ?_) (fun s x => ?_) s x).trans ?_
  · unfold kernelRun0_B.sl.r_16 kernelRun0_B.sl.cst_42 kernelRun0_B.sl.v75
    refine (Tile.pay63 ⟨x0, x1, x2, x3, x4, x5, x6, x7⟩ _ 0 (blkD i) (reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).d0 _ (P0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11) s x).trans ?_
    rw [st2]
    dsimp only [List.nil_append]
    rw [read9]
    all_goals rfl
  · unfold kernelRun0_B.sl.r_9 kernelRun0_B.sl.r_19
    refine (Tile.pay71 ⟨x0, x1, x2, x3, x4, x5, x6, x7⟩ _ 1 (blkD i) (reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).q1 (reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).d1 (reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).c1 (fun r => (cast41 r).trans ((reads_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).l1 r)) (fun s x => (cast68 s x).trans ((read11 i _ _ _ s x).trans (congrFun (harg3.read_unread x1) _))) (fun s => (read12 i _ _ _ s).trans (congrFun (harg6.read_unread x4) _)) _ rfl s x).trans ?_
    rw [read11, View.read_writes_cons_unit_of_not_mem arg12.view _ _ _ _ _ (off9_eq i) (1 : Fin 2) (Or.inr (Nat.le_add_right 128 x.val))]
    all_goals rfl
  · rw [(after_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).dv, harg12.read_unread]
    exact all_blocks _ _ _ _ (dvc_beyond _ _ s x)

/-- What the point leaves for the gradient of the sums of gates by columns. -/
theorem out11_B (s : Fin 2048) (x : Fin 256) : out0_B_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 (ix2 s x) = xo11 (ix2 s x) + dcc ⟨x0, x1, x2, x3, x4, x5, x6, x7⟩ (i 1).val s x := by
  unfold out0_B_11
  unfold kernelRun0_B
  dsimp only
  unfold kernelRun0_B.sl.H11_1
  rw [st2]
  dsimp only [List.nil_append]
  refine (two_puts arg13.view (harg13.unread xo11) (blkD i) (off9_eq i) (off11_eq i) _ _ _ _ ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_B.sl.r (F := Ideal) c arg2 harg2 x0) (kernelRun0_B.sl.r_1 (F := Ideal) c arg2 harg2 x0) (kernelRun0_B.sl.r_2 (F := Ideal) c arg8 harg8 x6) (kernelRun0_B.sl.r_3 (F := Ideal) c arg8 harg8 x6) (kernelRun0_B.sl.r_4 (F := Ideal) c arg8 harg8 arg9 harg9 x6 x7) (kernelRun0_B.sl.r_5 (F := Ideal) c arg8 harg8 arg9 harg9 x6 x7) (kernelRun0_B.sl.r_6 (F := Ideal) c arg5 harg5 x3) (kernelRun0_B.sl.r_7 (F := Ideal) c arg5 harg5 x3) (kernelRun0_B.sl.r_8 (F := Ideal) c arg7 harg7 x5) (View.readAt (Elt Ideal) arg7.view (Rect.unit (s := S2x512x1) ![1, 0, 0] S1x512x1.size inb_S2x512x1_S1x512x1_1_0_0).toLoadRect (harg7.unread x5)) (harg3.unread x1) (harg4.unread x2) (harg6.unread x4) (harg11.unread xo9) (harg12.unread xo10) (harg13.unread xo11) (k0_pay43, k0_pay44, k0_pay45, k0_pay46) (Scf.trips (k0_t1_loop i).lb (k0_t1_loop i).ub (k0_t1_loop i).st)).2.2.2) (dcc ⟨x0, x1, x2, x3, x4, x5, x6, x7⟩ (i 1).val) _ rfl (fun s x => ?_) (fun s x => ?_) s x).trans ?_
  · unfold kernelRun0_B.sl.r_16 kernelRun0_B.sl.r_15 kernelRun0_B.sl.cst_42 kernelRun0_B.sl.v92
    refine (Tile.pay65 ⟨x0, x1, x2, x3, x4, x5, x6, x7⟩ _ 0 (blkD i) _ (D0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11) s x).trans ?_
    rw [st2]
    dsimp only [List.nil_append]
    rw [read9]
    all_goals rfl
  · unfold kernelRun0_B.sl.r_20 kernelRun0_B.sl.r_9 kernelRun0_B.sl.r_19
    refine (Tile.pay1 ⟨x0, x1, x2, x3, x4, x5, x6, x7⟩ _ 1 (blkD i) (D1_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11) _ s x).trans ?_
    rw [read11, View.read_writes_cons_unit_of_not_mem arg13.view _ _ _ _ _ (off9_eq i) (1 : Fin 2) (Or.inr (Nat.le_add_right 128 x.val))]
    all_goals rfl
  · rw [(after_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).dc, harg13.read_unread]
    exact all_blocks _ _ _ _ (dcc_beyond _ _ s x)

/-- What the point leaves for the gradient of q, first head. -/
theorem out8_0_B (r : Fin 512) (d : Fin 128) : out0_B_8 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 (ix2 r (hc 0 d)) = ∑ m, dqc ⟨x0, x1, x2, x3, x4, x5, x6, x7⟩ (i 1).val m 0 r d := by
  unfold out0_B_8 kernelRun0_B
  dsimp only
  rw [halves_put0]
  unfold kernelRun0_B.sl.r_17 kernelRun0_B.sl.r_14 kernelRun0_B.sl.r_15 kernelRun0_B.sl.r_16 kernelRun0_B.sl.cst_42 kernelRun0_B.sl.r_10
  rw [st2]
  refine (Tile.pay66 ⟨x0, x1, x2, x3, x4, x5, x6, x7⟩ _ 0 (blkD i) (fun s x => (cast57 s x).trans ((read9 i _ _ _ s x).trans (congrFun (harg3.read_unread x1) _))) _ (D0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11) r d).trans ?_
  dsimp only
  rw [(after_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).dq0]
  dsimp only
  rw [val43, zero_add, ← upto_all (i 1).val _ fun m hm => dqc_beyond _ _ m 0 r d hm]
  exact (upto_succ (blkD i) _).symm

/-- What the point leaves for the gradient of q, second head. -/
theorem out8_1_B (r : Fin 512) (d : Fin 128) : out0_B_8 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 (ix2 r (hc 1 d)) = ∑ m, dqc ⟨x0, x1, x2, x3, x4, x5, x6, x7⟩ (i 1).val m 1 r d := by
  unfold out0_B_8 kernelRun0_B
  dsimp only
  rw [halves_put1]
  unfold kernelRun0_B.sl.r_12 kernelRun0_B.sl.r_20 kernelRun0_B.sl.r_9 kernelRun0_B.sl.r_19
  rw [st2]
  refine (Tile.pay2 ⟨x0, x1, x2, x3, x4, x5, x6, x7⟩ _ 1 (blkD i) (fun s x => (cast68 s x).trans ((read11 i _ _ _ s x).trans (congrFun (harg3.read_unread x1) _))) (D1_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11) _ r d).trans ?_
  dsimp only
  rw [(after_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).dq1]
  dsimp only
  rw [val45, zero_add, ← upto_all (i 1).val _ fun m hm => dqc_beyond _ _ m 1 r d hm]
  exact (upto_succ (blkD i) _).symm

/-- What the point leaves for the row sums of the logits' cotangent, first head. -/
theorem out12_0_B (r : Fin 512) : out0_B_12 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 (ix3 0 r 0) = ∑ m, drc ⟨x0, x1, x2, x3, x4, x5, x6, x7⟩ (i 1).val m 0 r := by
  unfold out0_B_12 kernelRun0_B
  dsimp only
  rw [rows_put0]
  rw [Tile.pay3]
  unfold kernelRun0_B.sl.r_18 kernelRun0_B.sl.r_15 kernelRun0_B.sl.r_16 kernelRun0_B.sl.cst_42 kernelRun0_B.sl.r_11
  rw [st2]
  refine (Tile.pay67 ⟨x0, x1, x2, x3, x4, x5, x6, x7⟩ _ 0 (blkD i) _ (D0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11) r).trans ?_
  dsimp only
  rw [(after_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).dr0]
  dsimp only
  rw [val44, zero_add, ← upto_all (i 1).val _ fun m hm => drc_beyond _ _ m 0 r hm]
  exact (upto_succ (blkD i) _).symm

/-- What the point leaves for the row sums of the logits' cotangent, second head. -/
theorem out12_1_B (r : Fin 512) : out0_B_12 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 (ix3 1 r 0) = ∑ m, drc ⟨x0, x1, x2, x3, x4, x5, x6, x7⟩ (i 1).val m 1 r := by
  unfold out0_B_12 kernelRun0_B
  dsimp only
  rw [rows_put1]
  unfold kernelRun0_B.sl.r_13 kernelRun0_B.sl.r_20 kernelRun0_B.sl.r_9 kernelRun0_B.sl.r_19
  rw [st2]
  refine (Tile.pay4 ⟨x0, x1, x2, x3, x4, x5, x6, x7⟩ _ 1 (blkD i) (D1_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11) _ r).trans ?_
  dsimp only
  rw [(after_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11).dr1]
  dsimp only
  rw [val46, zero_add, ← upto_all (i 1).val _ fun m hm => drc_beyond _ _ m 1 r hm]
  exact (upto_succ (blkD i) _).symm

end B

end Cert.FoxGradIdeal.Trip

end
-- ==== Proof.FoxPointA.lean ====
/-
  What the first point of a group leaves.
-/
module

public import proofs.«01_k».proof.Proof.FoxPointB
public import Idealize.ShloMosaic.Lib.Pipeline.ValueKit

@[expose] public section

set_option maxRecDepth 16384

noncomputable section

namespace Cert.FoxGradIdeal.Trip

open Idealize.ShloMosaic Idealize.SL.Sem Cert.FoxGradIdeal Cert.FoxGradIdeal.Gen Cert.FoxSpec

theorem zero_H9 (v : View sig .tc .vmem S2048x256 .f32) (f : v.ty.Contents (Elt Ideal)) (s : Fin 2048) (x : Fin 256) :
    v.read (Elt Ideal) (v.writes (Elt Ideal) f (kernelRun0_A.sl.H9_1 (F := Ideal))) (ix2 s x) = 0 := by
  unfold kernelRun0_A.sl.H9_1
  exact (congrFun (View.read_writes_full v f _ _ []) _).trans (val29 s x)

theorem zero_H10 (v : View sig .tc .vmem S2048x256 .f32) (f : v.ty.Contents (Elt Ideal)) (s : Fin 2048) (x : Fin 256) :
    v.read (Elt Ideal) (v.writes (Elt Ideal) f (kernelRun0_A.sl.H10_1 (F := Ideal))) (ix2 s x) = 0 := by
  unfold kernelRun0_A.sl.H10_1
  exact (congrFun (View.read_writes_full v f _ _ []) _).trans (val30 s x)

theorem zero_H11 (v : View sig .tc .vmem S2048x256 .f32) (f : v.ty.Contents (Elt Ideal)) (s : Fin 2048) (x : Fin 256) :
    v.read (Elt Ideal) (v.writes (Elt Ideal) f (kernelRun0_A.sl.H11_1 (F := Ideal))) (ix2 s x) = 0 := by
  unfold kernelRun0_A.sl.H11_1
  exact (congrFun (View.read_writes_full v f _ _ []) _).trans (val31 s x)

/-! ## Case A -/

section A

variable (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2x512x1 .f32) (harg5 : arg5.IsWhole) (arg6 : Memref sig .tc .vmem S2x4x1x512 .f32) (harg6 : arg6.IsWhole) (arg7 : Memref sig .tc .vmem S2x512x1 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S2048x256 .f32) (harg11 : arg11.IsWhole) (arg12 : Memref sig .tc .vmem S2048x256 .f32) (harg12 : arg12.IsWhole) (arg13 : Memref sig .tc .vmem S2048x256 .f32) (harg13 : arg13.IsWhole) (arg14 : Memref sig .tc .vmem S2x512x1 .f32) (harg14 : arg14.IsWhole) (hc0 : cond0_0 i)
    (x0 : Vec Ideal S512x256 .f32) (x1 : Vec Ideal S2048x256 .f32) (x2 : Vec Ideal S2048x256 .f32) (x3 : Vec Ideal S2x512x1 .f32) (x4 : Vec Ideal S2x4x1x512 .f32) (x5 : Vec Ideal S2x512x1 .f32) (x6 : Vec Ideal S512x256 .f32) (x7 : Vec Ideal S512x256 .f32)

include c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7

/-- What is read before the loop is of the windows. -/
theorem reads_A : Reads arg3 arg4 arg6 (kernelRun0_A.sl.r (F := Ideal) c arg2 harg2 x0) (kernelRun0_A.sl.r_1 (F := Ideal) c arg2 harg2 x0) (kernelRun0_A.sl.r_2 (F := Ideal) c arg8 harg8 x6) (kernelRun0_A.sl.r_3 (F := Ideal) c arg8 harg8 x6) (kernelRun0_A.sl.r_4 (F := Ideal) c arg8 harg8 arg9 harg9 x6 x7) (kernelRun0_A.sl.r_5 (F := Ideal) c arg8 harg8 arg9 harg9 x6 x7) (kernelRun0_A.sl.r_6 (F := Ideal) c arg5 harg5 x3) (kernelRun0_A.sl.r_7 (F := Ideal) c arg5 harg5 x3) (kernelRun0_A.sl.r_8 (F := Ideal) c arg7 harg7 x5) (View.readAt (Elt Ideal) arg7.view (Rect.unit (s := S2x512x1) ![1, 0, 0] S1x512x1.size inb_S2x512x1_S1x512x1_1_0_0).toLoadRect (harg7.unread x5)) (harg3.unread x1) (harg4.unread x2) (harg6.unread x4) ⟨x0, x1, x2, x3, x4, x5, x6, x7⟩ where
  q0 r d := by
    unfold kernelRun0_A.sl.r; rw [cast32, half0, harg2.read_unread]
  q1 r d := by
    unfold kernelRun0_A.sl.r_1; rw [cast33, half1, harg2.read_unread]
  d0 r d := by
    unfold kernelRun0_A.sl.r_2; rw [cast34, half0, harg8.read_unread]
  d1 r d := by
    unfold kernelRun0_A.sl.r_3; rw [cast35, half1, harg8.read_unread]
  e0 r := by
    unfold kernelRun0_A.sl.r_4
    exact delta0 ⟨x0, x1, x2, x3, x4, x5, x6, x7⟩ _ _ _ _ (harg8.read_unread x6) (harg9.read_unread x7) _ _ r
  e1 r := by
    unfold kernelRun0_A.sl.r_5
    exact delta1 ⟨x0, x1, x2, x3, x4, x5, x6, x7⟩ _ _ _ _ (harg8.read_unread x6) (harg9.read_unread x7) _ _ r
  c0 r := by
    unfold kernelRun0_A.sl.r_6; rw [cast38, row0, harg5.read_unread]
  c1 r := by
    unfold kernelRun0_A.sl.r_7; rw [cast39, row1, harg5.read_unread]
  l0 r := by
    unfold kernelRun0_A.sl.r_8; rw [row0, harg7.read_unread]
  l1 r := by
    rw [row1, harg7.read_unread]
  k := harg3.read_unread x1
  v := harg4.read_unread x2
  cr := harg6.read_unread x4

/-- What the loop before the diagonal leaves. -/
theorem after_A : After i arg11 arg12 arg13 ⟨x0, x1, x2, x3, x4, x5, x6, x7⟩ (arg11.view.writes (Elt Ideal) arg11.view.junk (kernelRun0_A.sl.H9_1 (F := Ideal))) (arg12.view.writes (Elt Ideal) arg12.view.junk (kernelRun0_A.sl.H10_1 (F := Ideal))) (arg13.view.writes (Elt Ideal) arg13.view.junk (kernelRun0_A.sl.H11_1 (F := Ideal))) (k0_pay43, k0_pay44, k0_pay45, k0_pay46) (i 1).val (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_A.sl.r (F := Ideal) c arg2 harg2 x0) (kernelRun0_A.sl.r_1 (F := Ideal) c arg2 harg2 x0) (kernelRun0_A.sl.r_2 (F := Ideal) c arg8 harg8 x6) (kernelRun0_A.sl.r_3 (F := Ideal) c arg8 harg8 x6) (kernelRun0_A.sl.r_4 (F := Ideal) c arg8 harg8 arg9 harg9 x6 x7) (kernelRun0_A.sl.r_5 (F := Ideal) c arg8 harg8 arg9 harg9 x6 x7) (kernelRun0_A.sl.r_6 (F := Ideal) c arg5 harg5 x3) (kernelRun0_A.sl.r_7 (F := Ideal) c arg5 harg5 x3) (kernelRun0_A.sl.r_8 (F := Ideal) c arg7 harg7 x5) (View.readAt (Elt Ideal) arg7.view (Rect.unit (s := S2x512x1) ![1, 0, 0] S1x512x1.size inb_S2x512x1_S1x512x1_1_0_0).toLoadRect (harg7.unread x5)) (harg3.unread x1) (harg4.unread x2) (harg6.unread x4) (arg11.view.writes (Elt Ideal) arg11.view.junk (kernelRun0_A.sl.H9_1 (F := Ideal))) (arg12.view.writes (Elt Ideal) arg12.view.junk (kernelRun0_A.sl.H10_1 (F := Ideal))) (arg13.view.writes (Elt Ideal) arg13.view.junk (kernelRun0_A.sl.H11_1 (F := Ideal))) (k0_pay43, k0_pay44, k0_pay45, k0_pay46) (Scf.trips (k0_t1_loop i).lb (k0_t1_loop i).ub (k0_t1_loop i).st)) :=
  (after Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_A.sl.r (F := Ideal) c arg2 harg2 x0) (kernelRun0_A.sl.r_1 (F := Ideal) c arg2 harg2 x0) (kernelRun0_A.sl.r_2 (F := Ideal) c arg8 harg8 x6) (kernelRun0_A.sl.r_3 (F := Ideal) c arg8 harg8 x6) (kernelRun0_A.sl.r_4 (F := Ideal) c arg8 harg8 arg9 harg9 x6 x7) (kernelRun0_A.sl.r_5 (F := Ideal) c arg8 harg8 arg9 harg9 x6 x7) (kernelRun0_A.sl.r_6 (F := Ideal) c arg5 harg5 x3) (kernelRun0_A.sl.r_7 (F := Ideal) c arg5 harg5 x3) (kernelRun0_A.sl.r_8 (F := Ideal) c arg7 harg7 x5) (View.readAt (Elt Ideal) arg7.view (Rect.unit (s := S2x512x1) ![1, 0, 0] S1x512x1.size inb_S2x512x1_S1x512x1_1_0_0).toLoadRect (harg7.unread x5)) (harg3.unread x1) (harg4.unread x2) (harg6.unread x4) ⟨x0, x1, x2, x3, x4, x5, x6, x7⟩ (arg11.view.writes (Elt Ideal) arg11.view.junk (kernelRun0_A.sl.H9_1 (F := Ideal))) (arg12.view.writes (Elt Ideal) arg12.view.junk (kernelRun0_A.sl.H10_1 (F := Ideal))) (arg13.view.writes (Elt Ideal) arg13.view.junk (kernelRun0_A.sl.H11_1 (F := Ideal))) (k0_pay43, k0_pay44, k0_pay45, k0_pay46) (reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) (k0_t1_loop i).trips le_rfl).cast (t1_trips i)

/-- The first head's probabilities and cotangents on the diagonal. -/
theorem P0_A (r s : Fin 512) :
    k0_pay61 (k0_pay59 (kernelRun0_A.sl.r (F := Ideal) c arg2 harg2 x0) (kernelRun0_A.sl.r_6 (F := Ideal) c arg5 harg5 x3) (kernelRun0_A.sl.r_8 (F := Ideal) c arg7 harg7 x5) (View.readAt (Elt Ideal) arg3.view (Rect.unit (s := S2048x256) (k0_off9 i) S512x128.size (k0_off9_inb i)).toLoadRect (harg3.unread x1))
        (View.readAt (Elt Ideal) arg6.view (Rect.unit (s := S2x4x1x512) (k0_off10 i) S1x1x1x512.size (k0_off10_inb i)).toLoadRect (harg6.unread x4))) k0_pay60 (Scalar.ofBits .f32 0x00000000#32) (ix2 r s)
      = prm ⟨x0, x1, x2, x3, x4, x5, x6, x7⟩ (i 1).val 0 r (key (blkD i) s) :=
  Tile.pay61 ⟨x0, x1, x2, x3, x4, x5, x6, x7⟩ _ 0 (blkD i) (reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).q0 (reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).c0 (reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).l0 (fun s x => (read9 i _ _ _ s x).trans (congrFun (harg3.read_unread x1) _)) (fun s => (read10 i _ _ _ s).trans (congrFun (harg6.read_unread x4) _)) rfl r s

theorem D0_A (r s : Fin 512) :
    k0_pay62 (kernelRun0_A.sl.r_2 (F := Ideal) c arg8 harg8 x6) (kernelRun0_A.sl.r_4 (F := Ideal) c arg8 harg8 arg9 harg9 x6 x7) (k0_pay58 (View.readAt (Elt Ideal) arg4.view (Rect.unit (s := S2048x256) (k0_off9 i) S512x128.size (k0_off9_inb i)).toLoadRect (harg4.unread x2)))
        (k0_pay59 (kernelRun0_A.sl.r (F := Ideal) c arg2 harg2 x0) (kernelRun0_A.sl.r_6 (F := Ideal) c arg5 harg5 x3) (kernelRun0_A.sl.r_8 (F := Ideal) c arg7 harg7 x5) (View.readAt (Elt Ideal) arg3.view (Rect.unit (s := S2048x256) (k0_off9 i) S512x128.size (k0_off9_inb i)).toLoadRect (harg3.unread x1))
        (View.readAt (Elt Ideal) arg6.view (Rect.unit (s := S2x4x1x512) (k0_off10 i) S1x1x1x512.size (k0_off10_inb i)).toLoadRect (harg6.unread x4))) k0_pay60 (Scalar.ofBits .f32 0x00000000#32) (ix2 r s)
      = dsm ⟨x0, x1, x2, x3, x4, x5, x6, x7⟩ (i 1).val 0 r (key (blkD i) s) :=
  Tile.pay62 ⟨x0, x1, x2, x3, x4, x5, x6, x7⟩ _ 0 (blkD i) (reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).q0 (reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).d0 (reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).e0 (reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).c0 (reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).l0 (fun s x => (read9 i _ _ _ s x).trans (congrFun (harg3.read_unread x1) _)) (fun s x => (cast58 s x).trans ((read9 i _ _ _ s x).trans (congrFun (harg4.read_unread x2) _))) (fun s => (read10 i _ _ _ s).trans (congrFun (harg6.read_unread x4) _)) rfl r s

/-- The second head's cotangents on the diagonal. -/
theorem D1_A (r s : Fin 512) :
    k0_pay70 (kernelRun0_A.sl.r_1 (F := Ideal) c arg2 harg2 x0) (kernelRun0_A.sl.r_3 (F := Ideal) c arg8 harg8 x6) (kernelRun0_A.sl.r_5 (F := Ideal) c arg8 harg8 arg9 harg9 x6 x7) (kernelRun0_A.sl.r_7 (F := Ideal) c arg5 harg5 x3) (k0_pay41 (View.readAt (Elt Ideal) arg7.view (Rect.unit (s := S2x512x1) ![1, 0, 0] S1x512x1.size inb_S2x512x1_S1x512x1_1_0_0).toLoadRect (harg7.unread x5)))
        (k0_pay68 (View.readAt (Elt Ideal) arg3.view (Rect.unit (s := S2048x256) (k0_off11 i) S512x128.size (k0_off11_inb i)).toLoadRect (harg3.unread x1)))
        (View.readAt (Elt Ideal) arg4.view (Rect.unit (s := S2048x256) (k0_off11 i) S512x128.size (k0_off11_inb i)).toLoadRect (harg4.unread x2))
        (View.readAt (Elt Ideal) arg6.view (Rect.unit (s := S2x4x1x512) (k0_off12 i) S1x1x1x512.size (k0_off12_inb i)).toLoadRect (harg6.unread x4)) (ix2 r s)
      = dsm ⟨x0, x1, x2, x3, x4, x5, x6, x7⟩ (i 1).val 1 r (key (blkD i) s) :=
  Tile.pay70 ⟨x0, x1, x2, x3, x4, x5, x6, x7⟩ _ 1 (blkD i) (reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).q1 (reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).d1 (reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).e1 (reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).c1 (fun r => (cast41 r).trans ((reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).l1 r)) (fun s x => (read11 i _ _ _ s x).trans (congrFun (harg4.read_unread x2) _)) (fun s x => (cast68 s x).trans ((read11 i _ _ _ s x).trans (congrFun (harg3.read_unread x1) _))) (fun s => (read12 i _ _ _ s).trans (congrFun (harg6.read_unread x4) _)) rfl r s

/-- What the point leaves for the gradient of k. -/
theorem out9_A (s : Fin 2048) (x : Fin 256) : out0_A_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 s x) = dkc ⟨x0, x1, x2, x3, x4, x5, x6, x7⟩ (i 1).val s x := by
  unfold out0_A_9
  rw [View.read_writes_of_cover (v' := arg11.view) (f' := arg11.view.junk) (h := cover0_A_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  unfold kernelRun0_A.sl.H9_1_1
  rw [st2]
  dsimp only [List.nil_append]
  refine (two_puts arg11.view arg11.view.junk (blkD i) (off9_eq i) (off11_eq i) _ _ _ _ ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_A.sl.r (F := Ideal) c arg2 harg2 x0) (kernelRun0_A.sl.r_1 (F := Ideal) c arg2 harg2 x0) (kernelRun0_A.sl.r_2 (F := Ideal) c arg8 harg8 x6) (kernelRun0_A.sl.r_3 (F := Ideal) c arg8 harg8 x6) (kernelRun0_A.sl.r_4 (F := Ideal) c arg8 harg8 arg9 harg9 x6 x7) (kernelRun0_A.sl.r_5 (F := Ideal) c arg8 harg8 arg9 harg9 x6 x7) (kernelRun0_A.sl.r_6 (F := Ideal) c arg5 harg5 x3) (kernelRun0_A.sl.r_7 (F := Ideal) c arg5 harg5 x3) (kernelRun0_A.sl.r_8 (F := Ideal) c arg7 harg7 x5) (View.readAt (Elt Ideal) arg7.view (Rect.unit (s := S2x512x1) ![1, 0, 0] S1x512x1.size inb_S2x512x1_S1x512x1_1_0_0).toLoadRect (harg7.unread x5)) (harg3.unread x1) (harg4.unread x2) (harg6.unread x4) (arg11.view.writes (Elt Ideal) arg11.view.junk (kernelRun0_A.sl.H9_1 (F := Ideal))) (arg12.view.writes (Elt Ideal) arg12.view.junk (kernelRun0_A.sl.H10_1 (F := Ideal))) (arg13.view.writes (Elt Ideal) arg13.view.junk (kernelRun0_A.sl.H11_1 (F := Ideal))) (k0_pay43, k0_pay44, k0_pay45, k0_pay46) (Scf.trips (k0_t1_loop i).lb (k0_t1_loop i).ub (k0_t1_loop i).st)).2.1 ++ kernelRun0_A.sl.H9_1 (F := Ideal)) (dkc ⟨x0, x1, x2, x3, x4, x5, x6, x7⟩ (i 1).val) _ rfl (fun s x => ?_) (fun s x => ?_) s x).trans ?_
  · unfold kernelRun0_A.sl.r_16 kernelRun0_A.sl.r_15 kernelRun0_A.sl.cst_42 kernelRun0_A.sl.v83
    refine (Tile.pay64 ⟨x0, x1, x2, x3, x4, x5, x6, x7⟩ _ 0 (blkD i) (reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).q0 _ (D0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) s x).trans ?_
    rw [st2]
    dsimp only [List.nil_append]
    rw [read9]
    all_goals rfl
  · unfold kernelRun0_A.sl.r_9 kernelRun0_A.sl.r_19
    refine (Tile.pay72 ⟨x0, x1, x2, x3, x4, x5, x6, x7⟩ _ 1 (blkD i) (reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).q1 (reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).d1 (reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).e1 (reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).c1 (fun r => (cast41 r).trans ((reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).l1 r)) (fun s x => (read11 i _ _ _ s x).trans (congrFun (harg4.read_unread x2) _)) (fun s x => (cast68 s x).trans ((read11 i _ _ _ s x).trans (congrFun (harg3.read_unread x1) _))) (fun s => (read12 i _ _ _ s).trans (congrFun (harg6.read_unread x4) _)) _ rfl s x).trans ?_
    rw [read11, View.read_writes_cons_unit_of_not_mem arg11.view _ _ _ _ _ (off9_eq i) (1 : Fin 2) (Or.inr (Nat.le_add_right 128 x.val))]
    all_goals rfl
  · rw [View.writes_append]
    rw [(after_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).dk, zero_H9, zero_add]
    exact (congrArg (· + _) (zero_add _).symm).trans ((all_blocks _ _ _ _ (dkc_beyond _ _ s x)).trans (zero_add _))

/-- What the point leaves for the gradient of v. -/
theorem out10_A (s : Fin 2048) (x : Fin 256) : out0_A_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 s x) = dvc ⟨x0, x1, x2, x3, x4, x5, x6, x7⟩ (i 1).val s x := by
  unfold out0_A_10
  rw [View.read_writes_of_cover (v' := arg12.view) (f' := arg12.view.junk) (h := cover0_A_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  unfold kernelRun0_A.sl.H10_1_1
  rw [st2]
  dsimp only [List.nil_append]
  refine (two_puts arg12.view arg12.view.junk (blkD i) (off9_eq i) (off11_eq i) _ _ _ _ ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_A.sl.r (F := Ideal) c arg2 harg2 x0) (kernelRun0_A.sl.r_1 (F := Ideal) c arg2 harg2 x0) (kernelRun0_A.sl.r_2 (F := Ideal) c arg8 harg8 x6) (kernelRun0_A.sl.r_3 (F := Ideal) c arg8 harg8 x6) (kernelRun0_A.sl.r_4 (F := Ideal) c arg8 harg8 arg9 harg9 x6 x7) (kernelRun0_A.sl.r_5 (F := Ideal) c arg8 harg8 arg9 harg9 x6 x7) (kernelRun0_A.sl.r_6 (F := Ideal) c arg5 harg5 x3) (kernelRun0_A.sl.r_7 (F := Ideal) c arg5 harg5 x3) (kernelRun0_A.sl.r_8 (F := Ideal) c arg7 harg7 x5) (View.readAt (Elt Ideal) arg7.view (Rect.unit (s := S2x512x1) ![1, 0, 0] S1x512x1.size inb_S2x512x1_S1x512x1_1_0_0).toLoadRect (harg7.unread x5)) (harg3.unread x1) (harg4.unread x2) (harg6.unread x4) (arg11.view.writes (Elt Ideal) arg11.view.junk (kernelRun0_A.sl.H9_1 (F := Ideal))) (arg12.view.writes (Elt Ideal) arg12.view.junk (kernelRun0_A.sl.H10_1 (F := Ideal))) (arg13.view.writes (Elt Ideal) arg13.view.junk (kernelRun0_A.sl.H11_1 (F := Ideal))) (k0_pay43, k0_pay44, k0_pay45, k0_pay46) (Scf.trips (k0_t1_loop i).lb (k0_t1_loop i).ub (k0_t1_loop i).st)).2.2.1 ++ kernelRun0_A.sl.H10_1 (F := Ideal)) (dvc ⟨x0, x1, x2, x3, x4, x5, x6, x7⟩ (i 1).val) _ rfl (fun s x => ?_) (fun s x => ?_) s x).trans ?_
  · unfold kernelRun0_A.sl.r_16 kernelRun0_A.sl.cst_42 kernelRun0_A.sl.v75
    refine (Tile.pay63 ⟨x0, x1, x2, x3, x4, x5, x6, x7⟩ _ 0 (blkD i) (reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).d0 _ (P0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) s x).trans ?_
    rw [st2]
    dsimp only [List.nil_append]
    rw [read9]
    all_goals rfl
  · unfold kernelRun0_A.sl.r_9 kernelRun0_A.sl.r_19
    refine (Tile.pay71 ⟨x0, x1, x2, x3, x4, x5, x6, x7⟩ _ 1 (blkD i) (reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).q1 (reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).d1 (reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).c1 (fun r => (cast41 r).trans ((reads_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).l1 r)) (fun s x => (cast68 s x).trans ((read11 i _ _ _ s x).trans (congrFun (harg3.read_unread x1) _))) (fun s => (read12 i _ _ _ s).trans (congrFun (harg6.read_unread x4) _)) _ rfl s x).trans ?_
    rw [read11, View.read_writes_cons_unit_of_not_mem arg12.view _ _ _ _ _ (off9_eq i) (1 : Fin 2) (Or.inr (Nat.le_add_right 128 x.val))]
    all_goals rfl
  · rw [View.writes_append]
    rw [(after_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).dv, zero_H10, zero_add]
    exact (congrArg (· + _) (zero_add _).symm).trans ((all_blocks _ _ _ _ (dvc_beyond _ _ s x)).trans (zero_add _))

/-- What the point leaves for the gradient of the sums of gates by columns. -/
theorem out11_A (s : Fin 2048) (x : Fin 256) : out0_A_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 s x) = dcc ⟨x0, x1, x2, x3, x4, x5, x6, x7⟩ (i 1).val s x := by
  unfold out0_A_11
  rw [View.read_writes_of_cover (v' := arg13.view) (f' := arg13.view.junk) (h := cover0_A_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  unfold kernelRun0_A.sl.H11_1_1
  unfold kernelRun0_A.sl.v153
  unfold kernelRun0_A.sl.H11_1_1
  rw [st2]
  dsimp only [List.nil_append]
  refine (two_puts arg13.view arg13.view.junk (blkD i) (off9_eq i) (off11_eq i) _ _ _ _ ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_A.sl.r (F := Ideal) c arg2 harg2 x0) (kernelRun0_A.sl.r_1 (F := Ideal) c arg2 harg2 x0) (kernelRun0_A.sl.r_2 (F := Ideal) c arg8 harg8 x6) (kernelRun0_A.sl.r_3 (F := Ideal) c arg8 harg8 x6) (kernelRun0_A.sl.r_4 (F := Ideal) c arg8 harg8 arg9 harg9 x6 x7) (kernelRun0_A.sl.r_5 (F := Ideal) c arg8 harg8 arg9 harg9 x6 x7) (kernelRun0_A.sl.r_6 (F := Ideal) c arg5 harg5 x3) (kernelRun0_A.sl.r_7 (F := Ideal) c arg5 harg5 x3) (kernelRun0_A.sl.r_8 (F := Ideal) c arg7 harg7 x5) (View.readAt (Elt Ideal) arg7.view (Rect.unit (s := S2x512x1) ![1, 0, 0] S1x512x1.size inb_S2x512x1_S1x512x1_1_0_0).toLoadRect (harg7.unread x5)) (harg3.unread x1) (harg4.unread x2) (harg6.unread x4) (arg11.view.writes (Elt Ideal) arg11.view.junk (kernelRun0_A.sl.H9_1 (F := Ideal))) (arg12.view.writes (Elt Ideal) arg12.view.junk (kernelRun0_A.sl.H10_1 (F := Ideal))) (arg13.view.writes (Elt Ideal) arg13.view.junk (kernelRun0_A.sl.H11_1 (F := Ideal))) (k0_pay43, k0_pay44, k0_pay45, k0_pay46) (Scf.trips (k0_t1_loop i).lb (k0_t1_loop i).ub (k0_t1_loop i).st)).2.2.2 ++ kernelRun0_A.sl.H11_1 (F := Ideal)) (dcc ⟨x0, x1, x2, x3, x4, x5, x6, x7⟩ (i 1).val) _ rfl (fun s x => ?_) (fun s x => ?_) s x).trans ?_
  · unfold kernelRun0_A.sl.r_16 kernelRun0_A.sl.r_15 kernelRun0_A.sl.cst_42 kernelRun0_A.sl.v92
    refine (Tile.pay65 ⟨x0, x1, x2, x3, x4, x5, x6, x7⟩ _ 0 (blkD i) _ (D0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) s x).trans ?_
    rw [st2]
    dsimp only [List.nil_append]
    rw [read9]
    all_goals rfl
  · unfold kernelRun0_A.sl.r_20 kernelRun0_A.sl.r_9 kernelRun0_A.sl.r_19
    refine (Tile.pay1 ⟨x0, x1, x2, x3, x4, x5, x6, x7⟩ _ 1 (blkD i) (D1_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) _ s x).trans ?_
    rw [read11, View.read_writes_cons_unit_of_not_mem arg13.view _ _ _ _ _ (off9_eq i) (1 : Fin 2) (Or.inr (Nat.le_add_right 128 x.val))]
    all_goals rfl
  · rw [View.writes_append]
    rw [(after_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).dc, zero_H11, zero_add]
    exact (congrArg (· + _) (zero_add _).symm).trans ((all_blocks _ _ _ _ (dcc_beyond _ _ s x)).trans (zero_add _))

/-- What the point leaves for the gradient of q, first head. -/
theorem out8_0_A (r : Fin 512) (d : Fin 128) : out0_A_8 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r (hc 0 d)) = ∑ m, dqc ⟨x0, x1, x2, x3, x4, x5, x6, x7⟩ (i 1).val m 0 r d := by
  unfold out0_A_8 kernelRun0_A
  dsimp only
  rw [halves_put0]
  unfold kernelRun0_A.sl.r_17 kernelRun0_A.sl.r_14 kernelRun0_A.sl.r_15 kernelRun0_A.sl.r_16 kernelRun0_A.sl.cst_42 kernelRun0_A.sl.r_10
  rw [st2]
  refine (Tile.pay66 ⟨x0, x1, x2, x3, x4, x5, x6, x7⟩ _ 0 (blkD i) (fun s x => (cast57 s x).trans ((read9 i _ _ _ s x).trans (congrFun (harg3.read_unread x1) _))) _ (D0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) r d).trans ?_
  dsimp only
  rw [(after_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).dq0]
  dsimp only
  rw [val43, zero_add, ← upto_all (i 1).val _ fun m hm => dqc_beyond _ _ m 0 r d hm]
  exact (upto_succ (blkD i) _).symm

/-- What the point leaves for the gradient of q, second head. -/
theorem out8_1_A (r : Fin 512) (d : Fin 128) : out0_A_8 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r (hc 1 d)) = ∑ m, dqc ⟨x0, x1, x2, x3, x4, x5, x6, x7⟩ (i 1).val m 1 r d := by
  unfold out0_A_8 kernelRun0_A
  dsimp only
  rw [halves_put1]
  unfold kernelRun0_A.sl.r_12 kernelRun0_A.sl.r_20 kernelRun0_A.sl.r_9 kernelRun0_A.sl.r_19
  rw [st2]
  refine (Tile.pay2 ⟨x0, x1, x2, x3, x4, x5, x6, x7⟩ _ 1 (blkD i) (fun s x => (cast68 s x).trans ((read11 i _ _ _ s x).trans (congrFun (harg3.read_unread x1) _))) (D1_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) _ r d).trans ?_
  dsimp only
  rw [(after_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).dq1]
  dsimp only
  rw [val45, zero_add, ← upto_all (i 1).val _ fun m hm => dqc_beyond _ _ m 1 r d hm]
  exact (upto_succ (blkD i) _).symm

/-- What the point leaves for the row sums of the logits' cotangent, first head. -/
theorem out12_0_A (r : Fin 512) : out0_A_12 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 0 r 0) = ∑ m, drc ⟨x0, x1, x2, x3, x4, x5, x6, x7⟩ (i 1).val m 0 r := by
  unfold out0_A_12 kernelRun0_A
  dsimp only
  rw [rows_put0]
  rw [Tile.pay3]
  unfold kernelRun0_A.sl.r_18 kernelRun0_A.sl.r_15 kernelRun0_A.sl.r_16 kernelRun0_A.sl.cst_42 kernelRun0_A.sl.r_11
  rw [st2]
  refine (Tile.pay67 ⟨x0, x1, x2, x3, x4, x5, x6, x7⟩ _ 0 (blkD i) _ (D0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) r).trans ?_
  dsimp only
  rw [(after_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).dr0]
  dsimp only
  rw [val44, zero_add, ← upto_all (i 1).val _ fun m hm => drc_beyond _ _ m 0 r hm]
  exact (upto_succ (blkD i) _).symm

/-- What the point leaves for the row sums of the logits' cotangent, second head. -/
theorem out12_1_A (r : Fin 512) : out0_A_12 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 1 r 0) = ∑ m, drc ⟨x0, x1, x2, x3, x4, x5, x6, x7⟩ (i 1).val m 1 r := by
  unfold out0_A_12 kernelRun0_A
  dsimp only
  rw [rows_put1]
  unfold kernelRun0_A.sl.r_13 kernelRun0_A.sl.r_20 kernelRun0_A.sl.r_9 kernelRun0_A.sl.r_19
  rw [st2]
  refine (Tile.pay4 ⟨x0, x1, x2, x3, x4, x5, x6, x7⟩ _ 1 (blkD i) (D1_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) _ r).trans ?_
  dsimp only
  rw [(after_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).dr1]
  dsimp only
  rw [val46, zero_add, ← upto_all (i 1).val _ fun m hm => drc_beyond _ _ m 1 r hm]
  exact (upto_succ (blkD i) _).symm

end A

end Cert.FoxGradIdeal.Trip

end
-- ==== Proof.FoxArrays.lean ====
/-
  The five arrays the attention kernel's grid leaves, from the arrays it reads.
-/
module

public import proofs.«01_k».proof.Proof.FoxPointA
public import proofs.«01_k».proof.Proof.FoxPointB
public import proofs.«01_k».proof.Proof.Gen.FoxGradIdeal.Frame

@[expose] public section

set_option maxRecDepth 16384

noncomputable section

namespace Cert.FoxGradIdeal.Arrays

open Cert.FoxGradIdeal Cert.FoxGradIdeal.Gen Cert.FoxSpec Idealize.ShloMosaic Idealize.ShloMosaic.TcCoe Idealize.SL.Sem
open Cert.FoxGradIdeal.Trip
open Idealize.ShloMosaic.Pipeline (Dat)

variable (m : (ℓ : Loc nD τ sig) → Buf (Elt Ideal) ℓ) (c : Dev nD)

/-- Which block each window reads or writes at a point. -/
theorem idx : ∀ t : Fin cfg0.N, win0_0.index t = ![t.val % 4, 8 + t.val / 4] ∧ win0_1.index t = ![0, 12 + t.val / 4]
    ∧ win0_2.index t = ![0, 16 + t.val / 4] ∧ win0_3.index t = ![t.val / 4, t.val % 4, 0] ∧ win0_4.index t = ![t.val / 4, 0, 0, 0]
    ∧ win0_5.index t = ![t.val / 4, t.val % 4, 0] ∧ win0_6.index t = ![t.val % 4, 4 + t.val / 4] ∧ win0_7.index t = ![t.val % 4, t.val / 4]
    ∧ win0_8.index t = ![t.val % 4, t.val / 4] ∧ win0_9.index t = ![0, t.val / 4] ∧ win0_10.index t = ![0, t.val / 4]
    ∧ win0_11.index t = ![0, t.val / 4] ∧ win0_12.index t = ![t.val / 4, t.val % 4, 0] :=
  (by decide +kernel : ∀ t : Fin grid0.N, _)

/-- The second grid coordinate of a point is the block of rows. -/
theorem co1 : ∀ t : Fin cfg0.N, ((grid0.coords t) 1).val = t.val % 4 :=
  (by decide +kernel : ∀ t : Fin grid0.N, _)

/-- The windows at a point. -/
abbrev wt (t : Fin cfg0.N) : Win := ⟨iblk m c 0 t, iblk m c 1 t, iblk m c 2 t, iblk m c 3 t, iblk m c 4 t, iblk m c 5 t, iblk m c 6 t, iblk m c 7 t⟩

/-- The arrays as the grid finds them. -/
abbrev args : Args := ⟨V m c main_arg0, V m c main_v40, V m c main_v41, V m c main_v30, V m c main_arg2, V m c main_v39⟩

/-- The group of heads and the block of rows of a point. -/
def gr (t : Fin cfg0.N) : Fin 4 := ⟨t.val / 4, by have := lt_of_lt_of_eq t.isLt N_0; omega⟩
def ro (t : Fin cfg0.N) : Fin 4 := ⟨t.val % 4, by omega⟩

/-- The point of a group and a block. -/
def pt (g i : Fin 4) : Fin cfg0.N := ⟨4 * g + i, by show _ < grid0.N; rw [N_0]; omega⟩

/-- Windows with equal parts are equal. -/
theorem win_eq (a : Args) (g i : Fin 4) {q k v cc cr lse dd o} (h0 : q = (winAt a g i).q) (h1 : k = (winAt a g i).k)
    (h2 : v = (winAt a g i).v) (h3 : cc = (winAt a g i).cc) (h4 : cr = (winAt a g i).cr) (h5 : lse = (winAt a g i).lse)
    (h6 : dd = (winAt a g i).dd) (h7 : o = (winAt a g i).o) : (⟨q, k, v, cc, cr, lse, dd, o⟩ : Win) = winAt a g i := by
  subst h0 h1 h2 h3 h4 h5 h6 h7; rfl

/-- What the windows hold is read off the arrays. -/
theorem blk_q (Y : Buf (Elt Ideal) ((c : Thread nD τ).loc main_arg0)) (t : Fin cfg0.N) (y0 : Fin 512) (y1 : Fin 256) :
    (((cfg0.win 0).blk t).view.read (Elt Ideal) Y) (ix2 y0 y1) = Y (ix2 (key (ro t) y0) (⟨2048 + gcol (gr t) y1, by omega⟩ : Fin 5120)) := by
  blk_ext [idx t, gr, ro, key, gcol, ghead]
theorem wt_q (t : Fin cfg0.N) : (iblk m c 0 t : _ → EReal) = (winAt (args m c) (gr t) (ro t)).q := by
  funext y; idx_vars y
  exact blk_q c (V m c main_arg0) t y0 y1
theorem blk_k (Y : Buf (Elt Ideal) ((c : Thread nD τ).loc main_arg0)) (t : Fin cfg0.N) (y0 : Fin 2048) (y1 : Fin 256) :
    (((cfg0.win 1).blk t).view.read (Elt Ideal) Y) (ix2 y0 y1) = Y (ix2 y0 (⟨3072 + gcol (gr t) y1, by omega⟩ : Fin 5120)) := by
  blk_ext [idx t, gr, ro, key, gcol, ghead]
theorem wt_k (t : Fin cfg0.N) : (iblk m c 1 t : _ → EReal) = (winAt (args m c) (gr t) (ro t)).k := by
  funext y; idx_vars y
  exact blk_k c (V m c main_arg0) t y0 y1
theorem blk_v (Y : Buf (Elt Ideal) ((c : Thread nD τ).loc main_arg0)) (t : Fin cfg0.N) (y0 : Fin 2048) (y1 : Fin 256) :
    (((cfg0.win 2).blk t).view.read (Elt Ideal) Y) (ix2 y0 y1) = Y (ix2 y0 (⟨4096 + gcol (gr t) y1, by omega⟩ : Fin 5120)) := by
  blk_ext [idx t, gr, ro, key, gcol, ghead]
theorem wt_v (t : Fin cfg0.N) : (iblk m c 2 t : _ → EReal) = (winAt (args m c) (gr t) (ro t)).v := by
  funext y; idx_vars y
  exact blk_v c (V m c main_arg0) t y0 y1
theorem blk_cc (Y : Buf (Elt Ideal) ((c : Thread nD τ).loc main_v40)) (t : Fin cfg0.N) (y0 : Fin 2) (y1 : Fin 512) (y2 : Fin 1) :
    (((cfg0.win 3).blk t).view.read (Elt Ideal) Y) (ix3 y0 y1 y2) = Y (ix3 (ghead (gr t) y0) (key (ro t) y1) y2) := by
  blk_ext [idx t, gr, ro, key, gcol, ghead]
theorem wt_cc (t : Fin cfg0.N) : (iblk m c 3 t : _ → EReal) = (winAt (args m c) (gr t) (ro t)).cc := by
  funext y; idx_vars y
  exact blk_cc c (V m c main_v40) t y0 y1 y2
theorem blk_cr (Y : Buf (Elt Ideal) ((c : Thread nD τ).loc main_v41)) (t : Fin cfg0.N) (y0 : Fin 2) (y1 : Fin 4) (y2 : Fin 1) (y3 : Fin 512) :
    (((cfg0.win 4).blk t).view.read (Elt Ideal) Y) (ix4 y0 y1 y2 y3) = Y (ix4 (ghead (gr t) y0) y1 y2 y3) := by
  blk_ext [idx t, gr, ro, key, gcol, ghead]
theorem wt_cr (t : Fin cfg0.N) : (iblk m c 4 t : _ → EReal) = (winAt (args m c) (gr t) (ro t)).cr := by
  funext y; idx_vars y
  exact blk_cr c (V m c main_v41) t y0 y1 y2 y3
theorem blk_lse (Y : Buf (Elt Ideal) ((c : Thread nD τ).loc main_v30)) (t : Fin cfg0.N) (y0 : Fin 2) (y1 : Fin 512) (y2 : Fin 1) :
    (((cfg0.win 5).blk t).view.read (Elt Ideal) Y) (ix3 y0 y1 y2) = Y (ix3 (ghead (gr t) y0) (key (ro t) y1) y2) := by
  blk_ext [idx t, gr, ro, key, gcol, ghead]
theorem wt_lse (t : Fin cfg0.N) : (iblk m c 5 t : _ → EReal) = (winAt (args m c) (gr t) (ro t)).lse := by
  funext y; idx_vars y
  exact blk_lse c (V m c main_v30) t y0 y1 y2
theorem blk_dd (Y : Buf (Elt Ideal) ((c : Thread nD τ).loc main_arg2)) (t : Fin cfg0.N) (y0 : Fin 512) (y1 : Fin 256) :
    (((cfg0.win 6).blk t).view.read (Elt Ideal) Y) (ix2 y0 y1) = Y (ix2 (key (ro t) y0) (⟨1024 + gcol (gr t) y1, by omega⟩ : Fin 2048)) := by
  blk_ext [idx t, gr, ro, key, gcol, ghead]
theorem wt_dd (t : Fin cfg0.N) : (iblk m c 6 t : _ → EReal) = (winAt (args m c) (gr t) (ro t)).dd := by
  funext y; idx_vars y
  exact blk_dd c (V m c main_arg2) t y0 y1
theorem blk_o (Y : Buf (Elt Ideal) ((c : Thread nD τ).loc main_v39)) (t : Fin cfg0.N) (y0 : Fin 512) (y1 : Fin 256) :
    (((cfg0.win 7).blk t).view.read (Elt Ideal) Y) (ix2 y0 y1) = Y (ix2 (key (ro t) y0) (gcol (gr t) y1)) := by
  blk_ext [idx t, gr, ro, key, gcol, ghead]
theorem wt_o (t : Fin cfg0.N) : (iblk m c 7 t : _ → EReal) = (winAt (args m c) (gr t) (ro t)).o := by
  funext y; idx_vars y
  exact blk_o c (V m c main_v39) t y0 y1
theorem wt_eq (t : Fin cfg0.N) : wt m c t = winAt (args m c) (gr t) (ro t) :=
  win_eq (args m c) (gr t) (ro t) (wt_q m c t) (wt_k m c t) (wt_v m c t) (wt_cc m c t) (wt_cr m c t) (wt_lse m c t) (wt_dd m c t) (wt_o m c t)

/-- What a point leaves in each output's tile, by name. -/
theorem left8_A (t : Fin cfg0.N) (h : t.val % 4 = 0) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h) (iblk m c 0 t) (iblk m c 1 t) (iblk m c 2 t) (iblk m c 3 t) (iblk m c 4 t) (iblk m c 5 t) (iblk m c 6 t) (iblk m c 7 t)
      = (outsAt0 m c t.val t.isLt).1 := by
  have h1 := congrArg (fun z => z.1) (outsAt0_A m c t h)
  dsimp only at h1
  refine Eq.trans ?_ h1.symm
  clear h1
  with_reducible congr 1
theorem left8_B (t : Fin cfg0.N) (h : ¬ t.val % 4 = 0) :
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h' => h ((hcond0_0 t).mp h')) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1
      = (outsAt0 m c t.val t.isLt).1 := by
  have h1 := congrArg (fun z => z.1) (outsAt0_B m c t h)
  dsimp only at h1
  refine Eq.trans ?_ h1.symm
  clear h1
  with_reducible congr 1
theorem left9_A (t : Fin cfg0.N) (h : t.val % 4 = 0) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h) (iblk m c 0 t) (iblk m c 1 t) (iblk m c 2 t) (iblk m c 3 t) (iblk m c 4 t) (iblk m c 5 t) (iblk m c 6 t) (iblk m c 7 t)
      = (outsAt0 m c t.val t.isLt).2.1 := by
  have h1 := congrArg (fun z => z.2.1) (outsAt0_A m c t h)
  dsimp only at h1
  refine Eq.trans ?_ h1.symm
  clear h1
  with_reducible congr 1
theorem left9_B (t : Fin cfg0.N) (h : ¬ t.val % 4 = 0) :
    out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h' => h ((hcond0_0 t).mp h')) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1
      = (outsAt0 m c t.val t.isLt).2.1 := by
  have h1 := congrArg (fun z => z.2.1) (outsAt0_B m c t h)
  dsimp only at h1
  refine Eq.trans ?_ h1.symm
  clear h1
  with_reducible congr 1
theorem left10_A (t : Fin cfg0.N) (h : t.val % 4 = 0) :
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h) (iblk m c 0 t) (iblk m c 1 t) (iblk m c 2 t) (iblk m c 3 t) (iblk m c 4 t) (iblk m c 5 t) (iblk m c 6 t) (iblk m c 7 t)
      = (outsAt0 m c t.val t.isLt).2.2.1 := by
  have h1 := congrArg (fun z => z.2.2.1) (outsAt0_A m c t h)
  dsimp only at h1
  refine Eq.trans ?_ h1.symm
  clear h1
  with_reducible congr 1
theorem left10_B (t : Fin cfg0.N) (h : ¬ t.val % 4 = 0) :
    out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h' => h ((hcond0_0 t).mp h')) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1
      = (outsAt0 m c t.val t.isLt).2.2.1 := by
  have h1 := congrArg (fun z => z.2.2.1) (outsAt0_B m c t h)
  dsimp only at h1
  refine Eq.trans ?_ h1.symm
  clear h1
  with_reducible congr 1
theorem left11_A (t : Fin cfg0.N) (h : t.val % 4 = 0) :
    out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h) (iblk m c 0 t) (iblk m c 1 t) (iblk m c 2 t) (iblk m c 3 t) (iblk m c 4 t) (iblk m c 5 t) (iblk m c 6 t) (iblk m c 7 t)
      = (outsAt0 m c t.val t.isLt).2.2.2.1 := by
  have h1 := congrArg (fun z => z.2.2.2.1) (outsAt0_A m c t h)
  dsimp only at h1
  refine Eq.trans ?_ h1.symm
  clear h1
  with_reducible congr 1
theorem left11_B (t : Fin cfg0.N) (h : ¬ t.val % 4 = 0) :
    out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h' => h ((hcond0_0 t).mp h')) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1
      = (outsAt0 m c t.val t.isLt).2.2.2.1 := by
  have h1 := congrArg (fun z => z.2.2.2.1) (outsAt0_B m c t h)
  dsimp only at h1
  refine Eq.trans ?_ h1.symm
  clear h1
  with_reducible congr 1
theorem left12_A (t : Fin cfg0.N) (h : t.val % 4 = 0) :
    out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h) (iblk m c 0 t) (iblk m c 1 t) (iblk m c 2 t) (iblk m c 3 t) (iblk m c 4 t) (iblk m c 5 t) (iblk m c 6 t) (iblk m c 7 t)
      = (outsAt0 m c t.val t.isLt).2.2.2.2 := by
  have h1 := congrArg (fun z => z.2.2.2.2) (outsAt0_A m c t h)
  dsimp only at h1
  refine Eq.trans ?_ h1.symm
  clear h1
  with_reducible congr 1
theorem left12_B (t : Fin cfg0.N) (h : ¬ t.val % 4 = 0) :
    out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h' => h ((hcond0_0 t).mp h')) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1
      = (outsAt0 m c t.val t.isLt).2.2.2.2 := by
  have h1 := congrArg (fun z => z.2.2.2.2) (outsAt0_B m c t h)
  dsimp only at h1
  refine Eq.trans ?_ h1.symm
  clear h1
  with_reducible congr 1

theorem tile8_0 (t : Fin cfg0.N) (r : Fin 512) (d : Fin 128) : (outsAt0 m c t.val t.isLt).1 (ix2 r (hc 0 d))
    = ∑ j : Fin 4, dqc (wt m c t) ((grid0.coords t) 1).val j 0 r d := by
  by_cases h : t.val % 4 = 0
  · exact (congrFun (left8_A m c t h) _).symm.trans (out8_0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h) (iblk m c 0 t) (iblk m c 1 t) (iblk m c 2 t) (iblk m c 3 t) (iblk m c 4 t) (iblk m c 5 t) (iblk m c 6 t) (iblk m c 7 t) r d)
  · exact (congrFun (left8_B m c t h) _).symm.trans (out8_0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h' => h ((hcond0_0 t).mp h')) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 r d)
theorem tile8_1 (t : Fin cfg0.N) (r : Fin 512) (d : Fin 128) : (outsAt0 m c t.val t.isLt).1 (ix2 r (hc 1 d))
    = ∑ j : Fin 4, dqc (wt m c t) ((grid0.coords t) 1).val j 1 r d := by
  by_cases h : t.val % 4 = 0
  · exact (congrFun (left8_A m c t h) _).symm.trans (out8_1_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h) (iblk m c 0 t) (iblk m c 1 t) (iblk m c 2 t) (iblk m c 3 t) (iblk m c 4 t) (iblk m c 5 t) (iblk m c 6 t) (iblk m c 7 t) r d)
  · exact (congrFun (left8_B m c t h) _).symm.trans (out8_1_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h' => h ((hcond0_0 t).mp h')) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 r d)
/-- The tile of the gradient of q after a point. -/
theorem tile8 (t : Fin cfg0.N) (r : Fin 512) (x : Fin 256) : (outsAt0 m c t.val t.isLt).1 (ix2 r x)
    = ∑ j : Fin 4, dqc (wt m c t) (t.val % 4) j (hd x) r (dx x) := by
  rw [← co1 t]
  have e : ∀ h : Fin 2, hd x = h → x = hc h (dx x) := by
    intro h hh; apply Fin.ext; have := congrArg Fin.val hh; simp only [hd, hc, dx] at *; omega
  rcases (show hd x = 0 ∨ hd x = 1 by generalize hd x = h; revert h; decide) with h1 | h1
  · rw [h1]
    exact (congrArg (fun z => (outsAt0 m c t.val t.isLt).1 (ix2 r z)) (e 0 h1)).trans (tile8_0 m c t r (dx x))
  · rw [h1]
    exact (congrArg (fun z => (outsAt0 m c t.val t.isLt).1 (ix2 r z)) (e 1 h1)).trans (tile8_1 m c t r (dx x))

theorem tile12_0 (t : Fin cfg0.N) (r : Fin 512) : (outsAt0 m c t.val t.isLt).2.2.2.2 (ix3 (0 : Fin 2) r (0 : Fin 1))
    = ∑ j : Fin 4, drc (wt m c t) ((grid0.coords t) 1).val j 0 r := by
  by_cases h : t.val % 4 = 0
  · exact (congrFun (left12_A m c t h) _).symm.trans (out12_0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h) (iblk m c 0 t) (iblk m c 1 t) (iblk m c 2 t) (iblk m c 3 t) (iblk m c 4 t) (iblk m c 5 t) (iblk m c 6 t) (iblk m c 7 t) r)
  · exact (congrFun (left12_B m c t h) _).symm.trans (out12_0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h' => h ((hcond0_0 t).mp h')) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 r)
theorem tile12_1 (t : Fin cfg0.N) (r : Fin 512) : (outsAt0 m c t.val t.isLt).2.2.2.2 (ix3 (1 : Fin 2) r (0 : Fin 1))
    = ∑ j : Fin 4, drc (wt m c t) ((grid0.coords t) 1).val j 1 r := by
  by_cases h : t.val % 4 = 0
  · exact (congrFun (left12_A m c t h) _).symm.trans (out12_1_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h) (iblk m c 0 t) (iblk m c 1 t) (iblk m c 2 t) (iblk m c 3 t) (iblk m c 4 t) (iblk m c 5 t) (iblk m c 6 t) (iblk m c 7 t) r)
  · exact (congrFun (left12_B m c t h) _).symm.trans (out12_1_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h' => h ((hcond0_0 t).mp h')) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 r)
/-- The tile of row sums after a point. -/
theorem tile12 (t : Fin cfg0.N) (k : Fin 2) (r : Fin 512) : (outsAt0 m c t.val t.isLt).2.2.2.2 (ix3 k r 0)
    = ∑ j : Fin 4, drc (wt m c t) (t.val % 4) j k r := by
  rw [← co1 t]
  rcases (show k = 0 ∨ k = 1 by revert k; decide) with h1 | h1
  · rw [h1]; exact tile12_0 m c t r
  · rw [h1]; exact tile12_1 m c t r

/-- The first block of a group sets the gradients of k and of v and the column sums; a later one adds. -/
theorem set9 (t : Fin cfg0.N) (h : t.val % 4 = 0) (s : Fin 2048) (x : Fin 256) :
    (outsAt0 m c t.val t.isLt).2.1 (ix2 s x) = dkc (wt m c t) (t.val % 4) s x := by
  rw [← co1 t]
  exact (congrFun (left9_A m c t h) _).symm.trans (out9_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h) (iblk m c 0 t) (iblk m c 1 t) (iblk m c 2 t) (iblk m c 3 t) (iblk m c 4 t) (iblk m c 5 t) (iblk m c 6 t) (iblk m c 7 t) s x)
theorem add9 (t : Fin cfg0.N) (h : ¬ t.val % 4 = 0) (s : Fin 2048) (x : Fin 256) :
    (outsAt0 m c t.val t.isLt).2.1 (ix2 s x)
      = (outsAt0 m c (t.val - 1) (Nat.lt_of_le_of_lt (Nat.sub_le _ _) t.isLt)).2.1 (ix2 s x) + dkc (wt m c t) (t.val % 4) s x := by
  rw [← co1 t]
  exact (congrFun (left9_B m c t h) _).symm.trans (out9_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h' => h ((hcond0_0 t).mp h')) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 s x)
theorem set10 (t : Fin cfg0.N) (h : t.val % 4 = 0) (s : Fin 2048) (x : Fin 256) :
    (outsAt0 m c t.val t.isLt).2.2.1 (ix2 s x) = dvc (wt m c t) (t.val % 4) s x := by
  rw [← co1 t]
  exact (congrFun (left10_A m c t h) _).symm.trans (out10_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h) (iblk m c 0 t) (iblk m c 1 t) (iblk m c 2 t) (iblk m c 3 t) (iblk m c 4 t) (iblk m c 5 t) (iblk m c 6 t) (iblk m c 7 t) s x)
theorem add10 (t : Fin cfg0.N) (h : ¬ t.val % 4 = 0) (s : Fin 2048) (x : Fin 256) :
    (outsAt0 m c t.val t.isLt).2.2.1 (ix2 s x)
      = (outsAt0 m c (t.val - 1) (Nat.lt_of_le_of_lt (Nat.sub_le _ _) t.isLt)).2.2.1 (ix2 s x) + dvc (wt m c t) (t.val % 4) s x := by
  rw [← co1 t]
  exact (congrFun (left10_B m c t h) _).symm.trans (out10_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h' => h ((hcond0_0 t).mp h')) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 s x)
theorem set11 (t : Fin cfg0.N) (h : t.val % 4 = 0) (s : Fin 2048) (x : Fin 256) :
    (outsAt0 m c t.val t.isLt).2.2.2.1 (ix2 s x) = dcc (wt m c t) (t.val % 4) s x := by
  rw [← co1 t]
  exact (congrFun (left11_A m c t h) _).symm.trans (out11_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h) (iblk m c 0 t) (iblk m c 1 t) (iblk m c 2 t) (iblk m c 3 t) (iblk m c 4 t) (iblk m c 5 t) (iblk m c 6 t) (iblk m c 7 t) s x)
theorem add11 (t : Fin cfg0.N) (h : ¬ t.val % 4 = 0) (s : Fin 2048) (x : Fin 256) :
    (outsAt0 m c t.val t.isLt).2.2.2.1 (ix2 s x)
      = (outsAt0 m c (t.val - 1) (Nat.lt_of_le_of_lt (Nat.sub_le _ _) t.isLt)).2.2.2.1 (ix2 s x) + dcc (wt m c t) (t.val % 4) s x := by
  rw [← co1 t]
  exact (congrFun (left11_B m c t h) _).symm.trans (out11_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h' => h ((hcond0_0 t).mp h')) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 s x)

/-- The sum over a group of an array set at its first point and added to at the others, at its last point. -/
theorem group (X : ∀ n : ℕ, n < cfg0.N → EReal) (K : Fin cfg0.N → EReal)
    (hs : ∀ t : Fin cfg0.N, t.val % 4 = 0 → X t.val t.isLt = K t)
    (ha : ∀ t : Fin cfg0.N, ¬ t.val % 4 = 0 → X t.val t.isLt = X (t.val - 1) (Nat.lt_of_le_of_lt (Nat.sub_le _ _) t.isLt) + K t)
    (t : Fin cfg0.N) (h3 : t.val % 4 = 3) : X t.val t.isLt = ∑ n : Fin 4, K (pt (gr t) n) := by
  rw [Fin.sum_univ_four]
  have hN := lt_of_lt_of_eq t.isLt N_0
  have p : ∀ n : Fin 4, (pt (gr t) n).val = t.val - 3 + n := by intro n; simp only [pt, gr]; omega
  have l : ∀ n : ℕ, t.val - n < cfg0.N := fun n => Nat.lt_of_le_of_lt (Nat.sub_le _ _) t.isLt
  have e : ∀ (n : Fin 4) (k : ℕ), k + n = 3 → pt (gr t) n = ⟨t.val - k, l k⟩ := by
    intro n k hk; apply Fin.ext; rw [p]; show _ = t.val - k; omega
  rw [e 0 3 rfl, e 1 2 rfl, e 2 1 rfl, e 3 0 rfl]
  rw [ha t (by omega)]
  have s1 := ha ⟨t.val - 1, l 1⟩ (by show ¬ (t.val - 1) % 4 = 0; omega)
  have s2 := ha ⟨t.val - 2, l 2⟩ (by show ¬ (t.val - 2) % 4 = 0; omega)
  have s3 := hs ⟨t.val - 3, l 3⟩ (by show (t.val - 3) % 4 = 0; omega)
  exact congrArg (· + K t) (s1.trans (congrArg (· + K ⟨t.val - 1, l 1⟩) (s2.trans (congrArg (· + K ⟨t.val - 2, l 2⟩) s3))))

theorem gr_pt (g i : Fin 4) : gr (pt g i) = g := by apply Fin.ext; simp only [gr, pt]; omega
theorem ro_pt (g i : Fin 4) : ro (pt g i) = i := by apply Fin.ext; simp only [ro, pt]; omega
theorem pt_mod (g i : Fin 4) : (pt g i).val % 4 = i.val := by simp only [pt]; omega

/-- The gradient of q. -/
theorem final8 : (dats m 0 c).arrAt 8 cfg0.N = (fun y => dqA (args m c) (y 0) (y 1)) := by
  refine (dats m 0 c).arrAt_eq_of_covers 8 _ (by decide +kernel) fun t hf y => ?_
  blk_simp
  rw [after0_8]
  idx_vars y
  have e : ((View.whole main_v42_0).slice (win0_8.rect t)).emb (ix2 y0 y1) = ix2 (key (ro t) y0) (gcol (gr t) y1) := by
    blk_ext [idx t, key, gcol, gr, ro]
  refine (tile8 m c t y0 y1).trans ?_
  rw [e, wt_eq]
  show _ = dqA (args m c) (key (ro t) y0) (gcol (gr t) y1)
  unfold dqA
  rw [cg_gcol, cx_gcol, rb_key, rx_key]
  rfl
/-- The gradient of k. -/
theorem final9 : (dats m 0 c).arrAt 9 cfg0.N = (fun y => dkA (args m c) (y 0) (y 1)) := by
  refine (dats m 0 c).arrAt_eq_of_covers 9 _ (by decide +kernel) fun t hf y => ?_
  blk_simp
  rw [after0_9]
  idx_vars y
  have h3 : t.val % 4 = 3 := (flush0_9 t).mp hf
  have e : ((View.whole main_v42_1).slice (win0_9.rect t)).emb (ix2 y0 y1) = ix2 y0 (gcol (gr t) y1) := by
    blk_ext [idx t, gcol, gr]
  refine (group (fun n hn => (outsAt0 m c n hn).2.1 (ix2 y0 y1)) (fun t => dkc (wt m c t) (t.val % 4) y0 y1)
    (fun t h => set9 m c t h y0 y1) (fun t h => add9 m c t h y0 y1) t h3).trans ?_
  rw [e]
  show _ = dkA (args m c) y0 (gcol (gr t) y1)
  unfold dkA
  rw [cg_gcol, cx_gcol]
  refine Finset.sum_congr rfl fun n _ => ?_
  rw [wt_eq, gr_pt, ro_pt, pt_mod]
/-- The gradient of v. -/
theorem final10 : (dats m 0 c).arrAt 10 cfg0.N = (fun y => dvA (args m c) (y 0) (y 1)) := by
  refine (dats m 0 c).arrAt_eq_of_covers 10 _ (by decide +kernel) fun t hf y => ?_
  blk_simp
  rw [after0_10]
  idx_vars y
  have h3 : t.val % 4 = 3 := (flush0_10 t).mp hf
  have e : ((View.whole main_v42_2).slice (win0_10.rect t)).emb (ix2 y0 y1) = ix2 y0 (gcol (gr t) y1) := by
    blk_ext [idx t, gcol, gr]
  refine (group (fun n hn => (outsAt0 m c n hn).2.2.1 (ix2 y0 y1)) (fun t => dvc (wt m c t) (t.val % 4) y0 y1)
    (fun t h => set10 m c t h y0 y1) (fun t h => add10 m c t h y0 y1) t h3).trans ?_
  rw [e]
  show _ = dvA (args m c) y0 (gcol (gr t) y1)
  unfold dvA
  rw [cg_gcol, cx_gcol]
  refine Finset.sum_congr rfl fun n _ => ?_
  rw [wt_eq, gr_pt, ro_pt, pt_mod]
/-- The column sums. -/
theorem final11 : (dats m 0 c).arrAt 11 cfg0.N = (fun y => dcA (args m c) (y 0) (y 1)) := by
  refine (dats m 0 c).arrAt_eq_of_covers 11 _ (by decide +kernel) fun t hf y => ?_
  blk_simp
  rw [after0_11]
  idx_vars y
  have h3 : t.val % 4 = 3 := (flush0_11 t).mp hf
  have e : ((View.whole main_v42_3).slice (win0_11.rect t)).emb (ix2 y0 y1) = ix2 y0 (gcol (gr t) y1) := by
    blk_ext [idx t, gcol, gr]
  refine (group (fun n hn => (outsAt0 m c n hn).2.2.2.1 (ix2 y0 y1)) (fun t => dcc (wt m c t) (t.val % 4) y0 y1)
    (fun t h => set11 m c t h y0 y1) (fun t h => add11 m c t h y0 y1) t h3).trans ?_
  rw [e]
  show _ = dcA (args m c) y0 (gcol (gr t) y1)
  unfold dcA
  rw [cg_gcol, cx_gcol]
  refine Finset.sum_congr rfl fun n _ => ?_
  rw [wt_eq, gr_pt, ro_pt, pt_mod]
/-- The row sums. -/
theorem final12 : (dats m 0 c).arrAt 12 cfg0.N = (fun y => drA (args m c) (y 0) (y 1)) := by
  refine (dats m 0 c).arrAt_eq_of_covers 12 _ (by decide +kernel) fun t hf y => ?_
  blk_simp
  rw [after0_12]
  idx_vars y
  have e : ((View.whole main_v42_4).slice (win0_12.rect t)).emb (ix3 y0 y1 y2) = ix3 (ghead (gr t) y0) (key (ro t) y1) y2 := by
    blk_ext [idx t, key, ghead, gr, ro]
  rw [show y2 = (0 : Fin 1) from Subsingleton.elim _ _] at *
  refine (tile12 m c t y0 y1).trans ?_
  rw [e, wt_eq]
  show _ = drA (args m c) (ghead (gr t) y0) (key (ro t) y1)
  unfold drA
  rw [hg_ghead, hx_ghead, rb_key, rx_key]
  rfl

end Cert.FoxGradIdeal.Arrays

end
-- ==== Proof.FoxValue.lean ====
/-
  The attention's gradient: the kernel and the reference leave the same four arrays at finite arguments.
-/
module

public import proofs.«01_k».proof.Proof.FoxPre
public import proofs.«01_k».proof.Proof.FoxHostReal
public import proofs.«01_k».proof.Proof.FoxEntry
public import proofs.«01_k».proof.Proof.FoxArrays

@[expose] public section

set_option maxRecDepth 16384

noncomputable section

namespace Cert.FoxGradIdeal.Value

open Cert.FoxGradIdeal Cert.FoxGradIdeal.Gen Cert.FoxSpec Cert.FoxReal Cert.FoxGradIdeal.Arrays
open Idealize.ShloMosaic Idealize.ShloMosaic.TcCoe Idealize.SL.Sem

variable (m : (ℓ : Loc nD τ sig) → Buf (Elt Ideal) ℓ) (ρ : Dev nD → PrngReg) (c : Dev nD)

/-- What the run leaves, from what the grid finds. -/
theorem run_args : θ_run defs (onTc (τ := τ) (main (F := Ideal))) ⟨m, fun _ => 0, ρ⟩ (fun r => ∀ c : Dev nD,
      r.2.mem ((c.tc : Thread nD τ).loc main_v42_0) = (fun y => dqA (args m c) (y 0) (y 1))
      ∧ r.2.mem ((c.tc : Thread nD τ).loc main_v42_1) = (fun y => dkA (args m c) (y 0) (y 1))
      ∧ r.2.mem ((c.tc : Thread nD τ).loc main_v42_2) = (fun y => dvA (args m c) (y 0) (y 1))
      ∧ r.2.mem ((c.tc : Thread nD τ).loc main_v48)
        = Host.diff (fun y => drA (args m c) (y 0) (y 1)) (fun y => dcA (args m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 8).trans (final8 m c), ((h c).1 9).trans (final9 m c), ((h c).1 10).trans (final10 m c),
    ((h c).2 main_v48 (Pipeline.mem_restRefs_of main_v48 (by decide) (by decide))).trans
      ((Host.tail_diff m c).trans (congrArg₂ Host.diff (final12 m c) (final11 m c))),
    ((h c).1 2).trans (((dats m 0 c).arrAt_in 2 rfl _).trans ((A_eq m c 2).trans (V_main_arg0 m c))),
    (((h c).2 main_arg1 (Pipeline.mem_restRefs_of main_arg1 (by decide) (by decide))).trans (W_main_arg1 m (dats m) c)),
    ((h c).1 6).trans (((dats m 0 c).arrAt_in 6 rfl _).trans ((A_eq m c 6).trans (V_main_arg2 m c)))⟩) (run_main m ρ)

/-- Arrays with equal parts are equal. -/
theorem args_ext {p p' cc cc' cr cr' l l' d d' o o'} (h0 : p = p') (h1 : cc = cc') (h2 : cr = cr') (h3 : l = l') (h4 : d = d')
    (h5 : o = o') : (⟨p, cc, cr, l, d, o⟩ : Args) = ⟨p', cc', cr', l', d', o'⟩ := by
  subst h0 h1 h2 h3 h4 h5; rfl

/-- What the grid finds, from the arguments. -/
theorem args_eq : args m c = ⟨m ((c.tc : Thread nD τ).loc main_arg0), Host.gates (m ((c.tc : Thread nD τ).loc main_arg1)),
    Host.gatesT (m ((c.tc : Thread nD τ).loc main_arg1)), Host.lse (m ((c.tc : Thread nD τ).loc main_arg0)) (m ((c.tc : Thread nD τ).loc main_arg1)),
    m ((c.tc : Thread nD τ).loc main_arg2), Host.outp (m ((c.tc : Thread nD τ).loc main_arg0)) (m ((c.tc : Thread nD τ).loc main_arg1))⟩ :=
  args_ext (V_main_arg0 m c) (Host.V_gates m c) (Host.V_gatesT m c) (Host.V_lse m c) (V_main_arg2 m c) (Host.V_outp m c)

section
variable {P : FVec Ideal S2048x5120 .f32} {C : FVec Ideal S8x2048 .f32} {D : FVec Ideal S2048x2048 .f32}
  (hP : ∃ p : S2048x5120.Idx → ℝ, ∀ y, P y = (p y : EReal)) (hC : ∃ g : S8x2048.Idx → ℝ, ∀ y, C y = (g y : EReal))
  (hD : ∃ d : S2048x2048.Idx → ℝ, ∀ y, D y = (d y : EReal))
include hP hC hD

/-- The four arrays are the reference's. -/
theorem dq_eq : (fun y => dqA ⟨P, Host.gates C, Host.gatesT C, Host.lse P C, D, Host.outp P C⟩ (y 0) (y 1)) = Cert.FoxRefIdeal.Terms.rq P C D := by
  obtain ⟨p, hp⟩ := hP
  obtain ⟨g, hg⟩ := hC
  obtain ⟨d, hd⟩ := hD
  obtain ⟨T, hT⟩ := Cert.FoxRefIdeal.Terms.top_real hp hg
  funext y
  idx_vars y
  exact (Cert.FoxKer.dqA_real (Host.holds hp hg hd hT) _ _).trans (Cert.FoxRefIdeal.Terms.rq_real hp hg hd hT _ _).symm

theorem dk_eq : (fun y => dkA ⟨P, Host.gates C, Host.gatesT C, Host.lse P C, D, Host.outp P C⟩ (y 0) (y 1)) = Cert.FoxRefIdeal.Terms.rk P C D := by
  obtain ⟨p, hp⟩ := hP
  obtain ⟨g, hg⟩ := hC
  obtain ⟨d, hd⟩ := hD
  obtain ⟨T, hT⟩ := Cert.FoxRefIdeal.Terms.top_real hp hg
  funext y
  idx_vars y
  exact (Cert.FoxKer.dkA_real (Host.holds hp hg hd hT) _ _).trans (Cert.FoxRefIdeal.Terms.rk_real hp hg hd hT _ _).symm

theorem dv_eq : (fun y => dvA ⟨P, Host.gates C, Host.gatesT C, Host.lse P C, D, Host.outp P C⟩ (y 0) (y 1)) = Cert.FoxRefIdeal.Terms.rv P C D := by
  obtain ⟨p, hp⟩ := hP
  obtain ⟨g, hg⟩ := hC
  obtain ⟨d, hd⟩ := hD
  obtain ⟨T, hT⟩ := Cert.FoxRefIdeal.Terms.top_real hp hg
  funext y
  idx_vars y
  exact (Cert.FoxKer.dvA_real (Host.holds hp hg hd hT) _ _).trans (Cert.FoxRefIdeal.Terms.rv_real hp hg hd hT _ _).symm

theorem dc_eq : Host.diff (fun y => drA ⟨P, Host.gates C, Host.gatesT C, Host.lse P C, D, Host.outp P C⟩ (y 0) (y 1))
    (fun y => dcA ⟨P, Host.gates C, Host.gatesT C, Host.lse P C, D, Host.outp P C⟩ (y 0) (y 1)) = Cert.FoxRefIdeal.Terms.rc P C D := by
  obtain ⟨p, hp⟩ := hP
  obtain ⟨g, hg⟩ := hC
  obtain ⟨d, hd⟩ := hD
  obtain ⟨T, hT⟩ := Cert.FoxRefIdeal.Terms.top_real hp hg
  have H := Host.holds hp hg hd hT
  funext y
  idx_vars y
  refine (Host.diff_at _ _ _ _).trans (Eq.trans ?_ (Cert.FoxRefIdeal.Terms.rc_real hp hg hd hT _ _).symm)
  refine (congrArg₂ (fun u w : EReal => u - w) (Cert.FoxKer.drA_real H _ _) (Cert.FoxKer.dcA_real H _ _)).trans ?_
  show ((_ : ℝ) : EReal) - ((_ : ℝ) : EReal) = _
  rw [← EReal.coe_sub]
  unfold gc
  congr 2
  refine Finset.sum_congr rfl fun s _ => ?_
  congr 1
  exact Fin.ext (Nat.mul_div_cancel _ (by decide))

end

/-- What the run leaves at finite arguments. -/
theorem run (hpre : ∀ c : Dev nD,
      (∃ p : S2048x5120.Idx → ℝ, ∀ y, m ((c.tc : Thread nD τ).loc main_arg0) y = (p y : EReal))
      ∧ (∃ g : S8x2048.Idx → ℝ, ∀ y, m ((c.tc : Thread nD τ).loc main_arg1) y = (g y : EReal))
      ∧ ∃ d : S2048x2048.Idx → ℝ, ∀ y, m ((c.tc : Thread nD τ).loc main_arg2) y = (d y : EReal)) :
    θ_run defs (onTc (τ := τ) (main (F := Ideal))) ⟨m, fun _ => 0, ρ⟩ (fun r => ∀ c : Dev nD,
      r.2.mem ((c.tc : Thread nD τ).loc main_v42_0) = Cert.FoxRefIdeal.Terms.rq (m ((c.tc : Thread nD τ).loc main_arg0)) (m ((c.tc : Thread nD τ).loc main_arg1)) (m ((c.tc : Thread nD τ).loc main_arg2))
      ∧ r.2.mem ((c.tc : Thread nD τ).loc main_v42_1) = Cert.FoxRefIdeal.Terms.rk (m ((c.tc : Thread nD τ).loc main_arg0)) (m ((c.tc : Thread nD τ).loc main_arg1)) (m ((c.tc : Thread nD τ).loc main_arg2))
      ∧ r.2.mem ((c.tc : Thread nD τ).loc main_v42_2) = Cert.FoxRefIdeal.Terms.rv (m ((c.tc : Thread nD τ).loc main_arg0)) (m ((c.tc : Thread nD τ).loc main_arg1)) (m ((c.tc : Thread nD τ).loc main_arg2))
      ∧ r.2.mem ((c.tc : Thread nD τ).loc main_v48) = Cert.FoxRefIdeal.Terms.rc (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => by
    obtain ⟨h0, h1, h2, h3, h4⟩ := h c
    obtain ⟨hP, hC, hD⟩ := hpre c
    rw [args_eq] at h0 h1 h2 h3
    exact ⟨h0.trans (dq_eq hP hC hD), h1.trans (dk_eq hP hC hD), h2.trans (dv_eq hP hC hD), h3.trans (dc_eq hP hC hD), h4⟩) (run_args m ρ)

end Cert.FoxGradIdeal.Value

end
-- ==== Proof.ActSpec.lean ====
/-
  The feed-forward's activation and its gradient, as sums and products of extended reals over coordinates: the one
  description the kernels' arrays and the references' arrays are both brought to.
-/
module

public import proofs.«01_k».proof.Proof.ScSpec

@[expose] public section

set_option maxRecDepth 16384

noncomputable section

namespace Cert.ActSpec

open Idealize.ShloMosaic Cert.ScSpec

/-- The up projection, the convolution's weights and the cotangent, as arrays. -/
abbrev Proj := (⟨2, ![2048, 11264]⟩ : Shape).Idx → EReal
abbrev Wts := (⟨2, ![3, 11264]⟩ : Shape).Idx → EReal
abbrev Cot := (⟨2, ![2048, 5632]⟩ : Shape).Idx → EReal

/-- Columns of the two halves of the up projection and of the weights, and of the cotangent. -/
def ug (U : Proj) (c : Fin 5632) (i : Fin 2048) : EReal := U (ix2 i ⟨c, by omega⟩)
def uu (U : Proj) (c : Fin 5632) (i : Fin 2048) : EReal := U (ix2 i ⟨5632 + c, by omega⟩)
def wg (W : Wts) (c : Fin 5632) (k : Fin 3) : EReal := W (ix2 k ⟨c, by omega⟩)
def wu (W : Wts) (c : Fin 5632) (k : Fin 3) : EReal := W (ix2 k ⟨5632 + c, by omega⟩)
def cot (D : Cot) (c : Fin 5632) (i : Fin 2048) : EReal := D (ix2 i c)

/-- The activation of one entry from its gate and its other half. -/
def act (g u : EReal) : EReal := g * Ideal.logistic g * u
/-- The cotangents of the other half and of the gate, of one entry. -/
def actU (d g : EReal) : EReal := d * g * Ideal.logistic g
def actG (d g u : EReal) : EReal := d * u * Ideal.logistic g * (1 + g * (1 - Ideal.logistic g))

/-- Columns of the gate, of the other half, and of their cotangents. -/
def gate (U : Proj) (W : Wts) (c : Fin 5632) (i : Fin 2048) : EReal := conv (wg W c) (ug U c) i
def other (U : Proj) (W : Wts) (c : Fin 5632) (i : Fin 2048) : EReal := conv (wu W c) (uu U c) i
def dOther (U : Proj) (W : Wts) (D : Cot) (c : Fin 5632) (i : Fin 2048) : EReal := actU (cot D c i) (gate U W c i)
def dGate (U : Proj) (W : Wts) (D : Cot) (c : Fin 5632) (i : Fin 2048) : EReal :=
  actG (cot D c i) (gate U W c i) (other U W c i)

/-- The activation. -/
def fwd (U : Proj) (W : Wts) (i : Fin 2048) (c : Fin 5632) : EReal := act (gate U W c i) (other U W c i)

/-- The gradients: of the projection's two halves, and of the two halves of the weights. -/
def du (U : Proj) (W : Wts) (D : Cot) (k : Fin 2) (i : Fin 2048) (c : Fin 5632) : EReal :=
  if k = 0 then convT (wg W c) (dGate U W D c) i else convT (wu W c) (dOther U W D c) i
def dwg (U : Proj) (W : Wts) (D : Cot) (k : Fin 3) (c : Fin 5632) : EReal := wgrad (dGate U W D c) (ug U c) k
def dwu (U : Proj) (W : Wts) (D : Cot) (k : Fin 3) (c : Fin 5632) : EReal := wgrad (dOther U W D c) (uu U c) k

end Cert.ActSpec

end
-- ==== Proof.FwActRef.lean ====
/-
  The array the activation's forward reference leaves, at an index.
-/
module

public import proofs.«01_k».proof.Proof.Gen.FwActRefIdeal.Run
public import proofs.«01_k».proof.Proof.ActSpec
public import proofs.«01_k».proof.Proof.ScRef

@[expose] public section

set_option maxRecDepth 16384

noncomputable section

namespace Cert.FwActRefIdeal.Terms

open Cert.FwActRefIdeal Cert.FwActRefIdeal.Gen Cert.ScSpec Cert.ActSpec Idealize.ShloMosaic Idealize.ShloMosaic.TcCoe Idealize.SL.Sem
open Cert.FwActRefIdeal.Facts
open Cert.ScRefIdeal.Terms (conv_comm convT_comm wgrad_zero dn_zero)

/-- The convolution of the whole projection. -/
def cvA (U : FVec Ideal S2048x11264 .f32) (W : FVec Ideal S3x11264 .f32) : FVec Ideal S2048x11264 .f32 :=
  addf (addf (mulf (extractStridedSlice S2048x11264 ![0, 0] (concatenate S2050x11264 0 [⟨S2x11264, (broadcastInDim S2x11264 ![] bcast_S_S2x11264 (constant S_ .f32 0x00000000#32))⟩, ⟨S2048x11264, U⟩] concatenates_S2x11264_S2048x11264_S2050x11264_d0) slices_S2050x11264_S2048x11264_0_0) (broadcastInDim S2048x11264 ![0, 1] bcast_S1x11264_S2048x11264_0_1 (broadcastInDim S1x11264 ![1] bcast_S11264_S1x11264_1 (shapeCast _ (extractStridedSlice S1x11264 ![0, 0] W slices_S3x11264_S1x11264_0_0) shapeCasts_S1x11264_S11264)))) (mulf (extractStridedSlice S2048x11264 ![1, 0] (concatenate S2050x11264 0 [⟨S2x11264, (broadcastInDim S2x11264 ![] bcast_S_S2x11264 (constant S_ .f32 0x00000000#32))⟩, ⟨S2048x11264, U⟩] concatenates_S2x11264_S2048x11264_S2050x11264_d0) slices_S2050x11264_S2048x11264_1_0) (broadcastInDim S2048x11264 ![0, 1] bcast_S1x11264_S2048x11264_0_1 (broadcastInDim S1x11264 ![1] bcast_S11264_S1x11264_1 (shapeCast _ (extractStridedSlice S1x11264 ![1, 0] W slices_S3x11264_S1x11264_1_0) shapeCasts_S1x11264_S11264))))) (mulf (extractStridedSlice S2048x11264 ![2, 0] (concatenate S2050x11264 0 [⟨S2x11264, (broadcastInDim S2x11264 ![] bcast_S_S2x11264 (constant S_ .f32 0x00000000#32))⟩, ⟨S2048x11264, U⟩] concatenates_S2x11264_S2048x11264_S2050x11264_d0) slices_S2050x11264_S2048x11264_2_0) (broadcastInDim S2048x11264 ![0, 1] bcast_S1x11264_S2048x11264_0_1 (broadcastInDim S1x11264 ![1] bcast_S11264_S1x11264_1 (shapeCast _ (extractStridedSlice S1x11264 ![2, 0] W slices_S3x11264_S1x11264_2_0) shapeCasts_S1x11264_S11264))))

/-- The activation, from the convolution. -/
def actA (A : FVec Ideal S2048x11264 .f32) : FVec Ideal S2048x5632 .bf16 :=
  truncf .bf16 (mulf (mulf (extractStridedSlice S2048x5632 ![0, 0] A slices_S2048x11264_S2048x5632_0_0) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (extractStridedSlice S2048x5632 ![0, 0] A slices_S2048x11264_S2048x5632_0_0)))))) (extractStridedSlice S2048x5632 ![0, 5632] A slices_S2048x11264_S2048x5632_0_5632)) bitsLt_bf16_f32

set_option backward.isDefEq.respectTransparency false in
/-- The convolution at an index. -/
theorem cvA_apply (U : FVec Ideal S2048x11264 .f32) (W : FVec Ideal S3x11264 .f32) (i : Fin 2048) (c : Fin 11264) :
    cvA U W (ix2 i c) = conv (fun k => W (ix2 k c)) (fun k => U (ix2 k c)) i := by
  pointwise [cvA]
  rw [conv_comm]
  have e : ∀ i : ℕ, 1 + i - 2 = i - 1 := fun i => by omega
  have e' : ∀ i : ℕ, (1 + i < 2) = (i < 1) := fun i => by apply propext; omega
  simp only [dite_eq_ite, e, e']
  rfl

/-- The activation at an index. -/
theorem actA_apply (A : FVec Ideal S2048x11264 .f32) (i : Fin 2048) (c : Fin 5632) :
    actA A (ix2 i c) = act (A (ix2 i ⟨c, by omega⟩)) (A (ix2 i ⟨5632 + c, by omega⟩)) := by
  unfold act Ideal.logistic
  rw [← Ideal.ofBits_one_f32]
  pointwise [actA]

variable (m : (ℓ : Loc nD τ sig) → Buf (Elt Ideal) ℓ) (ρ : Dev nD → PrngReg)

set_option backward.isDefEq.respectTransparency false in
/-- The reference's result is the activation of the convolution. -/
theorem res (c : Dev nD) : Value.res_main_v26 m c = actA (cvA (m ((c.tc : Thread nD τ).loc main_arg0)) (m ((c.tc : Thread nD τ).loc main_arg1))) := by
  unfold Value.res_main_v26
  generalize m ((c.tc : Thread nD τ).loc main_arg0) = U
  generalize m ((c.tc : Thread nD τ).loc main_arg1) = W
  rfl

/-- The reference's run with its result named as the activation of the arguments. -/
theorem run : θ_run defs (onTc (τ := τ) (main (F := Ideal))) ⟨m, fun _ => 0, ρ⟩ fun r => ∀ c : Dev nD,
      r.2.mem ((c.tc : Thread nD τ).loc main_v26) = (fun y => fwd (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨((h c).1.trans (res m c)).trans ?_, (h c).2⟩) (Value.run (F := Ideal) m ρ)
  funext y
  idx_vars y
  exact (actA_apply _ _ _).trans (congrArg₂ act (cvA_apply _ _ _ _) (cvA_apply _ _ _ _))

end Cert.FwActRefIdeal.Terms

end
-- ==== Proof.ActBlock.lean ====
/-
  What one grid point of the activation's backward kernel computes: each output block at an index, from the columns of
  the input blocks.
-/
module

public import proofs.«01_k».proof.Proof.Gen.ActGradIdeal.Value
public import proofs.«01_k».proof.Proof.ScBlock
public import proofs.«01_k».proof.Proof.ActSpec

@[expose] public section

set_option maxRecDepth 16384

noncomputable section

namespace Cert.ActGradIdeal.Block

open Cert.ActGradIdeal Cert.ActGradIdeal.Gen Cert.ScSpec Cert.ActSpec Idealize.ShloMosaic Idealize.SL.Sem
open Cert.ScGradIdeal.Block (sge_iff sel_pos sel_neg hz)

/-- Column `j` of a block. -/
abbrev col (x : Vec Ideal S2048x256 .f32) (j : Fin 256) : Fin 2048 → EReal := fun i => x (ix2 i j)
/-- Column `j` of the weights' block. -/
abbrev wcol (x : Vec Ideal S3x256 .f32) (j : Fin 256) : Fin 3 → EReal := fun k => x (ix2 k j)

set_option backward.isDefEq.respectTransparency false in
/-- A block moved down by one row, zero above. -/
theorem pay3_apply (v : Vec Ideal S2048x256 .f32) (i : Fin 2048) (j : Fin 256) :
    k0_pay3 v (ix2 i j) = dn 1 (col v j) i := by
  unfold dn
  pointwise [k0_pay3]
  by_cases h8 : (i : ℕ) < 8
  · rw [dif_pos h8]
    by_cases h1 : (i : ℕ) < 1
    · rw [if_pos h1, sel_neg (fun h => (sge_iff _ h8).1.1 h h1)]
    · rw [if_neg h1, sel_pos ((sge_iff _ h8).1.2 h1)]
      have e : ((i : ℕ) + 2048 - 1) % 2048 = i - 1 := by omega
      simp only [e]
  · have h1 : ¬ (i : ℕ) < 1 := by omega
    have e : (8 + ((i : ℕ) - 8) + 2048 - 1) % 2048 = i - 1 := by omega
    rw [dif_neg h8, if_neg h1]; simp only [e]

set_option backward.isDefEq.respectTransparency false in
/-- A block moved down by two rows, zero above. -/
theorem pay4_apply (v : Vec Ideal S2048x256 .f32) (i : Fin 2048) (j : Fin 256) :
    k0_pay4 v (ix2 i j) = dn 2 (col v j) i := by
  unfold dn
  pointwise [k0_pay4]
  by_cases h8 : (i : ℕ) < 8
  · rw [dif_pos h8]
    by_cases h1 : (i : ℕ) < 2
    · rw [if_pos h1, sel_neg (fun h => (sge_iff _ h8).2.1.1 h h1)]
    · rw [if_neg h1, sel_pos ((sge_iff _ h8).2.1.2 h1)]
      have e : ((i : ℕ) + 2048 - 2) % 2048 = i - 2 := by omega
      simp only [e]
  · have h1 : ¬ (i : ℕ) < 2 := by omega
    have e : (8 + ((i : ℕ) - 8) + 2048 - 2) % 2048 = i - 2 := by omega
    rw [dif_neg h8, if_neg h1]; simp only [e]

/-- The two shifts of the second half are those of the first. -/
theorem pay5_eq (v : Vec Ideal S2048x256 .f32) : k0_pay5 v = k0_pay3 v := rfl
theorem pay9_eq (v : Vec Ideal S2048x256 .f32) :
    k0_pay9 (k0_pay6 v) (k0_pay7 v) k0_pay8 (Scalar.ofBits .f32 0x00000000#32) = k0_pay4 v := rfl

/-- The convolution of a block. -/
theorem pay10_apply (v : Vec Ideal S2048x256 .f32) (w : Vec Ideal S3x256 .f32) (i : Fin 2048) (j : Fin 256) :
    k0_pay10 v w (k0_pay3 v) (k0_pay4 v) (ix2 i j) = conv (wcol w j) (col v j) i := by
  unfold conv
  rw [← pay4_apply, ← pay3_apply]
  pointwise [k0_pay10]

set_option backward.isDefEq.respectTransparency false in
/-- The transposed convolution of a block, as it is stored. -/
theorem pay2_apply (w : Vec Ideal S3x256 .f32) (d : Vec Ideal S2048x256 .f32) (z : Fin 1) (i : Fin 2048) (j : Fin 256) :
    k0_pay2 w d (ix3 z i j) = convT (wcol w j) (col d j) i := by
  unfold convT up
  pointwise [k0_pay2]
  congr 1
  · congr 2
    by_cases h8 : (i : ℕ) < 2040
    · have h1 : (i : ℕ) + 1 < 2048 := by omega
      have e : ((i : ℕ) + 2048 - 2047) % 2048 = i + 1 := by omega
      rw [dif_pos h8, dif_pos h1]; simp only [e]
    · rw [dif_neg h8]
      have h8' : (i : ℕ) - 2040 < 8 := by omega
      by_cases h1 : (i : ℕ) + 1 < 2048
      · rw [dif_pos h1, sel_pos ((sge_iff _ h8').2.2.1.2 (by omega))]
        have e : (2040 + ((i : ℕ) - 2040) + 2048 - 2047) % 2048 = i + 1 := by omega
        simp only [e]
      · rw [dif_neg h1, sel_neg (fun h => by have := (sge_iff _ h8').2.2.1.1 h; omega)]
  · congr 1
    by_cases h8 : (i : ℕ) < 2040
    · have h1 : (i : ℕ) + 2 < 2048 := by omega
      have e : ((i : ℕ) + 2048 - 2046) % 2048 = i + 2 := by omega
      rw [dif_pos h8, dif_pos h1]; simp only [e]
    · rw [dif_neg h8]
      have h8' : (i : ℕ) - 2040 < 8 := by omega
      by_cases h1 : (i : ℕ) + 2 < 2048
      · rw [dif_pos h1, sel_pos ((sge_iff _ h8').2.2.2.2 (by omega))]
        have e : (2040 + ((i : ℕ) - 2040) + 2048 - 2046) % 2048 = i + 2 := by omega
        simp only [e]
      · rw [dif_neg h1, sel_neg (fun h => by have := (sge_iff _ h8').2.2.2.1 h; omega)]

/-- The other stored block has the same form. -/
theorem pay1_eq (w : Vec Ideal S3x256 .f32) (d : Vec Ideal S2048x256 .f32) :
    k0_pay1 (k0_pay20 w d) (k0_pay21 d) (k0_pay22 w) = k0_pay2 w d := rfl

variable (x0 x1 : Vec Ideal S2048x256 .f32) (x2 x3 : Vec Ideal S3x256 .f32) (x4 : Vec Ideal S2048x256 .f32)

/-- The cotangent of the other half, in a block. -/
theorem pay29_apply (i : Fin 2048) (j : Fin 256) : k0_pay29 x0 x1 x2 x3 x4 (ix2 i j)
    = actU (col x4 j i) (conv (wcol x2 j) (col x0 j) i) := by
  have e : k0_pay29 x0 x1 x2 x3 x4 = k0_pay12 x0 x2 x4 (k0_pay3 x0) (k0_pay4 x0) := by
    unfold k0_pay29 k0_pay23 k0_pay24
    rw [View.ld_unit_zero hz, View.ld_unit_zero hz, View.ld_unit_zero hz]
  rw [e]
  unfold actU
  rw [← pay10_apply]
  rfl

/-- The cotangent of the gate, in a block. -/
theorem pay30_apply (i : Fin 2048) (j : Fin 256) : k0_pay30 x0 x1 x2 x3 x4 (ix2 i j)
    = actG (col x4 j i) (conv (wcol x2 j) (col x0 j) i) (conv (wcol x3 j) (col x1 j) i) := by
  have e : k0_pay30 x0 x1 x2 x3 x4 = k0_pay13 x0 x1 x2 x3 x4 (k0_pay3 x0) (k0_pay4 x0) (k0_pay5 x1) (k0_pay6 x1) (k0_pay7 x1)
      k0_pay8 (Scalar.ofBits .f32 0x00000000#32) := by
    unfold k0_pay30 k0_pay23 k0_pay24 k0_pay25 k0_pay26 k0_pay27 k0_pay28
    rw [View.ld_unit_zero hz, View.ld_unit_zero hz, View.ld_unit_zero hz, View.ld_unit_zero hz, View.ld_unit_zero hz]
  have one : Ideal.ofBits .f32 0x3F800000#32 = 1 := Ideal.ofBits_one_f32
  rw [e]
  unfold actG
  rw [← pay10_apply, ← pay10_apply, ← one]
  rfl

/-- A sum of products of two blocks' entries over the rows, as each weight's gradient is computed. -/
theorem pay17_apply (s d : Vec Ideal S2048x256 .f32) (z : Fin 1) (j : Fin 256) :
    k0_pay17 (F := Ideal) s d (ix2 z j) = (∑ i : Fin 2048, d (ix2 i j) * s (ix2 i j) : EReal) := by
  pointwise [k0_pay17]

/-- An index of a one-row block is its column's. -/
theorem idx_eq (x : S1x256.Idx) (j : Fin 256) (h : (j : ℕ) = (x 1 : ℕ)) : x = ix2 (0 : Fin 1) j :=
  funext fun a => match a with
    | ⟨0, _⟩ => Fin.ext (by have : (x 0 : ℕ) < 1 := (x 0).isLt; show (x 0 : ℕ) = 0; omega)
    | ⟨1, _⟩ => Fin.ext h.symm

/-- A shift by no rows. -/
theorem dn_zero (s : Fin 2048 → EReal) (i : Fin 2048) : dn (2 - ((2 : Fin 3) : ℕ)) s i = s i :=
  if_neg (Nat.not_lt_zero _)

/-- The block of the projection's gradient: the gate's half and the other. -/
theorem out5_apply (k : Fin 2) (i : Fin 2048) (j : Fin 256) : out0_5 x0 x1 x2 x3 x4 (ix3 k i j)
    = if k = 0 then convT (wcol x2 j) (col (k0_pay30 x0 x1 x2 x3 x4) j) i
      else convT (wcol x3 j) (col (k0_pay29 x0 x1 x2 x3 x4) j) i := by
  unfold out0_5
  rw [View.ld_unit_zero hz, View.ld_unit_zero hz, pay1_eq]
  canon_tiles x h
  · obtain rfl : k = 1 := Fin.ext (by have : (k : ℕ) = 1 + (x 0 : ℕ) := h0; show (k : ℕ) = 1; omega)
    rw [if_neg (by decide), ← pay2_apply _ _ 0]
    exact congrArg _ (funext fun a => match a with
      | ⟨0, _⟩ => Fin.ext (by have : (x 0 : ℕ) < 1 := (x 0).isLt; show (x 0 : ℕ) = 0; omega)
      | ⟨1, _⟩ => Fin.ext h1.symm
      | ⟨2, _⟩ => Fin.ext h2.symm)
  · obtain rfl : k = 0 := Fin.ext (by have : (k : ℕ) = (x 0 : ℕ) := h0; show (k : ℕ) = 0; omega)
    rw [if_pos rfl, ← pay2_apply _ _ 0]
    exact congrArg _ (funext fun a => match a with
      | ⟨0, _⟩ => Fin.ext (by have : (x 0 : ℕ) < 1 := (x 0).isLt; show (x 0 : ℕ) = 0; omega)
      | ⟨1, _⟩ => Fin.ext h1.symm
      | ⟨2, _⟩ => Fin.ext h2.symm)

/-- The block of the gradient of the gate's weights. -/
theorem out6_apply (k : Fin 3) (j : Fin 256) : out0_6 x0 x1 x2 x3 x4 (ix2 k j)
    = wgrad (col (k0_pay30 x0 x1 x2 x3 x4) j) (col x0 j) k := by
  have e : out0_6 x0 x1 x2 x3 x4 = View.canon [⟨r0_4, k0_pay17 x0 (k0_pay30 x0 x1 x2 x3 x4)⟩,
      ⟨r0_3, k0_pay17 (k0_pay3 x0) (k0_pay30 x0 x1 x2 x3 x4)⟩, ⟨r0_2, k0_pay17 (k0_pay4 x0) (k0_pay30 x0 x1 x2 x3 x4)⟩] := by
    unfold out0_6 k0_pay30 k0_pay23 k0_pay24
    rw [View.ld_unit_zero hz, View.ld_unit_zero hz, View.ld_unit_zero hz, View.ld_unit_zero hz, View.ld_unit_zero hz]
    rfl
  rw [e]
  canon_tiles x h
  · obtain rfl : k = 2 := Fin.ext (by have : (k : ℕ) = 2 + (x 0 : ℕ) := h0; show (k : ℕ) = 2; omega)
    rw [idx_eq x j h1, pay17_apply]
    exact Finset.sum_congr rfl fun i _ => congrArg _ (dn_zero (col x0 j) i).symm
  · obtain rfl : k = 1 := Fin.ext (by have : (k : ℕ) = 1 + (x 0 : ℕ) := h0; show (k : ℕ) = 1; omega)
    rw [idx_eq x j h1, pay17_apply]
    exact Finset.sum_congr rfl fun i _ => congrArg _ (pay3_apply _ _ _)
  · obtain rfl : k = 0 := Fin.ext (by have : (k : ℕ) = (x 0 : ℕ) := h0; show (k : ℕ) = 0; omega)
    rw [idx_eq x j h1, pay17_apply]
    exact Finset.sum_congr rfl fun i _ => congrArg _ (pay4_apply _ _ _)

/-- The block of the gradient of the other half's weights. -/
theorem out7_apply (k : Fin 3) (j : Fin 256) : out0_7 x0 x1 x2 x3 x4 (ix2 k j)
    = wgrad (col (k0_pay29 x0 x1 x2 x3 x4) j) (col x1 j) k := by
  have e : out0_7 x0 x1 x2 x3 x4 = View.canon [⟨r0_4, k0_pay17 x1 (k0_pay29 x0 x1 x2 x3 x4)⟩,
      ⟨r0_3, k0_pay17 (k0_pay3 x1) (k0_pay29 x0 x1 x2 x3 x4)⟩, ⟨r0_2, k0_pay17 (k0_pay4 x1) (k0_pay29 x0 x1 x2 x3 x4)⟩] := by
    unfold out0_7 k0_pay25 k0_pay26 k0_pay27 k0_pay28
    rw [View.ld_unit_zero hz]
    rfl
  rw [e]
  canon_tiles x h
  · obtain rfl : k = 2 := Fin.ext (by have : (k : ℕ) = 2 + (x 0 : ℕ) := h0; show (k : ℕ) = 2; omega)
    rw [idx_eq x j h1, pay17_apply]
    exact Finset.sum_congr rfl fun i _ => congrArg _ (dn_zero (col x1 j) i).symm
  · obtain rfl : k = 1 := Fin.ext (by have : (k : ℕ) = 1 + (x 0 : ℕ) := h0; show (k : ℕ) = 1; omega)
    rw [idx_eq x j h1, pay17_apply]
    exact Finset.sum_congr rfl fun i _ => congrArg _ (pay3_apply _ _ _)
  · obtain rfl : k = 0 := Fin.ext (by have : (k : ℕ) = (x 0 : ℕ) := h0; show (k : ℕ) = 0; omega)
    rw [idx_eq x j h1, pay17_apply]
    exact Finset.sum_congr rfl fun i _ => congrArg _ (pay4_apply _ _ _)

end Cert.ActGradIdeal.Block

end
-- ==== Proof.FwActArrays.lean ====
/-
  The array the activation's forward kernel leaves, from its blocks.
-/
module

public import proofs.«01_k».proof.Proof.Gen.FwActIdeal.Value
public import proofs.«01_k».proof.Proof.ActBlock

@[expose] public section

set_option maxRecDepth 16384

noncomputable section

namespace Cert.FwActIdeal.Arrays

open Cert.FwActIdeal Cert.FwActIdeal.Gen Cert.ScSpec Cert.ActSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block of the activation at an index. -/
theorem out4_apply (x0 x1 : Vec Ideal S2048x256 .f32) (x2 x3 : Vec Ideal S3x256 .f32) (i : Fin 2048) (j : Fin 256) :
    out0_4 x0 x1 x2 x3 (ix2 i j)
      = act (conv (fun k => x2 (ix2 k j)) (fun k => x0 (ix2 k j)) i) (conv (fun k => x3 (ix2 k j)) (fun k => x1 (ix2 k j)) i) := by
  have e : out0_4 x0 x1 x2 x3 = k0_pay1 (k0_pay2 x0 x2) x1 x3 (k0_pay3 x1) := by
    funext y
    frame_out
  rw [e]
  unfold act
  rw [← Cert.ActGradIdeal.Block.pay10_apply, ← Cert.ActGradIdeal.Block.pay10_apply]
  rfl

/-- Which block each window reads or writes at a point. -/
theorem idx : ∀ t : Fin cfg0.N, win0_0.index t = ![0, t.val] ∧ win0_1.index t = ![0, 22 + t.val]
    ∧ win0_2.index t = ![0, t.val] ∧ win0_3.index t = ![0, 22 + t.val] ∧ win0_4.index t = ![0, t.val] :=
  (by decide +kernel : ∀ t : Fin grid0.N, _)

/-- Column `j` of block `t`. -/
abbrev at22 (t : Fin cfg0.N) (j : Fin 256) : Fin 5632 :=
  ⟨t.val * 256 + j, by have := lt_of_lt_of_eq t.isLt N_0; omega⟩

/-- The columns of the input blocks are columns of the arguments. -/
theorem col0 (c : Dev nD) (t : Fin cfg0.N) (j : Fin 256) (i : Fin 2048) :
    iblk m c 0 t (ix2 i j) = ug (m ((c : Thread nD τ).loc main_arg0)) (at22 t j) i := by
  unfold ug
  blk_ext [iblk, V, idx t]
theorem col1 (c : Dev nD) (t : Fin cfg0.N) (j : Fin 256) (i : Fin 2048) :
    iblk m c 1 t (ix2 i j) = uu (m ((c : Thread nD τ).loc main_arg0)) (at22 t j) i := by
  unfold uu
  blk_ext [iblk, V, idx t]
theorem col2 (c : Dev nD) (t : Fin cfg0.N) (j : Fin 256) (i : Fin 3) :
    iblk m c 2 t (ix2 i j) = wg (m ((c : Thread nD τ).loc main_arg1)) (at22 t j) i := by
  unfold wg
  blk_ext [iblk, V, idx t]
theorem col3 (c : Dev nD) (t : Fin cfg0.N) (j : Fin 256) (i : Fin 3) :
    iblk m c 3 t (ix2 i j) = wu (m ((c : Thread nD τ).loc main_arg1)) (at22 t j) i := by
  unfold wu
  blk_ext [iblk, V, idx t]

/-- The activation's array. -/
theorem final4 (c : Dev nD) : (dats m 0 c).arrAt 4 cfg0.N = (fun y => fwd (m ((c : Thread nD τ).loc main_arg0)) (m ((c : Thread nD τ).loc main_arg1)) (y 0) (y 1)) := by
  refine (dats m 0 c).arrAt_eq_of_covers 4 _ (by decide +kernel) fun t _ y => ?_
  blk_simp
  rw [after0_4]
  idx_vars y
  have e : ((View.whole main_v0).slice (win0_4.rect t)).emb (ix2 y0 y1) = ix2 y0 (at22 t y1) := by
    blk_ext [idx t]
  refine (out4_apply _ _ _ _ y0 y1).trans ?_
  simp only [col0, col1, col2, col3]
  rw [e]
  rfl

/-- The kernel's run with its result named as the activation of the arguments. -/
theorem run : θ_run defs (onTc (τ := τ) (main (F := Ideal))) ⟨m, fun _ => 0, ρ⟩ fun r => ∀ c : Dev nD,
      r.2.mem ((c : Thread nD τ).loc main_v0) = (fun y => fwd (m ((c : Thread nD τ).loc main_arg0)) (m ((c : Thread nD τ).loc main_arg1)) (y 0) (y 1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final4 m c), (h c).2⟩)
    (Value.run_blocks (F := Ideal) m ρ)

end Cert.FwActIdeal.Arrays

end
-- ==== Proof.ActArrays.lean ====
/-
  The three arrays the activation's backward kernel leaves, from its blocks.
-/
module

public import proofs.«01_k».proof.Proof.ActBlock

@[expose] public section

set_option maxRecDepth 16384

noncomputable section

namespace Cert.ActGradIdeal.Arrays

open Cert.ActGradIdeal Cert.ActGradIdeal.Gen Cert.ScSpec Cert.ActSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Which block each window reads or writes at a point. -/
theorem idx : ∀ t : Fin cfg0.N, win0_0.index t = ![0, t.val] ∧ win0_1.index t = ![0, 22 + t.val]
    ∧ win0_2.index t = ![0, t.val] ∧ win0_3.index t = ![0, 22 + t.val] ∧ win0_4.index t = ![0, t.val]
    ∧ win0_5.index t = ![0, 0, t.val] ∧ win0_6.index t = ![0, t.val] ∧ win0_7.index t = ![0, t.val] :=
  (by decide +kernel : ∀ t : Fin grid0.N, _)

/-- Column `j` of block `t`. -/
abbrev at22 (t : Fin cfg0.N) (j : Fin 256) : Fin 5632 :=
  ⟨t.val * 256 + j, by have := lt_of_lt_of_eq t.isLt N_0; omega⟩

/-- The columns of the input blocks are columns of the arguments. -/
theorem col0 (c : Dev nD) (t : Fin cfg0.N) (j : Fin 256) (i : Fin 2048) :
    iblk m c 0 t (ix2 i j) = ug (m ((c : Thread nD τ).loc main_arg0)) (at22 t j) i := by
  unfold ug
  blk_ext [iblk, V, idx t]
theorem col1 (c : Dev nD) (t : Fin cfg0.N) (j : Fin 256) (i : Fin 2048) :
    iblk m c 1 t (ix2 i j) = uu (m ((c : Thread nD τ).loc main_arg0)) (at22 t j) i := by
  unfold uu
  blk_ext [iblk, V, idx t]
theorem col2 (c : Dev nD) (t : Fin cfg0.N) (j : Fin 256) (i : Fin 3) :
    iblk m c 2 t (ix2 i j) = wg (m ((c : Thread nD τ).loc main_arg1)) (at22 t j) i := by
  unfold wg
  blk_ext [iblk, V, idx t]
theorem col3 (c : Dev nD) (t : Fin cfg0.N) (j : Fin 256) (i : Fin 3) :
    iblk m c 3 t (ix2 i j) = wu (m ((c : Thread nD τ).loc main_arg1)) (at22 t j) i := by
  unfold wu
  blk_ext [iblk, V, idx t]
theorem col4 (c : Dev nD) (t : Fin cfg0.N) (j : Fin 256) (i : Fin 2048) :
    iblk m c 4 t (ix2 i j) = ActSpec.cot (m ((c : Thread nD τ).loc main_arg2)) (at22 t j) i := by
  unfold ActSpec.cot
  blk_ext [iblk, V, idx t]

/-- The cotangents in a block are the arguments' at its columns. -/
theorem b30 (c : Dev nD) (t : Fin cfg0.N) (j : Fin 256) : Block.col (k0_pay30 (iblk m c 0 t) (iblk m c 1 t) (iblk m c 2 t) (iblk m c 3 t) (iblk m c 4 t)) j = dGate (m ((c : Thread nD τ).loc main_arg0)) (m ((c : Thread nD τ).loc main_arg1)) (m ((c : Thread nD τ).loc main_arg2)) (at22 t j) := by
  have h0 : Block.col (iblk m c 0 t) j = ug (m ((c : Thread nD τ).loc main_arg0)) (at22 t j) := funext (col0 m c t j)
  have h1 : Block.col (iblk m c 1 t) j = uu (m ((c : Thread nD τ).loc main_arg0)) (at22 t j) := funext (col1 m c t j)
  have h2 : Block.wcol (iblk m c 2 t) j = wg (m ((c : Thread nD τ).loc main_arg1)) (at22 t j) := funext (col2 m c t j)
  have h3 : Block.wcol (iblk m c 3 t) j = wu (m ((c : Thread nD τ).loc main_arg1)) (at22 t j) := funext (col3 m c t j)
  have h4 : Block.col (iblk m c 4 t) j = ActSpec.cot (m ((c : Thread nD τ).loc main_arg2)) (at22 t j) := funext (col4 m c t j)
  refine funext fun i => (Block.pay30_apply _ _ _ _ _ i j).trans ?_
  rw [h0, h1, h2, h3, h4]
  rfl
theorem b29 (c : Dev nD) (t : Fin cfg0.N) (j : Fin 256) : Block.col (k0_pay29 (iblk m c 0 t) (iblk m c 1 t) (iblk m c 2 t) (iblk m c 3 t) (iblk m c 4 t)) j = dOther (m ((c : Thread nD τ).loc main_arg0)) (m ((c : Thread nD τ).loc main_arg1)) (m ((c : Thread nD τ).loc main_arg2)) (at22 t j) := by
  have h0 : Block.col (iblk m c 0 t) j = ug (m ((c : Thread nD τ).loc main_arg0)) (at22 t j) := funext (col0 m c t j)
  have h1 : Block.col (iblk m c 1 t) j = uu (m ((c : Thread nD τ).loc main_arg0)) (at22 t j) := funext (col1 m c t j)
  have h2 : Block.wcol (iblk m c 2 t) j = wg (m ((c : Thread nD τ).loc main_arg1)) (at22 t j) := funext (col2 m c t j)
  have h3 : Block.wcol (iblk m c 3 t) j = wu (m ((c : Thread nD τ).loc main_arg1)) (at22 t j) := funext (col3 m c t j)
  have h4 : Block.col (iblk m c 4 t) j = ActSpec.cot (m ((c : Thread nD τ).loc main_arg2)) (at22 t j) := funext (col4 m c t j)
  refine funext fun i => (Block.pay29_apply _ _ _ _ _ i j).trans ?_
  rw [h0, h2, h4]
  rfl

/-- The three output blocks are the gradients at their columns. -/
theorem blk5 (c : Dev nD) (t : Fin cfg0.N) (k : Fin 2) (i : Fin 2048) (j : Fin 256) :
    out0_5 (iblk m c 0 t) (iblk m c 1 t) (iblk m c 2 t) (iblk m c 3 t) (iblk m c 4 t) (ix3 k i j) = du (m ((c : Thread nD τ).loc main_arg0)) (m ((c : Thread nD τ).loc main_arg1)) (m ((c : Thread nD τ).loc main_arg2)) k i (at22 t j) := by
  have h0 : Block.col (iblk m c 0 t) j = ug (m ((c : Thread nD τ).loc main_arg0)) (at22 t j) := funext (col0 m c t j)
  have h1 : Block.col (iblk m c 1 t) j = uu (m ((c : Thread nD τ).loc main_arg0)) (at22 t j) := funext (col1 m c t j)
  have h2 : Block.wcol (iblk m c 2 t) j = wg (m ((c : Thread nD τ).loc main_arg1)) (at22 t j) := funext (col2 m c t j)
  have h3 : Block.wcol (iblk m c 3 t) j = wu (m ((c : Thread nD τ).loc main_arg1)) (at22 t j) := funext (col3 m c t j)
  have h4 : Block.col (iblk m c 4 t) j = ActSpec.cot (m ((c : Thread nD τ).loc main_arg2)) (at22 t j) := funext (col4 m c t j)
  refine (Block.out5_apply _ _ _ _ _ k i j).trans ?_
  rw [b30, b29, h2, h3]
  rfl
theorem blk6 (c : Dev nD) (t : Fin cfg0.N) (k : Fin 3) (j : Fin 256) :
    out0_6 (iblk m c 0 t) (iblk m c 1 t) (iblk m c 2 t) (iblk m c 3 t) (iblk m c 4 t) (ix2 k j) = dwg (m ((c : Thread nD τ).loc main_arg0)) (m ((c : Thread nD τ).loc main_arg1)) (m ((c : Thread nD τ).loc main_arg2)) k (at22 t j) := by
  have h0 : Block.col (iblk m c 0 t) j = ug (m ((c : Thread nD τ).loc main_arg0)) (at22 t j) := funext (col0 m c t j)
  have h1 : Block.col (iblk m c 1 t) j = uu (m ((c : Thread nD τ).loc main_arg0)) (at22 t j) := funext (col1 m c t j)
  have h2 : Block.wcol (iblk m c 2 t) j = wg (m ((c : Thread nD τ).loc main_arg1)) (at22 t j) := funext (col2 m c t j)
  have h3 : Block.wcol (iblk m c 3 t) j = wu (m ((c : Thread nD τ).loc main_arg1)) (at22 t j) := funext (col3 m c t j)
  have h4 : Block.col (iblk m c 4 t) j = ActSpec.cot (m ((c : Thread nD τ).loc main_arg2)) (at22 t j) := funext (col4 m c t j)
  refine (Block.out6_apply _ _ _ _ _ k j).trans ?_
  rw [b30, h0]
  rfl
theorem blk7 (c : Dev nD) (t : Fin cfg0.N) (k : Fin 3) (j : Fin 256) :
    out0_7 (iblk m c 0 t) (iblk m c 1 t) (iblk m c 2 t) (iblk m c 3 t) (iblk m c 4 t) (ix2 k j) = dwu (m ((c : Thread nD τ).loc main_arg0)) (m ((c : Thread nD τ).loc main_arg1)) (m ((c : Thread nD τ).loc main_arg2)) k (at22 t j) := by
  have h0 : Block.col (iblk m c 0 t) j = ug (m ((c : Thread nD τ).loc main_arg0)) (at22 t j) := funext (col0 m c t j)
  have h1 : Block.col (iblk m c 1 t) j = uu (m ((c : Thread nD τ).loc main_arg0)) (at22 t j) := funext (col1 m c t j)
  have h2 : Block.wcol (iblk m c 2 t) j = wg (m ((c : Thread nD τ).loc main_arg1)) (at22 t j) := funext (col2 m c t j)
  have h3 : Block.wcol (iblk m c 3 t) j = wu (m ((c : Thread nD τ).loc main_arg1)) (at22 t j) := funext (col3 m c t j)
  have h4 : Block.col (iblk m c 4 t) j = ActSpec.cot (m ((c : Thread nD τ).loc main_arg2)) (at22 t j) := funext (col4 m c t j)
  refine (Block.out7_apply _ _ _ _ _ k j).trans ?_
  rw [b29, h1]
  rfl

/-- The projection's gradient, by halves. -/
theorem final5 (c : Dev nD) : (dats m 0 c).arrAt 5 cfg0.N = (fun y => du (m ((c : Thread nD τ).loc main_arg0)) (m ((c : Thread nD τ).loc main_arg1)) (m ((c : Thread nD τ).loc main_arg2)) (y 0) (y 1) (y 2)) := by
  refine (dats m 0 c).arrAt_eq_of_covers 5 _ (by decide +kernel) fun t _ y => ?_
  blk_simp
  rw [after0_5]
  idx_vars y
  have e : ((View.whole main_v0_0).slice (win0_5.rect t)).emb (ix3 y0 y1 y2) = ix3 y0 y1 (at22 t y2) := by
    blk_ext [idx t]
  refine (blk5 m c t y0 y1 y2).trans ?_
  rw [e]
  rfl

/-- The gradient of the gate's weights. -/
theorem final6 (c : Dev nD) : (dats m 0 c).arrAt 6 cfg0.N = (fun y => dwg (m ((c : Thread nD τ).loc main_arg0)) (m ((c : Thread nD τ).loc main_arg1)) (m ((c : Thread nD τ).loc main_arg2)) (y 0) (y 1)) := by
  refine (dats m 0 c).arrAt_eq_of_covers 6 _ (by decide +kernel) fun t _ y => ?_
  blk_simp
  rw [after0_6]
  idx_vars y
  have e : ((View.whole main_v0_1).slice (win0_6.rect t)).emb (ix2 y0 y1) = ix2 y0 (at22 t y1) := by
    blk_ext [idx t]
  refine (blk6 m c t y0 y1).trans ?_
  rw [e]
  rfl

/-- The gradient of the other half's weights. -/
theorem final7 (c : Dev nD) : (dats m 0 c).arrAt 7 cfg0.N = (fun y => dwu (m ((c : Thread nD τ).loc main_arg0)) (m ((c : Thread nD τ).loc main_arg1)) (m ((c : Thread nD τ).loc main_arg2)) (y 0) (y 1)) := by
  refine (dats m 0 c).arrAt_eq_of_covers 7 _ (by decide +kernel) fun t _ y => ?_
  blk_simp
  rw [after0_7]
  idx_vars y
  have e : ((View.whole main_v0_2).slice (win0_7.rect t)).emb (ix2 y0 y1) = ix2 y0 (at22 t y1) := by
    blk_ext [idx t]
  refine (blk7 m c t y0 y1).trans ?_
  rw [e]
  rfl

/-- The kernel's run with its three results named as the gradients of the arguments. -/
theorem run : θ_run defs (onTc (τ := τ) (main (F := Ideal))) ⟨m, fun _ => 0, ρ⟩ fun r => ∀ c : Dev nD,
      r.2.mem ((c : Thread nD τ).loc main_v0_0) = (fun y => du (m ((c : Thread nD τ).loc main_arg0)) (m ((c : Thread nD τ).loc main_arg1)) (m ((c : Thread nD τ).loc main_arg2)) (y 0) (y 1) (y 2))
      ∧ r.2.mem ((c : Thread nD τ).loc main_v0_1) = (fun y => dwg (m ((c : Thread nD τ).loc main_arg0)) (m ((c : Thread nD τ).loc main_arg1)) (m ((c : Thread nD τ).loc main_arg2)) (y 0) (y 1))
      ∧ r.2.mem ((c : Thread nD τ).loc main_v0_2) = (fun y => dwu (m ((c : Thread nD τ).loc main_arg0)) (m ((c : Thread nD τ).loc main_arg1)) (m ((c : Thread nD τ).loc main_arg2)) (y 0) (y 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final5 m c), (h c).2.1.trans (final6 m c),
    (h c).2.2.1.trans (final7 m c), (h c).2.2.2⟩)
    (Value.run_blocks (F := Ideal) m ρ)

end Cert.ActGradIdeal.Arrays

end
-- ==== Proof.ActPre.lean ====
/-
  What the precondition of the activation's backward claim says: every entry of the three arguments is a real number.
-/
module

public import proofs.«01_k».proof.Proof.FoxPre
public import Idealize.ShloMosaic.Lib.ReduceAll
public import Idealize.ShloMosaic.PureOps.Ideal

@[expose] public section

set_option maxRecDepth 16384

noncomputable section

namespace Cert.ActPre

open Idealize.ShloMosaic Cert.Pre_act_finite

variable [Facts]

/-- A conjunction over a whole array that came out true held of every entry. -/
theorem all_real {s : Shape} {axes : List (Fin s.rank)} (x : FVec Ideal s .f32) (b : S_.BroadcastsInDim s (![] : Fin 0 → Fin s.rank))
    (h : s.ReducesTo axes S_) (hu : 0 < S_.numel) (j : S_.Idx)
    (e : Host.reduce IntOp.andi (cmpf .olt (Host.absf x) (broadcastInDim s ![] b (constant S_ .f32 0x7F800000#32))) (constantI S_ 1 1#1) h hu j = 1#1) :
    ∀ y, ∃ r : ℝ, x y = (r : EReal) := by
  have : Subsingleton S_.Idx := ⟨fun a b => funext fun k => k.elim0⟩
  exact fun y => Cert.FoxPre.real_of_lt _ (Host.reduce_andi_all _ _ h hu j e y)

/-- The precondition: the three arguments hold real numbers. -/
theorem real (U : FVec Ideal S2048x11264 .f32) (W : FVec Ideal S3x11264 .f32) (D : FVec Ideal S2048x5632 .f32)
    (h : fn (F := Ideal) U W D = fun _ => 1#1) :
    (∀ y, ∃ r : ℝ, U y = (r : EReal)) ∧ (∀ y, ∃ r : ℝ, W y = (r : EReal)) ∧ ∀ y, ∃ r : ℝ, D y = (r : EReal) := by
  have e := congrFun h (fun k => k.elim0)
  obtain ⟨e1, e2⟩ := IntOp.andi_eq_one.1 e
  obtain ⟨e3, e4⟩ := IntOp.andi_eq_one.1 e1
  exact ⟨all_real U _ _ _ _ e3, all_real W _ _ _ _ e4, all_real D _ _ _ _ e2⟩

end Cert.ActPre

end
-- ==== Proof.ActRef.lean ====
/-
  The arrays of the activation's backward reference, as terms of a few stages, and each stage at an index.
-/
module

public import proofs.«01_k».proof.Proof.Gen.ActRefIdeal.Run
public import proofs.«01_k».proof.Proof.ActSpec
public import proofs.«01_k».proof.Proof.ScRef

@[expose] public section

set_option maxRecDepth 16384

noncomputable section

namespace Cert.ActRefIdeal.Terms

open Cert.ActRefIdeal Cert.ActRefIdeal.Gen Cert.ScSpec Cert.ActSpec Idealize.ShloMosaic Idealize.ShloMosaic.TcCoe Idealize.SL.Sem
open Cert.ActRefIdeal.Facts
open Cert.ScRefIdeal.Terms (conv_comm convT_comm wgrad_zero dn_zero)

/-- The convolution of the whole projection. -/
def cvA (U : FVec Ideal S2048x11264 .f32) (W : FVec Ideal S3x11264 .f32) : FVec Ideal S2048x11264 .f32 :=
  addf (addf (mulf (extractStridedSlice S2048x11264 ![0, 0] (concatenate S2050x11264 0 [⟨S2x11264, (broadcastInDim S2x11264 ![] bcast_S_S2x11264 (constant S_ .f32 0x00000000#32))⟩, ⟨S2048x11264, U⟩] concatenates_S2x11264_S2048x11264_S2050x11264_d0) slices_S2050x11264_S2048x11264_0_0) (broadcastInDim S2048x11264 ![0, 1] bcast_S1x11264_S2048x11264_0_1 (broadcastInDim S1x11264 ![1] bcast_S11264_S1x11264_1 (shapeCast _ (extractStridedSlice S1x11264 ![0, 0] W slices_S3x11264_S1x11264_0_0) shapeCasts_S1x11264_S11264)))) (mulf (extractStridedSlice S2048x11264 ![1, 0] (concatenate S2050x11264 0 [⟨S2x11264, (broadcastInDim S2x11264 ![] bcast_S_S2x11264 (constant S_ .f32 0x00000000#32))⟩, ⟨S2048x11264, U⟩] concatenates_S2x11264_S2048x11264_S2050x11264_d0) slices_S2050x11264_S2048x11264_1_0) (broadcastInDim S2048x11264 ![0, 1] bcast_S1x11264_S2048x11264_0_1 (broadcastInDim S1x11264 ![1] bcast_S11264_S1x11264_1 (shapeCast _ (extractStridedSlice S1x11264 ![1, 0] W slices_S3x11264_S1x11264_1_0) shapeCasts_S1x11264_S11264))))) (mulf (extractStridedSlice S2048x11264 ![2, 0] (concatenate S2050x11264 0 [⟨S2x11264, (broadcastInDim S2x11264 ![] bcast_S_S2x11264 (constant S_ .f32 0x00000000#32))⟩, ⟨S2048x11264, U⟩] concatenates_S2x11264_S2048x11264_S2050x11264_d0) slices_S2050x11264_S2048x11264_2_0) (broadcastInDim S2048x11264 ![0, 1] bcast_S1x11264_S2048x11264_0_1 (broadcastInDim S1x11264 ![1] bcast_S11264_S1x11264_1 (shapeCast _ (extractStridedSlice S1x11264 ![2, 0] W slices_S3x11264_S1x11264_2_0) shapeCasts_S1x11264_S11264))))

/-- The gate and the other half, out of the convolution. -/
def gateA (A : FVec Ideal S2048x11264 .f32) : FVec Ideal S2048x5632 .f32 := extractStridedSlice S2048x5632 ![0, 0] A slices_S2048x11264_S2048x5632_0_0
def otherA (A : FVec Ideal S2048x11264 .f32) : FVec Ideal S2048x5632 .f32 := extractStridedSlice S2048x5632 ![0, 5632] A slices_S2048x11264_S2048x5632_0_5632

/-- The logistic function. -/
def sg (G : FVec Ideal S2048x5632 .f32) : FVec Ideal S2048x5632 .f32 :=
  Host.divf (broadcastInDim S2048x5632 ![] bcast_S_S2048x5632 (constant S_ .f32 0x3F800000#32)) (addf (broadcastInDim S2048x5632 ![] bcast_S_S2048x5632 (constant S_ .f32 0x3F800000#32)) (Host.exp (Host.negf G)))

/-- The convolution's cotangent, from the cotangent, the gate and the other half. -/
def dA (D G V : FVec Ideal S2048x5632 .f32) : FVec Ideal S2048x11264 .f32 :=
  concatenate S2048x11264 1 [⟨S2048x5632, (addf (mulf (mulf D V) (sg G)) (mulf (mulf G (mulf D V)) (mulf (sg G) (subf (broadcastInDim S2048x5632 ![] bcast_S_S2048x5632 (constant S_ .f32 0x3F800000#32)) (sg G)))))⟩, ⟨S2048x5632, (mulf (mulf G (sg G)) D)⟩] concatenates_S2048x5632_S2048x5632_S2048x11264_d1

/-- The weights' gradient. -/
def wgr (U J : FVec Ideal S2048x11264 .f32) : FVec Ideal S3x11264 .f32 :=
  addf (addf (pad S3x11264 ![2, 0] ![0, 0] ![0, 0] (broadcastInDim S1x11264 ![1] bcast_S11264_S1x11264_1 (Host.reduceAdd (shapeCast _ (Host.reduceAdd (mulf (extractStridedSlice S2048x11264 ![2, 0] (concatenate S2050x11264 0 [⟨S2x11264, (broadcastInDim S2x11264 ![] bcast_S_S2x11264 (constant S_ .f32 0x00000000#32))⟩, ⟨S2048x11264, U⟩] concatenates_S2x11264_S2048x11264_S2050x11264_d0) slices_S2050x11264_S2048x11264_2_0) J) (constant S_ .f32 0x00000000#32) reducesTo_S2048x11264_S11264_d0 h_S_) shapeCasts_S11264_S1x11264) (constant S_ .f32 0x00000000#32) reducesTo_S1x11264_S11264_d0 h_S_)) (constant S_ .f32 0x00000000#32) pads_S1x11264_S3x11264_200_000 h_S_) (pad S3x11264 ![1, 0] ![1, 0] ![0, 0] (broadcastInDim S1x11264 ![1] bcast_S11264_S1x11264_1 (Host.reduceAdd (shapeCast _ (Host.reduceAdd (mulf (extractStridedSlice S2048x11264 ![1, 0] (concatenate S2050x11264 0 [⟨S2x11264, (broadcastInDim S2x11264 ![] bcast_S_S2x11264 (constant S_ .f32 0x00000000#32))⟩, ⟨S2048x11264, U⟩] concatenates_S2x11264_S2048x11264_S2050x11264_d0) slices_S2050x11264_S2048x11264_1_0) J) (constant S_ .f32 0x00000000#32) reducesTo_S2048x11264_S11264_d0 h_S_) shapeCasts_S11264_S1x11264) (constant S_ .f32 0x00000000#32) reducesTo_S1x11264_S11264_d0 h_S_)) (constant S_ .f32 0x00000000#32) pads_S1x11264_S3x11264_110_000 h_S_)) (pad S3x11264 ![0, 0] ![2, 0] ![0, 0] (broadcastInDim S1x11264 ![1] bcast_S11264_S1x11264_1 (Host.reduceAdd (shapeCast _ (Host.reduceAdd (mulf (extractStridedSlice S2048x11264 ![0, 0] (concatenate S2050x11264 0 [⟨S2x11264, (broadcastInDim S2x11264 ![] bcast_S_S2x11264 (constant S_ .f32 0x00000000#32))⟩, ⟨S2048x11264, U⟩] concatenates_S2x11264_S2048x11264_S2050x11264_d0) slices_S2050x11264_S2048x11264_0_0) J) (constant S_ .f32 0x00000000#32) reducesTo_S2048x11264_S11264_d0 h_S_) shapeCasts_S11264_S1x11264) (constant S_ .f32 0x00000000#32) reducesTo_S1x11264_S11264_d0 h_S_)) (constant S_ .f32 0x00000000#32) pads_S1x11264_S3x11264_020_000 h_S_)

/-- The projection's gradient. -/
def dx (J : FVec Ideal S2048x11264 .f32) (W : FVec Ideal S3x11264 .f32) : FVec Ideal S2048x11264 .f32 :=
  extractStridedSlice S2048x11264 ![2, 0] (addf (addf (pad S2050x11264 ![2, 0] ![0, 0] ![0, 0] (mulf J (broadcastInDim S2048x11264 ![0, 1] bcast_S1x11264_S2048x11264_0_1 (broadcastInDim S1x11264 ![1] bcast_S11264_S1x11264_1 (shapeCast _ (extractStridedSlice S1x11264 ![2, 0] W slices_S3x11264_S1x11264_2_0) shapeCasts_S1x11264_S11264)))) (constant S_ .f32 0x00000000#32) pads_S2048x11264_S2050x11264_200_000 h_S_) (pad S2050x11264 ![1, 0] ![1, 0] ![0, 0] (mulf J (broadcastInDim S2048x11264 ![0, 1] bcast_S1x11264_S2048x11264_0_1 (broadcastInDim S1x11264 ![1] bcast_S11264_S1x11264_1 (shapeCast _ (extractStridedSlice S1x11264 ![1, 0] W slices_S3x11264_S1x11264_1_0) shapeCasts_S1x11264_S11264)))) (constant S_ .f32 0x00000000#32) pads_S2048x11264_S2050x11264_110_000 h_S_)) (pad S2050x11264 ![0, 0] ![2, 0] ![0, 0] (mulf J (broadcastInDim S2048x11264 ![0, 1] bcast_S1x11264_S2048x11264_0_1 (broadcastInDim S1x11264 ![1] bcast_S11264_S1x11264_1 (shapeCast _ (extractStridedSlice S1x11264 ![0, 0] W slices_S3x11264_S1x11264_0_0) shapeCasts_S1x11264_S11264)))) (constant S_ .f32 0x00000000#32) pads_S2048x11264_S2050x11264_020_000 h_S_)) slices_S2050x11264_S2048x11264_2_0

/-- The projection's gradient, by halves. -/
def stk (K : FVec Ideal S2048x11264 .f32) : FVec Ideal S2x2048x5632 .bf16 :=
  truncf .bf16 (concatenate S2x2048x5632 0 [⟨S1x2048x5632, (broadcastInDim S1x2048x5632 ![1, 2] bcast_S2048x5632_S1x2048x5632_1_2 (extractStridedSlice S2048x5632 ![0, 0] K slices_S2048x11264_S2048x5632_0_0))⟩, ⟨S1x2048x5632, (broadcastInDim S1x2048x5632 ![1, 2] bcast_S2048x5632_S1x2048x5632_1_2 (extractStridedSlice S2048x5632 ![0, 5632] K slices_S2048x11264_S2048x5632_0_5632))⟩] concatenates_S1x2048x5632_S1x2048x5632_S2x2048x5632_d0) bitsLt_bf16_f32

/-- The halves of the weights' gradient. -/
def loW (K : FVec Ideal S3x11264 .f32) : FVec Ideal S3x5632 .f32 := extractStridedSlice S3x5632 ![0, 0] K slices_S3x11264_S3x5632_0_0
def hiW (K : FVec Ideal S3x11264 .f32) : FVec Ideal S3x5632 .f32 := extractStridedSlice S3x5632 ![0, 5632] K slices_S3x11264_S3x5632_0_5632

set_option backward.isDefEq.respectTransparency false in
/-- The convolution at an index. -/
theorem cvA_apply (U : FVec Ideal S2048x11264 .f32) (W : FVec Ideal S3x11264 .f32) (i : Fin 2048) (c : Fin 11264) :
    cvA U W (ix2 i c) = conv (fun k => W (ix2 k c)) (fun k => U (ix2 k c)) i := by
  pointwise [cvA]
  rw [conv_comm]
  have e : ∀ i : ℕ, 1 + i - 2 = i - 1 := fun i => by omega
  have e' : ∀ i : ℕ, (1 + i < 2) = (i < 1) := fun i => by apply propext; omega
  simp only [dite_eq_ite, e, e']
  rfl

/-- The gate and the other half at an index. -/
theorem gateA_apply (U : FVec Ideal S2048x11264 .f32) (W : FVec Ideal S3x11264 .f32) (i : Fin 2048) (c : Fin 5632) : gateA (cvA U W) (ix2 i c) = gate U W c i := by
  refine Eq.trans ?_ (cvA_apply U W i ⟨c, by omega⟩)
  pointwise [gateA]
theorem otherA_apply (U : FVec Ideal S2048x11264 .f32) (W : FVec Ideal S3x11264 .f32) (i : Fin 2048) (c : Fin 5632) : otherA (cvA U W) (ix2 i c) = other U W c i := by
  refine Eq.trans ?_ (cvA_apply U W i ⟨5632 + c, by omega⟩)
  pointwise [otherA]

/-- The logistic function at an index. -/
theorem sg_apply (G : FVec Ideal S2048x5632 .f32) (y : S2048x5632.Idx) : sg G y = Ideal.logistic (G y) := by
  unfold Ideal.logistic
  rw [← Ideal.ofBits_one_f32]
  rfl

/-- The gate's part of the convolution's cotangent at an index. -/
theorem dA_lo (D G V : FVec Ideal S2048x5632 .f32) (i : Fin 2048) (c : Fin 5632) : dA D G V (ix2 i ⟨c, by omega⟩)
    = (D (ix2 i c) * V (ix2 i c) * Ideal.logistic (G (ix2 i c)) + G (ix2 i c) * (D (ix2 i c) * V (ix2 i c))
        * (Ideal.logistic (G (ix2 i c)) * (1 - Ideal.logistic (G (ix2 i c)))) : EReal) := by
  rw [← sg_apply, ← Ideal.ofBits_one_f32]
  unfold dA
  generalize hs : sg G = S
  pointwise

/-- The other half's part of it. -/
theorem dA_hi (D G V : FVec Ideal S2048x5632 .f32) (i : Fin 2048) (c : Fin 5632) : dA D G V (ix2 i ⟨5632 + c, by omega⟩) = actU (D (ix2 i c)) (G (ix2 i c)) := by
  unfold actU
  rw [← sg_apply]
  refine Eq.trans ?_ ((mul_comm _ _).trans (mul_assoc _ _ _).symm)
  unfold dA
  generalize hs : sg G = S
  pointwise

set_option backward.isDefEq.respectTransparency false in
/-- The weights' gradient at an index. -/
theorem wgr_apply (U E : FVec Ideal S2048x11264 .f32) (k : Fin 3) (c : Fin 11264) :
    wgr U E (ix2 k c) = wgrad (fun i => E (ix2 i c)) (fun i => U (ix2 i c)) k := by
  pointwise [wgr]
  have e : ∀ i : ℕ, 1 + i - 2 = i - 1 := fun i => by omega
  have e' : ∀ i : ℕ, (1 + i < 2) = (i < 1) := fun i => by apply propext; omega
  simp only [e, e', zero_mul, Finset.sum_const_zero, zero_add]
  match k with
  | 0 =>
    rw [wgrad_zero, dif_neg (fun h => absurd h.1 (by decide)), dif_neg (fun h => absurd h.1 (by decide)),
      dif_pos (by decide), zero_add, zero_add, Fin.sum_univ_one]
  | 1 =>
    rw [dif_neg (fun h => absurd h.1 (by decide)), dif_pos (by decide), dif_neg (by decide), zero_add, add_zero,
      Fin.sum_univ_one]
    exact Finset.sum_congr rfl fun x _ => mul_comm _ _
  | 2 =>
    rw [dif_pos (by decide), dif_neg (fun h => absurd h.2 (by decide)), dif_neg (by decide), add_zero, add_zero,
      Fin.sum_univ_one]
    exact Finset.sum_congr rfl fun x _ => (mul_comm _ _).trans (congrArg₂ (· * ·) rfl (dn_zero (fun i => U (ix2 i c)) x).symm)

set_option backward.isDefEq.respectTransparency false in
/-- The projection's gradient at an index. -/
theorem dx_apply (E : FVec Ideal S2048x11264 .f32) (W : FVec Ideal S3x11264 .f32) (i : Fin 2048) (c : Fin 11264) :
    dx E W (ix2 i c) = convT (fun k => W (ix2 k c)) (fun k => E (ix2 k c)) i := by
  pointwise [dx]
  refine Eq.trans ?_ (convT_comm _ _ (fun i => E (ix2 i c)) (fun i => rfl) i).symm
  have e' : ∀ i : ℕ, 2 + i = i + 2 := fun i => by omega
  have e2 : ∀ i : ℕ, (1 ≤ i + 2 ∧ i + 1 < 2048) = (i + 1 < 2048) := fun i => by apply propext; omega
  have e3 : ∀ i : ℕ, i + 2 - 1 = i + 1 := fun i => by omega
  simp only [e', e2, e3]

/-- The gradient by halves at an index. -/
theorem stk_lo (K : FVec Ideal S2048x11264 .f32) (i : Fin 2048) (c : Fin 5632) : stk K (ix3 0 i c) = K (ix2 i ⟨c, by omega⟩) := by
  pointwise [stk]
theorem stk_hi (K : FVec Ideal S2048x11264 .f32) (i : Fin 2048) (c : Fin 5632) : stk K (ix3 1 i c) = K (ix2 i ⟨5632 + c, by omega⟩) := by
  pointwise [stk]
theorem loW_apply (K : FVec Ideal S3x11264 .f32) (i : Fin 3) (c : Fin 5632) : loW K (ix2 i c) = K (ix2 i ⟨c, by omega⟩) := by
  pointwise [loW]
theorem hiW_apply (K : FVec Ideal S3x11264 .f32) (i : Fin 3) (c : Fin 5632) : hiW K (ix2 i c) = K (ix2 i ⟨5632 + c, by omega⟩) := by
  pointwise [hiW]

end Cert.ActRefIdeal.Terms

end
-- ==== Proof.ActRefRun.lean ====
/-
  The activation's backward reference's run: on real inputs its three results are the gradients of its arguments.
-/
module

public import proofs.«01_k».proof.Proof.ActRef

@[expose] public section

set_option maxRecDepth 16384

noncomputable section

namespace Cert.ActRefIdeal.Terms

open Cert.ActRefIdeal Cert.ActRefIdeal.Gen Cert.ScSpec Cert.ActSpec Idealize.ShloMosaic Idealize.ShloMosaic.TcCoe Idealize.SL.Sem
open Cert.ActRefIdeal.Facts
open Cert.ScRefIdeal.Terms (conv_comm convT_comm wgrad_zero dn_zero)

/-- Sums, products, shifts and convolutions of real numbers are real numbers. -/
def IsR (x : EReal) : Prop := ∃ r : ℝ, x = (r : EReal)
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem dn_real (k : ℕ) (s : Fin 2048 → EReal) (hs : ∀ i, IsR (s i)) (i : Fin 2048) : IsR (dn k s i) := by
  unfold dn; split
  · exact ⟨0, EReal.coe_zero.symm⟩
  · exact hs _
theorem conv_real (w : Fin 3 → EReal) (s : Fin 2048 → EReal) (hw : ∀ k, IsR (w k)) (hs : ∀ i, IsR (s i)) (i : Fin 2048) :
    IsR (conv w s i) :=
  (((hw 0).mul (dn_real 2 s hs i)).add ((hw 1).mul (dn_real 1 s hs i))).add ((hw 2).mul (hs i))

/-- On real numbers the two forms of the gate's cotangent are equal. -/
theorem actG_real {d g v : EReal} (hd : IsR d) (hg : IsR g) (hv : IsR v) :
    d * v * Ideal.logistic g + g * (d * v) * (Ideal.logistic g * (1 - Ideal.logistic g)) = actG d g v := by
  obtain ⟨d, rfl⟩ := hd; obtain ⟨g, rfl⟩ := hg; obtain ⟨v, rfl⟩ := hv
  unfold actG
  rw [Ideal.logistic_coe]
  generalize (1 + Real.exp (-g))⁻¹ = s
  simp only [← EReal.coe_one, ← EReal.coe_mul, ← EReal.coe_add, ← EReal.coe_sub]
  exact congrArg _ (by ring)

/-- The convolution's cotangent's two parts, at a column. -/
theorem dA_gate (U : FVec Ideal S2048x11264 .f32) (W : FVec Ideal S3x11264 .f32) (D : FVec Ideal S2048x5632 .f32) (hU : ∀ y, IsR (U y)) (hW : ∀ y, IsR (W y)) (hD : ∀ y, IsR (D y))
    (c : Fin 5632) (i : Fin 2048) : (dA D (gateA (cvA U W)) (otherA (cvA U W))) (ix2 i ⟨c, by omega⟩) = dGate U W D c i := by
  refine (dA_lo _ _ _ i c).trans ?_
  rw [gateA_apply, otherA_apply]
  exact actG_real (hD _) (conv_real _ _ (fun _ => hW _) (fun _ => hU _) i) (conv_real _ _ (fun _ => hW _) (fun _ => hU _) i)
theorem dA_other (U : FVec Ideal S2048x11264 .f32) (W : FVec Ideal S3x11264 .f32) (D : FVec Ideal S2048x5632 .f32) (c : Fin 5632) (i : Fin 2048) :
    (dA D (gateA (cvA U W)) (otherA (cvA U W))) (ix2 i ⟨5632 + c, by omega⟩) = dOther U W D c i := by
  refine (dA_hi _ _ _ i c).trans ?_
  rw [gateA_apply]
  rfl

variable (m : (ℓ : Loc nD τ sig) → Buf (Elt Ideal) ℓ) (ρ : Dev nD → PrngReg)

set_option backward.isDefEq.respectTransparency false in
/-- The reference's result for the projection is its gradient's term. -/
theorem res_u (c : Dev nD) : Value.res_main_v69 m c = stk (dx (dA (m ((c.tc : Thread nD τ).loc main_arg2)) (gateA (cvA (m ((c.tc : Thread nD τ).loc main_arg0)) (m ((c.tc : Thread nD τ).loc main_arg1)))) (otherA (cvA (m ((c.tc : Thread nD τ).loc main_arg0)) (m ((c.tc : Thread nD τ).loc main_arg1))))) (m ((c.tc : Thread nD τ).loc main_arg1))) := by
  unfold Value.res_main_v69
  generalize m ((c.tc : Thread nD τ).loc main_arg0) = U
  generalize m ((c.tc : Thread nD τ).loc main_arg1) = W
  generalize m ((c.tc : Thread nD τ).loc main_arg2) = D
  rfl

set_option backward.isDefEq.respectTransparency false in
/-- The reference's result for the gate's weights is their gradient's term. -/
theorem res_g (c : Dev nD) : Value.res_main_v70 m c = loW (wgr (m ((c.tc : Thread nD τ).loc main_arg0)) (dA (m ((c.tc : Thread nD τ).loc main_arg2)) (gateA (cvA (m ((c.tc : Thread nD τ).loc main_arg0)) (m ((c.tc : Thread nD τ).loc main_arg1)))) (otherA (cvA (m ((c.tc : Thread nD τ).loc main_arg0)) (m ((c.tc : Thread nD τ).loc main_arg1)))))) := by
  unfold Value.res_main_v70
  generalize m ((c.tc : Thread nD τ).loc main_arg0) = U
  generalize m ((c.tc : Thread nD τ).loc main_arg1) = W
  generalize m ((c.tc : Thread nD τ).loc main_arg2) = D
  rfl

set_option backward.isDefEq.respectTransparency false in
/-- The reference's result for the other half's weights is their gradient's term. -/
theorem res_o (c : Dev nD) : Value.res_main_v71 m c = hiW (wgr (m ((c.tc : Thread nD τ).loc main_arg0)) (dA (m ((c.tc : Thread nD τ).loc main_arg2)) (gateA (cvA (m ((c.tc : Thread nD τ).loc main_arg0)) (m ((c.tc : Thread nD τ).loc main_arg1)))) (otherA (cvA (m ((c.tc : Thread nD τ).loc main_arg0)) (m ((c.tc : Thread nD τ).loc main_arg1)))))) := by
  unfold Value.res_main_v71
  generalize m ((c.tc : Thread nD τ).loc main_arg0) = U
  generalize m ((c.tc : Thread nD τ).loc main_arg1) = W
  generalize m ((c.tc : Thread nD τ).loc main_arg2) = D
  rfl

/-- The reference's run, on real inputs, with its three results named as the gradients of the arguments. -/
theorem run (hU : ∀ (c : Dev nD) y, IsR ((m ((c.tc : Thread nD τ).loc main_arg0)) y)) (hW : ∀ (c : Dev nD) y, IsR ((m ((c.tc : Thread nD τ).loc main_arg1)) y))
    (hD : ∀ (c : Dev nD) y, IsR ((m ((c.tc : Thread nD τ).loc main_arg2)) y)) :
    θ_run defs (onTc (τ := τ) (main (F := Ideal))) ⟨m, fun _ => 0, ρ⟩ fun r => ∀ c : Dev nD,
      r.2.mem ((c.tc : Thread nD τ).loc main_v69) = (fun y => du (m ((c.tc : Thread nD τ).loc main_arg0)) (m ((c.tc : Thread nD τ).loc main_arg1)) (m ((c.tc : Thread nD τ).loc main_arg2)) (y 0) (y 1) (y 2))
      ∧ r.2.mem ((c.tc : Thread nD τ).loc main_v70) = (fun y => dwg (m ((c.tc : Thread nD τ).loc main_arg0)) (m ((c.tc : Thread nD τ).loc main_arg1)) (m ((c.tc : Thread nD τ).loc main_arg2)) (y 0) (y 1))
      ∧ r.2.mem ((c.tc : Thread nD τ).loc main_v71) = (fun y => dwu (m ((c.tc : Thread nD τ).loc main_arg0)) (m ((c.tc : Thread nD τ).loc main_arg1)) (m ((c.tc : Thread nD τ).loc main_arg2)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ?_) (Value.run (F := Ideal) m ρ)
  refine ⟨((h c).1.trans (res_u m c)).trans ?_, ((h c).2.1.trans (res_g m c)).trans ?_, ((h c).2.2.1.trans (res_o m c)).trans ?_,
    (h c).2.2.2⟩
  · clear h
    have hU := hU c; have hW := hW c; have hD := hD c
    generalize m ((c.tc : Thread nD τ).loc main_arg0) = U at *
    generalize m ((c.tc : Thread nD τ).loc main_arg1) = W at *
    generalize m ((c.tc : Thread nD τ).loc main_arg2) = D at *
    funext y
    idx_vars y
    show _ = du U W D y0 y1 y2
    unfold du
    match y0 with
    | 0 =>
      refine (stk_lo _ _ _).trans ((dx_apply _ _ _ _).trans ?_)
      rw [if_pos rfl]
      exact congrArg (fun d => convT _ d y1) (funext fun i => dA_gate U W D hU hW hD y2 i)
    | 1 =>
      refine (stk_hi _ _ _).trans ((dx_apply _ _ _ _).trans ?_)
      rw [if_neg (by decide)]
      exact congrArg (fun d => convT _ d y1) (funext fun i => dA_other U W D y2 i)
  · clear h
    have hU := hU c; have hW := hW c; have hD := hD c
    generalize m ((c.tc : Thread nD τ).loc main_arg0) = U at *
    generalize m ((c.tc : Thread nD τ).loc main_arg1) = W at *
    generalize m ((c.tc : Thread nD τ).loc main_arg2) = D at *
    funext y
    idx_vars y
    show _ = dwg U W D y0 y1
    refine (loW_apply _ _ _).trans ((wgr_apply _ _ _ _).trans ?_)
    exact congrArg (fun d => wgrad d _ y0) (funext fun i => dA_gate U W D hU hW hD y1 i)
  · clear h
    generalize m ((c.tc : Thread nD τ).loc main_arg0) = U
    generalize m ((c.tc : Thread nD τ).loc main_arg1) = W
    generalize m ((c.tc : Thread nD τ).loc main_arg2) = D
    funext y
    idx_vars y
    show _ = dwu U W D y0 y1
    refine (hiW_apply _ _ _).trans ((wgr_apply _ _ _ _).trans ?_)
    exact congrArg (fun d => wgrad d _ y0) (funext fun i => dA_other U W D y1 i)

end Cert.ActRefIdeal.Terms

end
-- ==== Proof.lean ====
/-
  The proof of `Cert.Claim`: the claims about the short convolution's gradient, the products' calls, the
  forgetting attention's gradient and the feed-forward's activation, put together.
-/
module

public import proofs.«01_k».proof.Defs
public import proofs.«01_k».proof.Proof.Gen.ScGrad
public import proofs.«01_k».proof.Proof.Gen.ScGrad.Skeleton
public import proofs.«01_k».proof.Proof.Gen.ScGrad.Launch
public import proofs.«01_k».proof.Proof.Gen.ScGrad.Points
public import proofs.«01_k».proof.Proof.Gen.ScGrad.Frame
public import proofs.«01_k».proof.Proof.Gen.ScGradIdeal
public import proofs.«01_k».proof.Proof.Gen.ScGradIdeal.Skeleton
public import proofs.«01_k».proof.Proof.Gen.ScGradIdeal.Launch
public import proofs.«01_k».proof.Proof.Gen.ScGradIdeal.Points
public import proofs.«01_k».proof.Proof.Gen.ScGradIdeal.Frame
public import proofs.«01_k».proof.Proof.Gen.ScRefIdeal
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownRefIdeal
public import proofs.«01_k».proof.Proof.Gen.DxDown
public import proofs.«01_k».proof.Proof.Gen.DxDown.Skeleton
public import proofs.«01_k».proof.Proof.Gen.DxDown.Launch
public import proofs.«01_k».proof.Proof.Gen.DxDown.Points
public import proofs.«01_k».proof.Proof.Gen.DxDown.Frame
public import proofs.«01_k».proof.Proof.Gen.DxDownIdeal
public import proofs.«01_k».proof.Proof.Gen.DxDownIdeal.Skeleton
public import proofs.«01_k».proof.Proof.Gen.DxDownIdeal.Launch
public import proofs.«01_k».proof.Proof.Gen.DxDownIdeal.Points
public import proofs.«01_k».proof.Proof.Gen.DxDownIdeal.Frame
public import proofs.«01_k».proof.Proof.Gen.DxDownRefIdeal
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpRefIdeal
public import proofs.«01_k».proof.Proof.Gen.DxUp
public import proofs.«01_k».proof.Proof.Gen.DxUp.Skeleton
public import proofs.«01_k».proof.Proof.Gen.DxUp.Launch
public import proofs.«01_k».proof.Proof.Gen.DxUp.Points
public import proofs.«01_k».proof.Proof.Gen.DxUp.Frame
public import proofs.«01_k».proof.Proof.Gen.DxUpIdeal
public import proofs.«01_k».proof.Proof.Gen.DxUpIdeal.Skeleton
public import proofs.«01_k».proof.Proof.Gen.DxUpIdeal.Launch
public import proofs.«01_k».proof.Proof.Gen.DxUpIdeal.Points
public import proofs.«01_k».proof.Proof.Gen.DxUpIdeal.Frame
public import proofs.«01_k».proof.Proof.Gen.DxUpRefIdeal
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.Gen.DxOut
public import proofs.«01_k».proof.Proof.Gen.DxOut.Skeleton
public import proofs.«01_k».proof.Proof.Gen.DxOut.Launch
public import proofs.«01_k».proof.Proof.Gen.DxOut.Points
public import proofs.«01_k».proof.Proof.Gen.DxOut.Frame
public import proofs.«01_k».proof.Proof.Gen.DxOutIdeal
public import proofs.«01_k».proof.Proof.Gen.DxOutIdeal.Skeleton
public import proofs.«01_k».proof.Proof.Gen.DxOutIdeal.Launch
public import proofs.«01_k».proof.Proof.Gen.DxOutIdeal.Points
public import proofs.«01_k».proof.Proof.Gen.DxOutIdeal.Frame
public import proofs.«01_k».proof.Proof.Gen.DxOutRefIdeal
public import proofs.«01_k».proof.Proof.Gen.DwInA
public import proofs.«01_k».proof.Proof.Gen.DwInA.Skeleton
public import proofs.«01_k».proof.Proof.Gen.DwInA.Launch
public import proofs.«01_k».proof.Proof.Gen.DwInA.Points
public import proofs.«01_k».proof.Proof.Gen.DwInA.Frame
public import proofs.«01_k».proof.Proof.Gen.DwInAIdeal
public import proofs.«01_k».proof.Proof.Gen.DwInAIdeal.Skeleton
public import proofs.«01_k».proof.Proof.Gen.DwInAIdeal.Launch
public import proofs.«01_k».proof.Proof.Gen.DwInAIdeal.Points
public import proofs.«01_k».proof.Proof.Gen.DwInAIdeal.Frame
public import proofs.«01_k».proof.Proof.Gen.DwInARefIdeal
public import proofs.«01_k».proof.Proof.Gen.DxInA
public import proofs.«01_k».proof.Proof.Gen.DxInA.Skeleton
public import proofs.«01_k».proof.Proof.Gen.DxInA.Launch
public import proofs.«01_k».proof.Proof.Gen.DxInA.Points
public import proofs.«01_k».proof.Proof.Gen.DxInA.Frame
public import proofs.«01_k».proof.Proof.Gen.DxInAIdeal
public import proofs.«01_k».proof.Proof.Gen.DxInAIdeal.Skeleton
public import proofs.«01_k».proof.Proof.Gen.DxInAIdeal.Launch
public import proofs.«01_k».proof.Proof.Gen.DxInAIdeal.Points
public import proofs.«01_k».proof.Proof.Gen.DxInAIdeal.Frame
public import proofs.«01_k».proof.Proof.Gen.DxInARefIdeal
public import proofs.«01_k».proof.Proof.Gen.DwInB
public import proofs.«01_k».proof.Proof.Gen.DwInB.Skeleton
public import proofs.«01_k».proof.Proof.Gen.DwInB.Launch
public import proofs.«01_k».proof.Proof.Gen.DwInB.Points
public import proofs.«01_k».proof.Proof.Gen.DwInB.Frame
public import proofs.«01_k».proof.Proof.Gen.DwInBIdeal
public import proofs.«01_k».proof.Proof.Gen.DwInBIdeal.Skeleton
public import proofs.«01_k».proof.Proof.Gen.DwInBIdeal.Launch
public import proofs.«01_k».proof.Proof.Gen.DwInBIdeal.Points
public import proofs.«01_k».proof.Proof.Gen.DwInBIdeal.Frame
public import proofs.«01_k».proof.Proof.Gen.DwInBRefIdeal
public import proofs.«01_k».proof.Proof.Gen.DxInB
public import proofs.«01_k».proof.Proof.Gen.DxInB.Skeleton
public import proofs.«01_k».proof.Proof.Gen.DxInB.Launch
public import proofs.«01_k».proof.Proof.Gen.DxInB.Points
public import proofs.«01_k».proof.Proof.Gen.DxInB.Frame
public import proofs.«01_k».proof.Proof.Gen.DxInBIdeal
public import proofs.«01_k».proof.Proof.Gen.DxInBIdeal.Skeleton
public import proofs.«01_k».proof.Proof.Gen.DxInBIdeal.Launch
public import proofs.«01_k».proof.Proof.Gen.DxInBIdeal.Points
public import proofs.«01_k».proof.Proof.Gen.DxInBIdeal.Frame
public import proofs.«01_k».proof.Proof.Gen.DxInBRefIdeal
public import proofs.«01_k».proof.Proof.Gen.DwGate
public import proofs.«01_k».proof.Proof.Gen.DwGate.Skeleton
public import proofs.«01_k».proof.Proof.Gen.DwGate.Launch
public import proofs.«01_k».proof.Proof.Gen.DwGate.Points
public import proofs.«01_k».proof.Proof.Gen.DwGate.Frame
public import proofs.«01_k».proof.Proof.Gen.DwGateIdeal
public import proofs.«01_k».proof.Proof.Gen.DwGateIdeal.Skeleton
public import proofs.«01_k».proof.Proof.Gen.DwGateIdeal.Launch
public import proofs.«01_k».proof.Proof.Gen.DwGateIdeal.Points
public import proofs.«01_k».proof.Proof.Gen.DwGateIdeal.Frame
public import proofs.«01_k».proof.Proof.Gen.DwGateRefIdeal
public import proofs.«01_k».proof.Proof.Gen.DxGate
public import proofs.«01_k».proof.Proof.Gen.DxGate.Skeleton
public import proofs.«01_k».proof.Proof.Gen.DxGate.Launch
public import proofs.«01_k».proof.Proof.Gen.DxGate.Points
public import proofs.«01_k».proof.Proof.Gen.DxGate.Frame
public import proofs.«01_k».proof.Proof.Gen.DxGateIdeal
public import proofs.«01_k».proof.Proof.Gen.DxGateIdeal.Skeleton
public import proofs.«01_k».proof.Proof.Gen.DxGateIdeal.Launch
public import proofs.«01_k».proof.Proof.Gen.DxGateIdeal.Points
public import proofs.«01_k».proof.Proof.Gen.DxGateIdeal.Frame
public import proofs.«01_k».proof.Proof.Gen.DxGateRefIdeal
public import proofs.«01_k».proof.Proof.Gen.FwUp
public import proofs.«01_k».proof.Proof.Gen.FwUp.Skeleton
public import proofs.«01_k».proof.Proof.Gen.FwUp.Launch
public import proofs.«01_k».proof.Proof.Gen.FwUp.Points
public import proofs.«01_k».proof.Proof.Gen.FwUp.Frame
public import proofs.«01_k».proof.Proof.Gen.FwUpIdeal
public import proofs.«01_k».proof.Proof.Gen.FwUpIdeal.Skeleton
public import proofs.«01_k».proof.Proof.Gen.FwUpIdeal.Launch
public import proofs.«01_k».proof.Proof.Gen.FwUpIdeal.Points
public import proofs.«01_k».proof.Proof.Gen.FwUpIdeal.Frame
public import proofs.«01_k».proof.Proof.Gen.FwUpRefIdeal
public import proofs.«01_k».proof.Proof.Gen.FwDown
public import proofs.«01_k».proof.Proof.Gen.FwDown.Skeleton
public import proofs.«01_k».proof.Proof.Gen.FwDown.Launch
public import proofs.«01_k».proof.Proof.Gen.FwDown.Points
public import proofs.«01_k».proof.Proof.Gen.FwDown.Frame
public import proofs.«01_k».proof.Proof.Gen.FwDownIdeal
public import proofs.«01_k».proof.Proof.Gen.FwDownIdeal.Skeleton
public import proofs.«01_k».proof.Proof.Gen.FwDownIdeal.Launch
public import proofs.«01_k».proof.Proof.Gen.FwDownIdeal.Points
public import proofs.«01_k».proof.Proof.Gen.FwDownIdeal.Frame
public import proofs.«01_k».proof.Proof.Gen.FwDownRefIdeal
public import proofs.«01_k».proof.Proof.Gen.FwInA
public import proofs.«01_k».proof.Proof.Gen.FwInA.Skeleton
public import proofs.«01_k».proof.Proof.Gen.FwInA.Launch
public import proofs.«01_k».proof.Proof.Gen.FwInA.Points
public import proofs.«01_k».proof.Proof.Gen.FwInA.Frame
public import proofs.«01_k».proof.Proof.Gen.FwInAIdeal
public import proofs.«01_k».proof.Proof.Gen.FwInAIdeal.Skeleton
public import proofs.«01_k».proof.Proof.Gen.FwInAIdeal.Launch
public import proofs.«01_k».proof.Proof.Gen.FwInAIdeal.Points
public import proofs.«01_k».proof.Proof.Gen.FwInAIdeal.Frame
public import proofs.«01_k».proof.Proof.Gen.FwInARefIdeal
public import proofs.«01_k».proof.Proof.Gen.FwInB
public import proofs.«01_k».proof.Proof.Gen.FwInB.Skeleton
public import proofs.«01_k».proof.Proof.Gen.FwInB.Launch
public import proofs.«01_k».proof.Proof.Gen.FwInB.Points
public import proofs.«01_k».proof.Proof.Gen.FwInB.Frame
public import proofs.«01_k».proof.Proof.Gen.FwInBIdeal
public import proofs.«01_k».proof.Proof.Gen.FwInBIdeal.Skeleton
public import proofs.«01_k».proof.Proof.Gen.FwInBIdeal.Launch
public import proofs.«01_k».proof.Proof.Gen.FwInBIdeal.Points
public import proofs.«01_k».proof.Proof.Gen.FwInBIdeal.Frame
public import proofs.«01_k».proof.Proof.Gen.FwInBRefIdeal
public import proofs.«01_k».proof.Proof.Gen.FwGate
public import proofs.«01_k».proof.Proof.Gen.FwGate.Skeleton
public import proofs.«01_k».proof.Proof.Gen.FwGate.Launch
public import proofs.«01_k».proof.Proof.Gen.FwGate.Points
public import proofs.«01_k».proof.Proof.Gen.FwGate.Frame
public import proofs.«01_k».proof.Proof.Gen.FwGateIdeal
public import proofs.«01_k».proof.Proof.Gen.FwGateIdeal.Skeleton
public import proofs.«01_k».proof.Proof.Gen.FwGateIdeal.Launch
public import proofs.«01_k».proof.Proof.Gen.FwGateIdeal.Points
public import proofs.«01_k».proof.Proof.Gen.FwGateIdeal.Frame
public import proofs.«01_k».proof.Proof.Gen.FwGateRefIdeal
public import proofs.«01_k».proof.Proof.Gen.FwOut
public import proofs.«01_k».proof.Proof.Gen.FwOut.Skeleton
public import proofs.«01_k».proof.Proof.Gen.FwOut.Launch
public import proofs.«01_k».proof.Proof.Gen.FwOut.Points
public import proofs.«01_k».proof.Proof.Gen.FwOut.Frame
public import proofs.«01_k».proof.Proof.Gen.FwOutIdeal
public import proofs.«01_k».proof.Proof.Gen.FwOutIdeal.Skeleton
public import proofs.«01_k».proof.Proof.Gen.FwOutIdeal.Launch
public import proofs.«01_k».proof.Proof.Gen.FwOutIdeal.Points
public import proofs.«01_k».proof.Proof.Gen.FwOutIdeal.Frame
public import proofs.«01_k».proof.Proof.Gen.FwOutRefIdeal
public import proofs.«01_k».proof.Proof.ScArrays
public import proofs.«01_k».proof.Proof.ScRef
public import proofs.«01_k».proof.Proof.Gen.ScGradIdeal.Value
public import proofs.«01_k».proof.Proof.Gen.ScRefIdeal.Run
public import proofs.«01_k».proof.Proof.Gen.DwDownIdeal.Value
public import proofs.«01_k».proof.Proof.Gen.DwDownRefIdeal.Run
public import proofs.«01_k».proof.Proof.DwDown
public import proofs.«01_k».proof.Proof.Gen.DxDownIdeal.Value
public import proofs.«01_k».proof.Proof.Gen.DxDownRefIdeal.Run
public import proofs.«01_k».proof.Proof.DxDown
public import proofs.«01_k».proof.Proof.Gen.DwUpIdeal.Value
public import proofs.«01_k».proof.Proof.Gen.DwUpRefIdeal.Run
public import proofs.«01_k».proof.Proof.DwUp
public import proofs.«01_k».proof.Proof.Gen.DxUpIdeal.Value
public import proofs.«01_k».proof.Proof.Gen.DxUpRefIdeal.Run
public import proofs.«01_k».proof.Proof.DxUp
public import proofs.«01_k».proof.Proof.Gen.DwOutIdeal.Value
public import proofs.«01_k».proof.Proof.Gen.DwOutRefIdeal.Run
public import proofs.«01_k».proof.Proof.DwOut
public import proofs.«01_k».proof.Proof.Gen.DxOutIdeal.Value
public import proofs.«01_k».proof.Proof.Gen.DxOutRefIdeal.Run
public import proofs.«01_k».proof.Proof.DxOut
public import proofs.«01_k».proof.Proof.Gen.DwInAIdeal.Value
public import proofs.«01_k».proof.Proof.Gen.DwInARefIdeal.Run
public import proofs.«01_k».proof.Proof.DwInA
public import proofs.«01_k».proof.Proof.Gen.DxInAIdeal.Value
public import proofs.«01_k».proof.Proof.Gen.DxInARefIdeal.Run
public import proofs.«01_k».proof.Proof.DxInA
public import proofs.«01_k».proof.Proof.Gen.DwInBIdeal.Value
public import proofs.«01_k».proof.Proof.Gen.DwInBRefIdeal.Run
public import proofs.«01_k».proof.Proof.DwInB
public import proofs.«01_k».proof.Proof.Gen.DxInBIdeal.Value
public import proofs.«01_k».proof.Proof.Gen.DxInBRefIdeal.Run
public import proofs.«01_k».proof.Proof.DxInB
public import proofs.«01_k».proof.Proof.Gen.DwGateIdeal.Value
public import proofs.«01_k».proof.Proof.Gen.DwGateRefIdeal.Run
public import proofs.«01_k».proof.Proof.DwGate
public import proofs.«01_k».proof.Proof.Gen.DxGateIdeal.Value
public import proofs.«01_k».proof.Proof.Gen.DxGateRefIdeal.Run
public import proofs.«01_k».proof.Proof.DxGate
public import proofs.«01_k».proof.Proof.Gen.FwUpIdeal.Value
public import proofs.«01_k».proof.Proof.Gen.FwUpRefIdeal.Run
public import proofs.«01_k».proof.Proof.FwUp
public import proofs.«01_k».proof.Proof.Gen.FwDownIdeal.Value
public import proofs.«01_k».proof.Proof.Gen.FwDownRefIdeal.Run
public import proofs.«01_k».proof.Proof.FwDown
public import proofs.«01_k».proof.Proof.Gen.FwInAIdeal.Value
public import proofs.«01_k».proof.Proof.Gen.FwInARefIdeal.Run
public import proofs.«01_k».proof.Proof.FwInA
public import proofs.«01_k».proof.Proof.Gen.FwInBIdeal.Value
public import proofs.«01_k».proof.Proof.Gen.FwInBRefIdeal.Run
public import proofs.«01_k».proof.Proof.FwInB
public import proofs.«01_k».proof.Proof.Gen.FwGateIdeal.Value
public import proofs.«01_k».proof.Proof.Gen.FwGateRefIdeal.Run
public import proofs.«01_k».proof.Proof.FwGate
public import proofs.«01_k».proof.Proof.Gen.FwOutIdeal.Value
public import proofs.«01_k».proof.Proof.Gen.FwOutRefIdeal.Run
public import proofs.«01_k».proof.Proof.FwOut
public import proofs.«01_k».proof.Proof.Gen.FoxGrad
public import proofs.«01_k».proof.Proof.Gen.FoxGrad.Skeleton
public import proofs.«01_k».proof.Proof.Gen.FoxGrad.Loops
public import proofs.«01_k».proof.Proof.Gen.FoxGrad.Launch
public import proofs.«01_k».proof.Proof.Gen.FoxGrad.Points
public import proofs.«01_k».proof.Proof.Gen.FoxGrad.Frame
public import proofs.«01_k».proof.Proof.Gen.FoxGradIdeal
public import proofs.«01_k».proof.Proof.Gen.FoxGradIdeal.Skeleton
public import proofs.«01_k».proof.Proof.Gen.FoxGradIdeal.Loops
public import proofs.«01_k».proof.Proof.Gen.FoxGradIdeal.Launch
public import proofs.«01_k».proof.Proof.Gen.FoxGradIdeal.Points
public import proofs.«01_k».proof.Proof.Gen.FoxGradIdeal.Frame
public import proofs.«01_k».proof.Proof.Gen.FoxRefIdeal
public import proofs.«01_k».proof.Proof.Gen.Pre_fox_finite
public import proofs.«01_k».proof.Proof.Gen.FoxRefIdeal.Run
public import proofs.«01_k».proof.Proof.Gen.ActGrad
public import proofs.«01_k».proof.Proof.Gen.ActGrad.Skeleton
public import proofs.«01_k».proof.Proof.Gen.ActGrad.Launch
public import proofs.«01_k».proof.Proof.Gen.ActGrad.Points
public import proofs.«01_k».proof.Proof.Gen.ActGrad.Frame
public import proofs.«01_k».proof.Proof.Gen.ActGradIdeal
public import proofs.«01_k».proof.Proof.Gen.ActGradIdeal.Skeleton
public import proofs.«01_k».proof.Proof.Gen.ActGradIdeal.Launch
public import proofs.«01_k».proof.Proof.Gen.ActGradIdeal.Points
public import proofs.«01_k».proof.Proof.Gen.ActGradIdeal.Frame
public import proofs.«01_k».proof.Proof.Gen.ActGradIdeal.Value
public import proofs.«01_k».proof.Proof.Gen.FwAct
public import proofs.«01_k».proof.Proof.Gen.FwAct.Skeleton
public import proofs.«01_k».proof.Proof.Gen.FwAct.Launch
public import proofs.«01_k».proof.Proof.Gen.FwAct.Points
public import proofs.«01_k».proof.Proof.Gen.FwAct.Frame
public import proofs.«01_k».proof.Proof.Gen.FwActIdeal
public import proofs.«01_k».proof.Proof.Gen.FwActIdeal.Skeleton
public import proofs.«01_k».proof.Proof.Gen.FwActIdeal.Launch
public import proofs.«01_k».proof.Proof.Gen.FwActIdeal.Points
public import proofs.«01_k».proof.Proof.Gen.FwActIdeal.Frame
public import proofs.«01_k».proof.Proof.Gen.FwActIdeal.Value
public import proofs.«01_k».proof.Proof.Gen.ActRefIdeal
public import proofs.«01_k».proof.Proof.Gen.ActRefIdeal.Run
public import proofs.«01_k».proof.Proof.Gen.FwActRefIdeal
public import proofs.«01_k».proof.Proof.Gen.FwActRefIdeal.Run
public import proofs.«01_k».proof.Proof.Gen.Pre_act_finite
public import proofs.«01_k».proof.Proof.FoxRefRun
public import proofs.«01_k».proof.Proof.FoxPre
public import proofs.«01_k».proof.Proof.FoxValue
public import proofs.«01_k».proof.Proof.FwActRef
public import proofs.«01_k».proof.Proof.FwActArrays
public import proofs.«01_k».proof.Proof.ActArrays
public import proofs.«01_k».proof.Proof.ActPre
public import proofs.«01_k».proof.Proof.ActRefRun
public import Idealize.ShloMosaic.Adequacy
public import Idealize.ShloMosaic.Init

@[expose] public section

noncomputable section

namespace Cert.Proof

open Idealize.ShloMosaic Idealize.SL.Sem

/-- The short convolution's reference runs and leaves its arguments as they were. -/
theorem frameScRef : Cert.quiescent_ScRefIdeal (hScRefIdeal := Cert.ScRefIdeal.Gen.facts) :=
  fun m ρ _ => (θ_run _ _ _).mono (fun r h => ⟨fun c => (h c).2.2.2.2,
    Idealize.ShloMosaic.sem_eq_zero_of_no_sems (by decide) r.2⟩) (Cert.ScRefIdeal.Value.run (F := Ideal) m ρ)

/-- The four gradients of the short convolution are the reference's. -/
theorem valueSc : Cert.algebraic_ScGradIdeal_ScRefIdeal (hScGradIdeal := Cert.ScGradIdeal.Gen.facts)
    (hScRefIdeal := Cert.ScRefIdeal.Gen.facts) :=
  fun m ρ m' ρ' _ hag => ⟨_, _, _, _, Cert.ScGradIdeal.Arrays.run m ρ, (θ_run _ _ _).mono (fun _ h c => by
    obtain ⟨h0, h1, h2, h3, h4⟩ := h c
    exact ⟨h0.trans (by rw [(hag c).1, (hag c).2.1, (hag c).2.2]; rfl), h1.trans (by rw [(hag c).1, (hag c).2.1, (hag c).2.2]; rfl),
      h2.trans (by rw [(hag c).1, (hag c).2.1, (hag c).2.2]; rfl), h3.trans (by rw [(hag c).1, (hag c).2.2]; rfl), h4⟩) (Cert.ScRefIdeal.Terms.run m' ρ')⟩

/-- DwDown: the reference runs and leaves its arguments as they were. -/
theorem frameDwDownRef : Cert.quiescent_DwDownRefIdeal (hDwDownRefIdeal := Cert.DwDownRefIdeal.Gen.facts) :=
  fun m ρ _ => (θ_run _ _ _).mono (fun r h => ⟨fun c => (h c).2,
    Idealize.ShloMosaic.sem_eq_zero_of_no_sems (by decide) r.2⟩) (Cert.DwDownRefIdeal.Value.run (F := Ideal) m ρ)

/-- DwDown: the gradient of the down projection's weights is the reference's. -/
theorem valueDwDown : Cert.algebraic_DwDownIdeal_DwDownRefIdeal (hDwDownIdeal := Cert.DwDownIdeal.Gen.facts)
    (hDwDownRefIdeal := Cert.DwDownRefIdeal.Gen.facts) :=
  fun m ρ m' ρ' _ hag => ⟨_, Cert.DwDownIdeal.Arrays.run m ρ, (θ_run _ _ _).mono (fun _ h c =>
    ⟨(h c).1.trans (by rw [(hag c).1, (hag c).2]), (h c).2⟩) (Cert.DwDownRefIdeal.Terms.run m' ρ')⟩

/-- DxDown: the reference runs and leaves its arguments as they were. -/
theorem frameDxDownRef : Cert.quiescent_DxDownRefIdeal (hDxDownRefIdeal := Cert.DxDownRefIdeal.Gen.facts) :=
  fun m ρ _ => (θ_run _ _ _).mono (fun r h => ⟨fun c => (h c).2,
    Idealize.ShloMosaic.sem_eq_zero_of_no_sems (by decide) r.2⟩) (Cert.DxDownRefIdeal.Value.run (F := Ideal) m ρ)

/-- DxDown: the gradient of the down projection's input is the reference's. -/
theorem valueDxDown : Cert.algebraic_DxDownIdeal_DxDownRefIdeal (hDxDownIdeal := Cert.DxDownIdeal.Gen.facts)
    (hDxDownRefIdeal := Cert.DxDownRefIdeal.Gen.facts) :=
  fun m ρ m' ρ' _ hag => ⟨_, Cert.DxDownIdeal.Arrays.run m ρ, (θ_run _ _ _).mono (fun _ h c =>
    ⟨(h c).1.trans (by rw [(hag c).1, (hag c).2]), (h c).2⟩) (Cert.DxDownRefIdeal.Terms.run m' ρ')⟩

/-- DwUp: the reference runs and leaves its arguments as they were. -/
theorem frameDwUpRef : Cert.quiescent_DwUpRefIdeal (hDwUpRefIdeal := Cert.DwUpRefIdeal.Gen.facts) :=
  fun m ρ _ => (θ_run _ _ _).mono (fun r h => ⟨fun c => (h c).2,
    Idealize.ShloMosaic.sem_eq_zero_of_no_sems (by decide) r.2⟩) (Cert.DwUpRefIdeal.Value.run (F := Ideal) m ρ)

/-- DwUp: the gradient of the up projection's weights is the reference's. -/
theorem valueDwUp : Cert.algebraic_DwUpIdeal_DwUpRefIdeal (hDwUpIdeal := Cert.DwUpIdeal.Gen.facts)
    (hDwUpRefIdeal := Cert.DwUpRefIdeal.Gen.facts) :=
  fun m ρ m' ρ' _ hag => ⟨_, Cert.DwUpIdeal.Arrays.run m ρ, (θ_run _ _ _).mono (fun _ h c =>
    ⟨(h c).1.trans (by rw [(hag c).1, (hag c).2]), (h c).2⟩) (Cert.DwUpRefIdeal.Terms.run m' ρ')⟩

/-- DxUp: the reference runs and leaves its arguments as they were. -/
theorem frameDxUpRef : Cert.quiescent_DxUpRefIdeal (hDxUpRefIdeal := Cert.DxUpRefIdeal.Gen.facts) :=
  fun m ρ _ => (θ_run _ _ _).mono (fun r h => ⟨fun c => (h c).2,
    Idealize.ShloMosaic.sem_eq_zero_of_no_sems (by decide) r.2⟩) (Cert.DxUpRefIdeal.Value.run (F := Ideal) m ρ)

/-- DxUp: the gradient of the up projection's input is the reference's. -/
theorem valueDxUp : Cert.algebraic_DxUpIdeal_DxUpRefIdeal (hDxUpIdeal := Cert.DxUpIdeal.Gen.facts)
    (hDxUpRefIdeal := Cert.DxUpRefIdeal.Gen.facts) :=
  fun m ρ m' ρ' _ hag => ⟨_, Cert.DxUpIdeal.Arrays.run m ρ, (θ_run _ _ _).mono (fun _ h c =>
    ⟨(h c).1.trans (by rw [(hag c).1, (hag c).2]), (h c).2⟩) (Cert.DxUpRefIdeal.Terms.run m' ρ')⟩

/-- DwOut: the reference runs and leaves its arguments as they were. -/
theorem frameDwOutRef : Cert.quiescent_DwOutRefIdeal (hDwOutRefIdeal := Cert.DwOutRefIdeal.Gen.facts) :=
  fun m ρ _ => (θ_run _ _ _).mono (fun r h => ⟨fun c => (h c).2,
    Idealize.ShloMosaic.sem_eq_zero_of_no_sems (by decide) r.2⟩) (Cert.DwOutRefIdeal.Value.run (F := Ideal) m ρ)

/-- DwOut: the gradient of the output projection's weights is the reference's. -/
theorem valueDwOut : Cert.algebraic_DwOutIdeal_DwOutRefIdeal (hDwOutIdeal := Cert.DwOutIdeal.Gen.facts)
    (hDwOutRefIdeal := Cert.DwOutRefIdeal.Gen.facts) :=
  fun m ρ m' ρ' _ hag => ⟨_, Cert.DwOutIdeal.Arrays.run m ρ, (θ_run _ _ _).mono (fun _ h c =>
    ⟨(h c).1.trans (by rw [(hag c).1, (hag c).2]), (h c).2⟩) (Cert.DwOutRefIdeal.Terms.run m' ρ')⟩

/-- DxOut: the reference runs and leaves its arguments as they were. -/
theorem frameDxOutRef : Cert.quiescent_DxOutRefIdeal (hDxOutRefIdeal := Cert.DxOutRefIdeal.Gen.facts) :=
  fun m ρ _ => (θ_run _ _ _).mono (fun r h => ⟨fun c => (h c).2,
    Idealize.ShloMosaic.sem_eq_zero_of_no_sems (by decide) r.2⟩) (Cert.DxOutRefIdeal.Value.run (F := Ideal) m ρ)

/-- DxOut: the gradient of the output projection's input is the reference's. -/
theorem valueDxOut : Cert.algebraic_DxOutIdeal_DxOutRefIdeal (hDxOutIdeal := Cert.DxOutIdeal.Gen.facts)
    (hDxOutRefIdeal := Cert.DxOutRefIdeal.Gen.facts) :=
  fun m ρ m' ρ' _ hag => ⟨_, Cert.DxOutIdeal.Arrays.run m ρ, (θ_run _ _ _).mono (fun _ h c =>
    ⟨(h c).1.trans (by rw [(hag c).1, (hag c).2]), (h c).2⟩) (Cert.DxOutRefIdeal.Terms.run m' ρ')⟩

/-- DwInA: the reference runs and leaves its arguments as they were. -/
theorem frameDwInARef : Cert.quiescent_DwInARefIdeal (hDwInARefIdeal := Cert.DwInARefIdeal.Gen.facts) :=
  fun m ρ _ => (θ_run _ _ _).mono (fun r h => ⟨fun c => (h c).2,
    Idealize.ShloMosaic.sem_eq_zero_of_no_sems (by decide) r.2⟩) (Cert.DwInARefIdeal.Value.run (F := Ideal) m ρ)

/-- DwInA: the gradient of the first layer's input projection's weights is the reference's. -/
theorem valueDwInA : Cert.algebraic_DwInAIdeal_DwInARefIdeal (hDwInAIdeal := Cert.DwInAIdeal.Gen.facts)
    (hDwInARefIdeal := Cert.DwInARefIdeal.Gen.facts) :=
  fun m ρ m' ρ' _ hag => ⟨_, Cert.DwInAIdeal.Arrays.run m ρ, (θ_run _ _ _).mono (fun _ h c =>
    ⟨(h c).1.trans (by rw [(hag c).1, (hag c).2]), (h c).2⟩) (Cert.DwInARefIdeal.Terms.run m' ρ')⟩

/-- DxInA: the reference runs and leaves its arguments as they were. -/
theorem frameDxInARef : Cert.quiescent_DxInARefIdeal (hDxInARefIdeal := Cert.DxInARefIdeal.Gen.facts) :=
  fun m ρ _ => (θ_run _ _ _).mono (fun r h => ⟨fun c => (h c).2,
    Idealize.ShloMosaic.sem_eq_zero_of_no_sems (by decide) r.2⟩) (Cert.DxInARefIdeal.Value.run (F := Ideal) m ρ)

/-- DxInA: the gradient of the first layer's input projection's input is the reference's. -/
theorem valueDxInA : Cert.algebraic_DxInAIdeal_DxInARefIdeal (hDxInAIdeal := Cert.DxInAIdeal.Gen.facts)
    (hDxInARefIdeal := Cert.DxInARefIdeal.Gen.facts) :=
  fun m ρ m' ρ' _ hag => ⟨_, Cert.DxInAIdeal.Arrays.run m ρ, (θ_run _ _ _).mono (fun _ h c =>
    ⟨(h c).1.trans (by rw [(hag c).1, (hag c).2]), (h c).2⟩) (Cert.DxInARefIdeal.Terms.run m' ρ')⟩

/-- DwInB: the reference runs and leaves its arguments as they were. -/
theorem frameDwInBRef : Cert.quiescent_DwInBRefIdeal (hDwInBRefIdeal := Cert.DwInBRefIdeal.Gen.facts) :=
  fun m ρ _ => (θ_run _ _ _).mono (fun r h => ⟨fun c => (h c).2,
    Idealize.ShloMosaic.sem_eq_zero_of_no_sems (by decide) r.2⟩) (Cert.DwInBRefIdeal.Value.run (F := Ideal) m ρ)

/-- DwInB: the gradient of the second layer's input projection's weights is the reference's. -/
theorem valueDwInB : Cert.algebraic_DwInBIdeal_DwInBRefIdeal (hDwInBIdeal := Cert.DwInBIdeal.Gen.facts)
    (hDwInBRefIdeal := Cert.DwInBRefIdeal.Gen.facts) :=
  fun m ρ m' ρ' _ hag => ⟨_, Cert.DwInBIdeal.Arrays.run m ρ, (θ_run _ _ _).mono (fun _ h c =>
    ⟨(h c).1.trans (by rw [(hag c).1, (hag c).2]), (h c).2⟩) (Cert.DwInBRefIdeal.Terms.run m' ρ')⟩

/-- DxInB: the reference runs and leaves its arguments as they were. -/
theorem frameDxInBRef : Cert.quiescent_DxInBRefIdeal (hDxInBRefIdeal := Cert.DxInBRefIdeal.Gen.facts) :=
  fun m ρ _ => (θ_run _ _ _).mono (fun r h => ⟨fun c => (h c).2,
    Idealize.ShloMosaic.sem_eq_zero_of_no_sems (by decide) r.2⟩) (Cert.DxInBRefIdeal.Value.run (F := Ideal) m ρ)

/-- DxInB: the gradient of the second layer's input projection's input is the reference's. -/
theorem valueDxInB : Cert.algebraic_DxInBIdeal_DxInBRefIdeal (hDxInBIdeal := Cert.DxInBIdeal.Gen.facts)
    (hDxInBRefIdeal := Cert.DxInBRefIdeal.Gen.facts) :=
  fun m ρ m' ρ' _ hag => ⟨_, Cert.DxInBIdeal.Arrays.run m ρ, (θ_run _ _ _).mono (fun _ h c =>
    ⟨(h c).1.trans (by rw [(hag c).1, (hag c).2]), (h c).2⟩) (Cert.DxInBRefIdeal.Terms.run m' ρ')⟩

/-- DwGate: the reference runs and leaves its arguments as they were. -/
theorem frameDwGateRef : Cert.quiescent_DwGateRefIdeal (hDwGateRefIdeal := Cert.DwGateRefIdeal.Gen.facts) :=
  fun m ρ _ => (θ_run _ _ _).mono (fun r h => ⟨fun c => (h c).2,
    Idealize.ShloMosaic.sem_eq_zero_of_no_sems (by decide) r.2⟩) (Cert.DwGateRefIdeal.Value.run (F := Ideal) m ρ)

/-- DwGate: the gradient of the forget logits' projection's weights is the reference's. -/
theorem valueDwGate : Cert.algebraic_DwGateIdeal_DwGateRefIdeal (hDwGateIdeal := Cert.DwGateIdeal.Gen.facts)
    (hDwGateRefIdeal := Cert.DwGateRefIdeal.Gen.facts) :=
  fun m ρ m' ρ' _ hag => ⟨_, Cert.DwGateIdeal.Arrays.run m ρ, (θ_run _ _ _).mono (fun _ h c =>
    ⟨(h c).1.trans (by rw [(hag c).1, (hag c).2]), (h c).2⟩) (Cert.DwGateRefIdeal.Terms.run m' ρ')⟩

/-- DxGate: the reference runs and leaves its arguments as they were. -/
theorem frameDxGateRef : Cert.quiescent_DxGateRefIdeal (hDxGateRefIdeal := Cert.DxGateRefIdeal.Gen.facts) :=
  fun m ρ _ => (θ_run _ _ _).mono (fun r h => ⟨fun c => (h c).2,
    Idealize.ShloMosaic.sem_eq_zero_of_no_sems (by decide) r.2⟩) (Cert.DxGateRefIdeal.Value.run (F := Ideal) m ρ)

/-- DxGate: the gradient of the forget logits' projection's input, added to the gradient there already is the reference's. -/
theorem valueDxGate : Cert.algebraic_DxGateIdeal_DxGateRefIdeal (hDxGateIdeal := Cert.DxGateIdeal.Gen.facts)
    (hDxGateRefIdeal := Cert.DxGateRefIdeal.Gen.facts) :=
  fun m ρ m' ρ' _ hag => ⟨_, Cert.DxGateIdeal.Arrays.run m ρ, (θ_run _ _ _).mono (fun _ h c =>
    ⟨(h c).1.trans (by rw [(hag c).1, (hag c).2.1, (hag c).2.2]), (h c).2⟩) (Cert.DxGateRefIdeal.Terms.run m' ρ')⟩

/-- FwUp: the reference runs and leaves its arguments as they were. -/
theorem frameFwUpRef : Cert.quiescent_FwUpRefIdeal (hFwUpRefIdeal := Cert.FwUpRefIdeal.Gen.facts) :=
  fun m ρ _ => (θ_run _ _ _).mono (fun r h => ⟨fun c => (h c).2,
    Idealize.ShloMosaic.sem_eq_zero_of_no_sems (by decide) r.2⟩) (Cert.FwUpRefIdeal.Value.run (F := Ideal) m ρ)

/-- FwUp: the up projection is the reference's. -/
theorem valueFwUp : Cert.algebraic_FwUpIdeal_FwUpRefIdeal (hFwUpIdeal := Cert.FwUpIdeal.Gen.facts)
    (hFwUpRefIdeal := Cert.FwUpRefIdeal.Gen.facts) :=
  fun m ρ m' ρ' _ hag => ⟨_, Cert.FwUpIdeal.Arrays.run m ρ, (θ_run _ _ _).mono (fun _ h c =>
    ⟨(h c).1.trans (by rw [(hag c).1, (hag c).2]), (h c).2⟩) (Cert.FwUpRefIdeal.Terms.run m' ρ')⟩

/-- FwDown: the reference runs and leaves its arguments as they were. -/
theorem frameFwDownRef : Cert.quiescent_FwDownRefIdeal (hFwDownRefIdeal := Cert.FwDownRefIdeal.Gen.facts) :=
  fun m ρ _ => (θ_run _ _ _).mono (fun r h => ⟨fun c => (h c).2,
    Idealize.ShloMosaic.sem_eq_zero_of_no_sems (by decide) r.2⟩) (Cert.FwDownRefIdeal.Value.run (F := Ideal) m ρ)

/-- FwDown: the down projection, added to the residual stream is the reference's. -/
theorem valueFwDown : Cert.algebraic_FwDownIdeal_FwDownRefIdeal (hFwDownIdeal := Cert.FwDownIdeal.Gen.facts)
    (hFwDownRefIdeal := Cert.FwDownRefIdeal.Gen.facts) :=
  fun m ρ m' ρ' _ hag => ⟨_, Cert.FwDownIdeal.Arrays.run m ρ, (θ_run _ _ _).mono (fun _ h c =>
    ⟨(h c).1.trans (by rw [(hag c).1, (hag c).2.1, (hag c).2.2]), (h c).2⟩) (Cert.FwDownRefIdeal.Terms.run m' ρ')⟩

/-- FwInA: the reference runs and leaves its arguments as they were. -/
theorem frameFwInARef : Cert.quiescent_FwInARefIdeal (hFwInARefIdeal := Cert.FwInARefIdeal.Gen.facts) :=
  fun m ρ _ => (θ_run _ _ _).mono (fun r h => ⟨fun c => (h c).2,
    Idealize.ShloMosaic.sem_eq_zero_of_no_sems (by decide) r.2⟩) (Cert.FwInARefIdeal.Value.run (F := Ideal) m ρ)

/-- FwInA: the first layer's input projection is the reference's. -/
theorem valueFwInA : Cert.algebraic_FwInAIdeal_FwInARefIdeal (hFwInAIdeal := Cert.FwInAIdeal.Gen.facts)
    (hFwInARefIdeal := Cert.FwInARefIdeal.Gen.facts) :=
  fun m ρ m' ρ' _ hag => ⟨_, Cert.FwInAIdeal.Arrays.run m ρ, (θ_run _ _ _).mono (fun _ h c =>
    ⟨(h c).1.trans (by rw [(hag c).1, (hag c).2]), (h c).2⟩) (Cert.FwInARefIdeal.Terms.run m' ρ')⟩

/-- FwInB: the reference runs and leaves its arguments as they were. -/
theorem frameFwInBRef : Cert.quiescent_FwInBRefIdeal (hFwInBRefIdeal := Cert.FwInBRefIdeal.Gen.facts) :=
  fun m ρ _ => (θ_run _ _ _).mono (fun r h => ⟨fun c => (h c).2,
    Idealize.ShloMosaic.sem_eq_zero_of_no_sems (by decide) r.2⟩) (Cert.FwInBRefIdeal.Value.run (F := Ideal) m ρ)

/-- FwInB: the second layer's input projection is the reference's. -/
theorem valueFwInB : Cert.algebraic_FwInBIdeal_FwInBRefIdeal (hFwInBIdeal := Cert.FwInBIdeal.Gen.facts)
    (hFwInBRefIdeal := Cert.FwInBRefIdeal.Gen.facts) :=
  fun m ρ m' ρ' _ hag => ⟨_, Cert.FwInBIdeal.Arrays.run m ρ, (θ_run _ _ _).mono (fun _ h c =>
    ⟨(h c).1.trans (by rw [(hag c).1, (hag c).2]), (h c).2⟩) (Cert.FwInBRefIdeal.Terms.run m' ρ')⟩

/-- FwGate: the reference runs and leaves its arguments as they were. -/
theorem frameFwGateRef : Cert.quiescent_FwGateRefIdeal (hFwGateRefIdeal := Cert.FwGateRefIdeal.Gen.facts) :=
  fun m ρ _ => (θ_run _ _ _).mono (fun r h => ⟨fun c => (h c).2,
    Idealize.ShloMosaic.sem_eq_zero_of_no_sems (by decide) r.2⟩) (Cert.FwGateRefIdeal.Value.run (F := Ideal) m ρ)

/-- FwGate: the forget logits' projection is the reference's. -/
theorem valueFwGate : Cert.algebraic_FwGateIdeal_FwGateRefIdeal (hFwGateIdeal := Cert.FwGateIdeal.Gen.facts)
    (hFwGateRefIdeal := Cert.FwGateRefIdeal.Gen.facts) :=
  fun m ρ m' ρ' _ hag => ⟨_, Cert.FwGateIdeal.Arrays.run m ρ, (θ_run _ _ _).mono (fun _ h c =>
    ⟨(h c).1.trans (by rw [(hag c).1, (hag c).2]), (h c).2⟩) (Cert.FwGateRefIdeal.Terms.run m' ρ')⟩

/-- FwOut: the reference runs and leaves its arguments as they were. -/
theorem frameFwOutRef : Cert.quiescent_FwOutRefIdeal (hFwOutRefIdeal := Cert.FwOutRefIdeal.Gen.facts) :=
  fun m ρ _ => (θ_run _ _ _).mono (fun r h => ⟨fun c => (h c).2,
    Idealize.ShloMosaic.sem_eq_zero_of_no_sems (by decide) r.2⟩) (Cert.FwOutRefIdeal.Value.run (F := Ideal) m ρ)

/-- FwOut: the output projection, added to the residual stream is the reference's. -/
theorem valueFwOut : Cert.algebraic_FwOutIdeal_FwOutRefIdeal (hFwOutIdeal := Cert.FwOutIdeal.Gen.facts)
    (hFwOutRefIdeal := Cert.FwOutRefIdeal.Gen.facts) :=
  fun m ρ m' ρ' _ hag => ⟨_, Cert.FwOutIdeal.Arrays.run m ρ, (θ_run _ _ _).mono (fun _ h c =>
    ⟨(h c).1.trans (by rw [(hag c).1, (hag c).2.1, (hag c).2.2]), (h c).2⟩) (Cert.FwOutRefIdeal.Terms.run m' ρ')⟩

/-- The forgetting attention's reference runs and leaves its arguments as they were. -/
theorem frameFoxRef : Cert.quiescent_FoxRefIdeal (hFoxRefIdeal := Cert.FoxRefIdeal.Gen.facts) :=
  fun m ρ _ => (θ_run _ _ _).mono (fun r h => ⟨fun c => (h c).2.2.2.2,
    Idealize.ShloMosaic.sem_eq_zero_of_no_sems (by decide) r.2⟩) (Cert.FoxRefIdeal.Value.run (F := Ideal) m ρ)

/-- The four gradients of the forgetting attention are the reference's, where every entry of the inputs is finite. -/
theorem valueFox : Cert.algebraic_FoxGradIdeal_FoxRefIdeal_pre_fox_finite (hFoxGradIdeal := Cert.FoxGradIdeal.Gen.facts)
    (hFoxRefIdeal := Cert.FoxRefIdeal.Gen.facts) (hPre_fox_finite := Cert.Pre_fox_finite.Gen.facts) :=
  fun m ρ m' ρ' hpre hag => ⟨_, _, _, _, Cert.FoxGradIdeal.Value.run m ρ (fun c => Cert.FoxPre.real _ _ _ (hpre c)),
    (θ_run _ _ _).mono (fun _ h c => by
      obtain ⟨h0, h1, h2, h3, h4⟩ := h c
      exact ⟨h0.trans (by rw [(hag c).1, (hag c).2.1, (hag c).2.2]), h1.trans (by rw [(hag c).1, (hag c).2.1, (hag c).2.2]),
        h2.trans (by rw [(hag c).1, (hag c).2.1, (hag c).2.2]), h3.trans (by rw [(hag c).1, (hag c).2.1, (hag c).2.2]), h4⟩)
      (Cert.FoxRefIdeal.Terms.run m' ρ')⟩

/-- The activation's backward reference runs and leaves its arguments as they were. -/
theorem frameActRef : Cert.quiescent_ActRefIdeal (hActRefIdeal := Cert.ActRefIdeal.Gen.facts) :=
  fun m ρ _ => (θ_run _ _ _).mono (fun r h => ⟨fun c => (h c).2.2.2,
    Idealize.ShloMosaic.sem_eq_zero_of_no_sems (by decide) r.2⟩) (Cert.ActRefIdeal.Value.run (F := Ideal) m ρ)

/-- The gradients of the activation are the reference's, where every entry of the inputs is finite. -/
theorem valueAct : Cert.algebraic_ActGradIdeal_ActRefIdeal_pre_act_finite (hActGradIdeal := Cert.ActGradIdeal.Gen.facts)
    (hActRefIdeal := Cert.ActRefIdeal.Gen.facts) (hPre_act_finite := Cert.Pre_act_finite.Gen.facts) :=
  fun m ρ m' ρ' hpre hag => ⟨_, _, _, Cert.ActGradIdeal.Arrays.run m ρ,
    (θ_run _ _ _).mono (fun _ h c => by
      obtain ⟨h0, h1, h2, h3⟩ := h c
      exact ⟨h0.trans (by rw [(hag c).1, (hag c).2.1, (hag c).2.2]; rfl), h1.trans (by rw [(hag c).1, (hag c).2.1, (hag c).2.2]; rfl),
        h2.trans (by rw [(hag c).1, (hag c).2.1, (hag c).2.2]; rfl), h3⟩)
      (Cert.ActRefIdeal.Terms.run m' ρ' (fun c => by rw [(hag c).1]; exact (Cert.ActPre.real _ _ _ (hpre c)).1)
        (fun c => by rw [(hag c).2.1]; exact (Cert.ActPre.real _ _ _ (hpre c)).2.1)
        (fun c => by rw [(hag c).2.2]; exact (Cert.ActPre.real _ _ _ (hpre c)).2.2))⟩

/-- The activation's forward reference runs and leaves its arguments as they were. -/
theorem frameFwActRef : Cert.quiescent_FwActRefIdeal (hFwActRefIdeal := Cert.FwActRefIdeal.Gen.facts) :=
  fun m ρ _ => (θ_run _ _ _).mono (fun r h => ⟨fun c => (h c).2,
    Idealize.ShloMosaic.sem_eq_zero_of_no_sems (by decide) r.2⟩) (Cert.FwActRefIdeal.Value.run (F := Ideal) m ρ)

/-- The activation is the reference's. -/
theorem valueFwAct : Cert.algebraic_FwActIdeal_FwActRefIdeal (hFwActIdeal := Cert.FwActIdeal.Gen.facts)
    (hFwActRefIdeal := Cert.FwActRefIdeal.Gen.facts) :=
  fun m ρ m' ρ' _ hag => ⟨_, Cert.FwActIdeal.Arrays.run m ρ,
    (θ_run _ _ _).mono (fun _ h c => ⟨(h c).1.trans (by rw [(hag c).1, (hag c).2]; rfl), (h c).2⟩)
      (Cert.FwActRefIdeal.Terms.run m' ρ')⟩

/-- All the statements: every program runs and leaves its arguments as they were, each kernel's two forms are the same
program, and each kernel's results are its reference's. -/
theorem claim : Cert.Claim := ⟨Cert.ScGrad.Gen.facts, Cert.ScGradIdeal.Gen.facts, Cert.ScRefIdeal.Gen.facts,
  Cert.DwDown.Gen.facts, Cert.DwDownIdeal.Gen.facts, Cert.DwDownRefIdeal.Gen.facts,
  Cert.DxDown.Gen.facts, Cert.DxDownIdeal.Gen.facts, Cert.DxDownRefIdeal.Gen.facts,
  Cert.DwUp.Gen.facts, Cert.DwUpIdeal.Gen.facts, Cert.DwUpRefIdeal.Gen.facts,
  Cert.DxUp.Gen.facts, Cert.DxUpIdeal.Gen.facts, Cert.DxUpRefIdeal.Gen.facts,
  Cert.DwOut.Gen.facts, Cert.DwOutIdeal.Gen.facts, Cert.DwOutRefIdeal.Gen.facts,
  Cert.DxOut.Gen.facts, Cert.DxOutIdeal.Gen.facts, Cert.DxOutRefIdeal.Gen.facts,
  Cert.DwInA.Gen.facts, Cert.DwInAIdeal.Gen.facts, Cert.DwInARefIdeal.Gen.facts,
  Cert.DxInA.Gen.facts, Cert.DxInAIdeal.Gen.facts, Cert.DxInARefIdeal.Gen.facts,
  Cert.DwInB.Gen.facts, Cert.DwInBIdeal.Gen.facts, Cert.DwInBRefIdeal.Gen.facts,
  Cert.DxInB.Gen.facts, Cert.DxInBIdeal.Gen.facts, Cert.DxInBRefIdeal.Gen.facts,
  Cert.DwGate.Gen.facts, Cert.DwGateIdeal.Gen.facts, Cert.DwGateRefIdeal.Gen.facts,
  Cert.DxGate.Gen.facts, Cert.DxGateIdeal.Gen.facts, Cert.DxGateRefIdeal.Gen.facts,
  Cert.FwUp.Gen.facts, Cert.FwUpIdeal.Gen.facts, Cert.FwUpRefIdeal.Gen.facts,
  Cert.FwDown.Gen.facts, Cert.FwDownIdeal.Gen.facts, Cert.FwDownRefIdeal.Gen.facts,
  Cert.FwInA.Gen.facts, Cert.FwInAIdeal.Gen.facts, Cert.FwInARefIdeal.Gen.facts,
  Cert.FwInB.Gen.facts, Cert.FwInBIdeal.Gen.facts, Cert.FwInBRefIdeal.Gen.facts,
  Cert.FwGate.Gen.facts, Cert.FwGateIdeal.Gen.facts, Cert.FwGateRefIdeal.Gen.facts,
  Cert.FwOut.Gen.facts, Cert.FwOutIdeal.Gen.facts, Cert.FwOutRefIdeal.Gen.facts,
  Cert.FoxGrad.Gen.facts, Cert.FoxGradIdeal.Gen.facts, Cert.FoxRefIdeal.Gen.facts,
  Cert.ActGrad.Gen.facts, Cert.ActGradIdeal.Gen.facts, Cert.ActRefIdeal.Gen.facts,
  Cert.FwAct.Gen.facts, Cert.FwActIdeal.Gen.facts, Cert.FwActRefIdeal.Gen.facts,
  Cert.Pre_fox_finite.Gen.facts, Cert.Pre_act_finite.Gen.facts,
  fun m ρ _ => Cert.ScGrad.Gen.frame m ρ, fun m ρ _ => Cert.ScGradIdeal.Gen.frame m ρ, frameScRef,
  fun m ρ _ => Cert.DwDown.Gen.frame m ρ, fun m ρ _ => Cert.DwDownIdeal.Gen.frame m ρ, frameDwDownRef,
  fun m ρ _ => Cert.DxDown.Gen.frame m ρ, fun m ρ _ => Cert.DxDownIdeal.Gen.frame m ρ, frameDxDownRef,
  fun m ρ _ => Cert.DwUp.Gen.frame m ρ, fun m ρ _ => Cert.DwUpIdeal.Gen.frame m ρ, frameDwUpRef,
  fun m ρ _ => Cert.DxUp.Gen.frame m ρ, fun m ρ _ => Cert.DxUpIdeal.Gen.frame m ρ, frameDxUpRef,
  fun m ρ _ => Cert.DwOut.Gen.frame m ρ, fun m ρ _ => Cert.DwOutIdeal.Gen.frame m ρ, frameDwOutRef,
  fun m ρ _ => Cert.DxOut.Gen.frame m ρ, fun m ρ _ => Cert.DxOutIdeal.Gen.frame m ρ, frameDxOutRef,
  fun m ρ _ => Cert.DwInA.Gen.frame m ρ, fun m ρ _ => Cert.DwInAIdeal.Gen.frame m ρ, frameDwInARef,
  fun m ρ _ => Cert.DxInA.Gen.frame m ρ, fun m ρ _ => Cert.DxInAIdeal.Gen.frame m ρ, frameDxInARef,
  fun m ρ _ => Cert.DwInB.Gen.frame m ρ, fun m ρ _ => Cert.DwInBIdeal.Gen.frame m ρ, frameDwInBRef,
  fun m ρ _ => Cert.DxInB.Gen.frame m ρ, fun m ρ _ => Cert.DxInBIdeal.Gen.frame m ρ, frameDxInBRef,
  fun m ρ _ => Cert.DwGate.Gen.frame m ρ, fun m ρ _ => Cert.DwGateIdeal.Gen.frame m ρ, frameDwGateRef,
  fun m ρ _ => Cert.DxGate.Gen.frame m ρ, fun m ρ _ => Cert.DxGateIdeal.Gen.frame m ρ, frameDxGateRef,
  fun m ρ _ => Cert.FwUp.Gen.frame m ρ, fun m ρ _ => Cert.FwUpIdeal.Gen.frame m ρ, frameFwUpRef,
  fun m ρ _ => Cert.FwDown.Gen.frame m ρ, fun m ρ _ => Cert.FwDownIdeal.Gen.frame m ρ, frameFwDownRef,
  fun m ρ _ => Cert.FwInA.Gen.frame m ρ, fun m ρ _ => Cert.FwInAIdeal.Gen.frame m ρ, frameFwInARef,
  fun m ρ _ => Cert.FwInB.Gen.frame m ρ, fun m ρ _ => Cert.FwInBIdeal.Gen.frame m ρ, frameFwInBRef,
  fun m ρ _ => Cert.FwGate.Gen.frame m ρ, fun m ρ _ => Cert.FwGateIdeal.Gen.frame m ρ, frameFwGateRef,
  fun m ρ _ => Cert.FwOut.Gen.frame m ρ, fun m ρ _ => Cert.FwOutIdeal.Gen.frame m ρ, frameFwOutRef,
  fun m ρ _ => Cert.FoxGrad.Gen.frame m ρ, fun m ρ _ => Cert.FoxGradIdeal.Gen.frame m ρ,
  fun m ρ _ => Cert.FoxGradIdeal.Gen.frame m ρ, frameFoxRef, fun m ρ _ => frameFoxRef m ρ trivial,
  fun m ρ _ => Cert.ActGrad.Gen.frame m ρ, fun m ρ _ => Cert.ActGradIdeal.Gen.frame m ρ,
  fun m ρ _ => Cert.ActGradIdeal.Gen.frame m ρ, frameActRef, fun m ρ _ => frameActRef m ρ trivial,
  fun m ρ _ => Cert.FwAct.Gen.frame m ρ, fun m ρ _ => Cert.FwActIdeal.Gen.frame m ρ, frameFwActRef,
  trivial, valueSc, trivial,
  valueDwDown, trivial, valueDxDown,
  trivial, valueDwUp, trivial,
  valueDxUp, trivial, valueDwOut,
  trivial, valueDxOut, trivial,
  valueDwInA, trivial, valueDxInA,
  trivial, valueDwInB, trivial,
  valueDxInB, trivial, valueDwGate,
  trivial, valueDxGate, trivial,
  valueFwUp, trivial, valueFwDown,
  trivial, valueFwInA, trivial,
  valueFwInB, trivial, valueFwGate,
  trivial, valueFwOut, trivial, valueFox,
  trivial, valueAct, trivial, valueFwAct⟩

end Cert.Proof

end
